-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_HiddenGradKernel (m : (ℓ : Loc Cert.HiddenGradKernel.nD Cert.HiddenGradKernel.τ Cert.HiddenGradKernel.sig) → Buf (Elt Bits) ℓ) : Prop :=
  True

def Pre_HiddenGradKernelIdeal (m : (ℓ : Loc Cert.HiddenGradKernelIdeal.nD Cert.HiddenGradKernelIdeal.τ Cert.HiddenGradKernelIdeal.sig) → Buf (Elt Ideal) ℓ) : Prop :=
  True

def Pre_HiddenGradReferenceIdeal (m : (ℓ : Loc Cert.HiddenGradReferenceIdeal.nD Cert.HiddenGradReferenceIdeal.τ Cert.HiddenGradReferenceIdeal.sig) → Buf (Elt Ideal) ℓ) : Prop :=
  True

def Pre_InputGradKernel (m : (ℓ : Loc Cert.InputGradKernel.nD Cert.InputGradKernel.τ Cert.InputGradKernel.sig) → Buf (Elt Bits) ℓ) : Prop :=
  True

def Pre_InputGradKernelIdeal (m : (ℓ : Loc Cert.InputGradKernelIdeal.nD Cert.InputGradKernelIdeal.τ Cert.InputGradKernelIdeal.sig) → Buf (Elt Ideal) ℓ) : Prop :=
  True

def Pre_InputGradReferenceIdeal (m : (ℓ : Loc Cert.InputGradReferenceIdeal.nD Cert.InputGradReferenceIdeal.τ Cert.InputGradReferenceIdeal.sig) → Buf (Elt Ideal) ℓ) : Prop :=
  True

def Pre_DownGradKernel (m : (ℓ : Loc Cert.DownGradKernel.nD Cert.DownGradKernel.τ Cert.DownGradKernel.sig) → Buf (Elt Bits) ℓ) : Prop :=
  True

def Pre_DownGradKernelIdeal (m : (ℓ : Loc Cert.DownGradKernelIdeal.nD Cert.DownGradKernelIdeal.τ Cert.DownGradKernelIdeal.sig) → Buf (Elt Ideal) ℓ) : Prop :=
  True

def Pre_DownGradReferenceIdeal (m : (ℓ : Loc Cert.DownGradReferenceIdeal.nD Cert.DownGradReferenceIdeal.τ Cert.DownGradReferenceIdeal.sig) → Buf (Elt Ideal) ℓ) : Prop :=
  True

def Pre_UpGradKernel (m : (ℓ : Loc Cert.UpGradKernel.nD Cert.UpGradKernel.τ Cert.UpGradKernel.sig) → Buf (Elt Bits) ℓ) : Prop :=
  True

def Pre_UpGradKernelIdeal (m : (ℓ : Loc Cert.UpGradKernelIdeal.nD Cert.UpGradKernelIdeal.τ Cert.UpGradKernelIdeal.sig) → Buf (Elt Ideal) ℓ) : Prop :=
  True

def Pre_UpGradReferenceIdeal (m : (ℓ : Loc Cert.UpGradReferenceIdeal.nD Cert.UpGradReferenceIdeal.τ Cert.UpGradReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_AttProjKernel (m : (ℓ : Loc Cert.AttProjKernel.nD Cert.AttProjKernel.τ Cert.AttProjKernel.sig) → Buf (Elt Bits) ℓ) : Prop :=
  True

def Pre_AttProjKernelIdeal (m : (ℓ : Loc Cert.AttProjKernelIdeal.nD Cert.AttProjKernelIdeal.τ Cert.AttProjKernelIdeal.sig) → Buf (Elt Ideal) ℓ) : Prop :=
  True

def Pre_AttProjReferenceIdeal (m : (ℓ : Loc Cert.AttProjReferenceIdeal.nD Cert.AttProjReferenceIdeal.τ Cert.AttProjReferenceIdeal.sig) → Buf (Elt Ideal) ℓ) : Prop :=
  True

def Pre_GlaProjKernel (m : (ℓ : Loc Cert.GlaProjKernel.nD Cert.GlaProjKernel.τ Cert.GlaProjKernel.sig) → Buf (Elt Bits) ℓ) : Prop :=
  True

def Pre_GlaProjKernelIdeal (m : (ℓ : Loc Cert.GlaProjKernelIdeal.nD Cert.GlaProjKernelIdeal.τ Cert.GlaProjKernelIdeal.sig) → Buf (Elt Ideal) ℓ) : Prop :=
  True

def Pre_GlaProjReferenceIdeal (m : (ℓ : Loc Cert.GlaProjReferenceIdeal.nD Cert.GlaProjReferenceIdeal.τ Cert.GlaProjReferenceIdeal.sig) → Buf (Elt Ideal) ℓ) : Prop :=
  True

def Pre_AttOutGradKernel (m : (ℓ : Loc Cert.AttOutGradKernel.nD Cert.AttOutGradKernel.τ Cert.AttOutGradKernel.sig) → Buf (Elt Bits) ℓ) : Prop :=
  True

def Pre_AttOutGradKernelIdeal (m : (ℓ : Loc Cert.AttOutGradKernelIdeal.nD Cert.AttOutGradKernelIdeal.τ Cert.AttOutGradKernelIdeal.sig) → Buf (Elt Ideal) ℓ) : Prop :=
  True

def Pre_AttOutGradReferenceIdeal (m : (ℓ : Loc Cert.AttOutGradReferenceIdeal.nD Cert.AttOutGradReferenceIdeal.τ Cert.AttOutGradReferenceIdeal.sig) → Buf (Elt Ideal) ℓ) : Prop :=
  True

def Pre_GlaOutGradKernel (m : (ℓ : Loc Cert.GlaOutGradKernel.nD Cert.GlaOutGradKernel.τ Cert.GlaOutGradKernel.sig) → Buf (Elt Bits) ℓ) : Prop :=
  True

def Pre_GlaOutGradKernelIdeal (m : (ℓ : Loc Cert.GlaOutGradKernelIdeal.nD Cert.GlaOutGradKernelIdeal.τ Cert.GlaOutGradKernelIdeal.sig) → Buf (Elt Ideal) ℓ) : Prop :=
  True

def Pre_GlaOutGradReferenceIdeal (m : (ℓ : Loc Cert.GlaOutGradReferenceIdeal.nD Cert.GlaOutGradReferenceIdeal.τ Cert.GlaOutGradReferenceIdeal.sig) → Buf (Elt Ideal) ℓ) : Prop :=
  True

def Pre_OutWeightGradKernel (m : (ℓ : Loc Cert.OutWeightGradKernel.nD Cert.OutWeightGradKernel.τ Cert.OutWeightGradKernel.sig) → Buf (Elt Bits) ℓ) : Prop :=
  True

def Pre_OutWeightGradKernelIdeal (m : (ℓ : Loc Cert.OutWeightGradKernelIdeal.nD Cert.OutWeightGradKernelIdeal.τ Cert.OutWeightGradKernelIdeal.sig) → Buf (Elt Ideal) ℓ) : Prop :=
  True

def Pre_OutWeightGradReferenceIdeal (m : (ℓ : Loc Cert.OutWeightGradReferenceIdeal.nD Cert.OutWeightGradReferenceIdeal.τ Cert.OutWeightGradReferenceIdeal.sig) → Buf (Elt Ideal) ℓ) : Prop :=
  True

def Pre_GlaProjGradKernel (m : (ℓ : Loc Cert.GlaProjGradKernel.nD Cert.GlaProjGradKernel.τ Cert.GlaProjGradKernel.sig) → Buf (Elt Bits) ℓ) : Prop :=
  True

def Pre_GlaProjGradKernelIdeal (m : (ℓ : Loc Cert.GlaProjGradKernelIdeal.nD Cert.GlaProjGradKernelIdeal.τ Cert.GlaProjGradKernelIdeal.sig) → Buf (Elt Ideal) ℓ) : Prop :=
  True

def Pre_GlaProjGradReferenceIdeal (m : (ℓ : Loc Cert.GlaProjGradReferenceIdeal.nD Cert.GlaProjGradReferenceIdeal.τ Cert.GlaProjGradReferenceIdeal.sig) → Buf (Elt Ideal) ℓ) : Prop :=
  True

def Pre_GlaWeightGradKernel (m : (ℓ : Loc Cert.GlaWeightGradKernel.nD Cert.GlaWeightGradKernel.τ Cert.GlaWeightGradKernel.sig) → Buf (Elt Bits) ℓ) : Prop :=
  True

def Pre_GlaWeightGradKernelIdeal (m : (ℓ : Loc Cert.GlaWeightGradKernelIdeal.nD Cert.GlaWeightGradKernelIdeal.τ Cert.GlaWeightGradKernelIdeal.sig) → Buf (Elt Ideal) ℓ) : Prop :=
  True

def Pre_GlaWeightGradReferenceIdeal (m : (ℓ : Loc Cert.GlaWeightGradReferenceIdeal.nD Cert.GlaWeightGradReferenceIdeal.τ Cert.GlaWeightGradReferenceIdeal.sig) → Buf (Elt Ideal) ℓ) : Prop :=
  True

def Pre_AttProjGradKernel (m : (ℓ : Loc Cert.AttProjGradKernel.nD Cert.AttProjGradKernel.τ Cert.AttProjGradKernel.sig) → Buf (Elt Bits) ℓ) : Prop :=
  True

def Pre_AttProjGradKernelIdeal (m : (ℓ : Loc Cert.AttProjGradKernelIdeal.nD Cert.AttProjGradKernelIdeal.τ Cert.AttProjGradKernelIdeal.sig) → Buf (Elt Ideal) ℓ) : Prop :=
  True

def Pre_AttProjGradReferenceIdeal (m : (ℓ : Loc Cert.AttProjGradReferenceIdeal.nD Cert.AttProjGradReferenceIdeal.τ Cert.AttProjGradReferenceIdeal.sig) → Buf (Elt Ideal) ℓ) : Prop :=
  True

def Pre_ForwardKernel (m : (ℓ : Loc Cert.ForwardKernel.nD Cert.ForwardKernel.τ Cert.ForwardKernel.sig) → Buf (Elt Bits) ℓ) : Prop :=
  True

def Pre_ForwardKernelIdeal (m : (ℓ : Loc Cert.ForwardKernelIdeal.nD Cert.ForwardKernelIdeal.τ Cert.ForwardKernelIdeal.sig) → Buf (Elt Ideal) ℓ) : Prop :=
  True

def Pre_ForwardReferenceIdeal (m : (ℓ : Loc Cert.ForwardReferenceIdeal.nD Cert.ForwardReferenceIdeal.τ Cert.ForwardReferenceIdeal.sig) → Buf (Elt Ideal) ℓ) : Prop :=
  True

def Pre_AttKeyWeightGradKernel (m : (ℓ : Loc Cert.AttKeyWeightGradKernel.nD Cert.AttKeyWeightGradKernel.τ Cert.AttKeyWeightGradKernel.sig) → Buf (Elt Bits) ℓ) : Prop :=
  True

def Pre_AttKeyWeightGradKernelIdeal (m : (ℓ : Loc Cert.AttKeyWeightGradKernelIdeal.nD Cert.AttKeyWeightGradKernelIdeal.τ Cert.AttKeyWeightGradKernelIdeal.sig) → Buf (Elt Ideal) ℓ) : Prop :=
  True

def Pre_AttKeyWeightGradReferenceIdeal (m : (ℓ : Loc Cert.AttKeyWeightGradReferenceIdeal.nD Cert.AttKeyWeightGradReferenceIdeal.τ Cert.AttKeyWeightGradReferenceIdeal.sig) → Buf (Elt Ideal) ℓ) : Prop :=
  True

def Pre_AttValueWeightGradKernel (m : (ℓ : Loc Cert.AttValueWeightGradKernel.nD Cert.AttValueWeightGradKernel.τ Cert.AttValueWeightGradKernel.sig) → Buf (Elt Bits) ℓ) : Prop :=
  True

def Pre_AttValueWeightGradKernelIdeal (m : (ℓ : Loc Cert.AttValueWeightGradKernelIdeal.nD Cert.AttValueWeightGradKernelIdeal.τ Cert.AttValueWeightGradKernelIdeal.sig) → Buf (Elt Ideal) ℓ) : Prop :=
  True

def Pre_AttValueWeightGradReferenceIdeal (m : (ℓ : Loc Cert.AttValueWeightGradReferenceIdeal.nD Cert.AttValueWeightGradReferenceIdeal.τ Cert.AttValueWeightGradReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_HiddenGradKernel [hHiddenGradKernel : Cert.HiddenGradKernel.Facts] : Prop :=
  ∀ (m : (ℓ : Loc Cert.HiddenGradKernel.nD Cert.HiddenGradKernel.τ Cert.HiddenGradKernel.sig) → Buf (Elt Bits) ℓ) (g : Dev Cert.HiddenGradKernel.nD → PrngReg), Pre_HiddenGradKernel m →
    θ_run (Cert.HiddenGradKernel.defs (F := Bits)) (onTc (τ := Cert.HiddenGradKernel.τ) (Cert.HiddenGradKernel.main (F := Bits))) ⟨m, fun _ => 0, g⟩ (fun r => (∀ c : Dev Cert.HiddenGradKernel.nD,
      r.2.mem ((c.tc : Thread Cert.HiddenGradKernel.nD Cert.HiddenGradKernel.τ).loc Cert.HiddenGradKernel.main_arg0) = m ((c.tc : Thread Cert.HiddenGradKernel.nD Cert.HiddenGradKernel.τ).loc Cert.HiddenGradKernel.main_arg0)
      ∧ r.2.mem ((c.tc : Thread Cert.HiddenGradKernel.nD Cert.HiddenGradKernel.τ).loc Cert.HiddenGradKernel.main_arg1) = m ((c.tc : Thread Cert.HiddenGradKernel.nD Cert.HiddenGradKernel.τ).loc Cert.HiddenGradKernel.main_arg1)
      ∧ r.2.mem ((c.tc : Thread Cert.HiddenGradKernel.nD Cert.HiddenGradKernel.τ).loc Cert.HiddenGradKernel.main_arg2) = m ((c.tc : Thread Cert.HiddenGradKernel.nD Cert.HiddenGradKernel.τ).loc Cert.HiddenGradKernel.main_arg2))
      ∧ r.2.sem = fun _ => 0)

def quiescent_HiddenGradKernelIdeal [hHiddenGradKernelIdeal : Cert.HiddenGradKernelIdeal.Facts] : Prop :=
  ∀ (m : (ℓ : Loc Cert.HiddenGradKernelIdeal.nD Cert.HiddenGradKernelIdeal.τ Cert.HiddenGradKernelIdeal.sig) → Buf (Elt Ideal) ℓ) (g : Dev Cert.HiddenGradKernelIdeal.nD → PrngReg), Pre_HiddenGradKernelIdeal m →
    θ_run (Cert.HiddenGradKernelIdeal.defs (F := Ideal)) (onTc (τ := Cert.HiddenGradKernelIdeal.τ) (Cert.HiddenGradKernelIdeal.main (F := Ideal))) ⟨m, fun _ => 0, g⟩ (fun r => (∀ c : Dev Cert.HiddenGradKernelIdeal.nD,
      r.2.mem ((c.tc : Thread Cert.HiddenGradKernelIdeal.nD Cert.HiddenGradKernelIdeal.τ).loc Cert.HiddenGradKernelIdeal.main_arg0) = m ((c.tc : Thread Cert.HiddenGradKernelIdeal.nD Cert.HiddenGradKernelIdeal.τ).loc Cert.HiddenGradKernelIdeal.main_arg0)
      ∧ r.2.mem ((c.tc : Thread Cert.HiddenGradKernelIdeal.nD Cert.HiddenGradKernelIdeal.τ).loc Cert.HiddenGradKernelIdeal.main_arg1) = m ((c.tc : Thread Cert.HiddenGradKernelIdeal.nD Cert.HiddenGradKernelIdeal.τ).loc Cert.HiddenGradKernelIdeal.main_arg1)
      ∧ r.2.mem ((c.tc : Thread Cert.HiddenGradKernelIdeal.nD Cert.HiddenGradKernelIdeal.τ).loc Cert.HiddenGradKernelIdeal.main_arg2) = m ((c.tc : Thread Cert.HiddenGradKernelIdeal.nD Cert.HiddenGradKernelIdeal.τ).loc Cert.HiddenGradKernelIdeal.main_arg2))
      ∧ r.2.sem = fun _ => 0)

def quiescent_HiddenGradReferenceIdeal [hHiddenGradReferenceIdeal : Cert.HiddenGradReferenceIdeal.Facts] : Prop :=
  ∀ (m : (ℓ : Loc Cert.HiddenGradReferenceIdeal.nD Cert.HiddenGradReferenceIdeal.τ Cert.HiddenGradReferenceIdeal.sig) → Buf (Elt Ideal) ℓ) (g : Dev Cert.HiddenGradReferenceIdeal.nD → PrngReg), Pre_HiddenGradReferenceIdeal m →
    θ_run (Cert.HiddenGradReferenceIdeal.defs (F := Ideal)) (onTc (τ := Cert.HiddenGradReferenceIdeal.τ) (Cert.HiddenGradReferenceIdeal.main (F := Ideal))) ⟨m, fun _ => 0, g⟩ (fun r => (∀ c : Dev Cert.HiddenGradReferenceIdeal.nD,
      r.2.mem ((c.tc : Thread Cert.HiddenGradReferenceIdeal.nD Cert.HiddenGradReferenceIdeal.τ).loc Cert.HiddenGradReferenceIdeal.main_arg0) = m ((c.tc : Thread Cert.HiddenGradReferenceIdeal.nD Cert.HiddenGradReferenceIdeal.τ).loc Cert.HiddenGradReferenceIdeal.main_arg0)
      ∧ r.2.mem ((c.tc : Thread Cert.HiddenGradReferenceIdeal.nD Cert.HiddenGradReferenceIdeal.τ).loc Cert.HiddenGradReferenceIdeal.main_arg1) = m ((c.tc : Thread Cert.HiddenGradReferenceIdeal.nD Cert.HiddenGradReferenceIdeal.τ).loc Cert.HiddenGradReferenceIdeal.main_arg1)
      ∧ r.2.mem ((c.tc : Thread Cert.HiddenGradReferenceIdeal.nD Cert.HiddenGradReferenceIdeal.τ).loc Cert.HiddenGradReferenceIdeal.main_arg2) = m ((c.tc : Thread Cert.HiddenGradReferenceIdeal.nD Cert.HiddenGradReferenceIdeal.τ).loc Cert.HiddenGradReferenceIdeal.main_arg2))
      ∧ r.2.sem = fun _ => 0)

def quiescent_InputGradKernel [hInputGradKernel : Cert.InputGradKernel.Facts] : Prop :=
  ∀ (m : (ℓ : Loc Cert.InputGradKernel.nD Cert.InputGradKernel.τ Cert.InputGradKernel.sig) → Buf (Elt Bits) ℓ) (g : Dev Cert.InputGradKernel.nD → PrngReg), Pre_InputGradKernel m →
    θ_run (Cert.InputGradKernel.defs (F := Bits)) (onTc (τ := Cert.InputGradKernel.τ) (Cert.InputGradKernel.main (F := Bits))) ⟨m, fun _ => 0, g⟩ (fun r => (∀ c : Dev Cert.InputGradKernel.nD,
      r.2.mem ((c.tc : Thread Cert.InputGradKernel.nD Cert.InputGradKernel.τ).loc Cert.InputGradKernel.main_arg0) = m ((c.tc : Thread Cert.InputGradKernel.nD Cert.InputGradKernel.τ).loc Cert.InputGradKernel.main_arg0)
      ∧ r.2.mem ((c.tc : Thread Cert.InputGradKernel.nD Cert.InputGradKernel.τ).loc Cert.InputGradKernel.main_arg1) = m ((c.tc : Thread Cert.InputGradKernel.nD Cert.InputGradKernel.τ).loc Cert.InputGradKernel.main_arg1))
      ∧ r.2.sem = fun _ => 0)

def quiescent_InputGradKernelIdeal [hInputGradKernelIdeal : Cert.InputGradKernelIdeal.Facts] : Prop :=
  ∀ (m : (ℓ : Loc Cert.InputGradKernelIdeal.nD Cert.InputGradKernelIdeal.τ Cert.InputGradKernelIdeal.sig) → Buf (Elt Ideal) ℓ) (g : Dev Cert.InputGradKernelIdeal.nD → PrngReg), Pre_InputGradKernelIdeal m →
    θ_run (Cert.InputGradKernelIdeal.defs (F := Ideal)) (onTc (τ := Cert.InputGradKernelIdeal.τ) (Cert.InputGradKernelIdeal.main (F := Ideal))) ⟨m, fun _ => 0, g⟩ (fun r => (∀ c : Dev Cert.InputGradKernelIdeal.nD,
      r.2.mem ((c.tc : Thread Cert.InputGradKernelIdeal.nD Cert.InputGradKernelIdeal.τ).loc Cert.InputGradKernelIdeal.main_arg0) = m ((c.tc : Thread Cert.InputGradKernelIdeal.nD Cert.InputGradKernelIdeal.τ).loc Cert.InputGradKernelIdeal.main_arg0)
      ∧ r.2.mem ((c.tc : Thread Cert.InputGradKernelIdeal.nD Cert.InputGradKernelIdeal.τ).loc Cert.InputGradKernelIdeal.main_arg1) = m ((c.tc : Thread Cert.InputGradKernelIdeal.nD Cert.InputGradKernelIdeal.τ).loc Cert.InputGradKernelIdeal.main_arg1))
      ∧ r.2.sem = fun _ => 0)

def quiescent_InputGradReferenceIdeal [hInputGradReferenceIdeal : Cert.InputGradReferenceIdeal.Facts] : Prop :=
  ∀ (m : (ℓ : Loc Cert.InputGradReferenceIdeal.nD Cert.InputGradReferenceIdeal.τ Cert.InputGradReferenceIdeal.sig) → Buf (Elt Ideal) ℓ) (g : Dev Cert.InputGradReferenceIdeal.nD → PrngReg), Pre_InputGradReferenceIdeal m →
    θ_run (Cert.InputGradReferenceIdeal.defs (F := Ideal)) (onTc (τ := Cert.InputGradReferenceIdeal.τ) (Cert.InputGradReferenceIdeal.main (F := Ideal))) ⟨m, fun _ => 0, g⟩ (fun r => (∀ c : Dev Cert.InputGradReferenceIdeal.nD,
      r.2.mem ((c.tc : Thread Cert.InputGradReferenceIdeal.nD Cert.InputGradReferenceIdeal.τ).loc Cert.InputGradReferenceIdeal.main_arg0) = m ((c.tc : Thread Cert.InputGradReferenceIdeal.nD Cert.InputGradReferenceIdeal.τ).loc Cert.InputGradReferenceIdeal.main_arg0)
      ∧ r.2.mem ((c.tc : Thread Cert.InputGradReferenceIdeal.nD Cert.InputGradReferenceIdeal.τ).loc Cert.InputGradReferenceIdeal.main_arg1) = m ((c.tc : Thread Cert.InputGradReferenceIdeal.nD Cert.InputGradReferenceIdeal.τ).loc Cert.InputGradReferenceIdeal.main_arg1))
      ∧ r.2.sem = fun _ => 0)

def quiescent_DownGradKernel [hDownGradKernel : Cert.DownGradKernel.Facts] : Prop :=
  ∀ (m : (ℓ : Loc Cert.DownGradKernel.nD Cert.DownGradKernel.τ Cert.DownGradKernel.sig) → Buf (Elt Bits) ℓ) (g : Dev Cert.DownGradKernel.nD → PrngReg), Pre_DownGradKernel m →
    θ_run (Cert.DownGradKernel.defs (F := Bits)) (onTc (τ := Cert.DownGradKernel.τ) (Cert.DownGradKernel.main (F := Bits))) ⟨m, fun _ => 0, g⟩ (fun r => (∀ c : Dev Cert.DownGradKernel.nD,
      r.2.mem ((c.tc : Thread Cert.DownGradKernel.nD Cert.DownGradKernel.τ).loc Cert.DownGradKernel.main_arg0) = m ((c.tc : Thread Cert.DownGradKernel.nD Cert.DownGradKernel.τ).loc Cert.DownGradKernel.main_arg0)
      ∧ r.2.mem ((c.tc : Thread Cert.DownGradKernel.nD Cert.DownGradKernel.τ).loc Cert.DownGradKernel.main_arg1) = m ((c.tc : Thread Cert.DownGradKernel.nD Cert.DownGradKernel.τ).loc Cert.DownGradKernel.main_arg1))
      ∧ r.2.sem = fun _ => 0)

def quiescent_DownGradKernelIdeal [hDownGradKernelIdeal : Cert.DownGradKernelIdeal.Facts] : Prop :=
  ∀ (m : (ℓ : Loc Cert.DownGradKernelIdeal.nD Cert.DownGradKernelIdeal.τ Cert.DownGradKernelIdeal.sig) → Buf (Elt Ideal) ℓ) (g : Dev Cert.DownGradKernelIdeal.nD → PrngReg), Pre_DownGradKernelIdeal m →
    θ_run (Cert.DownGradKernelIdeal.defs (F := Ideal)) (onTc (τ := Cert.DownGradKernelIdeal.τ) (Cert.DownGradKernelIdeal.main (F := Ideal))) ⟨m, fun _ => 0, g⟩ (fun r => (∀ c : Dev Cert.DownGradKernelIdeal.nD,
      r.2.mem ((c.tc : Thread Cert.DownGradKernelIdeal.nD Cert.DownGradKernelIdeal.τ).loc Cert.DownGradKernelIdeal.main_arg0) = m ((c.tc : Thread Cert.DownGradKernelIdeal.nD Cert.DownGradKernelIdeal.τ).loc Cert.DownGradKernelIdeal.main_arg0)
      ∧ r.2.mem ((c.tc : Thread Cert.DownGradKernelIdeal.nD Cert.DownGradKernelIdeal.τ).loc Cert.DownGradKernelIdeal.main_arg1) = m ((c.tc : Thread Cert.DownGradKernelIdeal.nD Cert.DownGradKernelIdeal.τ).loc Cert.DownGradKernelIdeal.main_arg1))
      ∧ r.2.sem = fun _ => 0)

def quiescent_DownGradReferenceIdeal [hDownGradReferenceIdeal : Cert.DownGradReferenceIdeal.Facts] : Prop :=
  ∀ (m : (ℓ : Loc Cert.DownGradReferenceIdeal.nD Cert.DownGradReferenceIdeal.τ Cert.DownGradReferenceIdeal.sig) → Buf (Elt Ideal) ℓ) (g : Dev Cert.DownGradReferenceIdeal.nD → PrngReg), Pre_DownGradReferenceIdeal m →
    θ_run (Cert.DownGradReferenceIdeal.defs (F := Ideal)) (onTc (τ := Cert.DownGradReferenceIdeal.τ) (Cert.DownGradReferenceIdeal.main (F := Ideal))) ⟨m, fun _ => 0, g⟩ (fun r => (∀ c : Dev Cert.DownGradReferenceIdeal.nD,
      r.2.mem ((c.tc : Thread Cert.DownGradReferenceIdeal.nD Cert.DownGradReferenceIdeal.τ).loc Cert.DownGradReferenceIdeal.main_arg0) = m ((c.tc : Thread Cert.DownGradReferenceIdeal.nD Cert.DownGradReferenceIdeal.τ).loc Cert.DownGradReferenceIdeal.main_arg0)
      ∧ r.2.mem ((c.tc : Thread Cert.DownGradReferenceIdeal.nD Cert.DownGradReferenceIdeal.τ).loc Cert.DownGradReferenceIdeal.main_arg1) = m ((c.tc : Thread Cert.DownGradReferenceIdeal.nD Cert.DownGradReferenceIdeal.τ).loc Cert.DownGradReferenceIdeal.main_arg1))
      ∧ r.2.sem = fun _ => 0)

def quiescent_UpGradKernel [hUpGradKernel : Cert.UpGradKernel.Facts] : Prop :=
  ∀ (m : (ℓ : Loc Cert.UpGradKernel.nD Cert.UpGradKernel.τ Cert.UpGradKernel.sig) → Buf (Elt Bits) ℓ) (g : Dev Cert.UpGradKernel.nD → PrngReg), Pre_UpGradKernel m →
    θ_run (Cert.UpGradKernel.defs (F := Bits)) (onTc (τ := Cert.UpGradKernel.τ) (Cert.UpGradKernel.main (F := Bits))) ⟨m, fun _ => 0, g⟩ (fun r => (∀ c : Dev Cert.UpGradKernel.nD,
      r.2.mem ((c.tc : Thread Cert.UpGradKernel.nD Cert.UpGradKernel.τ).loc Cert.UpGradKernel.main_arg0) = m ((c.tc : Thread Cert.UpGradKernel.nD Cert.UpGradKernel.τ).loc Cert.UpGradKernel.main_arg0)
      ∧ r.2.mem ((c.tc : Thread Cert.UpGradKernel.nD Cert.UpGradKernel.τ).loc Cert.UpGradKernel.main_arg1) = m ((c.tc : Thread Cert.UpGradKernel.nD Cert.UpGradKernel.τ).loc Cert.UpGradKernel.main_arg1)
      ∧ r.2.mem ((c.tc : Thread Cert.UpGradKernel.nD Cert.UpGradKernel.τ).loc Cert.UpGradKernel.main_arg2) = m ((c.tc : Thread Cert.UpGradKernel.nD Cert.UpGradKernel.τ).loc Cert.UpGradKernel.main_arg2)
      ∧ r.2.mem ((c.tc : Thread Cert.UpGradKernel.nD Cert.UpGradKernel.τ).loc Cert.UpGradKernel.main_arg3) = m ((c.tc : Thread Cert.UpGradKernel.nD Cert.UpGradKernel.τ).loc Cert.UpGradKernel.main_arg3))
      ∧ r.2.sem = fun _ => 0)

def quiescent_UpGradKernelIdeal [hUpGradKernelIdeal : Cert.UpGradKernelIdeal.Facts] : Prop :=
  ∀ (m : (ℓ : Loc Cert.UpGradKernelIdeal.nD Cert.UpGradKernelIdeal.τ Cert.UpGradKernelIdeal.sig) → Buf (Elt Ideal) ℓ) (g : Dev Cert.UpGradKernelIdeal.nD → PrngReg), Pre_UpGradKernelIdeal m →
    θ_run (Cert.UpGradKernelIdeal.defs (F := Ideal)) (onTc (τ := Cert.UpGradKernelIdeal.τ) (Cert.UpGradKernelIdeal.main (F := Ideal))) ⟨m, fun _ => 0, g⟩ (fun r => (∀ c : Dev Cert.UpGradKernelIdeal.nD,
      r.2.mem ((c.tc : Thread Cert.UpGradKernelIdeal.nD Cert.UpGradKernelIdeal.τ).loc Cert.UpGradKernelIdeal.main_arg0) = m ((c.tc : Thread Cert.UpGradKernelIdeal.nD Cert.UpGradKernelIdeal.τ).loc Cert.UpGradKernelIdeal.main_arg0)
      ∧ r.2.mem ((c.tc : Thread Cert.UpGradKernelIdeal.nD Cert.UpGradKernelIdeal.τ).loc Cert.UpGradKernelIdeal.main_arg1) = m ((c.tc : Thread Cert.UpGradKernelIdeal.nD Cert.UpGradKernelIdeal.τ).loc Cert.UpGradKernelIdeal.main_arg1)
      ∧ r.2.mem ((c.tc : Thread Cert.UpGradKernelIdeal.nD Cert.UpGradKernelIdeal.τ).loc Cert.UpGradKernelIdeal.main_arg2) = m ((c.tc : Thread Cert.UpGradKernelIdeal.nD Cert.UpGradKernelIdeal.τ).loc Cert.UpGradKernelIdeal.main_arg2)
      ∧ r.2.mem ((c.tc : Thread Cert.UpGradKernelIdeal.nD Cert.UpGradKernelIdeal.τ).loc Cert.UpGradKernelIdeal.main_arg3) = m ((c.tc : Thread Cert.UpGradKernelIdeal.nD Cert.UpGradKernelIdeal.τ).loc Cert.UpGradKernelIdeal.main_arg3))
      ∧ r.2.sem = fun _ => 0)

def quiescent_UpGradReferenceIdeal [hUpGradReferenceIdeal : Cert.UpGradReferenceIdeal.Facts] : Prop :=
  ∀ (m : (ℓ : Loc Cert.UpGradReferenceIdeal.nD Cert.UpGradReferenceIdeal.τ Cert.UpGradReferenceIdeal.sig) → Buf (Elt Ideal) ℓ) (g : Dev Cert.UpGradReferenceIdeal.nD → PrngReg), Pre_UpGradReferenceIdeal m →
    θ_run (Cert.UpGradReferenceIdeal.defs (F := Ideal)) (onTc (τ := Cert.UpGradReferenceIdeal.τ) (Cert.UpGradReferenceIdeal.main (F := Ideal))) ⟨m, fun _ => 0, g⟩ (fun r => (∀ c : Dev Cert.UpGradReferenceIdeal.nD,
      r.2.mem ((c.tc : Thread Cert.UpGradReferenceIdeal.nD Cert.UpGradReferenceIdeal.τ).loc Cert.UpGradReferenceIdeal.main_arg0) = m ((c.tc : Thread Cert.UpGradReferenceIdeal.nD Cert.UpGradReferenceIdeal.τ).loc Cert.UpGradReferenceIdeal.main_arg0)
      ∧ r.2.mem ((c.tc : Thread Cert.UpGradReferenceIdeal.nD Cert.UpGradReferenceIdeal.τ).loc Cert.UpGradReferenceIdeal.main_arg1) = m ((c.tc : Thread Cert.UpGradReferenceIdeal.nD Cert.UpGradReferenceIdeal.τ).loc Cert.UpGradReferenceIdeal.main_arg1)
      ∧ r.2.mem ((c.tc : Thread Cert.UpGradReferenceIdeal.nD Cert.UpGradReferenceIdeal.τ).loc Cert.UpGradReferenceIdeal.main_arg2) = m ((c.tc : Thread Cert.UpGradReferenceIdeal.nD Cert.UpGradReferenceIdeal.τ).loc Cert.UpGradReferenceIdeal.main_arg2)
      ∧ r.2.mem ((c.tc : Thread Cert.UpGradReferenceIdeal.nD Cert.UpGradReferenceIdeal.τ).loc Cert.UpGradReferenceIdeal.main_arg3) = m ((c.tc : Thread Cert.UpGradReferenceIdeal.nD Cert.UpGradReferenceIdeal.τ).loc Cert.UpGradReferenceIdeal.main_arg3))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2)
      ∧ r.2.mem ((c.tc : Thread Cert.UpKernel.nD Cert.UpKernel.τ).loc Cert.UpKernel.main_arg3) = m ((c.tc : Thread Cert.UpKernel.nD Cert.UpKernel.τ).loc Cert.UpKernel.main_arg3))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
      ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_AttProjKernel [hAttProjKernel : Cert.AttProjKernel.Facts] : Prop :=
  ∀ (m : (ℓ : Loc Cert.AttProjKernel.nD Cert.AttProjKernel.τ Cert.AttProjKernel.sig) → Buf (Elt Bits) ℓ) (g : Dev Cert.AttProjKernel.nD → PrngReg), Pre_AttProjKernel m →
    θ_run (Cert.AttProjKernel.defs (F := Bits)) (onTc (τ := Cert.AttProjKernel.τ) (Cert.AttProjKernel.main (F := Bits))) ⟨m, fun _ => 0, g⟩ (fun r => (∀ c : Dev Cert.AttProjKernel.nD,
      r.2.mem ((c.tc : Thread Cert.AttProjKernel.nD Cert.AttProjKernel.τ).loc Cert.AttProjKernel.main_arg0) = m ((c.tc : Thread Cert.AttProjKernel.nD Cert.AttProjKernel.τ).loc Cert.AttProjKernel.main_arg0)
      ∧ r.2.mem ((c.tc : Thread Cert.AttProjKernel.nD Cert.AttProjKernel.τ).loc Cert.AttProjKernel.main_arg1) = m ((c.tc : Thread Cert.AttProjKernel.nD Cert.AttProjKernel.τ).loc Cert.AttProjKernel.main_arg1)
      ∧ r.2.mem ((c.tc : Thread Cert.AttProjKernel.nD Cert.AttProjKernel.τ).loc Cert.AttProjKernel.main_arg2) = m ((c.tc : Thread Cert.AttProjKernel.nD Cert.AttProjKernel.τ).loc Cert.AttProjKernel.main_arg2)
      ∧ r.2.mem ((c.tc : Thread Cert.AttProjKernel.nD Cert.AttProjKernel.τ).loc Cert.AttProjKernel.main_arg3) = m ((c.tc : Thread Cert.AttProjKernel.nD Cert.AttProjKernel.τ).loc Cert.AttProjKernel.main_arg3)
      ∧ r.2.mem ((c.tc : Thread Cert.AttProjKernel.nD Cert.AttProjKernel.τ).loc Cert.AttProjKernel.main_arg4) = m ((c.tc : Thread Cert.AttProjKernel.nD Cert.AttProjKernel.τ).loc Cert.AttProjKernel.main_arg4))
      ∧ r.2.sem = fun _ => 0)

def quiescent_AttProjKernelIdeal [hAttProjKernelIdeal : Cert.AttProjKernelIdeal.Facts] : Prop :=
  ∀ (m : (ℓ : Loc Cert.AttProjKernelIdeal.nD Cert.AttProjKernelIdeal.τ Cert.AttProjKernelIdeal.sig) → Buf (Elt Ideal) ℓ) (g : Dev Cert.AttProjKernelIdeal.nD → PrngReg), Pre_AttProjKernelIdeal m →
    θ_run (Cert.AttProjKernelIdeal.defs (F := Ideal)) (onTc (τ := Cert.AttProjKernelIdeal.τ) (Cert.AttProjKernelIdeal.main (F := Ideal))) ⟨m, fun _ => 0, g⟩ (fun r => (∀ c : Dev Cert.AttProjKernelIdeal.nD,
      r.2.mem ((c.tc : Thread Cert.AttProjKernelIdeal.nD Cert.AttProjKernelIdeal.τ).loc Cert.AttProjKernelIdeal.main_arg0) = m ((c.tc : Thread Cert.AttProjKernelIdeal.nD Cert.AttProjKernelIdeal.τ).loc Cert.AttProjKernelIdeal.main_arg0)
      ∧ r.2.mem ((c.tc : Thread Cert.AttProjKernelIdeal.nD Cert.AttProjKernelIdeal.τ).loc Cert.AttProjKernelIdeal.main_arg1) = m ((c.tc : Thread Cert.AttProjKernelIdeal.nD Cert.AttProjKernelIdeal.τ).loc Cert.AttProjKernelIdeal.main_arg1)
      ∧ r.2.mem ((c.tc : Thread Cert.AttProjKernelIdeal.nD Cert.AttProjKernelIdeal.τ).loc Cert.AttProjKernelIdeal.main_arg2) = m ((c.tc : Thread Cert.AttProjKernelIdeal.nD Cert.AttProjKernelIdeal.τ).loc Cert.AttProjKernelIdeal.main_arg2)
      ∧ r.2.mem ((c.tc : Thread Cert.AttProjKernelIdeal.nD Cert.AttProjKernelIdeal.τ).loc Cert.AttProjKernelIdeal.main_arg3) = m ((c.tc : Thread Cert.AttProjKernelIdeal.nD Cert.AttProjKernelIdeal.τ).loc Cert.AttProjKernelIdeal.main_arg3)
      ∧ r.2.mem ((c.tc : Thread Cert.AttProjKernelIdeal.nD Cert.AttProjKernelIdeal.τ).loc Cert.AttProjKernelIdeal.main_arg4) = m ((c.tc : Thread Cert.AttProjKernelIdeal.nD Cert.AttProjKernelIdeal.τ).loc Cert.AttProjKernelIdeal.main_arg4))
      ∧ r.2.sem = fun _ => 0)

def quiescent_AttProjReferenceIdeal [hAttProjReferenceIdeal : Cert.AttProjReferenceIdeal.Facts] : Prop :=
  ∀ (m : (ℓ : Loc Cert.AttProjReferenceIdeal.nD Cert.AttProjReferenceIdeal.τ Cert.AttProjReferenceIdeal.sig) → Buf (Elt Ideal) ℓ) (g : Dev Cert.AttProjReferenceIdeal.nD → PrngReg), Pre_AttProjReferenceIdeal m →
    θ_run (Cert.AttProjReferenceIdeal.defs (F := Ideal)) (onTc (τ := Cert.AttProjReferenceIdeal.τ) (Cert.AttProjReferenceIdeal.main (F := Ideal))) ⟨m, fun _ => 0, g⟩ (fun r => (∀ c : Dev Cert.AttProjReferenceIdeal.nD,
      r.2.mem ((c.tc : Thread Cert.AttProjReferenceIdeal.nD Cert.AttProjReferenceIdeal.τ).loc Cert.AttProjReferenceIdeal.main_arg0) = m ((c.tc : Thread Cert.AttProjReferenceIdeal.nD Cert.AttProjReferenceIdeal.τ).loc Cert.AttProjReferenceIdeal.main_arg0)
      ∧ r.2.mem ((c.tc : Thread Cert.AttProjReferenceIdeal.nD Cert.AttProjReferenceIdeal.τ).loc Cert.AttProjReferenceIdeal.main_arg1) = m ((c.tc : Thread Cert.AttProjReferenceIdeal.nD Cert.AttProjReferenceIdeal.τ).loc Cert.AttProjReferenceIdeal.main_arg1)
      ∧ r.2.mem ((c.tc : Thread Cert.AttProjReferenceIdeal.nD Cert.AttProjReferenceIdeal.τ).loc Cert.AttProjReferenceIdeal.main_arg2) = m ((c.tc : Thread Cert.AttProjReferenceIdeal.nD Cert.AttProjReferenceIdeal.τ).loc Cert.AttProjReferenceIdeal.main_arg2)
      ∧ r.2.mem ((c.tc : Thread Cert.AttProjReferenceIdeal.nD Cert.AttProjReferenceIdeal.τ).loc Cert.AttProjReferenceIdeal.main_arg3) = m ((c.tc : Thread Cert.AttProjReferenceIdeal.nD Cert.AttProjReferenceIdeal.τ).loc Cert.AttProjReferenceIdeal.main_arg3)
      ∧ r.2.mem ((c.tc : Thread Cert.AttProjReferenceIdeal.nD Cert.AttProjReferenceIdeal.τ).loc Cert.AttProjReferenceIdeal.main_arg4) = m ((c.tc : Thread Cert.AttProjReferenceIdeal.nD Cert.AttProjReferenceIdeal.τ).loc Cert.AttProjReferenceIdeal.main_arg4))
      ∧ r.2.sem = fun _ => 0)

def quiescent_GlaProjKernel [hGlaProjKernel : Cert.GlaProjKernel.Facts] : Prop :=
  ∀ (m : (ℓ : Loc Cert.GlaProjKernel.nD Cert.GlaProjKernel.τ Cert.GlaProjKernel.sig) → Buf (Elt Bits) ℓ) (g : Dev Cert.GlaProjKernel.nD → PrngReg), Pre_GlaProjKernel m →
    θ_run (Cert.GlaProjKernel.defs (F := Bits)) (onTc (τ := Cert.GlaProjKernel.τ) (Cert.GlaProjKernel.main (F := Bits))) ⟨m, fun _ => 0, g⟩ (fun r => (∀ c : Dev Cert.GlaProjKernel.nD,
      r.2.mem ((c.tc : Thread Cert.GlaProjKernel.nD Cert.GlaProjKernel.τ).loc Cert.GlaProjKernel.main_arg0) = m ((c.tc : Thread Cert.GlaProjKernel.nD Cert.GlaProjKernel.τ).loc Cert.GlaProjKernel.main_arg0)
      ∧ r.2.mem ((c.tc : Thread Cert.GlaProjKernel.nD Cert.GlaProjKernel.τ).loc Cert.GlaProjKernel.main_arg1) = m ((c.tc : Thread Cert.GlaProjKernel.nD Cert.GlaProjKernel.τ).loc Cert.GlaProjKernel.main_arg1)
      ∧ r.2.mem ((c.tc : Thread Cert.GlaProjKernel.nD Cert.GlaProjKernel.τ).loc Cert.GlaProjKernel.main_arg2) = m ((c.tc : Thread Cert.GlaProjKernel.nD Cert.GlaProjKernel.τ).loc Cert.GlaProjKernel.main_arg2)
      ∧ r.2.mem ((c.tc : Thread Cert.GlaProjKernel.nD Cert.GlaProjKernel.τ).loc Cert.GlaProjKernel.main_arg3) = m ((c.tc : Thread Cert.GlaProjKernel.nD Cert.GlaProjKernel.τ).loc Cert.GlaProjKernel.main_arg3))
      ∧ r.2.sem = fun _ => 0)

def quiescent_GlaProjKernelIdeal [hGlaProjKernelIdeal : Cert.GlaProjKernelIdeal.Facts] : Prop :=
  ∀ (m : (ℓ : Loc Cert.GlaProjKernelIdeal.nD Cert.GlaProjKernelIdeal.τ Cert.GlaProjKernelIdeal.sig) → Buf (Elt Ideal) ℓ) (g : Dev Cert.GlaProjKernelIdeal.nD → PrngReg), Pre_GlaProjKernelIdeal m →
    θ_run (Cert.GlaProjKernelIdeal.defs (F := Ideal)) (onTc (τ := Cert.GlaProjKernelIdeal.τ) (Cert.GlaProjKernelIdeal.main (F := Ideal))) ⟨m, fun _ => 0, g⟩ (fun r => (∀ c : Dev Cert.GlaProjKernelIdeal.nD,
      r.2.mem ((c.tc : Thread Cert.GlaProjKernelIdeal.nD Cert.GlaProjKernelIdeal.τ).loc Cert.GlaProjKernelIdeal.main_arg0) = m ((c.tc : Thread Cert.GlaProjKernelIdeal.nD Cert.GlaProjKernelIdeal.τ).loc Cert.GlaProjKernelIdeal.main_arg0)
      ∧ r.2.mem ((c.tc : Thread Cert.GlaProjKernelIdeal.nD Cert.GlaProjKernelIdeal.τ).loc Cert.GlaProjKernelIdeal.main_arg1) = m ((c.tc : Thread Cert.GlaProjKernelIdeal.nD Cert.GlaProjKernelIdeal.τ).loc Cert.GlaProjKernelIdeal.main_arg1)
      ∧ r.2.mem ((c.tc : Thread Cert.GlaProjKernelIdeal.nD Cert.GlaProjKernelIdeal.τ).loc Cert.GlaProjKernelIdeal.main_arg2) = m ((c.tc : Thread Cert.GlaProjKernelIdeal.nD Cert.GlaProjKernelIdeal.τ).loc Cert.GlaProjKernelIdeal.main_arg2)
      ∧ r.2.mem ((c.tc : Thread Cert.GlaProjKernelIdeal.nD Cert.GlaProjKernelIdeal.τ).loc Cert.GlaProjKernelIdeal.main_arg3) = m ((c.tc : Thread Cert.GlaProjKernelIdeal.nD Cert.GlaProjKernelIdeal.τ).loc Cert.GlaProjKernelIdeal.main_arg3))
      ∧ r.2.sem = fun _ => 0)

def quiescent_GlaProjReferenceIdeal [hGlaProjReferenceIdeal : Cert.GlaProjReferenceIdeal.Facts] : Prop :=
  ∀ (m : (ℓ : Loc Cert.GlaProjReferenceIdeal.nD Cert.GlaProjReferenceIdeal.τ Cert.GlaProjReferenceIdeal.sig) → Buf (Elt Ideal) ℓ) (g : Dev Cert.GlaProjReferenceIdeal.nD → PrngReg), Pre_GlaProjReferenceIdeal m →
    θ_run (Cert.GlaProjReferenceIdeal.defs (F := Ideal)) (onTc (τ := Cert.GlaProjReferenceIdeal.τ) (Cert.GlaProjReferenceIdeal.main (F := Ideal))) ⟨m, fun _ => 0, g⟩ (fun r => (∀ c : Dev Cert.GlaProjReferenceIdeal.nD,
      r.2.mem ((c.tc : Thread Cert.GlaProjReferenceIdeal.nD Cert.GlaProjReferenceIdeal.τ).loc Cert.GlaProjReferenceIdeal.main_arg0) = m ((c.tc : Thread Cert.GlaProjReferenceIdeal.nD Cert.GlaProjReferenceIdeal.τ).loc Cert.GlaProjReferenceIdeal.main_arg0)
      ∧ r.2.mem ((c.tc : Thread Cert.GlaProjReferenceIdeal.nD Cert.GlaProjReferenceIdeal.τ).loc Cert.GlaProjReferenceIdeal.main_arg1) = m ((c.tc : Thread Cert.GlaProjReferenceIdeal.nD Cert.GlaProjReferenceIdeal.τ).loc Cert.GlaProjReferenceIdeal.main_arg1)
      ∧ r.2.mem ((c.tc : Thread Cert.GlaProjReferenceIdeal.nD Cert.GlaProjReferenceIdeal.τ).loc Cert.GlaProjReferenceIdeal.main_arg2) = m ((c.tc : Thread Cert.GlaProjReferenceIdeal.nD Cert.GlaProjReferenceIdeal.τ).loc Cert.GlaProjReferenceIdeal.main_arg2)
      ∧ r.2.mem ((c.tc : Thread Cert.GlaProjReferenceIdeal.nD Cert.GlaProjReferenceIdeal.τ).loc Cert.GlaProjReferenceIdeal.main_arg3) = m ((c.tc : Thread Cert.GlaProjReferenceIdeal.nD Cert.GlaProjReferenceIdeal.τ).loc Cert.GlaProjReferenceIdeal.main_arg3))
      ∧ r.2.sem = fun _ => 0)

def quiescent_AttOutGradKernel [hAttOutGradKernel : Cert.AttOutGradKernel.Facts] : Prop :=
  ∀ (m : (ℓ : Loc Cert.AttOutGradKernel.nD Cert.AttOutGradKernel.τ Cert.AttOutGradKernel.sig) → Buf (Elt Bits) ℓ) (g : Dev Cert.AttOutGradKernel.nD → PrngReg), Pre_AttOutGradKernel m →
    θ_run (Cert.AttOutGradKernel.defs (F := Bits)) (onTc (τ := Cert.AttOutGradKernel.τ) (Cert.AttOutGradKernel.main (F := Bits))) ⟨m, fun _ => 0, g⟩ (fun r => (∀ c : Dev Cert.AttOutGradKernel.nD,
      r.2.mem ((c.tc : Thread Cert.AttOutGradKernel.nD Cert.AttOutGradKernel.τ).loc Cert.AttOutGradKernel.main_arg0) = m ((c.tc : Thread Cert.AttOutGradKernel.nD Cert.AttOutGradKernel.τ).loc Cert.AttOutGradKernel.main_arg0)
      ∧ r.2.mem ((c.tc : Thread Cert.AttOutGradKernel.nD Cert.AttOutGradKernel.τ).loc Cert.AttOutGradKernel.main_arg1) = m ((c.tc : Thread Cert.AttOutGradKernel.nD Cert.AttOutGradKernel.τ).loc Cert.AttOutGradKernel.main_arg1))
      ∧ r.2.sem = fun _ => 0)

def quiescent_AttOutGradKernelIdeal [hAttOutGradKernelIdeal : Cert.AttOutGradKernelIdeal.Facts] : Prop :=
  ∀ (m : (ℓ : Loc Cert.AttOutGradKernelIdeal.nD Cert.AttOutGradKernelIdeal.τ Cert.AttOutGradKernelIdeal.sig) → Buf (Elt Ideal) ℓ) (g : Dev Cert.AttOutGradKernelIdeal.nD → PrngReg), Pre_AttOutGradKernelIdeal m →
    θ_run (Cert.AttOutGradKernelIdeal.defs (F := Ideal)) (onTc (τ := Cert.AttOutGradKernelIdeal.τ) (Cert.AttOutGradKernelIdeal.main (F := Ideal))) ⟨m, fun _ => 0, g⟩ (fun r => (∀ c : Dev Cert.AttOutGradKernelIdeal.nD,
      r.2.mem ((c.tc : Thread Cert.AttOutGradKernelIdeal.nD Cert.AttOutGradKernelIdeal.τ).loc Cert.AttOutGradKernelIdeal.main_arg0) = m ((c.tc : Thread Cert.AttOutGradKernelIdeal.nD Cert.AttOutGradKernelIdeal.τ).loc Cert.AttOutGradKernelIdeal.main_arg0)
      ∧ r.2.mem ((c.tc : Thread Cert.AttOutGradKernelIdeal.nD Cert.AttOutGradKernelIdeal.τ).loc Cert.AttOutGradKernelIdeal.main_arg1) = m ((c.tc : Thread Cert.AttOutGradKernelIdeal.nD Cert.AttOutGradKernelIdeal.τ).loc Cert.AttOutGradKernelIdeal.main_arg1))
      ∧ r.2.sem = fun _ => 0)

def quiescent_AttOutGradReferenceIdeal [hAttOutGradReferenceIdeal : Cert.AttOutGradReferenceIdeal.Facts] : Prop :=
  ∀ (m : (ℓ : Loc Cert.AttOutGradReferenceIdeal.nD Cert.AttOutGradReferenceIdeal.τ Cert.AttOutGradReferenceIdeal.sig) → Buf (Elt Ideal) ℓ) (g : Dev Cert.AttOutGradReferenceIdeal.nD → PrngReg), Pre_AttOutGradReferenceIdeal m →
    θ_run (Cert.AttOutGradReferenceIdeal.defs (F := Ideal)) (onTc (τ := Cert.AttOutGradReferenceIdeal.τ) (Cert.AttOutGradReferenceIdeal.main (F := Ideal))) ⟨m, fun _ => 0, g⟩ (fun r => (∀ c : Dev Cert.AttOutGradReferenceIdeal.nD,
      r.2.mem ((c.tc : Thread Cert.AttOutGradReferenceIdeal.nD Cert.AttOutGradReferenceIdeal.τ).loc Cert.AttOutGradReferenceIdeal.main_arg0) = m ((c.tc : Thread Cert.AttOutGradReferenceIdeal.nD Cert.AttOutGradReferenceIdeal.τ).loc Cert.AttOutGradReferenceIdeal.main_arg0)
      ∧ r.2.mem ((c.tc : Thread Cert.AttOutGradReferenceIdeal.nD Cert.AttOutGradReferenceIdeal.τ).loc Cert.AttOutGradReferenceIdeal.main_arg1) = m ((c.tc : Thread Cert.AttOutGradReferenceIdeal.nD Cert.AttOutGradReferenceIdeal.τ).loc Cert.AttOutGradReferenceIdeal.main_arg1))
      ∧ r.2.sem = fun _ => 0)

def quiescent_GlaOutGradKernel [hGlaOutGradKernel : Cert.GlaOutGradKernel.Facts] : Prop :=
  ∀ (m : (ℓ : Loc Cert.GlaOutGradKernel.nD Cert.GlaOutGradKernel.τ Cert.GlaOutGradKernel.sig) → Buf (Elt Bits) ℓ) (g : Dev Cert.GlaOutGradKernel.nD → PrngReg), Pre_GlaOutGradKernel m →
    θ_run (Cert.GlaOutGradKernel.defs (F := Bits)) (onTc (τ := Cert.GlaOutGradKernel.τ) (Cert.GlaOutGradKernel.main (F := Bits))) ⟨m, fun _ => 0, g⟩ (fun r => (∀ c : Dev Cert.GlaOutGradKernel.nD,
      r.2.mem ((c.tc : Thread Cert.GlaOutGradKernel.nD Cert.GlaOutGradKernel.τ).loc Cert.GlaOutGradKernel.main_arg0) = m ((c.tc : Thread Cert.GlaOutGradKernel.nD Cert.GlaOutGradKernel.τ).loc Cert.GlaOutGradKernel.main_arg0)
      ∧ r.2.mem ((c.tc : Thread Cert.GlaOutGradKernel.nD Cert.GlaOutGradKernel.τ).loc Cert.GlaOutGradKernel.main_arg1) = m ((c.tc : Thread Cert.GlaOutGradKernel.nD Cert.GlaOutGradKernel.τ).loc Cert.GlaOutGradKernel.main_arg1))
      ∧ r.2.sem = fun _ => 0)

def quiescent_GlaOutGradKernelIdeal [hGlaOutGradKernelIdeal : Cert.GlaOutGradKernelIdeal.Facts] : Prop :=
  ∀ (m : (ℓ : Loc Cert.GlaOutGradKernelIdeal.nD Cert.GlaOutGradKernelIdeal.τ Cert.GlaOutGradKernelIdeal.sig) → Buf (Elt Ideal) ℓ) (g : Dev Cert.GlaOutGradKernelIdeal.nD → PrngReg), Pre_GlaOutGradKernelIdeal m →
    θ_run (Cert.GlaOutGradKernelIdeal.defs (F := Ideal)) (onTc (τ := Cert.GlaOutGradKernelIdeal.τ) (Cert.GlaOutGradKernelIdeal.main (F := Ideal))) ⟨m, fun _ => 0, g⟩ (fun r => (∀ c : Dev Cert.GlaOutGradKernelIdeal.nD,
      r.2.mem ((c.tc : Thread Cert.GlaOutGradKernelIdeal.nD Cert.GlaOutGradKernelIdeal.τ).loc Cert.GlaOutGradKernelIdeal.main_arg0) = m ((c.tc : Thread Cert.GlaOutGradKernelIdeal.nD Cert.GlaOutGradKernelIdeal.τ).loc Cert.GlaOutGradKernelIdeal.main_arg0)
      ∧ r.2.mem ((c.tc : Thread Cert.GlaOutGradKernelIdeal.nD Cert.GlaOutGradKernelIdeal.τ).loc Cert.GlaOutGradKernelIdeal.main_arg1) = m ((c.tc : Thread Cert.GlaOutGradKernelIdeal.nD Cert.GlaOutGradKernelIdeal.τ).loc Cert.GlaOutGradKernelIdeal.main_arg1))
      ∧ r.2.sem = fun _ => 0)

def quiescent_GlaOutGradReferenceIdeal [hGlaOutGradReferenceIdeal : Cert.GlaOutGradReferenceIdeal.Facts] : Prop :=
  ∀ (m : (ℓ : Loc Cert.GlaOutGradReferenceIdeal.nD Cert.GlaOutGradReferenceIdeal.τ Cert.GlaOutGradReferenceIdeal.sig) → Buf (Elt Ideal) ℓ) (g : Dev Cert.GlaOutGradReferenceIdeal.nD → PrngReg), Pre_GlaOutGradReferenceIdeal m →
    θ_run (Cert.GlaOutGradReferenceIdeal.defs (F := Ideal)) (onTc (τ := Cert.GlaOutGradReferenceIdeal.τ) (Cert.GlaOutGradReferenceIdeal.main (F := Ideal))) ⟨m, fun _ => 0, g⟩ (fun r => (∀ c : Dev Cert.GlaOutGradReferenceIdeal.nD,
      r.2.mem ((c.tc : Thread Cert.GlaOutGradReferenceIdeal.nD Cert.GlaOutGradReferenceIdeal.τ).loc Cert.GlaOutGradReferenceIdeal.main_arg0) = m ((c.tc : Thread Cert.GlaOutGradReferenceIdeal.nD Cert.GlaOutGradReferenceIdeal.τ).loc Cert.GlaOutGradReferenceIdeal.main_arg0)
      ∧ r.2.mem ((c.tc : Thread Cert.GlaOutGradReferenceIdeal.nD Cert.GlaOutGradReferenceIdeal.τ).loc Cert.GlaOutGradReferenceIdeal.main_arg1) = m ((c.tc : Thread Cert.GlaOutGradReferenceIdeal.nD Cert.GlaOutGradReferenceIdeal.τ).loc Cert.GlaOutGradReferenceIdeal.main_arg1))
      ∧ r.2.sem = fun _ => 0)

def quiescent_OutWeightGradKernel [hOutWeightGradKernel : Cert.OutWeightGradKernel.Facts] : Prop :=
  ∀ (m : (ℓ : Loc Cert.OutWeightGradKernel.nD Cert.OutWeightGradKernel.τ Cert.OutWeightGradKernel.sig) → Buf (Elt Bits) ℓ) (g : Dev Cert.OutWeightGradKernel.nD → PrngReg), Pre_OutWeightGradKernel m →
    θ_run (Cert.OutWeightGradKernel.defs (F := Bits)) (onTc (τ := Cert.OutWeightGradKernel.τ) (Cert.OutWeightGradKernel.main (F := Bits))) ⟨m, fun _ => 0, g⟩ (fun r => (∀ c : Dev Cert.OutWeightGradKernel.nD,
      r.2.mem ((c.tc : Thread Cert.OutWeightGradKernel.nD Cert.OutWeightGradKernel.τ).loc Cert.OutWeightGradKernel.main_arg0) = m ((c.tc : Thread Cert.OutWeightGradKernel.nD Cert.OutWeightGradKernel.τ).loc Cert.OutWeightGradKernel.main_arg0)
      ∧ r.2.mem ((c.tc : Thread Cert.OutWeightGradKernel.nD Cert.OutWeightGradKernel.τ).loc Cert.OutWeightGradKernel.main_arg1) = m ((c.tc : Thread Cert.OutWeightGradKernel.nD Cert.OutWeightGradKernel.τ).loc Cert.OutWeightGradKernel.main_arg1))
      ∧ r.2.sem = fun _ => 0)

def quiescent_OutWeightGradKernelIdeal [hOutWeightGradKernelIdeal : Cert.OutWeightGradKernelIdeal.Facts] : Prop :=
  ∀ (m : (ℓ : Loc Cert.OutWeightGradKernelIdeal.nD Cert.OutWeightGradKernelIdeal.τ Cert.OutWeightGradKernelIdeal.sig) → Buf (Elt Ideal) ℓ) (g : Dev Cert.OutWeightGradKernelIdeal.nD → PrngReg), Pre_OutWeightGradKernelIdeal m →
    θ_run (Cert.OutWeightGradKernelIdeal.defs (F := Ideal)) (onTc (τ := Cert.OutWeightGradKernelIdeal.τ) (Cert.OutWeightGradKernelIdeal.main (F := Ideal))) ⟨m, fun _ => 0, g⟩ (fun r => (∀ c : Dev Cert.OutWeightGradKernelIdeal.nD,
      r.2.mem ((c.tc : Thread Cert.OutWeightGradKernelIdeal.nD Cert.OutWeightGradKernelIdeal.τ).loc Cert.OutWeightGradKernelIdeal.main_arg0) = m ((c.tc : Thread Cert.OutWeightGradKernelIdeal.nD Cert.OutWeightGradKernelIdeal.τ).loc Cert.OutWeightGradKernelIdeal.main_arg0)
      ∧ r.2.mem ((c.tc : Thread Cert.OutWeightGradKernelIdeal.nD Cert.OutWeightGradKernelIdeal.τ).loc Cert.OutWeightGradKernelIdeal.main_arg1) = m ((c.tc : Thread Cert.OutWeightGradKernelIdeal.nD Cert.OutWeightGradKernelIdeal.τ).loc Cert.OutWeightGradKernelIdeal.main_arg1))
      ∧ r.2.sem = fun _ => 0)

def quiescent_OutWeightGradReferenceIdeal [hOutWeightGradReferenceIdeal : Cert.OutWeightGradReferenceIdeal.Facts] : Prop :=
  ∀ (m : (ℓ : Loc Cert.OutWeightGradReferenceIdeal.nD Cert.OutWeightGradReferenceIdeal.τ Cert.OutWeightGradReferenceIdeal.sig) → Buf (Elt Ideal) ℓ) (g : Dev Cert.OutWeightGradReferenceIdeal.nD → PrngReg), Pre_OutWeightGradReferenceIdeal m →
    θ_run (Cert.OutWeightGradReferenceIdeal.defs (F := Ideal)) (onTc (τ := Cert.OutWeightGradReferenceIdeal.τ) (Cert.OutWeightGradReferenceIdeal.main (F := Ideal))) ⟨m, fun _ => 0, g⟩ (fun r => (∀ c : Dev Cert.OutWeightGradReferenceIdeal.nD,
      r.2.mem ((c.tc : Thread Cert.OutWeightGradReferenceIdeal.nD Cert.OutWeightGradReferenceIdeal.τ).loc Cert.OutWeightGradReferenceIdeal.main_arg0) = m ((c.tc : Thread Cert.OutWeightGradReferenceIdeal.nD Cert.OutWeightGradReferenceIdeal.τ).loc Cert.OutWeightGradReferenceIdeal.main_arg0)
      ∧ r.2.mem ((c.tc : Thread Cert.OutWeightGradReferenceIdeal.nD Cert.OutWeightGradReferenceIdeal.τ).loc Cert.OutWeightGradReferenceIdeal.main_arg1) = m ((c.tc : Thread Cert.OutWeightGradReferenceIdeal.nD Cert.OutWeightGradReferenceIdeal.τ).loc Cert.OutWeightGradReferenceIdeal.main_arg1))
      ∧ r.2.sem = fun _ => 0)

def quiescent_GlaProjGradKernel [hGlaProjGradKernel : Cert.GlaProjGradKernel.Facts] : Prop :=
  ∀ (m : (ℓ : Loc Cert.GlaProjGradKernel.nD Cert.GlaProjGradKernel.τ Cert.GlaProjGradKernel.sig) → Buf (Elt Bits) ℓ) (g : Dev Cert.GlaProjGradKernel.nD → PrngReg), Pre_GlaProjGradKernel m →
    θ_run (Cert.GlaProjGradKernel.defs (F := Bits)) (onTc (τ := Cert.GlaProjGradKernel.τ) (Cert.GlaProjGradKernel.main (F := Bits))) ⟨m, fun _ => 0, g⟩ (fun r => (∀ c : Dev Cert.GlaProjGradKernel.nD,
      r.2.mem ((c.tc : Thread Cert.GlaProjGradKernel.nD Cert.GlaProjGradKernel.τ).loc Cert.GlaProjGradKernel.main_arg0) = m ((c.tc : Thread Cert.GlaProjGradKernel.nD Cert.GlaProjGradKernel.τ).loc Cert.GlaProjGradKernel.main_arg0)
      ∧ r.2.mem ((c.tc : Thread Cert.GlaProjGradKernel.nD Cert.GlaProjGradKernel.τ).loc Cert.GlaProjGradKernel.main_arg1) = m ((c.tc : Thread Cert.GlaProjGradKernel.nD Cert.GlaProjGradKernel.τ).loc Cert.GlaProjGradKernel.main_arg1))
      ∧ r.2.sem = fun _ => 0)

def quiescent_GlaProjGradKernelIdeal [hGlaProjGradKernelIdeal : Cert.GlaProjGradKernelIdeal.Facts] : Prop :=
  ∀ (m : (ℓ : Loc Cert.GlaProjGradKernelIdeal.nD Cert.GlaProjGradKernelIdeal.τ Cert.GlaProjGradKernelIdeal.sig) → Buf (Elt Ideal) ℓ) (g : Dev Cert.GlaProjGradKernelIdeal.nD → PrngReg), Pre_GlaProjGradKernelIdeal m →
    θ_run (Cert.GlaProjGradKernelIdeal.defs (F := Ideal)) (onTc (τ := Cert.GlaProjGradKernelIdeal.τ) (Cert.GlaProjGradKernelIdeal.main (F := Ideal))) ⟨m, fun _ => 0, g⟩ (fun r => (∀ c : Dev Cert.GlaProjGradKernelIdeal.nD,
      r.2.mem ((c.tc : Thread Cert.GlaProjGradKernelIdeal.nD Cert.GlaProjGradKernelIdeal.τ).loc Cert.GlaProjGradKernelIdeal.main_arg0) = m ((c.tc : Thread Cert.GlaProjGradKernelIdeal.nD Cert.GlaProjGradKernelIdeal.τ).loc Cert.GlaProjGradKernelIdeal.main_arg0)
      ∧ r.2.mem ((c.tc : Thread Cert.GlaProjGradKernelIdeal.nD Cert.GlaProjGradKernelIdeal.τ).loc Cert.GlaProjGradKernelIdeal.main_arg1) = m ((c.tc : Thread Cert.GlaProjGradKernelIdeal.nD Cert.GlaProjGradKernelIdeal.τ).loc Cert.GlaProjGradKernelIdeal.main_arg1))
      ∧ r.2.sem = fun _ => 0)

def quiescent_GlaProjGradReferenceIdeal [hGlaProjGradReferenceIdeal : Cert.GlaProjGradReferenceIdeal.Facts] : Prop :=
  ∀ (m : (ℓ : Loc Cert.GlaProjGradReferenceIdeal.nD Cert.GlaProjGradReferenceIdeal.τ Cert.GlaProjGradReferenceIdeal.sig) → Buf (Elt Ideal) ℓ) (g : Dev Cert.GlaProjGradReferenceIdeal.nD → PrngReg), Pre_GlaProjGradReferenceIdeal m →
    θ_run (Cert.GlaProjGradReferenceIdeal.defs (F := Ideal)) (onTc (τ := Cert.GlaProjGradReferenceIdeal.τ) (Cert.GlaProjGradReferenceIdeal.main (F := Ideal))) ⟨m, fun _ => 0, g⟩ (fun r => (∀ c : Dev Cert.GlaProjGradReferenceIdeal.nD,
      r.2.mem ((c.tc : Thread Cert.GlaProjGradReferenceIdeal.nD Cert.GlaProjGradReferenceIdeal.τ).loc Cert.GlaProjGradReferenceIdeal.main_arg0) = m ((c.tc : Thread Cert.GlaProjGradReferenceIdeal.nD Cert.GlaProjGradReferenceIdeal.τ).loc Cert.GlaProjGradReferenceIdeal.main_arg0)
      ∧ r.2.mem ((c.tc : Thread Cert.GlaProjGradReferenceIdeal.nD Cert.GlaProjGradReferenceIdeal.τ).loc Cert.GlaProjGradReferenceIdeal.main_arg1) = m ((c.tc : Thread Cert.GlaProjGradReferenceIdeal.nD Cert.GlaProjGradReferenceIdeal.τ).loc Cert.GlaProjGradReferenceIdeal.main_arg1))
      ∧ r.2.sem = fun _ => 0)

def quiescent_GlaWeightGradKernel [hGlaWeightGradKernel : Cert.GlaWeightGradKernel.Facts] : Prop :=
  ∀ (m : (ℓ : Loc Cert.GlaWeightGradKernel.nD Cert.GlaWeightGradKernel.τ Cert.GlaWeightGradKernel.sig) → Buf (Elt Bits) ℓ) (g : Dev Cert.GlaWeightGradKernel.nD → PrngReg), Pre_GlaWeightGradKernel m →
    θ_run (Cert.GlaWeightGradKernel.defs (F := Bits)) (onTc (τ := Cert.GlaWeightGradKernel.τ) (Cert.GlaWeightGradKernel.main (F := Bits))) ⟨m, fun _ => 0, g⟩ (fun r => (∀ c : Dev Cert.GlaWeightGradKernel.nD,
      r.2.mem ((c.tc : Thread Cert.GlaWeightGradKernel.nD Cert.GlaWeightGradKernel.τ).loc Cert.GlaWeightGradKernel.main_arg0) = m ((c.tc : Thread Cert.GlaWeightGradKernel.nD Cert.GlaWeightGradKernel.τ).loc Cert.GlaWeightGradKernel.main_arg0)
      ∧ r.2.mem ((c.tc : Thread Cert.GlaWeightGradKernel.nD Cert.GlaWeightGradKernel.τ).loc Cert.GlaWeightGradKernel.main_arg1) = m ((c.tc : Thread Cert.GlaWeightGradKernel.nD Cert.GlaWeightGradKernel.τ).loc Cert.GlaWeightGradKernel.main_arg1)
      ∧ r.2.mem ((c.tc : Thread Cert.GlaWeightGradKernel.nD Cert.GlaWeightGradKernel.τ).loc Cert.GlaWeightGradKernel.main_arg2) = m ((c.tc : Thread Cert.GlaWeightGradKernel.nD Cert.GlaWeightGradKernel.τ).loc Cert.GlaWeightGradKernel.main_arg2)
      ∧ r.2.mem ((c.tc : Thread Cert.GlaWeightGradKernel.nD Cert.GlaWeightGradKernel.τ).loc Cert.GlaWeightGradKernel.main_arg3) = m ((c.tc : Thread Cert.GlaWeightGradKernel.nD Cert.GlaWeightGradKernel.τ).loc Cert.GlaWeightGradKernel.main_arg3))
      ∧ r.2.sem = fun _ => 0)

def quiescent_GlaWeightGradKernelIdeal [hGlaWeightGradKernelIdeal : Cert.GlaWeightGradKernelIdeal.Facts] : Prop :=
  ∀ (m : (ℓ : Loc Cert.GlaWeightGradKernelIdeal.nD Cert.GlaWeightGradKernelIdeal.τ Cert.GlaWeightGradKernelIdeal.sig) → Buf (Elt Ideal) ℓ) (g : Dev Cert.GlaWeightGradKernelIdeal.nD → PrngReg), Pre_GlaWeightGradKernelIdeal m →
    θ_run (Cert.GlaWeightGradKernelIdeal.defs (F := Ideal)) (onTc (τ := Cert.GlaWeightGradKernelIdeal.τ) (Cert.GlaWeightGradKernelIdeal.main (F := Ideal))) ⟨m, fun _ => 0, g⟩ (fun r => (∀ c : Dev Cert.GlaWeightGradKernelIdeal.nD,
      r.2.mem ((c.tc : Thread Cert.GlaWeightGradKernelIdeal.nD Cert.GlaWeightGradKernelIdeal.τ).loc Cert.GlaWeightGradKernelIdeal.main_arg0) = m ((c.tc : Thread Cert.GlaWeightGradKernelIdeal.nD Cert.GlaWeightGradKernelIdeal.τ).loc Cert.GlaWeightGradKernelIdeal.main_arg0)
      ∧ r.2.mem ((c.tc : Thread Cert.GlaWeightGradKernelIdeal.nD Cert.GlaWeightGradKernelIdeal.τ).loc Cert.GlaWeightGradKernelIdeal.main_arg1) = m ((c.tc : Thread Cert.GlaWeightGradKernelIdeal.nD Cert.GlaWeightGradKernelIdeal.τ).loc Cert.GlaWeightGradKernelIdeal.main_arg1)
      ∧ r.2.mem ((c.tc : Thread Cert.GlaWeightGradKernelIdeal.nD Cert.GlaWeightGradKernelIdeal.τ).loc Cert.GlaWeightGradKernelIdeal.main_arg2) = m ((c.tc : Thread Cert.GlaWeightGradKernelIdeal.nD Cert.GlaWeightGradKernelIdeal.τ).loc Cert.GlaWeightGradKernelIdeal.main_arg2)
      ∧ r.2.mem ((c.tc : Thread Cert.GlaWeightGradKernelIdeal.nD Cert.GlaWeightGradKernelIdeal.τ).loc Cert.GlaWeightGradKernelIdeal.main_arg3) = m ((c.tc : Thread Cert.GlaWeightGradKernelIdeal.nD Cert.GlaWeightGradKernelIdeal.τ).loc Cert.GlaWeightGradKernelIdeal.main_arg3))
      ∧ r.2.sem = fun _ => 0)

def quiescent_GlaWeightGradReferenceIdeal [hGlaWeightGradReferenceIdeal : Cert.GlaWeightGradReferenceIdeal.Facts] : Prop :=
  ∀ (m : (ℓ : Loc Cert.GlaWeightGradReferenceIdeal.nD Cert.GlaWeightGradReferenceIdeal.τ Cert.GlaWeightGradReferenceIdeal.sig) → Buf (Elt Ideal) ℓ) (g : Dev Cert.GlaWeightGradReferenceIdeal.nD → PrngReg), Pre_GlaWeightGradReferenceIdeal m →
    θ_run (Cert.GlaWeightGradReferenceIdeal.defs (F := Ideal)) (onTc (τ := Cert.GlaWeightGradReferenceIdeal.τ) (Cert.GlaWeightGradReferenceIdeal.main (F := Ideal))) ⟨m, fun _ => 0, g⟩ (fun r => (∀ c : Dev Cert.GlaWeightGradReferenceIdeal.nD,
      r.2.mem ((c.tc : Thread Cert.GlaWeightGradReferenceIdeal.nD Cert.GlaWeightGradReferenceIdeal.τ).loc Cert.GlaWeightGradReferenceIdeal.main_arg0) = m ((c.tc : Thread Cert.GlaWeightGradReferenceIdeal.nD Cert.GlaWeightGradReferenceIdeal.τ).loc Cert.GlaWeightGradReferenceIdeal.main_arg0)
      ∧ r.2.mem ((c.tc : Thread Cert.GlaWeightGradReferenceIdeal.nD Cert.GlaWeightGradReferenceIdeal.τ).loc Cert.GlaWeightGradReferenceIdeal.main_arg1) = m ((c.tc : Thread Cert.GlaWeightGradReferenceIdeal.nD Cert.GlaWeightGradReferenceIdeal.τ).loc Cert.GlaWeightGradReferenceIdeal.main_arg1)
      ∧ r.2.mem ((c.tc : Thread Cert.GlaWeightGradReferenceIdeal.nD Cert.GlaWeightGradReferenceIdeal.τ).loc Cert.GlaWeightGradReferenceIdeal.main_arg2) = m ((c.tc : Thread Cert.GlaWeightGradReferenceIdeal.nD Cert.GlaWeightGradReferenceIdeal.τ).loc Cert.GlaWeightGradReferenceIdeal.main_arg2)
      ∧ r.2.mem ((c.tc : Thread Cert.GlaWeightGradReferenceIdeal.nD Cert.GlaWeightGradReferenceIdeal.τ).loc Cert.GlaWeightGradReferenceIdeal.main_arg3) = m ((c.tc : Thread Cert.GlaWeightGradReferenceIdeal.nD Cert.GlaWeightGradReferenceIdeal.τ).loc Cert.GlaWeightGradReferenceIdeal.main_arg3))
      ∧ r.2.sem = fun _ => 0)

def quiescent_AttProjGradKernel [hAttProjGradKernel : Cert.AttProjGradKernel.Facts] : Prop :=
  ∀ (m : (ℓ : Loc Cert.AttProjGradKernel.nD Cert.AttProjGradKernel.τ Cert.AttProjGradKernel.sig) → Buf (Elt Bits) ℓ) (g : Dev Cert.AttProjGradKernel.nD → PrngReg), Pre_AttProjGradKernel m →
    θ_run (Cert.AttProjGradKernel.defs (F := Bits)) (onTc (τ := Cert.AttProjGradKernel.τ) (Cert.AttProjGradKernel.main (F := Bits))) ⟨m, fun _ => 0, g⟩ (fun r => (∀ c : Dev Cert.AttProjGradKernel.nD,
      r.2.mem ((c.tc : Thread Cert.AttProjGradKernel.nD Cert.AttProjGradKernel.τ).loc Cert.AttProjGradKernel.main_arg0) = m ((c.tc : Thread Cert.AttProjGradKernel.nD Cert.AttProjGradKernel.τ).loc Cert.AttProjGradKernel.main_arg0)
      ∧ r.2.mem ((c.tc : Thread Cert.AttProjGradKernel.nD Cert.AttProjGradKernel.τ).loc Cert.AttProjGradKernel.main_arg1) = m ((c.tc : Thread Cert.AttProjGradKernel.nD Cert.AttProjGradKernel.τ).loc Cert.AttProjGradKernel.main_arg1)
      ∧ r.2.mem ((c.tc : Thread Cert.AttProjGradKernel.nD Cert.AttProjGradKernel.τ).loc Cert.AttProjGradKernel.main_arg2) = m ((c.tc : Thread Cert.AttProjGradKernel.nD Cert.AttProjGradKernel.τ).loc Cert.AttProjGradKernel.main_arg2)
      ∧ r.2.mem ((c.tc : Thread Cert.AttProjGradKernel.nD Cert.AttProjGradKernel.τ).loc Cert.AttProjGradKernel.main_arg3) = m ((c.tc : Thread Cert.AttProjGradKernel.nD Cert.AttProjGradKernel.τ).loc Cert.AttProjGradKernel.main_arg3))
      ∧ r.2.sem = fun _ => 0)

def quiescent_AttProjGradKernelIdeal [hAttProjGradKernelIdeal : Cert.AttProjGradKernelIdeal.Facts] : Prop :=
  ∀ (m : (ℓ : Loc Cert.AttProjGradKernelIdeal.nD Cert.AttProjGradKernelIdeal.τ Cert.AttProjGradKernelIdeal.sig) → Buf (Elt Ideal) ℓ) (g : Dev Cert.AttProjGradKernelIdeal.nD → PrngReg), Pre_AttProjGradKernelIdeal m →
    θ_run (Cert.AttProjGradKernelIdeal.defs (F := Ideal)) (onTc (τ := Cert.AttProjGradKernelIdeal.τ) (Cert.AttProjGradKernelIdeal.main (F := Ideal))) ⟨m, fun _ => 0, g⟩ (fun r => (∀ c : Dev Cert.AttProjGradKernelIdeal.nD,
      r.2.mem ((c.tc : Thread Cert.AttProjGradKernelIdeal.nD Cert.AttProjGradKernelIdeal.τ).loc Cert.AttProjGradKernelIdeal.main_arg0) = m ((c.tc : Thread Cert.AttProjGradKernelIdeal.nD Cert.AttProjGradKernelIdeal.τ).loc Cert.AttProjGradKernelIdeal.main_arg0)
      ∧ r.2.mem ((c.tc : Thread Cert.AttProjGradKernelIdeal.nD Cert.AttProjGradKernelIdeal.τ).loc Cert.AttProjGradKernelIdeal.main_arg1) = m ((c.tc : Thread Cert.AttProjGradKernelIdeal.nD Cert.AttProjGradKernelIdeal.τ).loc Cert.AttProjGradKernelIdeal.main_arg1)
      ∧ r.2.mem ((c.tc : Thread Cert.AttProjGradKernelIdeal.nD Cert.AttProjGradKernelIdeal.τ).loc Cert.AttProjGradKernelIdeal.main_arg2) = m ((c.tc : Thread Cert.AttProjGradKernelIdeal.nD Cert.AttProjGradKernelIdeal.τ).loc Cert.AttProjGradKernelIdeal.main_arg2)
      ∧ r.2.mem ((c.tc : Thread Cert.AttProjGradKernelIdeal.nD Cert.AttProjGradKernelIdeal.τ).loc Cert.AttProjGradKernelIdeal.main_arg3) = m ((c.tc : Thread Cert.AttProjGradKernelIdeal.nD Cert.AttProjGradKernelIdeal.τ).loc Cert.AttProjGradKernelIdeal.main_arg3))
      ∧ r.2.sem = fun _ => 0)

def quiescent_AttProjGradReferenceIdeal [hAttProjGradReferenceIdeal : Cert.AttProjGradReferenceIdeal.Facts] : Prop :=
  ∀ (m : (ℓ : Loc Cert.AttProjGradReferenceIdeal.nD Cert.AttProjGradReferenceIdeal.τ Cert.AttProjGradReferenceIdeal.sig) → Buf (Elt Ideal) ℓ) (g : Dev Cert.AttProjGradReferenceIdeal.nD → PrngReg), Pre_AttProjGradReferenceIdeal m →
    θ_run (Cert.AttProjGradReferenceIdeal.defs (F := Ideal)) (onTc (τ := Cert.AttProjGradReferenceIdeal.τ) (Cert.AttProjGradReferenceIdeal.main (F := Ideal))) ⟨m, fun _ => 0, g⟩ (fun r => (∀ c : Dev Cert.AttProjGradReferenceIdeal.nD,
      r.2.mem ((c.tc : Thread Cert.AttProjGradReferenceIdeal.nD Cert.AttProjGradReferenceIdeal.τ).loc Cert.AttProjGradReferenceIdeal.main_arg0) = m ((c.tc : Thread Cert.AttProjGradReferenceIdeal.nD Cert.AttProjGradReferenceIdeal.τ).loc Cert.AttProjGradReferenceIdeal.main_arg0)
      ∧ r.2.mem ((c.tc : Thread Cert.AttProjGradReferenceIdeal.nD Cert.AttProjGradReferenceIdeal.τ).loc Cert.AttProjGradReferenceIdeal.main_arg1) = m ((c.tc : Thread Cert.AttProjGradReferenceIdeal.nD Cert.AttProjGradReferenceIdeal.τ).loc Cert.AttProjGradReferenceIdeal.main_arg1)
      ∧ r.2.mem ((c.tc : Thread Cert.AttProjGradReferenceIdeal.nD Cert.AttProjGradReferenceIdeal.τ).loc Cert.AttProjGradReferenceIdeal.main_arg2) = m ((c.tc : Thread Cert.AttProjGradReferenceIdeal.nD Cert.AttProjGradReferenceIdeal.τ).loc Cert.AttProjGradReferenceIdeal.main_arg2)
      ∧ r.2.mem ((c.tc : Thread Cert.AttProjGradReferenceIdeal.nD Cert.AttProjGradReferenceIdeal.τ).loc Cert.AttProjGradReferenceIdeal.main_arg3) = m ((c.tc : Thread Cert.AttProjGradReferenceIdeal.nD Cert.AttProjGradReferenceIdeal.τ).loc Cert.AttProjGradReferenceIdeal.main_arg3))
      ∧ r.2.sem = fun _ => 0)

def quiescent_ForwardKernel [hForwardKernel : Cert.ForwardKernel.Facts] : Prop :=
  ∀ (m : (ℓ : Loc Cert.ForwardKernel.nD Cert.ForwardKernel.τ Cert.ForwardKernel.sig) → Buf (Elt Bits) ℓ) (g : Dev Cert.ForwardKernel.nD → PrngReg), Pre_ForwardKernel m →
    θ_run (Cert.ForwardKernel.defs (F := Bits)) (onTc (τ := Cert.ForwardKernel.τ) (Cert.ForwardKernel.main (F := Bits))) ⟨m, fun _ => 0, g⟩ (fun r => (∀ c : Dev Cert.ForwardKernel.nD,
      r.2.mem ((c.tc : Thread Cert.ForwardKernel.nD Cert.ForwardKernel.τ).loc Cert.ForwardKernel.main_arg0) = m ((c.tc : Thread Cert.ForwardKernel.nD Cert.ForwardKernel.τ).loc Cert.ForwardKernel.main_arg0)
      ∧ r.2.mem ((c.tc : Thread Cert.ForwardKernel.nD Cert.ForwardKernel.τ).loc Cert.ForwardKernel.main_arg1) = m ((c.tc : Thread Cert.ForwardKernel.nD Cert.ForwardKernel.τ).loc Cert.ForwardKernel.main_arg1))
      ∧ r.2.sem = fun _ => 0)

def quiescent_ForwardKernelIdeal [hForwardKernelIdeal : Cert.ForwardKernelIdeal.Facts] : Prop :=
  ∀ (m : (ℓ : Loc Cert.ForwardKernelIdeal.nD Cert.ForwardKernelIdeal.τ Cert.ForwardKernelIdeal.sig) → Buf (Elt Ideal) ℓ) (g : Dev Cert.ForwardKernelIdeal.nD → PrngReg), Pre_ForwardKernelIdeal m →
    θ_run (Cert.ForwardKernelIdeal.defs (F := Ideal)) (onTc (τ := Cert.ForwardKernelIdeal.τ) (Cert.ForwardKernelIdeal.main (F := Ideal))) ⟨m, fun _ => 0, g⟩ (fun r => (∀ c : Dev Cert.ForwardKernelIdeal.nD,
      r.2.mem ((c.tc : Thread Cert.ForwardKernelIdeal.nD Cert.ForwardKernelIdeal.τ).loc Cert.ForwardKernelIdeal.main_arg0) = m ((c.tc : Thread Cert.ForwardKernelIdeal.nD Cert.ForwardKernelIdeal.τ).loc Cert.ForwardKernelIdeal.main_arg0)
      ∧ r.2.mem ((c.tc : Thread Cert.ForwardKernelIdeal.nD Cert.ForwardKernelIdeal.τ).loc Cert.ForwardKernelIdeal.main_arg1) = m ((c.tc : Thread Cert.ForwardKernelIdeal.nD Cert.ForwardKernelIdeal.τ).loc Cert.ForwardKernelIdeal.main_arg1))
      ∧ r.2.sem = fun _ => 0)

def quiescent_ForwardReferenceIdeal [hForwardReferenceIdeal : Cert.ForwardReferenceIdeal.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1))
      ∧ r.2.sem = fun _ => 0)

def quiescent_AttKeyWeightGradKernel [hAttKeyWeightGradKernel : Cert.AttKeyWeightGradKernel.Facts] : Prop :=
  ∀ (m : (ℓ : Loc Cert.AttKeyWeightGradKernel.nD Cert.AttKeyWeightGradKernel.τ Cert.AttKeyWeightGradKernel.sig) → Buf (Elt Bits) ℓ) (g : Dev Cert.AttKeyWeightGradKernel.nD → PrngReg), Pre_AttKeyWeightGradKernel m →
    θ_run (Cert.AttKeyWeightGradKernel.defs (F := Bits)) (onTc (τ := Cert.AttKeyWeightGradKernel.τ) (Cert.AttKeyWeightGradKernel.main (F := Bits))) ⟨m, fun _ => 0, g⟩ (fun r => (∀ c : Dev Cert.AttKeyWeightGradKernel.nD,
      r.2.mem ((c.tc : Thread Cert.AttKeyWeightGradKernel.nD Cert.AttKeyWeightGradKernel.τ).loc Cert.AttKeyWeightGradKernel.main_arg0) = m ((c.tc : Thread Cert.AttKeyWeightGradKernel.nD Cert.AttKeyWeightGradKernel.τ).loc Cert.AttKeyWeightGradKernel.main_arg0)
      ∧ r.2.mem ((c.tc : Thread Cert.AttKeyWeightGradKernel.nD Cert.AttKeyWeightGradKernel.τ).loc Cert.AttKeyWeightGradKernel.main_arg1) = m ((c.tc : Thread Cert.AttKeyWeightGradKernel.nD Cert.AttKeyWeightGradKernel.τ).loc Cert.AttKeyWeightGradKernel.main_arg1)
      ∧ r.2.mem ((c.tc : Thread Cert.AttKeyWeightGradKernel.nD Cert.AttKeyWeightGradKernel.τ).loc Cert.AttKeyWeightGradKernel.main_arg2) = m ((c.tc : Thread Cert.AttKeyWeightGradKernel.nD Cert.AttKeyWeightGradKernel.τ).loc Cert.AttKeyWeightGradKernel.main_arg2)
      ∧ r.2.mem ((c.tc : Thread Cert.AttKeyWeightGradKernel.nD Cert.AttKeyWeightGradKernel.τ).loc Cert.AttKeyWeightGradKernel.main_arg3) = m ((c.tc : Thread Cert.AttKeyWeightGradKernel.nD Cert.AttKeyWeightGradKernel.τ).loc Cert.AttKeyWeightGradKernel.main_arg3)
      ∧ r.2.mem ((c.tc : Thread Cert.AttKeyWeightGradKernel.nD Cert.AttKeyWeightGradKernel.τ).loc Cert.AttKeyWeightGradKernel.main_arg4) = m ((c.tc : Thread Cert.AttKeyWeightGradKernel.nD Cert.AttKeyWeightGradKernel.τ).loc Cert.AttKeyWeightGradKernel.main_arg4))
      ∧ r.2.sem = fun _ => 0)

def quiescent_AttKeyWeightGradKernelIdeal [hAttKeyWeightGradKernelIdeal : Cert.AttKeyWeightGradKernelIdeal.Facts] : Prop :=
  ∀ (m : (ℓ : Loc Cert.AttKeyWeightGradKernelIdeal.nD Cert.AttKeyWeightGradKernelIdeal.τ Cert.AttKeyWeightGradKernelIdeal.sig) → Buf (Elt Ideal) ℓ) (g : Dev Cert.AttKeyWeightGradKernelIdeal.nD → PrngReg), Pre_AttKeyWeightGradKernelIdeal m →
    θ_run (Cert.AttKeyWeightGradKernelIdeal.defs (F := Ideal)) (onTc (τ := Cert.AttKeyWeightGradKernelIdeal.τ) (Cert.AttKeyWeightGradKernelIdeal.main (F := Ideal))) ⟨m, fun _ => 0, g⟩ (fun r => (∀ c : Dev Cert.AttKeyWeightGradKernelIdeal.nD,
      r.2.mem ((c.tc : Thread Cert.AttKeyWeightGradKernelIdeal.nD Cert.AttKeyWeightGradKernelIdeal.τ).loc Cert.AttKeyWeightGradKernelIdeal.main_arg0) = m ((c.tc : Thread Cert.AttKeyWeightGradKernelIdeal.nD Cert.AttKeyWeightGradKernelIdeal.τ).loc Cert.AttKeyWeightGradKernelIdeal.main_arg0)
      ∧ r.2.mem ((c.tc : Thread Cert.AttKeyWeightGradKernelIdeal.nD Cert.AttKeyWeightGradKernelIdeal.τ).loc Cert.AttKeyWeightGradKernelIdeal.main_arg1) = m ((c.tc : Thread Cert.AttKeyWeightGradKernelIdeal.nD Cert.AttKeyWeightGradKernelIdeal.τ).loc Cert.AttKeyWeightGradKernelIdeal.main_arg1)
      ∧ r.2.mem ((c.tc : Thread Cert.AttKeyWeightGradKernelIdeal.nD Cert.AttKeyWeightGradKernelIdeal.τ).loc Cert.AttKeyWeightGradKernelIdeal.main_arg2) = m ((c.tc : Thread Cert.AttKeyWeightGradKernelIdeal.nD Cert.AttKeyWeightGradKernelIdeal.τ).loc Cert.AttKeyWeightGradKernelIdeal.main_arg2)
      ∧ r.2.mem ((c.tc : Thread Cert.AttKeyWeightGradKernelIdeal.nD Cert.AttKeyWeightGradKernelIdeal.τ).loc Cert.AttKeyWeightGradKernelIdeal.main_arg3) = m ((c.tc : Thread Cert.AttKeyWeightGradKernelIdeal.nD Cert.AttKeyWeightGradKernelIdeal.τ).loc Cert.AttKeyWeightGradKernelIdeal.main_arg3)
      ∧ r.2.mem ((c.tc : Thread Cert.AttKeyWeightGradKernelIdeal.nD Cert.AttKeyWeightGradKernelIdeal.τ).loc Cert.AttKeyWeightGradKernelIdeal.main_arg4) = m ((c.tc : Thread Cert.AttKeyWeightGradKernelIdeal.nD Cert.AttKeyWeightGradKernelIdeal.τ).loc Cert.AttKeyWeightGradKernelIdeal.main_arg4))
      ∧ r.2.sem = fun _ => 0)

def quiescent_AttKeyWeightGradReferenceIdeal [hAttKeyWeightGradReferenceIdeal : Cert.AttKeyWeightGradReferenceIdeal.Facts] : Prop :=
  ∀ (m : (ℓ : Loc Cert.AttKeyWeightGradReferenceIdeal.nD Cert.AttKeyWeightGradReferenceIdeal.τ Cert.AttKeyWeightGradReferenceIdeal.sig) → Buf (Elt Ideal) ℓ) (g : Dev Cert.AttKeyWeightGradReferenceIdeal.nD → PrngReg), Pre_AttKeyWeightGradReferenceIdeal m →
    θ_run (Cert.AttKeyWeightGradReferenceIdeal.defs (F := Ideal)) (onTc (τ := Cert.AttKeyWeightGradReferenceIdeal.τ) (Cert.AttKeyWeightGradReferenceIdeal.main (F := Ideal))) ⟨m, fun _ => 0, g⟩ (fun r => (∀ c : Dev Cert.AttKeyWeightGradReferenceIdeal.nD,
      r.2.mem ((c.tc : Thread Cert.AttKeyWeightGradReferenceIdeal.nD Cert.AttKeyWeightGradReferenceIdeal.τ).loc Cert.AttKeyWeightGradReferenceIdeal.main_arg0) = m ((c.tc : Thread Cert.AttKeyWeightGradReferenceIdeal.nD Cert.AttKeyWeightGradReferenceIdeal.τ).loc Cert.AttKeyWeightGradReferenceIdeal.main_arg0)
      ∧ r.2.mem ((c.tc : Thread Cert.AttKeyWeightGradReferenceIdeal.nD Cert.AttKeyWeightGradReferenceIdeal.τ).loc Cert.AttKeyWeightGradReferenceIdeal.main_arg1) = m ((c.tc : Thread Cert.AttKeyWeightGradReferenceIdeal.nD Cert.AttKeyWeightGradReferenceIdeal.τ).loc Cert.AttKeyWeightGradReferenceIdeal.main_arg1)
      ∧ r.2.mem ((c.tc : Thread Cert.AttKeyWeightGradReferenceIdeal.nD Cert.AttKeyWeightGradReferenceIdeal.τ).loc Cert.AttKeyWeightGradReferenceIdeal.main_arg2) = m ((c.tc : Thread Cert.AttKeyWeightGradReferenceIdeal.nD Cert.AttKeyWeightGradReferenceIdeal.τ).loc Cert.AttKeyWeightGradReferenceIdeal.main_arg2)
      ∧ r.2.mem ((c.tc : Thread Cert.AttKeyWeightGradReferenceIdeal.nD Cert.AttKeyWeightGradReferenceIdeal.τ).loc Cert.AttKeyWeightGradReferenceIdeal.main_arg3) = m ((c.tc : Thread Cert.AttKeyWeightGradReferenceIdeal.nD Cert.AttKeyWeightGradReferenceIdeal.τ).loc Cert.AttKeyWeightGradReferenceIdeal.main_arg3)
      ∧ r.2.mem ((c.tc : Thread Cert.AttKeyWeightGradReferenceIdeal.nD Cert.AttKeyWeightGradReferenceIdeal.τ).loc Cert.AttKeyWeightGradReferenceIdeal.main_arg4) = m ((c.tc : Thread Cert.AttKeyWeightGradReferenceIdeal.nD Cert.AttKeyWeightGradReferenceIdeal.τ).loc Cert.AttKeyWeightGradReferenceIdeal.main_arg4))
      ∧ r.2.sem = fun _ => 0)

def quiescent_AttValueWeightGradKernel [hAttValueWeightGradKernel : Cert.AttValueWeightGradKernel.Facts] : Prop :=
  ∀ (m : (ℓ : Loc Cert.AttValueWeightGradKernel.nD Cert.AttValueWeightGradKernel.τ Cert.AttValueWeightGradKernel.sig) → Buf (Elt Bits) ℓ) (g : Dev Cert.AttValueWeightGradKernel.nD → PrngReg), Pre_AttValueWeightGradKernel m →
    θ_run (Cert.AttValueWeightGradKernel.defs (F := Bits)) (onTc (τ := Cert.AttValueWeightGradKernel.τ) (Cert.AttValueWeightGradKernel.main (F := Bits))) ⟨m, fun _ => 0, g⟩ (fun r => (∀ c : Dev Cert.AttValueWeightGradKernel.nD,
      r.2.mem ((c.tc : Thread Cert.AttValueWeightGradKernel.nD Cert.AttValueWeightGradKernel.τ).loc Cert.AttValueWeightGradKernel.main_arg0) = m ((c.tc : Thread Cert.AttValueWeightGradKernel.nD Cert.AttValueWeightGradKernel.τ).loc Cert.AttValueWeightGradKernel.main_arg0)
      ∧ r.2.mem ((c.tc : Thread Cert.AttValueWeightGradKernel.nD Cert.AttValueWeightGradKernel.τ).loc Cert.AttValueWeightGradKernel.main_arg1) = m ((c.tc : Thread Cert.AttValueWeightGradKernel.nD Cert.AttValueWeightGradKernel.τ).loc Cert.AttValueWeightGradKernel.main_arg1)
      ∧ r.2.mem ((c.tc : Thread Cert.AttValueWeightGradKernel.nD Cert.AttValueWeightGradKernel.τ).loc Cert.AttValueWeightGradKernel.main_arg2) = m ((c.tc : Thread Cert.AttValueWeightGradKernel.nD Cert.AttValueWeightGradKernel.τ).loc Cert.AttValueWeightGradKernel.main_arg2)
      ∧ r.2.mem ((c.tc : Thread Cert.AttValueWeightGradKernel.nD Cert.AttValueWeightGradKernel.τ).loc Cert.AttValueWeightGradKernel.main_arg3) = m ((c.tc : Thread Cert.AttValueWeightGradKernel.nD Cert.AttValueWeightGradKernel.τ).loc Cert.AttValueWeightGradKernel.main_arg3)
      ∧ r.2.mem ((c.tc : Thread Cert.AttValueWeightGradKernel.nD Cert.AttValueWeightGradKernel.τ).loc Cert.AttValueWeightGradKernel.main_arg4) = m ((c.tc : Thread Cert.AttValueWeightGradKernel.nD Cert.AttValueWeightGradKernel.τ).loc Cert.AttValueWeightGradKernel.main_arg4))
      ∧ r.2.sem = fun _ => 0)

def quiescent_AttValueWeightGradKernelIdeal [hAttValueWeightGradKernelIdeal : Cert.AttValueWeightGradKernelIdeal.Facts] : Prop :=
  ∀ (m : (ℓ : Loc Cert.AttValueWeightGradKernelIdeal.nD Cert.AttValueWeightGradKernelIdeal.τ Cert.AttValueWeightGradKernelIdeal.sig) → Buf (Elt Ideal) ℓ) (g : Dev Cert.AttValueWeightGradKernelIdeal.nD → PrngReg), Pre_AttValueWeightGradKernelIdeal m →
    θ_run (Cert.AttValueWeightGradKernelIdeal.defs (F := Ideal)) (onTc (τ := Cert.AttValueWeightGradKernelIdeal.τ) (Cert.AttValueWeightGradKernelIdeal.main (F := Ideal))) ⟨m, fun _ => 0, g⟩ (fun r => (∀ c : Dev Cert.AttValueWeightGradKernelIdeal.nD,
      r.2.mem ((c.tc : Thread Cert.AttValueWeightGradKernelIdeal.nD Cert.AttValueWeightGradKernelIdeal.τ).loc Cert.AttValueWeightGradKernelIdeal.main_arg0) = m ((c.tc : Thread Cert.AttValueWeightGradKernelIdeal.nD Cert.AttValueWeightGradKernelIdeal.τ).loc Cert.AttValueWeightGradKernelIdeal.main_arg0)
      ∧ r.2.mem ((c.tc : Thread Cert.AttValueWeightGradKernelIdeal.nD Cert.AttValueWeightGradKernelIdeal.τ).loc Cert.AttValueWeightGradKernelIdeal.main_arg1) = m ((c.tc : Thread Cert.AttValueWeightGradKernelIdeal.nD Cert.AttValueWeightGradKernelIdeal.τ).loc Cert.AttValueWeightGradKernelIdeal.main_arg1)
      ∧ r.2.mem ((c.tc : Thread Cert.AttValueWeightGradKernelIdeal.nD Cert.AttValueWeightGradKernelIdeal.τ).loc Cert.AttValueWeightGradKernelIdeal.main_arg2) = m ((c.tc : Thread Cert.AttValueWeightGradKernelIdeal.nD Cert.AttValueWeightGradKernelIdeal.τ).loc Cert.AttValueWeightGradKernelIdeal.main_arg2)
      ∧ r.2.mem ((c.tc : Thread Cert.AttValueWeightGradKernelIdeal.nD Cert.AttValueWeightGradKernelIdeal.τ).loc Cert.AttValueWeightGradKernelIdeal.main_arg3) = m ((c.tc : Thread Cert.AttValueWeightGradKernelIdeal.nD Cert.AttValueWeightGradKernelIdeal.τ).loc Cert.AttValueWeightGradKernelIdeal.main_arg3)
      ∧ r.2.mem ((c.tc : Thread Cert.AttValueWeightGradKernelIdeal.nD Cert.AttValueWeightGradKernelIdeal.τ).loc Cert.AttValueWeightGradKernelIdeal.main_arg4) = m ((c.tc : Thread Cert.AttValueWeightGradKernelIdeal.nD Cert.AttValueWeightGradKernelIdeal.τ).loc Cert.AttValueWeightGradKernelIdeal.main_arg4))
      ∧ r.2.sem = fun _ => 0)

def quiescent_AttValueWeightGradReferenceIdeal [hAttValueWeightGradReferenceIdeal : Cert.AttValueWeightGradReferenceIdeal.Facts] : Prop :=
  ∀ (m : (ℓ : Loc Cert.AttValueWeightGradReferenceIdeal.nD Cert.AttValueWeightGradReferenceIdeal.τ Cert.AttValueWeightGradReferenceIdeal.sig) → Buf (Elt Ideal) ℓ) (g : Dev Cert.AttValueWeightGradReferenceIdeal.nD → PrngReg), Pre_AttValueWeightGradReferenceIdeal m →
    θ_run (Cert.AttValueWeightGradReferenceIdeal.defs (F := Ideal)) (onTc (τ := Cert.AttValueWeightGradReferenceIdeal.τ) (Cert.AttValueWeightGradReferenceIdeal.main (F := Ideal))) ⟨m, fun _ => 0, g⟩ (fun r => (∀ c : Dev Cert.AttValueWeightGradReferenceIdeal.nD,
      r.2.mem ((c.tc : Thread Cert.AttValueWeightGradReferenceIdeal.nD Cert.AttValueWeightGradReferenceIdeal.τ).loc Cert.AttValueWeightGradReferenceIdeal.main_arg0) = m ((c.tc : Thread Cert.AttValueWeightGradReferenceIdeal.nD Cert.AttValueWeightGradReferenceIdeal.τ).loc Cert.AttValueWeightGradReferenceIdeal.main_arg0)
      ∧ r.2.mem ((c.tc : Thread Cert.AttValueWeightGradReferenceIdeal.nD Cert.AttValueWeightGradReferenceIdeal.τ).loc Cert.AttValueWeightGradReferenceIdeal.main_arg1) = m ((c.tc : Thread Cert.AttValueWeightGradReferenceIdeal.nD Cert.AttValueWeightGradReferenceIdeal.τ).loc Cert.AttValueWeightGradReferenceIdeal.main_arg1)
      ∧ r.2.mem ((c.tc : Thread Cert.AttValueWeightGradReferenceIdeal.nD Cert.AttValueWeightGradReferenceIdeal.τ).loc Cert.AttValueWeightGradReferenceIdeal.main_arg2) = m ((c.tc : Thread Cert.AttValueWeightGradReferenceIdeal.nD Cert.AttValueWeightGradReferenceIdeal.τ).loc Cert.AttValueWeightGradReferenceIdeal.main_arg2)
      ∧ r.2.mem ((c.tc : Thread Cert.AttValueWeightGradReferenceIdeal.nD Cert.AttValueWeightGradReferenceIdeal.τ).loc Cert.AttValueWeightGradReferenceIdeal.main_arg3) = m ((c.tc : Thread Cert.AttValueWeightGradReferenceIdeal.nD Cert.AttValueWeightGradReferenceIdeal.τ).loc Cert.AttValueWeightGradReferenceIdeal.main_arg3)
      ∧ r.2.mem ((c.tc : Thread Cert.AttValueWeightGradReferenceIdeal.nD Cert.AttValueWeightGradReferenceIdeal.τ).loc Cert.AttValueWeightGradReferenceIdeal.main_arg4) = m ((c.tc : Thread Cert.AttValueWeightGradReferenceIdeal.nD Cert.AttValueWeightGradReferenceIdeal.τ).loc Cert.AttValueWeightGradReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v52_0)) (v1 : (c : Dev Cert.KernelIdeal.nD) → Buf (Elt Ideal) ((c.tc : Thread Cert.KernelIdeal.nD Cert.KernelIdeal.τ).loc Cert.KernelIdeal.main_v52_1)) (v2 : (c : Dev Cert.KernelIdeal.nD) → Buf (Elt Ideal) ((c.tc : Thread Cert.KernelIdeal.nD Cert.KernelIdeal.τ).loc Cert.KernelIdeal.main_v52_2)) (v3 : (c : Dev Cert.KernelIdeal.nD) → Buf (Elt Ideal) ((c.tc : Thread Cert.KernelIdeal.nD Cert.KernelIdeal.τ).loc Cert.KernelIdeal.main_v52_5)) (v4 : (c : Dev Cert.KernelIdeal.nD) → Buf (Elt Ideal) ((c.tc : Thread Cert.KernelIdeal.nD Cert.KernelIdeal.τ).loc Cert.KernelIdeal.main_v52_6)) (v5 : (c : Dev Cert.KernelIdeal.nD) → Buf (Elt Ideal) ((c.tc : Thread Cert.KernelIdeal.nD Cert.KernelIdeal.τ).loc Cert.KernelIdeal.main_v52_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_v52_1) = v1 c
          ∧ r.2.mem ((c.tc : Thread Cert.KernelIdeal.nD Cert.KernelIdeal.τ).loc Cert.KernelIdeal.main_v52_2) = v2 c
          ∧ r.2.mem ((c.tc : Thread Cert.KernelIdeal.nD Cert.KernelIdeal.τ).loc Cert.KernelIdeal.main_v52_5) = v3 c
          ∧ r.2.mem ((c.tc : Thread Cert.KernelIdeal.nD Cert.KernelIdeal.τ).loc Cert.KernelIdeal.main_v52_6) = v4 c
          ∧ r.2.mem ((c.tc : Thread Cert.KernelIdeal.nD Cert.KernelIdeal.τ).loc Cert.KernelIdeal.main_v52_7) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_v91) = v3 c
          ∧ r.2.mem ((c.tc : Thread Cert.ReferenceIdeal.nD Cert.ReferenceIdeal.τ).loc Cert.ReferenceIdeal.main_v93) = v4 c
          ∧ r.2.mem ((c.tc : Thread Cert.ReferenceIdeal.nD Cert.ReferenceIdeal.τ).loc Cert.ReferenceIdeal.main_v95) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_HiddenGradKernel_HiddenGradKernelIdeal : Prop :=
  True

def algebraic_HiddenGradKernelIdeal_HiddenGradReferenceIdeal [hHiddenGradKernelIdeal : Cert.HiddenGradKernelIdeal.Facts] [hHiddenGradReferenceIdeal : Cert.HiddenGradReferenceIdeal.Facts] : Prop :=
  ∀ (m : (ℓ : Loc Cert.HiddenGradKernelIdeal.nD Cert.HiddenGradKernelIdeal.τ Cert.HiddenGradKernelIdeal.sig) → Buf (Elt Ideal) ℓ) (g : Dev Cert.HiddenGradKernelIdeal.nD → PrngReg)
    (m' : (ℓ : Loc Cert.HiddenGradReferenceIdeal.nD Cert.HiddenGradReferenceIdeal.τ Cert.HiddenGradReferenceIdeal.sig) → Buf (Elt Ideal) ℓ) (g' : Dev Cert.HiddenGradReferenceIdeal.nD → PrngReg), Pre_HiddenGradKernelIdeal m →
    (∀ c : Dev Cert.HiddenGradKernelIdeal.nD,
      m' ((c.tc : Thread Cert.HiddenGradReferenceIdeal.nD Cert.HiddenGradReferenceIdeal.τ).loc Cert.HiddenGradReferenceIdeal.main_arg0) = m ((c.tc : Thread Cert.HiddenGradKernelIdeal.nD Cert.HiddenGradKernelIdeal.τ).loc Cert.HiddenGradKernelIdeal.main_arg0)
      ∧ m' ((c.tc : Thread Cert.HiddenGradReferenceIdeal.nD Cert.HiddenGradReferenceIdeal.τ).loc Cert.HiddenGradReferenceIdeal.main_arg1) = m ((c.tc : Thread Cert.HiddenGradKernelIdeal.nD Cert.HiddenGradKernelIdeal.τ).loc Cert.HiddenGradKernelIdeal.main_arg1)
      ∧ m' ((c.tc : Thread Cert.HiddenGradReferenceIdeal.nD Cert.HiddenGradReferenceIdeal.τ).loc Cert.HiddenGradReferenceIdeal.main_arg2) = m ((c.tc : Thread Cert.HiddenGradKernelIdeal.nD Cert.HiddenGradKernelIdeal.τ).loc Cert.HiddenGradKernelIdeal.main_arg2)) →
    ∃ (v0 : (c : Dev Cert.HiddenGradKernelIdeal.nD) → Buf (Elt Ideal) ((c.tc : Thread Cert.HiddenGradKernelIdeal.nD Cert.HiddenGradKernelIdeal.τ).loc Cert.HiddenGradKernelIdeal.main_v0)),
      θ_run (Cert.HiddenGradKernelIdeal.defs (F := Ideal)) (onTc (τ := Cert.HiddenGradKernelIdeal.τ) (Cert.HiddenGradKernelIdeal.main (F := Ideal))) ⟨m, fun _ => 0, g⟩ (fun r => ∀ c : Dev Cert.HiddenGradKernelIdeal.nD,
          r.2.mem ((c.tc : Thread Cert.HiddenGradKernelIdeal.nD Cert.HiddenGradKernelIdeal.τ).loc Cert.HiddenGradKernelIdeal.main_v0) = v0 c
          ∧ r.2.mem ((c.tc : Thread Cert.HiddenGradKernelIdeal.nD Cert.HiddenGradKernelIdeal.τ).loc Cert.HiddenGradKernelIdeal.main_arg0) = m ((c.tc : Thread Cert.HiddenGradKernelIdeal.nD Cert.HiddenGradKernelIdeal.τ).loc Cert.HiddenGradKernelIdeal.main_arg0)
          ∧ r.2.mem ((c.tc : Thread Cert.HiddenGradKernelIdeal.nD Cert.HiddenGradKernelIdeal.τ).loc Cert.HiddenGradKernelIdeal.main_arg1) = m ((c.tc : Thread Cert.HiddenGradKernelIdeal.nD Cert.HiddenGradKernelIdeal.τ).loc Cert.HiddenGradKernelIdeal.main_arg1)
          ∧ r.2.mem ((c.tc : Thread Cert.HiddenGradKernelIdeal.nD Cert.HiddenGradKernelIdeal.τ).loc Cert.HiddenGradKernelIdeal.main_arg2) = m ((c.tc : Thread Cert.HiddenGradKernelIdeal.nD Cert.HiddenGradKernelIdeal.τ).loc Cert.HiddenGradKernelIdeal.main_arg2))
      ∧ θ_run (Cert.HiddenGradReferenceIdeal.defs (F := Ideal)) (onTc (τ := Cert.HiddenGradReferenceIdeal.τ) (Cert.HiddenGradReferenceIdeal.main (F := Ideal))) ⟨m', fun _ => 0, g'⟩ (fun r => ∀ c : Dev Cert.HiddenGradReferenceIdeal.nD,
          r.2.mem ((c.tc : Thread Cert.HiddenGradReferenceIdeal.nD Cert.HiddenGradReferenceIdeal.τ).loc Cert.HiddenGradReferenceIdeal.main_v16) = v0 c
          ∧ r.2.mem ((c.tc : Thread Cert.HiddenGradReferenceIdeal.nD Cert.HiddenGradReferenceIdeal.τ).loc Cert.HiddenGradReferenceIdeal.main_arg0) = m' ((c.tc : Thread Cert.HiddenGradReferenceIdeal.nD Cert.HiddenGradReferenceIdeal.τ).loc Cert.HiddenGradReferenceIdeal.main_arg0)
          ∧ r.2.mem ((c.tc : Thread Cert.HiddenGradReferenceIdeal.nD Cert.HiddenGradReferenceIdeal.τ).loc Cert.HiddenGradReferenceIdeal.main_arg1) = m' ((c.tc : Thread Cert.HiddenGradReferenceIdeal.nD Cert.HiddenGradReferenceIdeal.τ).loc Cert.HiddenGradReferenceIdeal.main_arg1)
          ∧ r.2.mem ((c.tc : Thread Cert.HiddenGradReferenceIdeal.nD Cert.HiddenGradReferenceIdeal.τ).loc Cert.HiddenGradReferenceIdeal.main_arg2) = m' ((c.tc : Thread Cert.HiddenGradReferenceIdeal.nD Cert.HiddenGradReferenceIdeal.τ).loc Cert.HiddenGradReferenceIdeal.main_arg2))

def preserves_InputGradKernel_InputGradKernelIdeal : Prop :=
  True

def algebraic_InputGradKernelIdeal_InputGradReferenceIdeal [hInputGradKernelIdeal : Cert.InputGradKernelIdeal.Facts] [hInputGradReferenceIdeal : Cert.InputGradReferenceIdeal.Facts] : Prop :=
  ∀ (m : (ℓ : Loc Cert.InputGradKernelIdeal.nD Cert.InputGradKernelIdeal.τ Cert.InputGradKernelIdeal.sig) → Buf (Elt Ideal) ℓ) (g : Dev Cert.InputGradKernelIdeal.nD → PrngReg)
    (m' : (ℓ : Loc Cert.InputGradReferenceIdeal.nD Cert.InputGradReferenceIdeal.τ Cert.InputGradReferenceIdeal.sig) → Buf (Elt Ideal) ℓ) (g' : Dev Cert.InputGradReferenceIdeal.nD → PrngReg), Pre_InputGradKernelIdeal m →
    (∀ c : Dev Cert.InputGradKernelIdeal.nD,
      m' ((c.tc : Thread Cert.InputGradReferenceIdeal.nD Cert.InputGradReferenceIdeal.τ).loc Cert.InputGradReferenceIdeal.main_arg0) = m ((c.tc : Thread Cert.InputGradKernelIdeal.nD Cert.InputGradKernelIdeal.τ).loc Cert.InputGradKernelIdeal.main_arg0)
      ∧ m' ((c.tc : Thread Cert.InputGradReferenceIdeal.nD Cert.InputGradReferenceIdeal.τ).loc Cert.InputGradReferenceIdeal.main_arg1) = m ((c.tc : Thread Cert.InputGradKernelIdeal.nD Cert.InputGradKernelIdeal.τ).loc Cert.InputGradKernelIdeal.main_arg1)) →
    ∃ (v0 : (c : Dev Cert.InputGradKernelIdeal.nD) → Buf (Elt Ideal) ((c.tc : Thread Cert.InputGradKernelIdeal.nD Cert.InputGradKernelIdeal.τ).loc Cert.InputGradKernelIdeal.main_v0)),
      θ_run (Cert.InputGradKernelIdeal.defs (F := Ideal)) (onTc (τ := Cert.InputGradKernelIdeal.τ) (Cert.InputGradKernelIdeal.main (F := Ideal))) ⟨m, fun _ => 0, g⟩ (fun r => ∀ c : Dev Cert.InputGradKernelIdeal.nD,
          r.2.mem ((c.tc : Thread Cert.InputGradKernelIdeal.nD Cert.InputGradKernelIdeal.τ).loc Cert.InputGradKernelIdeal.main_v0) = v0 c
          ∧ r.2.mem ((c.tc : Thread Cert.InputGradKernelIdeal.nD Cert.InputGradKernelIdeal.τ).loc Cert.InputGradKernelIdeal.main_arg0) = m ((c.tc : Thread Cert.InputGradKernelIdeal.nD Cert.InputGradKernelIdeal.τ).loc Cert.InputGradKernelIdeal.main_arg0)
          ∧ r.2.mem ((c.tc : Thread Cert.InputGradKernelIdeal.nD Cert.InputGradKernelIdeal.τ).loc Cert.InputGradKernelIdeal.main_arg1) = m ((c.tc : Thread Cert.InputGradKernelIdeal.nD Cert.InputGradKernelIdeal.τ).loc Cert.InputGradKernelIdeal.main_arg1))
      ∧ θ_run (Cert.InputGradReferenceIdeal.defs (F := Ideal)) (onTc (τ := Cert.InputGradReferenceIdeal.τ) (Cert.InputGradReferenceIdeal.main (F := Ideal))) ⟨m', fun _ => 0, g'⟩ (fun r => ∀ c : Dev Cert.InputGradReferenceIdeal.nD,
          r.2.mem ((c.tc : Thread Cert.InputGradReferenceIdeal.nD Cert.InputGradReferenceIdeal.τ).loc Cert.InputGradReferenceIdeal.main_v5) = v0 c
          ∧ r.2.mem ((c.tc : Thread Cert.InputGradReferenceIdeal.nD Cert.InputGradReferenceIdeal.τ).loc Cert.InputGradReferenceIdeal.main_arg0) = m' ((c.tc : Thread Cert.InputGradReferenceIdeal.nD Cert.InputGradReferenceIdeal.τ).loc Cert.InputGradReferenceIdeal.main_arg0)
          ∧ r.2.mem ((c.tc : Thread Cert.InputGradReferenceIdeal.nD Cert.InputGradReferenceIdeal.τ).loc Cert.InputGradReferenceIdeal.main_arg1) = m' ((c.tc : Thread Cert.InputGradReferenceIdeal.nD Cert.InputGradReferenceIdeal.τ).loc Cert.InputGradReferenceIdeal.main_arg1))

def preserves_DownGradKernel_DownGradKernelIdeal : Prop :=
  True

def algebraic_DownGradKernelIdeal_DownGradReferenceIdeal [hDownGradKernelIdeal : Cert.DownGradKernelIdeal.Facts] [hDownGradReferenceIdeal : Cert.DownGradReferenceIdeal.Facts] : Prop :=
  ∀ (m : (ℓ : Loc Cert.DownGradKernelIdeal.nD Cert.DownGradKernelIdeal.τ Cert.DownGradKernelIdeal.sig) → Buf (Elt Ideal) ℓ) (g : Dev Cert.DownGradKernelIdeal.nD → PrngReg)
    (m' : (ℓ : Loc Cert.DownGradReferenceIdeal.nD Cert.DownGradReferenceIdeal.τ Cert.DownGradReferenceIdeal.sig) → Buf (Elt Ideal) ℓ) (g' : Dev Cert.DownGradReferenceIdeal.nD → PrngReg), Pre_DownGradKernelIdeal m →
    (∀ c : Dev Cert.DownGradKernelIdeal.nD,
      m' ((c.tc : Thread Cert.DownGradReferenceIdeal.nD Cert.DownGradReferenceIdeal.τ).loc Cert.DownGradReferenceIdeal.main_arg0) = m ((c.tc : Thread Cert.DownGradKernelIdeal.nD Cert.DownGradKernelIdeal.τ).loc Cert.DownGradKernelIdeal.main_arg0)
      ∧ m' ((c.tc : Thread Cert.DownGradReferenceIdeal.nD Cert.DownGradReferenceIdeal.τ).loc Cert.DownGradReferenceIdeal.main_arg1) = m ((c.tc : Thread Cert.DownGradKernelIdeal.nD Cert.DownGradKernelIdeal.τ).loc Cert.DownGradKernelIdeal.main_arg1)) →
    ∃ (v0 : (c : Dev Cert.DownGradKernelIdeal.nD) → Buf (Elt Ideal) ((c.tc : Thread Cert.DownGradKernelIdeal.nD Cert.DownGradKernelIdeal.τ).loc Cert.DownGradKernelIdeal.main_v0)),
      θ_run (Cert.DownGradKernelIdeal.defs (F := Ideal)) (onTc (τ := Cert.DownGradKernelIdeal.τ) (Cert.DownGradKernelIdeal.main (F := Ideal))) ⟨m, fun _ => 0, g⟩ (fun r => ∀ c : Dev Cert.DownGradKernelIdeal.nD,
          r.2.mem ((c.tc : Thread Cert.DownGradKernelIdeal.nD Cert.DownGradKernelIdeal.τ).loc Cert.DownGradKernelIdeal.main_v0) = v0 c
          ∧ r.2.mem ((c.tc : Thread Cert.DownGradKernelIdeal.nD Cert.DownGradKernelIdeal.τ).loc Cert.DownGradKernelIdeal.main_arg0) = m ((c.tc : Thread Cert.DownGradKernelIdeal.nD Cert.DownGradKernelIdeal.τ).loc Cert.DownGradKernelIdeal.main_arg0)
          ∧ r.2.mem ((c.tc : Thread Cert.DownGradKernelIdeal.nD Cert.DownGradKernelIdeal.τ).loc Cert.DownGradKernelIdeal.main_arg1) = m ((c.tc : Thread Cert.DownGradKernelIdeal.nD Cert.DownGradKernelIdeal.τ).loc Cert.DownGradKernelIdeal.main_arg1))
      ∧ θ_run (Cert.DownGradReferenceIdeal.defs (F := Ideal)) (onTc (τ := Cert.DownGradReferenceIdeal.τ) (Cert.DownGradReferenceIdeal.main (F := Ideal))) ⟨m', fun _ => 0, g'⟩ (fun r => ∀ c : Dev Cert.DownGradReferenceIdeal.nD,
          r.2.mem ((c.tc : Thread Cert.DownGradReferenceIdeal.nD Cert.DownGradReferenceIdeal.τ).loc Cert.DownGradReferenceIdeal.main_v10) = v0 c
          ∧ r.2.mem ((c.tc : Thread Cert.DownGradReferenceIdeal.nD Cert.DownGradReferenceIdeal.τ).loc Cert.DownGradReferenceIdeal.main_arg0) = m' ((c.tc : Thread Cert.DownGradReferenceIdeal.nD Cert.DownGradReferenceIdeal.τ).loc Cert.DownGradReferenceIdeal.main_arg0)
          ∧ r.2.mem ((c.tc : Thread Cert.DownGradReferenceIdeal.nD Cert.DownGradReferenceIdeal.τ).loc Cert.DownGradReferenceIdeal.main_arg1) = m' ((c.tc : Thread Cert.DownGradReferenceIdeal.nD Cert.DownGradReferenceIdeal.τ).loc Cert.DownGradReferenceIdeal.main_arg1))

def preserves_UpGradKernel_UpGradKernelIdeal : Prop :=
  True

def algebraic_UpGradKernelIdeal_UpGradReferenceIdeal [hUpGradKernelIdeal : Cert.UpGradKernelIdeal.Facts] [hUpGradReferenceIdeal : Cert.UpGradReferenceIdeal.Facts] : Prop :=
  ∀ (m : (ℓ : Loc Cert.UpGradKernelIdeal.nD Cert.UpGradKernelIdeal.τ Cert.UpGradKernelIdeal.sig) → Buf (Elt Ideal) ℓ) (g : Dev Cert.UpGradKernelIdeal.nD → PrngReg)
    (m' : (ℓ : Loc Cert.UpGradReferenceIdeal.nD Cert.UpGradReferenceIdeal.τ Cert.UpGradReferenceIdeal.sig) → Buf (Elt Ideal) ℓ) (g' : Dev Cert.UpGradReferenceIdeal.nD → PrngReg), Pre_UpGradKernelIdeal m →
    (∀ c : Dev Cert.UpGradKernelIdeal.nD,
      m' ((c.tc : Thread Cert.UpGradReferenceIdeal.nD Cert.UpGradReferenceIdeal.τ).loc Cert.UpGradReferenceIdeal.main_arg0) = m ((c.tc : Thread Cert.UpGradKernelIdeal.nD Cert.UpGradKernelIdeal.τ).loc Cert.UpGradKernelIdeal.main_arg0)
      ∧ m' ((c.tc : Thread Cert.UpGradReferenceIdeal.nD Cert.UpGradReferenceIdeal.τ).loc Cert.UpGradReferenceIdeal.main_arg1) = m ((c.tc : Thread Cert.UpGradKernelIdeal.nD Cert.UpGradKernelIdeal.τ).loc Cert.UpGradKernelIdeal.main_arg1)
      ∧ m' ((c.tc : Thread Cert.UpGradReferenceIdeal.nD Cert.UpGradReferenceIdeal.τ).loc Cert.UpGradReferenceIdeal.main_arg2) = m ((c.tc : Thread Cert.UpGradKernelIdeal.nD Cert.UpGradKernelIdeal.τ).loc Cert.UpGradKernelIdeal.main_arg2)
      ∧ m' ((c.tc : Thread Cert.UpGradReferenceIdeal.nD Cert.UpGradReferenceIdeal.τ).loc Cert.UpGradReferenceIdeal.main_arg3) = m ((c.tc : Thread Cert.UpGradKernelIdeal.nD Cert.UpGradKernelIdeal.τ).loc Cert.UpGradKernelIdeal.main_arg3)) →
    ∃ (v0 : (c : Dev Cert.UpGradKernelIdeal.nD) → Buf (Elt Ideal) ((c.tc : Thread Cert.UpGradKernelIdeal.nD Cert.UpGradKernelIdeal.τ).loc Cert.UpGradKernelIdeal.main_v0)),
      θ_run (Cert.UpGradKernelIdeal.defs (F := Ideal)) (onTc (τ := Cert.UpGradKernelIdeal.τ) (Cert.UpGradKernelIdeal.main (F := Ideal))) ⟨m, fun _ => 0, g⟩ (fun r => ∀ c : Dev Cert.UpGradKernelIdeal.nD,
          r.2.mem ((c.tc : Thread Cert.UpGradKernelIdeal.nD Cert.UpGradKernelIdeal.τ).loc Cert.UpGradKernelIdeal.main_v0) = v0 c
          ∧ r.2.mem ((c.tc : Thread Cert.UpGradKernelIdeal.nD Cert.UpGradKernelIdeal.τ).loc Cert.UpGradKernelIdeal.main_arg0) = m ((c.tc : Thread Cert.UpGradKernelIdeal.nD Cert.UpGradKernelIdeal.τ).loc Cert.UpGradKernelIdeal.main_arg0)
          ∧ r.2.mem ((c.tc : Thread Cert.UpGradKernelIdeal.nD Cert.UpGradKernelIdeal.τ).loc Cert.UpGradKernelIdeal.main_arg1) = m ((c.tc : Thread Cert.UpGradKernelIdeal.nD Cert.UpGradKernelIdeal.τ).loc Cert.UpGradKernelIdeal.main_arg1)
          ∧ r.2.mem ((c.tc : Thread Cert.UpGradKernelIdeal.nD Cert.UpGradKernelIdeal.τ).loc Cert.UpGradKernelIdeal.main_arg2) = m ((c.tc : Thread Cert.UpGradKernelIdeal.nD Cert.UpGradKernelIdeal.τ).loc Cert.UpGradKernelIdeal.main_arg2)
          ∧ r.2.mem ((c.tc : Thread Cert.UpGradKernelIdeal.nD Cert.UpGradKernelIdeal.τ).loc Cert.UpGradKernelIdeal.main_arg3) = m ((c.tc : Thread Cert.UpGradKernelIdeal.nD Cert.UpGradKernelIdeal.τ).loc Cert.UpGradKernelIdeal.main_arg3))
      ∧ θ_run (Cert.UpGradReferenceIdeal.defs (F := Ideal)) (onTc (τ := Cert.UpGradReferenceIdeal.τ) (Cert.UpGradReferenceIdeal.main (F := Ideal))) ⟨m', fun _ => 0, g'⟩ (fun r => ∀ c : Dev Cert.UpGradReferenceIdeal.nD,
          r.2.mem ((c.tc : Thread Cert.UpGradReferenceIdeal.nD Cert.UpGradReferenceIdeal.τ).loc Cert.UpGradReferenceIdeal.main_v13) = v0 c
          ∧ r.2.mem ((c.tc : Thread Cert.UpGradReferenceIdeal.nD Cert.UpGradReferenceIdeal.τ).loc Cert.UpGradReferenceIdeal.main_arg0) = m' ((c.tc : Thread Cert.UpGradReferenceIdeal.nD Cert.UpGradReferenceIdeal.τ).loc Cert.UpGradReferenceIdeal.main_arg0)
          ∧ r.2.mem ((c.tc : Thread Cert.UpGradReferenceIdeal.nD Cert.UpGradReferenceIdeal.τ).loc Cert.UpGradReferenceIdeal.main_arg1) = m' ((c.tc : Thread Cert.UpGradReferenceIdeal.nD Cert.UpGradReferenceIdeal.τ).loc Cert.UpGradReferenceIdeal.main_arg1)
          ∧ r.2.mem ((c.tc : Thread Cert.UpGradReferenceIdeal.nD Cert.UpGradReferenceIdeal.τ).loc Cert.UpGradReferenceIdeal.main_arg2) = m' ((c.tc : Thread Cert.UpGradReferenceIdeal.nD Cert.UpGradReferenceIdeal.τ).loc Cert.UpGradReferenceIdeal.main_arg2)
          ∧ r.2.mem ((c.tc : Thread Cert.UpGradReferenceIdeal.nD Cert.UpGradReferenceIdeal.τ).loc Cert.UpGradReferenceIdeal.main_arg3) = m' ((c.tc : Thread Cert.UpGradReferenceIdeal.nD Cert.UpGradReferenceIdeal.τ).loc Cert.UpGradReferenceIdeal.main_arg3))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)
      ∧ m' ((c.tc : Thread Cert.UpReferenceIdeal.nD Cert.UpReferenceIdeal.τ).loc Cert.UpReferenceIdeal.main_arg3) = m ((c.tc : Thread Cert.UpKernelIdeal.nD Cert.UpKernelIdeal.τ).loc Cert.UpKernelIdeal.main_arg3)) →
    ∃ (v0 : (c : Dev Cert.UpKernelIdeal.nD) → Buf (Elt Ideal) ((c.tc : Thread Cert.UpKernelIdeal.nD Cert.UpKernelIdeal.τ).loc Cert.UpKernelIdeal.main_v0)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v0) = v0 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
          ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v9) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)) →
    ∃ (v0 : (c : Dev Cert.DownKernelIdeal.nD) → Buf (Elt Ideal) ((c.tc : Thread Cert.DownKernelIdeal.nD Cert.DownKernelIdeal.τ).loc Cert.DownKernelIdeal.main_v0)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v0) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v5) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)) →
    ∃ (v0 : (c : Dev Cert.OutKernelIdeal.nD) → Buf (Elt Ideal) ((c.tc : Thread Cert.OutKernelIdeal.nD Cert.OutKernelIdeal.τ).loc Cert.OutKernelIdeal.main_v0)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v0) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_AttProjKernel_AttProjKernelIdeal : Prop :=
  True

def algebraic_AttProjKernelIdeal_AttProjReferenceIdeal [hAttProjKernelIdeal : Cert.AttProjKernelIdeal.Facts] [hAttProjReferenceIdeal : Cert.AttProjReferenceIdeal.Facts] : Prop :=
  ∀ (m : (ℓ : Loc Cert.AttProjKernelIdeal.nD Cert.AttProjKernelIdeal.τ Cert.AttProjKernelIdeal.sig) → Buf (Elt Ideal) ℓ) (g : Dev Cert.AttProjKernelIdeal.nD → PrngReg)
    (m' : (ℓ : Loc Cert.AttProjReferenceIdeal.nD Cert.AttProjReferenceIdeal.τ Cert.AttProjReferenceIdeal.sig) → Buf (Elt Ideal) ℓ) (g' : Dev Cert.AttProjReferenceIdeal.nD → PrngReg), Pre_AttProjKernelIdeal m →
    (∀ c : Dev Cert.AttProjKernelIdeal.nD,
      m' ((c.tc : Thread Cert.AttProjReferenceIdeal.nD Cert.AttProjReferenceIdeal.τ).loc Cert.AttProjReferenceIdeal.main_arg0) = m ((c.tc : Thread Cert.AttProjKernelIdeal.nD Cert.AttProjKernelIdeal.τ).loc Cert.AttProjKernelIdeal.main_arg0)
      ∧ m' ((c.tc : Thread Cert.AttProjReferenceIdeal.nD Cert.AttProjReferenceIdeal.τ).loc Cert.AttProjReferenceIdeal.main_arg1) = m ((c.tc : Thread Cert.AttProjKernelIdeal.nD Cert.AttProjKernelIdeal.τ).loc Cert.AttProjKernelIdeal.main_arg1)
      ∧ m' ((c.tc : Thread Cert.AttProjReferenceIdeal.nD Cert.AttProjReferenceIdeal.τ).loc Cert.AttProjReferenceIdeal.main_arg2) = m ((c.tc : Thread Cert.AttProjKernelIdeal.nD Cert.AttProjKernelIdeal.τ).loc Cert.AttProjKernelIdeal.main_arg2)
      ∧ m' ((c.tc : Thread Cert.AttProjReferenceIdeal.nD Cert.AttProjReferenceIdeal.τ).loc Cert.AttProjReferenceIdeal.main_arg3) = m ((c.tc : Thread Cert.AttProjKernelIdeal.nD Cert.AttProjKernelIdeal.τ).loc Cert.AttProjKernelIdeal.main_arg3)
      ∧ m' ((c.tc : Thread Cert.AttProjReferenceIdeal.nD Cert.AttProjReferenceIdeal.τ).loc Cert.AttProjReferenceIdeal.main_arg4) = m ((c.tc : Thread Cert.AttProjKernelIdeal.nD Cert.AttProjKernelIdeal.τ).loc Cert.AttProjKernelIdeal.main_arg4)) →
    ∃ (v0 : (c : Dev Cert.AttProjKernelIdeal.nD) → Buf (Elt Ideal) ((c.tc : Thread Cert.AttProjKernelIdeal.nD Cert.AttProjKernelIdeal.τ).loc Cert.AttProjKernelIdeal.main_v0)),
      θ_run (Cert.AttProjKernelIdeal.defs (F := Ideal)) (onTc (τ := Cert.AttProjKernelIdeal.τ) (Cert.AttProjKernelIdeal.main (F := Ideal))) ⟨m, fun _ => 0, g⟩ (fun r => ∀ c : Dev Cert.AttProjKernelIdeal.nD,
          r.2.mem ((c.tc : Thread Cert.AttProjKernelIdeal.nD Cert.AttProjKernelIdeal.τ).loc Cert.AttProjKernelIdeal.main_v0) = v0 c
          ∧ r.2.mem ((c.tc : Thread Cert.AttProjKernelIdeal.nD Cert.AttProjKernelIdeal.τ).loc Cert.AttProjKernelIdeal.main_arg0) = m ((c.tc : Thread Cert.AttProjKernelIdeal.nD Cert.AttProjKernelIdeal.τ).loc Cert.AttProjKernelIdeal.main_arg0)
          ∧ r.2.mem ((c.tc : Thread Cert.AttProjKernelIdeal.nD Cert.AttProjKernelIdeal.τ).loc Cert.AttProjKernelIdeal.main_arg1) = m ((c.tc : Thread Cert.AttProjKernelIdeal.nD Cert.AttProjKernelIdeal.τ).loc Cert.AttProjKernelIdeal.main_arg1)
          ∧ r.2.mem ((c.tc : Thread Cert.AttProjKernelIdeal.nD Cert.AttProjKernelIdeal.τ).loc Cert.AttProjKernelIdeal.main_arg2) = m ((c.tc : Thread Cert.AttProjKernelIdeal.nD Cert.AttProjKernelIdeal.τ).loc Cert.AttProjKernelIdeal.main_arg2)
          ∧ r.2.mem ((c.tc : Thread Cert.AttProjKernelIdeal.nD Cert.AttProjKernelIdeal.τ).loc Cert.AttProjKernelIdeal.main_arg3) = m ((c.tc : Thread Cert.AttProjKernelIdeal.nD Cert.AttProjKernelIdeal.τ).loc Cert.AttProjKernelIdeal.main_arg3)
          ∧ r.2.mem ((c.tc : Thread Cert.AttProjKernelIdeal.nD Cert.AttProjKernelIdeal.τ).loc Cert.AttProjKernelIdeal.main_arg4) = m ((c.tc : Thread Cert.AttProjKernelIdeal.nD Cert.AttProjKernelIdeal.τ).loc Cert.AttProjKernelIdeal.main_arg4))
      ∧ θ_run (Cert.AttProjReferenceIdeal.defs (F := Ideal)) (onTc (τ := Cert.AttProjReferenceIdeal.τ) (Cert.AttProjReferenceIdeal.main (F := Ideal))) ⟨m', fun _ => 0, g'⟩ (fun r => ∀ c : Dev Cert.AttProjReferenceIdeal.nD,
          r.2.mem ((c.tc : Thread Cert.AttProjReferenceIdeal.nD Cert.AttProjReferenceIdeal.τ).loc Cert.AttProjReferenceIdeal.main_v11) = v0 c
          ∧ r.2.mem ((c.tc : Thread Cert.AttProjReferenceIdeal.nD Cert.AttProjReferenceIdeal.τ).loc Cert.AttProjReferenceIdeal.main_arg0) = m' ((c.tc : Thread Cert.AttProjReferenceIdeal.nD Cert.AttProjReferenceIdeal.τ).loc Cert.AttProjReferenceIdeal.main_arg0)
          ∧ r.2.mem ((c.tc : Thread Cert.AttProjReferenceIdeal.nD Cert.AttProjReferenceIdeal.τ).loc Cert.AttProjReferenceIdeal.main_arg1) = m' ((c.tc : Thread Cert.AttProjReferenceIdeal.nD Cert.AttProjReferenceIdeal.τ).loc Cert.AttProjReferenceIdeal.main_arg1)
          ∧ r.2.mem ((c.tc : Thread Cert.AttProjReferenceIdeal.nD Cert.AttProjReferenceIdeal.τ).loc Cert.AttProjReferenceIdeal.main_arg2) = m' ((c.tc : Thread Cert.AttProjReferenceIdeal.nD Cert.AttProjReferenceIdeal.τ).loc Cert.AttProjReferenceIdeal.main_arg2)
          ∧ r.2.mem ((c.tc : Thread Cert.AttProjReferenceIdeal.nD Cert.AttProjReferenceIdeal.τ).loc Cert.AttProjReferenceIdeal.main_arg3) = m' ((c.tc : Thread Cert.AttProjReferenceIdeal.nD Cert.AttProjReferenceIdeal.τ).loc Cert.AttProjReferenceIdeal.main_arg3)
          ∧ r.2.mem ((c.tc : Thread Cert.AttProjReferenceIdeal.nD Cert.AttProjReferenceIdeal.τ).loc Cert.AttProjReferenceIdeal.main_arg4) = m' ((c.tc : Thread Cert.AttProjReferenceIdeal.nD Cert.AttProjReferenceIdeal.τ).loc Cert.AttProjReferenceIdeal.main_arg4))

def preserves_GlaProjKernel_GlaProjKernelIdeal : Prop :=
  True

def algebraic_GlaProjKernelIdeal_GlaProjReferenceIdeal [hGlaProjKernelIdeal : Cert.GlaProjKernelIdeal.Facts] [hGlaProjReferenceIdeal : Cert.GlaProjReferenceIdeal.Facts] : Prop :=
  ∀ (m : (ℓ : Loc Cert.GlaProjKernelIdeal.nD Cert.GlaProjKernelIdeal.τ Cert.GlaProjKernelIdeal.sig) → Buf (Elt Ideal) ℓ) (g : Dev Cert.GlaProjKernelIdeal.nD → PrngReg)
    (m' : (ℓ : Loc Cert.GlaProjReferenceIdeal.nD Cert.GlaProjReferenceIdeal.τ Cert.GlaProjReferenceIdeal.sig) → Buf (Elt Ideal) ℓ) (g' : Dev Cert.GlaProjReferenceIdeal.nD → PrngReg), Pre_GlaProjKernelIdeal m →
    (∀ c : Dev Cert.GlaProjKernelIdeal.nD,
      m' ((c.tc : Thread Cert.GlaProjReferenceIdeal.nD Cert.GlaProjReferenceIdeal.τ).loc Cert.GlaProjReferenceIdeal.main_arg0) = m ((c.tc : Thread Cert.GlaProjKernelIdeal.nD Cert.GlaProjKernelIdeal.τ).loc Cert.GlaProjKernelIdeal.main_arg0)
      ∧ m' ((c.tc : Thread Cert.GlaProjReferenceIdeal.nD Cert.GlaProjReferenceIdeal.τ).loc Cert.GlaProjReferenceIdeal.main_arg1) = m ((c.tc : Thread Cert.GlaProjKernelIdeal.nD Cert.GlaProjKernelIdeal.τ).loc Cert.GlaProjKernelIdeal.main_arg1)
      ∧ m' ((c.tc : Thread Cert.GlaProjReferenceIdeal.nD Cert.GlaProjReferenceIdeal.τ).loc Cert.GlaProjReferenceIdeal.main_arg2) = m ((c.tc : Thread Cert.GlaProjKernelIdeal.nD Cert.GlaProjKernelIdeal.τ).loc Cert.GlaProjKernelIdeal.main_arg2)
      ∧ m' ((c.tc : Thread Cert.GlaProjReferenceIdeal.nD Cert.GlaProjReferenceIdeal.τ).loc Cert.GlaProjReferenceIdeal.main_arg3) = m ((c.tc : Thread Cert.GlaProjKernelIdeal.nD Cert.GlaProjKernelIdeal.τ).loc Cert.GlaProjKernelIdeal.main_arg3)) →
    ∃ (v0 : (c : Dev Cert.GlaProjKernelIdeal.nD) → Buf (Elt Ideal) ((c.tc : Thread Cert.GlaProjKernelIdeal.nD Cert.GlaProjKernelIdeal.τ).loc Cert.GlaProjKernelIdeal.main_v0)),
      θ_run (Cert.GlaProjKernelIdeal.defs (F := Ideal)) (onTc (τ := Cert.GlaProjKernelIdeal.τ) (Cert.GlaProjKernelIdeal.main (F := Ideal))) ⟨m, fun _ => 0, g⟩ (fun r => ∀ c : Dev Cert.GlaProjKernelIdeal.nD,
          r.2.mem ((c.tc : Thread Cert.GlaProjKernelIdeal.nD Cert.GlaProjKernelIdeal.τ).loc Cert.GlaProjKernelIdeal.main_v0) = v0 c
          ∧ r.2.mem ((c.tc : Thread Cert.GlaProjKernelIdeal.nD Cert.GlaProjKernelIdeal.τ).loc Cert.GlaProjKernelIdeal.main_arg0) = m ((c.tc : Thread Cert.GlaProjKernelIdeal.nD Cert.GlaProjKernelIdeal.τ).loc Cert.GlaProjKernelIdeal.main_arg0)
          ∧ r.2.mem ((c.tc : Thread Cert.GlaProjKernelIdeal.nD Cert.GlaProjKernelIdeal.τ).loc Cert.GlaProjKernelIdeal.main_arg1) = m ((c.tc : Thread Cert.GlaProjKernelIdeal.nD Cert.GlaProjKernelIdeal.τ).loc Cert.GlaProjKernelIdeal.main_arg1)
          ∧ r.2.mem ((c.tc : Thread Cert.GlaProjKernelIdeal.nD Cert.GlaProjKernelIdeal.τ).loc Cert.GlaProjKernelIdeal.main_arg2) = m ((c.tc : Thread Cert.GlaProjKernelIdeal.nD Cert.GlaProjKernelIdeal.τ).loc Cert.GlaProjKernelIdeal.main_arg2)
          ∧ r.2.mem ((c.tc : Thread Cert.GlaProjKernelIdeal.nD Cert.GlaProjKernelIdeal.τ).loc Cert.GlaProjKernelIdeal.main_arg3) = m ((c.tc : Thread Cert.GlaProjKernelIdeal.nD Cert.GlaProjKernelIdeal.τ).loc Cert.GlaProjKernelIdeal.main_arg3))
      ∧ θ_run (Cert.GlaProjReferenceIdeal.defs (F := Ideal)) (onTc (τ := Cert.GlaProjReferenceIdeal.τ) (Cert.GlaProjReferenceIdeal.main (F := Ideal))) ⟨m', fun _ => 0, g'⟩ (fun r => ∀ c : Dev Cert.GlaProjReferenceIdeal.nD,
          r.2.mem ((c.tc : Thread Cert.GlaProjReferenceIdeal.nD Cert.GlaProjReferenceIdeal.τ).loc Cert.GlaProjReferenceIdeal.main_v8) = v0 c
          ∧ r.2.mem ((c.tc : Thread Cert.GlaProjReferenceIdeal.nD Cert.GlaProjReferenceIdeal.τ).loc Cert.GlaProjReferenceIdeal.main_arg0) = m' ((c.tc : Thread Cert.GlaProjReferenceIdeal.nD Cert.GlaProjReferenceIdeal.τ).loc Cert.GlaProjReferenceIdeal.main_arg0)
          ∧ r.2.mem ((c.tc : Thread Cert.GlaProjReferenceIdeal.nD Cert.GlaProjReferenceIdeal.τ).loc Cert.GlaProjReferenceIdeal.main_arg1) = m' ((c.tc : Thread Cert.GlaProjReferenceIdeal.nD Cert.GlaProjReferenceIdeal.τ).loc Cert.GlaProjReferenceIdeal.main_arg1)
          ∧ r.2.mem ((c.tc : Thread Cert.GlaProjReferenceIdeal.nD Cert.GlaProjReferenceIdeal.τ).loc Cert.GlaProjReferenceIdeal.main_arg2) = m' ((c.tc : Thread Cert.GlaProjReferenceIdeal.nD Cert.GlaProjReferenceIdeal.τ).loc Cert.GlaProjReferenceIdeal.main_arg2)
          ∧ r.2.mem ((c.tc : Thread Cert.GlaProjReferenceIdeal.nD Cert.GlaProjReferenceIdeal.τ).loc Cert.GlaProjReferenceIdeal.main_arg3) = m' ((c.tc : Thread Cert.GlaProjReferenceIdeal.nD Cert.GlaProjReferenceIdeal.τ).loc Cert.GlaProjReferenceIdeal.main_arg3))

def preserves_AttOutGradKernel_AttOutGradKernelIdeal : Prop :=
  True

def algebraic_AttOutGradKernelIdeal_AttOutGradReferenceIdeal [hAttOutGradKernelIdeal : Cert.AttOutGradKernelIdeal.Facts] [hAttOutGradReferenceIdeal : Cert.AttOutGradReferenceIdeal.Facts] : Prop :=
  ∀ (m : (ℓ : Loc Cert.AttOutGradKernelIdeal.nD Cert.AttOutGradKernelIdeal.τ Cert.AttOutGradKernelIdeal.sig) → Buf (Elt Ideal) ℓ) (g : Dev Cert.AttOutGradKernelIdeal.nD → PrngReg)
    (m' : (ℓ : Loc Cert.AttOutGradReferenceIdeal.nD Cert.AttOutGradReferenceIdeal.τ Cert.AttOutGradReferenceIdeal.sig) → Buf (Elt Ideal) ℓ) (g' : Dev Cert.AttOutGradReferenceIdeal.nD → PrngReg), Pre_AttOutGradKernelIdeal m →
    (∀ c : Dev Cert.AttOutGradKernelIdeal.nD,
      m' ((c.tc : Thread Cert.AttOutGradReferenceIdeal.nD Cert.AttOutGradReferenceIdeal.τ).loc Cert.AttOutGradReferenceIdeal.main_arg0) = m ((c.tc : Thread Cert.AttOutGradKernelIdeal.nD Cert.AttOutGradKernelIdeal.τ).loc Cert.AttOutGradKernelIdeal.main_arg0)
      ∧ m' ((c.tc : Thread Cert.AttOutGradReferenceIdeal.nD Cert.AttOutGradReferenceIdeal.τ).loc Cert.AttOutGradReferenceIdeal.main_arg1) = m ((c.tc : Thread Cert.AttOutGradKernelIdeal.nD Cert.AttOutGradKernelIdeal.τ).loc Cert.AttOutGradKernelIdeal.main_arg1)) →
    ∃ (v0 : (c : Dev Cert.AttOutGradKernelIdeal.nD) → Buf (Elt Ideal) ((c.tc : Thread Cert.AttOutGradKernelIdeal.nD Cert.AttOutGradKernelIdeal.τ).loc Cert.AttOutGradKernelIdeal.main_v0)),
      θ_run (Cert.AttOutGradKernelIdeal.defs (F := Ideal)) (onTc (τ := Cert.AttOutGradKernelIdeal.τ) (Cert.AttOutGradKernelIdeal.main (F := Ideal))) ⟨m, fun _ => 0, g⟩ (fun r => ∀ c : Dev Cert.AttOutGradKernelIdeal.nD,
          r.2.mem ((c.tc : Thread Cert.AttOutGradKernelIdeal.nD Cert.AttOutGradKernelIdeal.τ).loc Cert.AttOutGradKernelIdeal.main_v0) = v0 c
          ∧ r.2.mem ((c.tc : Thread Cert.AttOutGradKernelIdeal.nD Cert.AttOutGradKernelIdeal.τ).loc Cert.AttOutGradKernelIdeal.main_arg0) = m ((c.tc : Thread Cert.AttOutGradKernelIdeal.nD Cert.AttOutGradKernelIdeal.τ).loc Cert.AttOutGradKernelIdeal.main_arg0)
          ∧ r.2.mem ((c.tc : Thread Cert.AttOutGradKernelIdeal.nD Cert.AttOutGradKernelIdeal.τ).loc Cert.AttOutGradKernelIdeal.main_arg1) = m ((c.tc : Thread Cert.AttOutGradKernelIdeal.nD Cert.AttOutGradKernelIdeal.τ).loc Cert.AttOutGradKernelIdeal.main_arg1))
      ∧ θ_run (Cert.AttOutGradReferenceIdeal.defs (F := Ideal)) (onTc (τ := Cert.AttOutGradReferenceIdeal.τ) (Cert.AttOutGradReferenceIdeal.main (F := Ideal))) ⟨m', fun _ => 0, g'⟩ (fun r => ∀ c : Dev Cert.AttOutGradReferenceIdeal.nD,
          r.2.mem ((c.tc : Thread Cert.AttOutGradReferenceIdeal.nD Cert.AttOutGradReferenceIdeal.τ).loc Cert.AttOutGradReferenceIdeal.main_v6) = v0 c
          ∧ r.2.mem ((c.tc : Thread Cert.AttOutGradReferenceIdeal.nD Cert.AttOutGradReferenceIdeal.τ).loc Cert.AttOutGradReferenceIdeal.main_arg0) = m' ((c.tc : Thread Cert.AttOutGradReferenceIdeal.nD Cert.AttOutGradReferenceIdeal.τ).loc Cert.AttOutGradReferenceIdeal.main_arg0)
          ∧ r.2.mem ((c.tc : Thread Cert.AttOutGradReferenceIdeal.nD Cert.AttOutGradReferenceIdeal.τ).loc Cert.AttOutGradReferenceIdeal.main_arg1) = m' ((c.tc : Thread Cert.AttOutGradReferenceIdeal.nD Cert.AttOutGradReferenceIdeal.τ).loc Cert.AttOutGradReferenceIdeal.main_arg1))

def preserves_GlaOutGradKernel_GlaOutGradKernelIdeal : Prop :=
  True

def algebraic_GlaOutGradKernelIdeal_GlaOutGradReferenceIdeal [hGlaOutGradKernelIdeal : Cert.GlaOutGradKernelIdeal.Facts] [hGlaOutGradReferenceIdeal : Cert.GlaOutGradReferenceIdeal.Facts] : Prop :=
  ∀ (m : (ℓ : Loc Cert.GlaOutGradKernelIdeal.nD Cert.GlaOutGradKernelIdeal.τ Cert.GlaOutGradKernelIdeal.sig) → Buf (Elt Ideal) ℓ) (g : Dev Cert.GlaOutGradKernelIdeal.nD → PrngReg)
    (m' : (ℓ : Loc Cert.GlaOutGradReferenceIdeal.nD Cert.GlaOutGradReferenceIdeal.τ Cert.GlaOutGradReferenceIdeal.sig) → Buf (Elt Ideal) ℓ) (g' : Dev Cert.GlaOutGradReferenceIdeal.nD → PrngReg), Pre_GlaOutGradKernelIdeal m →
    (∀ c : Dev Cert.GlaOutGradKernelIdeal.nD,
      m' ((c.tc : Thread Cert.GlaOutGradReferenceIdeal.nD Cert.GlaOutGradReferenceIdeal.τ).loc Cert.GlaOutGradReferenceIdeal.main_arg0) = m ((c.tc : Thread Cert.GlaOutGradKernelIdeal.nD Cert.GlaOutGradKernelIdeal.τ).loc Cert.GlaOutGradKernelIdeal.main_arg0)
      ∧ m' ((c.tc : Thread Cert.GlaOutGradReferenceIdeal.nD Cert.GlaOutGradReferenceIdeal.τ).loc Cert.GlaOutGradReferenceIdeal.main_arg1) = m ((c.tc : Thread Cert.GlaOutGradKernelIdeal.nD Cert.GlaOutGradKernelIdeal.τ).loc Cert.GlaOutGradKernelIdeal.main_arg1)) →
    ∃ (v0 : (c : Dev Cert.GlaOutGradKernelIdeal.nD) → Buf (Elt Ideal) ((c.tc : Thread Cert.GlaOutGradKernelIdeal.nD Cert.GlaOutGradKernelIdeal.τ).loc Cert.GlaOutGradKernelIdeal.main_v0)),
      θ_run (Cert.GlaOutGradKernelIdeal.defs (F := Ideal)) (onTc (τ := Cert.GlaOutGradKernelIdeal.τ) (Cert.GlaOutGradKernelIdeal.main (F := Ideal))) ⟨m, fun _ => 0, g⟩ (fun r => ∀ c : Dev Cert.GlaOutGradKernelIdeal.nD,
          r.2.mem ((c.tc : Thread Cert.GlaOutGradKernelIdeal.nD Cert.GlaOutGradKernelIdeal.τ).loc Cert.GlaOutGradKernelIdeal.main_v0) = v0 c
          ∧ r.2.mem ((c.tc : Thread Cert.GlaOutGradKernelIdeal.nD Cert.GlaOutGradKernelIdeal.τ).loc Cert.GlaOutGradKernelIdeal.main_arg0) = m ((c.tc : Thread Cert.GlaOutGradKernelIdeal.nD Cert.GlaOutGradKernelIdeal.τ).loc Cert.GlaOutGradKernelIdeal.main_arg0)
          ∧ r.2.mem ((c.tc : Thread Cert.GlaOutGradKernelIdeal.nD Cert.GlaOutGradKernelIdeal.τ).loc Cert.GlaOutGradKernelIdeal.main_arg1) = m ((c.tc : Thread Cert.GlaOutGradKernelIdeal.nD Cert.GlaOutGradKernelIdeal.τ).loc Cert.GlaOutGradKernelIdeal.main_arg1))
      ∧ θ_run (Cert.GlaOutGradReferenceIdeal.defs (F := Ideal)) (onTc (τ := Cert.GlaOutGradReferenceIdeal.τ) (Cert.GlaOutGradReferenceIdeal.main (F := Ideal))) ⟨m', fun _ => 0, g'⟩ (fun r => ∀ c : Dev Cert.GlaOutGradReferenceIdeal.nD,
          r.2.mem ((c.tc : Thread Cert.GlaOutGradReferenceIdeal.nD Cert.GlaOutGradReferenceIdeal.τ).loc Cert.GlaOutGradReferenceIdeal.main_v5) = v0 c
          ∧ r.2.mem ((c.tc : Thread Cert.GlaOutGradReferenceIdeal.nD Cert.GlaOutGradReferenceIdeal.τ).loc Cert.GlaOutGradReferenceIdeal.main_arg0) = m' ((c.tc : Thread Cert.GlaOutGradReferenceIdeal.nD Cert.GlaOutGradReferenceIdeal.τ).loc Cert.GlaOutGradReferenceIdeal.main_arg0)
          ∧ r.2.mem ((c.tc : Thread Cert.GlaOutGradReferenceIdeal.nD Cert.GlaOutGradReferenceIdeal.τ).loc Cert.GlaOutGradReferenceIdeal.main_arg1) = m' ((c.tc : Thread Cert.GlaOutGradReferenceIdeal.nD Cert.GlaOutGradReferenceIdeal.τ).loc Cert.GlaOutGradReferenceIdeal.main_arg1))

def preserves_OutWeightGradKernel_OutWeightGradKernelIdeal : Prop :=
  True

def algebraic_OutWeightGradKernelIdeal_OutWeightGradReferenceIdeal [hOutWeightGradKernelIdeal : Cert.OutWeightGradKernelIdeal.Facts] [hOutWeightGradReferenceIdeal : Cert.OutWeightGradReferenceIdeal.Facts] : Prop :=
  ∀ (m : (ℓ : Loc Cert.OutWeightGradKernelIdeal.nD Cert.OutWeightGradKernelIdeal.τ Cert.OutWeightGradKernelIdeal.sig) → Buf (Elt Ideal) ℓ) (g : Dev Cert.OutWeightGradKernelIdeal.nD → PrngReg)
    (m' : (ℓ : Loc Cert.OutWeightGradReferenceIdeal.nD Cert.OutWeightGradReferenceIdeal.τ Cert.OutWeightGradReferenceIdeal.sig) → Buf (Elt Ideal) ℓ) (g' : Dev Cert.OutWeightGradReferenceIdeal.nD → PrngReg), Pre_OutWeightGradKernelIdeal m →
    (∀ c : Dev Cert.OutWeightGradKernelIdeal.nD,
      m' ((c.tc : Thread Cert.OutWeightGradReferenceIdeal.nD Cert.OutWeightGradReferenceIdeal.τ).loc Cert.OutWeightGradReferenceIdeal.main_arg0) = m ((c.tc : Thread Cert.OutWeightGradKernelIdeal.nD Cert.OutWeightGradKernelIdeal.τ).loc Cert.OutWeightGradKernelIdeal.main_arg0)
      ∧ m' ((c.tc : Thread Cert.OutWeightGradReferenceIdeal.nD Cert.OutWeightGradReferenceIdeal.τ).loc Cert.OutWeightGradReferenceIdeal.main_arg1) = m ((c.tc : Thread Cert.OutWeightGradKernelIdeal.nD Cert.OutWeightGradKernelIdeal.τ).loc Cert.OutWeightGradKernelIdeal.main_arg1)) →
    ∃ (v0 : (c : Dev Cert.OutWeightGradKernelIdeal.nD) → Buf (Elt Ideal) ((c.tc : Thread Cert.OutWeightGradKernelIdeal.nD Cert.OutWeightGradKernelIdeal.τ).loc Cert.OutWeightGradKernelIdeal.main_v0)),
      θ_run (Cert.OutWeightGradKernelIdeal.defs (F := Ideal)) (onTc (τ := Cert.OutWeightGradKernelIdeal.τ) (Cert.OutWeightGradKernelIdeal.main (F := Ideal))) ⟨m, fun _ => 0, g⟩ (fun r => ∀ c : Dev Cert.OutWeightGradKernelIdeal.nD,
          r.2.mem ((c.tc : Thread Cert.OutWeightGradKernelIdeal.nD Cert.OutWeightGradKernelIdeal.τ).loc Cert.OutWeightGradKernelIdeal.main_v0) = v0 c
          ∧ r.2.mem ((c.tc : Thread Cert.OutWeightGradKernelIdeal.nD Cert.OutWeightGradKernelIdeal.τ).loc Cert.OutWeightGradKernelIdeal.main_arg0) = m ((c.tc : Thread Cert.OutWeightGradKernelIdeal.nD Cert.OutWeightGradKernelIdeal.τ).loc Cert.OutWeightGradKernelIdeal.main_arg0)
          ∧ r.2.mem ((c.tc : Thread Cert.OutWeightGradKernelIdeal.nD Cert.OutWeightGradKernelIdeal.τ).loc Cert.OutWeightGradKernelIdeal.main_arg1) = m ((c.tc : Thread Cert.OutWeightGradKernelIdeal.nD Cert.OutWeightGradKernelIdeal.τ).loc Cert.OutWeightGradKernelIdeal.main_arg1))
      ∧ θ_run (Cert.OutWeightGradReferenceIdeal.defs (F := Ideal)) (onTc (τ := Cert.OutWeightGradReferenceIdeal.τ) (Cert.OutWeightGradReferenceIdeal.main (F := Ideal))) ⟨m', fun _ => 0, g'⟩ (fun r => ∀ c : Dev Cert.OutWeightGradReferenceIdeal.nD,
          r.2.mem ((c.tc : Thread Cert.OutWeightGradReferenceIdeal.nD Cert.OutWeightGradReferenceIdeal.τ).loc Cert.OutWeightGradReferenceIdeal.main_v8) = v0 c
          ∧ r.2.mem ((c.tc : Thread Cert.OutWeightGradReferenceIdeal.nD Cert.OutWeightGradReferenceIdeal.τ).loc Cert.OutWeightGradReferenceIdeal.main_arg0) = m' ((c.tc : Thread Cert.OutWeightGradReferenceIdeal.nD Cert.OutWeightGradReferenceIdeal.τ).loc Cert.OutWeightGradReferenceIdeal.main_arg0)
          ∧ r.2.mem ((c.tc : Thread Cert.OutWeightGradReferenceIdeal.nD Cert.OutWeightGradReferenceIdeal.τ).loc Cert.OutWeightGradReferenceIdeal.main_arg1) = m' ((c.tc : Thread Cert.OutWeightGradReferenceIdeal.nD Cert.OutWeightGradReferenceIdeal.τ).loc Cert.OutWeightGradReferenceIdeal.main_arg1))

def preserves_GlaProjGradKernel_GlaProjGradKernelIdeal : Prop :=
  True

def algebraic_GlaProjGradKernelIdeal_GlaProjGradReferenceIdeal [hGlaProjGradKernelIdeal : Cert.GlaProjGradKernelIdeal.Facts] [hGlaProjGradReferenceIdeal : Cert.GlaProjGradReferenceIdeal.Facts] : Prop :=
  ∀ (m : (ℓ : Loc Cert.GlaProjGradKernelIdeal.nD Cert.GlaProjGradKernelIdeal.τ Cert.GlaProjGradKernelIdeal.sig) → Buf (Elt Ideal) ℓ) (g : Dev Cert.GlaProjGradKernelIdeal.nD → PrngReg)
    (m' : (ℓ : Loc Cert.GlaProjGradReferenceIdeal.nD Cert.GlaProjGradReferenceIdeal.τ Cert.GlaProjGradReferenceIdeal.sig) → Buf (Elt Ideal) ℓ) (g' : Dev Cert.GlaProjGradReferenceIdeal.nD → PrngReg), Pre_GlaProjGradKernelIdeal m →
    (∀ c : Dev Cert.GlaProjGradKernelIdeal.nD,
      m' ((c.tc : Thread Cert.GlaProjGradReferenceIdeal.nD Cert.GlaProjGradReferenceIdeal.τ).loc Cert.GlaProjGradReferenceIdeal.main_arg0) = m ((c.tc : Thread Cert.GlaProjGradKernelIdeal.nD Cert.GlaProjGradKernelIdeal.τ).loc Cert.GlaProjGradKernelIdeal.main_arg0)
      ∧ m' ((c.tc : Thread Cert.GlaProjGradReferenceIdeal.nD Cert.GlaProjGradReferenceIdeal.τ).loc Cert.GlaProjGradReferenceIdeal.main_arg1) = m ((c.tc : Thread Cert.GlaProjGradKernelIdeal.nD Cert.GlaProjGradKernelIdeal.τ).loc Cert.GlaProjGradKernelIdeal.main_arg1)) →
    ∃ (v0 : (c : Dev Cert.GlaProjGradKernelIdeal.nD) → Buf (Elt Ideal) ((c.tc : Thread Cert.GlaProjGradKernelIdeal.nD Cert.GlaProjGradKernelIdeal.τ).loc Cert.GlaProjGradKernelIdeal.main_v0)),
      θ_run (Cert.GlaProjGradKernelIdeal.defs (F := Ideal)) (onTc (τ := Cert.GlaProjGradKernelIdeal.τ) (Cert.GlaProjGradKernelIdeal.main (F := Ideal))) ⟨m, fun _ => 0, g⟩ (fun r => ∀ c : Dev Cert.GlaProjGradKernelIdeal.nD,
          r.2.mem ((c.tc : Thread Cert.GlaProjGradKernelIdeal.nD Cert.GlaProjGradKernelIdeal.τ).loc Cert.GlaProjGradKernelIdeal.main_v0) = v0 c
          ∧ r.2.mem ((c.tc : Thread Cert.GlaProjGradKernelIdeal.nD Cert.GlaProjGradKernelIdeal.τ).loc Cert.GlaProjGradKernelIdeal.main_arg0) = m ((c.tc : Thread Cert.GlaProjGradKernelIdeal.nD Cert.GlaProjGradKernelIdeal.τ).loc Cert.GlaProjGradKernelIdeal.main_arg0)
          ∧ r.2.mem ((c.tc : Thread Cert.GlaProjGradKernelIdeal.nD Cert.GlaProjGradKernelIdeal.τ).loc Cert.GlaProjGradKernelIdeal.main_arg1) = m ((c.tc : Thread Cert.GlaProjGradKernelIdeal.nD Cert.GlaProjGradKernelIdeal.τ).loc Cert.GlaProjGradKernelIdeal.main_arg1))
      ∧ θ_run (Cert.GlaProjGradReferenceIdeal.defs (F := Ideal)) (onTc (τ := Cert.GlaProjGradReferenceIdeal.τ) (Cert.GlaProjGradReferenceIdeal.main (F := Ideal))) ⟨m', fun _ => 0, g'⟩ (fun r => ∀ c : Dev Cert.GlaProjGradReferenceIdeal.nD,
          r.2.mem ((c.tc : Thread Cert.GlaProjGradReferenceIdeal.nD Cert.GlaProjGradReferenceIdeal.τ).loc Cert.GlaProjGradReferenceIdeal.main_v5) = v0 c
          ∧ r.2.mem ((c.tc : Thread Cert.GlaProjGradReferenceIdeal.nD Cert.GlaProjGradReferenceIdeal.τ).loc Cert.GlaProjGradReferenceIdeal.main_arg0) = m' ((c.tc : Thread Cert.GlaProjGradReferenceIdeal.nD Cert.GlaProjGradReferenceIdeal.τ).loc Cert.GlaProjGradReferenceIdeal.main_arg0)
          ∧ r.2.mem ((c.tc : Thread Cert.GlaProjGradReferenceIdeal.nD Cert.GlaProjGradReferenceIdeal.τ).loc Cert.GlaProjGradReferenceIdeal.main_arg1) = m' ((c.tc : Thread Cert.GlaProjGradReferenceIdeal.nD Cert.GlaProjGradReferenceIdeal.τ).loc Cert.GlaProjGradReferenceIdeal.main_arg1))

def preserves_GlaWeightGradKernel_GlaWeightGradKernelIdeal : Prop :=
  True

def algebraic_GlaWeightGradKernelIdeal_GlaWeightGradReferenceIdeal [hGlaWeightGradKernelIdeal : Cert.GlaWeightGradKernelIdeal.Facts] [hGlaWeightGradReferenceIdeal : Cert.GlaWeightGradReferenceIdeal.Facts] : Prop :=
  ∀ (m : (ℓ : Loc Cert.GlaWeightGradKernelIdeal.nD Cert.GlaWeightGradKernelIdeal.τ Cert.GlaWeightGradKernelIdeal.sig) → Buf (Elt Ideal) ℓ) (g : Dev Cert.GlaWeightGradKernelIdeal.nD → PrngReg)
    (m' : (ℓ : Loc Cert.GlaWeightGradReferenceIdeal.nD Cert.GlaWeightGradReferenceIdeal.τ Cert.GlaWeightGradReferenceIdeal.sig) → Buf (Elt Ideal) ℓ) (g' : Dev Cert.GlaWeightGradReferenceIdeal.nD → PrngReg), Pre_GlaWeightGradKernelIdeal m →
    (∀ c : Dev Cert.GlaWeightGradKernelIdeal.nD,
      m' ((c.tc : Thread Cert.GlaWeightGradReferenceIdeal.nD Cert.GlaWeightGradReferenceIdeal.τ).loc Cert.GlaWeightGradReferenceIdeal.main_arg0) = m ((c.tc : Thread Cert.GlaWeightGradKernelIdeal.nD Cert.GlaWeightGradKernelIdeal.τ).loc Cert.GlaWeightGradKernelIdeal.main_arg0)
      ∧ m' ((c.tc : Thread Cert.GlaWeightGradReferenceIdeal.nD Cert.GlaWeightGradReferenceIdeal.τ).loc Cert.GlaWeightGradReferenceIdeal.main_arg1) = m ((c.tc : Thread Cert.GlaWeightGradKernelIdeal.nD Cert.GlaWeightGradKernelIdeal.τ).loc Cert.GlaWeightGradKernelIdeal.main_arg1)
      ∧ m' ((c.tc : Thread Cert.GlaWeightGradReferenceIdeal.nD Cert.GlaWeightGradReferenceIdeal.τ).loc Cert.GlaWeightGradReferenceIdeal.main_arg2) = m ((c.tc : Thread Cert.GlaWeightGradKernelIdeal.nD Cert.GlaWeightGradKernelIdeal.τ).loc Cert.GlaWeightGradKernelIdeal.main_arg2)
      ∧ m' ((c.tc : Thread Cert.GlaWeightGradReferenceIdeal.nD Cert.GlaWeightGradReferenceIdeal.τ).loc Cert.GlaWeightGradReferenceIdeal.main_arg3) = m ((c.tc : Thread Cert.GlaWeightGradKernelIdeal.nD Cert.GlaWeightGradKernelIdeal.τ).loc Cert.GlaWeightGradKernelIdeal.main_arg3)) →
    ∃ (v0 : (c : Dev Cert.GlaWeightGradKernelIdeal.nD) → Buf (Elt Ideal) ((c.tc : Thread Cert.GlaWeightGradKernelIdeal.nD Cert.GlaWeightGradKernelIdeal.τ).loc Cert.GlaWeightGradKernelIdeal.main_v0)),
      θ_run (Cert.GlaWeightGradKernelIdeal.defs (F := Ideal)) (onTc (τ := Cert.GlaWeightGradKernelIdeal.τ) (Cert.GlaWeightGradKernelIdeal.main (F := Ideal))) ⟨m, fun _ => 0, g⟩ (fun r => ∀ c : Dev Cert.GlaWeightGradKernelIdeal.nD,
          r.2.mem ((c.tc : Thread Cert.GlaWeightGradKernelIdeal.nD Cert.GlaWeightGradKernelIdeal.τ).loc Cert.GlaWeightGradKernelIdeal.main_v0) = v0 c
          ∧ r.2.mem ((c.tc : Thread Cert.GlaWeightGradKernelIdeal.nD Cert.GlaWeightGradKernelIdeal.τ).loc Cert.GlaWeightGradKernelIdeal.main_arg0) = m ((c.tc : Thread Cert.GlaWeightGradKernelIdeal.nD Cert.GlaWeightGradKernelIdeal.τ).loc Cert.GlaWeightGradKernelIdeal.main_arg0)
          ∧ r.2.mem ((c.tc : Thread Cert.GlaWeightGradKernelIdeal.nD Cert.GlaWeightGradKernelIdeal.τ).loc Cert.GlaWeightGradKernelIdeal.main_arg1) = m ((c.tc : Thread Cert.GlaWeightGradKernelIdeal.nD Cert.GlaWeightGradKernelIdeal.τ).loc Cert.GlaWeightGradKernelIdeal.main_arg1)
          ∧ r.2.mem ((c.tc : Thread Cert.GlaWeightGradKernelIdeal.nD Cert.GlaWeightGradKernelIdeal.τ).loc Cert.GlaWeightGradKernelIdeal.main_arg2) = m ((c.tc : Thread Cert.GlaWeightGradKernelIdeal.nD Cert.GlaWeightGradKernelIdeal.τ).loc Cert.GlaWeightGradKernelIdeal.main_arg2)
          ∧ r.2.mem ((c.tc : Thread Cert.GlaWeightGradKernelIdeal.nD Cert.GlaWeightGradKernelIdeal.τ).loc Cert.GlaWeightGradKernelIdeal.main_arg3) = m ((c.tc : Thread Cert.GlaWeightGradKernelIdeal.nD Cert.GlaWeightGradKernelIdeal.τ).loc Cert.GlaWeightGradKernelIdeal.main_arg3))
      ∧ θ_run (Cert.GlaWeightGradReferenceIdeal.defs (F := Ideal)) (onTc (τ := Cert.GlaWeightGradReferenceIdeal.τ) (Cert.GlaWeightGradReferenceIdeal.main (F := Ideal))) ⟨m', fun _ => 0, g'⟩ (fun r => ∀ c : Dev Cert.GlaWeightGradReferenceIdeal.nD,
          r.2.mem ((c.tc : Thread Cert.GlaWeightGradReferenceIdeal.nD Cert.GlaWeightGradReferenceIdeal.τ).loc Cert.GlaWeightGradReferenceIdeal.main_v13) = v0 c
          ∧ r.2.mem ((c.tc : Thread Cert.GlaWeightGradReferenceIdeal.nD Cert.GlaWeightGradReferenceIdeal.τ).loc Cert.GlaWeightGradReferenceIdeal.main_arg0) = m' ((c.tc : Thread Cert.GlaWeightGradReferenceIdeal.nD Cert.GlaWeightGradReferenceIdeal.τ).loc Cert.GlaWeightGradReferenceIdeal.main_arg0)
          ∧ r.2.mem ((c.tc : Thread Cert.GlaWeightGradReferenceIdeal.nD Cert.GlaWeightGradReferenceIdeal.τ).loc Cert.GlaWeightGradReferenceIdeal.main_arg1) = m' ((c.tc : Thread Cert.GlaWeightGradReferenceIdeal.nD Cert.GlaWeightGradReferenceIdeal.τ).loc Cert.GlaWeightGradReferenceIdeal.main_arg1)
          ∧ r.2.mem ((c.tc : Thread Cert.GlaWeightGradReferenceIdeal.nD Cert.GlaWeightGradReferenceIdeal.τ).loc Cert.GlaWeightGradReferenceIdeal.main_arg2) = m' ((c.tc : Thread Cert.GlaWeightGradReferenceIdeal.nD Cert.GlaWeightGradReferenceIdeal.τ).loc Cert.GlaWeightGradReferenceIdeal.main_arg2)
          ∧ r.2.mem ((c.tc : Thread Cert.GlaWeightGradReferenceIdeal.nD Cert.GlaWeightGradReferenceIdeal.τ).loc Cert.GlaWeightGradReferenceIdeal.main_arg3) = m' ((c.tc : Thread Cert.GlaWeightGradReferenceIdeal.nD Cert.GlaWeightGradReferenceIdeal.τ).loc Cert.GlaWeightGradReferenceIdeal.main_arg3))

def preserves_AttProjGradKernel_AttProjGradKernelIdeal : Prop :=
  True

def algebraic_AttProjGradKernelIdeal_AttProjGradReferenceIdeal [hAttProjGradKernelIdeal : Cert.AttProjGradKernelIdeal.Facts] [hAttProjGradReferenceIdeal : Cert.AttProjGradReferenceIdeal.Facts] : Prop :=
  ∀ (m : (ℓ : Loc Cert.AttProjGradKernelIdeal.nD Cert.AttProjGradKernelIdeal.τ Cert.AttProjGradKernelIdeal.sig) → Buf (Elt Ideal) ℓ) (g : Dev Cert.AttProjGradKernelIdeal.nD → PrngReg)
    (m' : (ℓ : Loc Cert.AttProjGradReferenceIdeal.nD Cert.AttProjGradReferenceIdeal.τ Cert.AttProjGradReferenceIdeal.sig) → Buf (Elt Ideal) ℓ) (g' : Dev Cert.AttProjGradReferenceIdeal.nD → PrngReg), Pre_AttProjGradKernelIdeal m →
    (∀ c : Dev Cert.AttProjGradKernelIdeal.nD,
      m' ((c.tc : Thread Cert.AttProjGradReferenceIdeal.nD Cert.AttProjGradReferenceIdeal.τ).loc Cert.AttProjGradReferenceIdeal.main_arg0) = m ((c.tc : Thread Cert.AttProjGradKernelIdeal.nD Cert.AttProjGradKernelIdeal.τ).loc Cert.AttProjGradKernelIdeal.main_arg0)
      ∧ m' ((c.tc : Thread Cert.AttProjGradReferenceIdeal.nD Cert.AttProjGradReferenceIdeal.τ).loc Cert.AttProjGradReferenceIdeal.main_arg1) = m ((c.tc : Thread Cert.AttProjGradKernelIdeal.nD Cert.AttProjGradKernelIdeal.τ).loc Cert.AttProjGradKernelIdeal.main_arg1)
      ∧ m' ((c.tc : Thread Cert.AttProjGradReferenceIdeal.nD Cert.AttProjGradReferenceIdeal.τ).loc Cert.AttProjGradReferenceIdeal.main_arg2) = m ((c.tc : Thread Cert.AttProjGradKernelIdeal.nD Cert.AttProjGradKernelIdeal.τ).loc Cert.AttProjGradKernelIdeal.main_arg2)
      ∧ m' ((c.tc : Thread Cert.AttProjGradReferenceIdeal.nD Cert.AttProjGradReferenceIdeal.τ).loc Cert.AttProjGradReferenceIdeal.main_arg3) = m ((c.tc : Thread Cert.AttProjGradKernelIdeal.nD Cert.AttProjGradKernelIdeal.τ).loc Cert.AttProjGradKernelIdeal.main_arg3)) →
    ∃ (v0 : (c : Dev Cert.AttProjGradKernelIdeal.nD) → Buf (Elt Ideal) ((c.tc : Thread Cert.AttProjGradKernelIdeal.nD Cert.AttProjGradKernelIdeal.τ).loc Cert.AttProjGradKernelIdeal.main_v0)),
      θ_run (Cert.AttProjGradKernelIdeal.defs (F := Ideal)) (onTc (τ := Cert.AttProjGradKernelIdeal.τ) (Cert.AttProjGradKernelIdeal.main (F := Ideal))) ⟨m, fun _ => 0, g⟩ (fun r => ∀ c : Dev Cert.AttProjGradKernelIdeal.nD,
          r.2.mem ((c.tc : Thread Cert.AttProjGradKernelIdeal.nD Cert.AttProjGradKernelIdeal.τ).loc Cert.AttProjGradKernelIdeal.main_v0) = v0 c
          ∧ r.2.mem ((c.tc : Thread Cert.AttProjGradKernelIdeal.nD Cert.AttProjGradKernelIdeal.τ).loc Cert.AttProjGradKernelIdeal.main_arg0) = m ((c.tc : Thread Cert.AttProjGradKernelIdeal.nD Cert.AttProjGradKernelIdeal.τ).loc Cert.AttProjGradKernelIdeal.main_arg0)
          ∧ r.2.mem ((c.tc : Thread Cert.AttProjGradKernelIdeal.nD Cert.AttProjGradKernelIdeal.τ).loc Cert.AttProjGradKernelIdeal.main_arg1) = m ((c.tc : Thread Cert.AttProjGradKernelIdeal.nD Cert.AttProjGradKernelIdeal.τ).loc Cert.AttProjGradKernelIdeal.main_arg1)
          ∧ r.2.mem ((c.tc : Thread Cert.AttProjGradKernelIdeal.nD Cert.AttProjGradKernelIdeal.τ).loc Cert.AttProjGradKernelIdeal.main_arg2) = m ((c.tc : Thread Cert.AttProjGradKernelIdeal.nD Cert.AttProjGradKernelIdeal.τ).loc Cert.AttProjGradKernelIdeal.main_arg2)
          ∧ r.2.mem ((c.tc : Thread Cert.AttProjGradKernelIdeal.nD Cert.AttProjGradKernelIdeal.τ).loc Cert.AttProjGradKernelIdeal.main_arg3) = m ((c.tc : Thread Cert.AttProjGradKernelIdeal.nD Cert.AttProjGradKernelIdeal.τ).loc Cert.AttProjGradKernelIdeal.main_arg3))
      ∧ θ_run (Cert.AttProjGradReferenceIdeal.defs (F := Ideal)) (onTc (τ := Cert.AttProjGradReferenceIdeal.τ) (Cert.AttProjGradReferenceIdeal.main (F := Ideal))) ⟨m', fun _ => 0, g'⟩ (fun r => ∀ c : Dev Cert.AttProjGradReferenceIdeal.nD,
          r.2.mem ((c.tc : Thread Cert.AttProjGradReferenceIdeal.nD Cert.AttProjGradReferenceIdeal.τ).loc Cert.AttProjGradReferenceIdeal.main_v9) = v0 c
          ∧ r.2.mem ((c.tc : Thread Cert.AttProjGradReferenceIdeal.nD Cert.AttProjGradReferenceIdeal.τ).loc Cert.AttProjGradReferenceIdeal.main_arg0) = m' ((c.tc : Thread Cert.AttProjGradReferenceIdeal.nD Cert.AttProjGradReferenceIdeal.τ).loc Cert.AttProjGradReferenceIdeal.main_arg0)
          ∧ r.2.mem ((c.tc : Thread Cert.AttProjGradReferenceIdeal.nD Cert.AttProjGradReferenceIdeal.τ).loc Cert.AttProjGradReferenceIdeal.main_arg1) = m' ((c.tc : Thread Cert.AttProjGradReferenceIdeal.nD Cert.AttProjGradReferenceIdeal.τ).loc Cert.AttProjGradReferenceIdeal.main_arg1)
          ∧ r.2.mem ((c.tc : Thread Cert.AttProjGradReferenceIdeal.nD Cert.AttProjGradReferenceIdeal.τ).loc Cert.AttProjGradReferenceIdeal.main_arg2) = m' ((c.tc : Thread Cert.AttProjGradReferenceIdeal.nD Cert.AttProjGradReferenceIdeal.τ).loc Cert.AttProjGradReferenceIdeal.main_arg2)
          ∧ r.2.mem ((c.tc : Thread Cert.AttProjGradReferenceIdeal.nD Cert.AttProjGradReferenceIdeal.τ).loc Cert.AttProjGradReferenceIdeal.main_arg3) = m' ((c.tc : Thread Cert.AttProjGradReferenceIdeal.nD Cert.AttProjGradReferenceIdeal.τ).loc Cert.AttProjGradReferenceIdeal.main_arg3))

def preserves_ForwardKernel_ForwardKernelIdeal : Prop :=
  IdealRules.named_const.Statement Cert.ForwardKernelIdeal.κ "mask" .f32 0xF149F2CA#32 ⊥

def algebraic_ForwardKernelIdeal_ForwardReferenceIdeal [hForwardKernelIdeal : Cert.ForwardKernelIdeal.Facts] [hForwardReferenceIdeal : Cert.ForwardReferenceIdeal.Facts] : Prop :=
  ∀ (m : (ℓ : Loc Cert.ForwardKernelIdeal.nD Cert.ForwardKernelIdeal.τ Cert.ForwardKernelIdeal.sig) → Buf (Elt Ideal) ℓ) (g : Dev Cert.ForwardKernelIdeal.nD → PrngReg)
    (m' : (ℓ : Loc Cert.ForwardReferenceIdeal.nD Cert.ForwardReferenceIdeal.τ Cert.ForwardReferenceIdeal.sig) → Buf (Elt Ideal) ℓ) (g' : Dev Cert.ForwardReferenceIdeal.nD → PrngReg), Pre_ForwardKernelIdeal m →
    (∀ c : Dev Cert.ForwardKernelIdeal.nD,
      m' ((c.tc : Thread Cert.ForwardReferenceIdeal.nD Cert.ForwardReferenceIdeal.τ).loc Cert.ForwardReferenceIdeal.main_arg0) = m ((c.tc : Thread Cert.ForwardKernelIdeal.nD Cert.ForwardKernelIdeal.τ).loc Cert.ForwardKernelIdeal.main_arg0)
      ∧ m' ((c.tc : Thread Cert.ForwardReferenceIdeal.nD Cert.ForwardReferenceIdeal.τ).loc Cert.ForwardReferenceIdeal.main_arg1) = m ((c.tc : Thread Cert.ForwardKernelIdeal.nD Cert.ForwardKernelIdeal.τ).loc Cert.ForwardKernelIdeal.main_arg1)) →
    ∃ (v0 : (c : Dev Cert.ForwardKernelIdeal.nD) → Buf (Elt Ideal) ((c.tc : Thread Cert.ForwardKernelIdeal.nD Cert.ForwardKernelIdeal.τ).loc Cert.ForwardKernelIdeal.main_v52)),
      θ_run (Cert.ForwardKernelIdeal.defs (F := Ideal)) (onTc (τ := Cert.ForwardKernelIdeal.τ) (Cert.ForwardKernelIdeal.main (F := Ideal))) ⟨m, fun _ => 0, g⟩ (fun r => ∀ c : Dev Cert.ForwardKernelIdeal.nD,
          r.2.mem ((c.tc : Thread Cert.ForwardKernelIdeal.nD Cert.ForwardKernelIdeal.τ).loc Cert.ForwardKernelIdeal.main_v52) = v0 c
          ∧ r.2.mem ((c.tc : Thread Cert.ForwardKernelIdeal.nD Cert.ForwardKernelIdeal.τ).loc Cert.ForwardKernelIdeal.main_arg0) = m ((c.tc : Thread Cert.ForwardKernelIdeal.nD Cert.ForwardKernelIdeal.τ).loc Cert.ForwardKernelIdeal.main_arg0)
          ∧ r.2.mem ((c.tc : Thread Cert.ForwardKernelIdeal.nD Cert.ForwardKernelIdeal.τ).loc Cert.ForwardKernelIdeal.main_arg1) = m ((c.tc : Thread Cert.ForwardKernelIdeal.nD Cert.ForwardKernelIdeal.τ).loc Cert.ForwardKernelIdeal.main_arg1))
      ∧ θ_run (Cert.ForwardReferenceIdeal.defs (F := Ideal)) (onTc (τ := Cert.ForwardReferenceIdeal.τ) (Cert.ForwardReferenceIdeal.main (F := Ideal))) ⟨m', fun _ => 0, g'⟩ (fun r => ∀ c : Dev Cert.ForwardReferenceIdeal.nD,
          r.2.mem ((c.tc : Thread Cert.ForwardReferenceIdeal.nD Cert.ForwardReferenceIdeal.τ).loc Cert.ForwardReferenceIdeal.main_v48) = v0 c
          ∧ r.2.mem ((c.tc : Thread Cert.ForwardReferenceIdeal.nD Cert.ForwardReferenceIdeal.τ).loc Cert.ForwardReferenceIdeal.main_arg0) = m' ((c.tc : Thread Cert.ForwardReferenceIdeal.nD Cert.ForwardReferenceIdeal.τ).loc Cert.ForwardReferenceIdeal.main_arg0)
          ∧ r.2.mem ((c.tc : Thread Cert.ForwardReferenceIdeal.nD Cert.ForwardReferenceIdeal.τ).loc Cert.ForwardReferenceIdeal.main_arg1) = m' ((c.tc : Thread Cert.ForwardReferenceIdeal.nD Cert.ForwardReferenceIdeal.τ).loc Cert.ForwardReferenceIdeal.main_arg1))

def preserves_AttKeyWeightGradKernel_AttKeyWeightGradKernelIdeal : Prop :=
  True

def algebraic_AttKeyWeightGradKernelIdeal_AttKeyWeightGradReferenceIdeal [hAttKeyWeightGradKernelIdeal : Cert.AttKeyWeightGradKernelIdeal.Facts] [hAttKeyWeightGradReferenceIdeal : Cert.AttKeyWeightGradReferenceIdeal.Facts] : Prop :=
  ∀ (m : (ℓ : Loc Cert.AttKeyWeightGradKernelIdeal.nD Cert.AttKeyWeightGradKernelIdeal.τ Cert.AttKeyWeightGradKernelIdeal.sig) → Buf (Elt Ideal) ℓ) (g : Dev Cert.AttKeyWeightGradKernelIdeal.nD → PrngReg)
    (m' : (ℓ : Loc Cert.AttKeyWeightGradReferenceIdeal.nD Cert.AttKeyWeightGradReferenceIdeal.τ Cert.AttKeyWeightGradReferenceIdeal.sig) → Buf (Elt Ideal) ℓ) (g' : Dev Cert.AttKeyWeightGradReferenceIdeal.nD → PrngReg), Pre_AttKeyWeightGradKernelIdeal m →
    (∀ c : Dev Cert.AttKeyWeightGradKernelIdeal.nD,
      m' ((c.tc : Thread Cert.AttKeyWeightGradReferenceIdeal.nD Cert.AttKeyWeightGradReferenceIdeal.τ).loc Cert.AttKeyWeightGradReferenceIdeal.main_arg0) = m ((c.tc : Thread Cert.AttKeyWeightGradKernelIdeal.nD Cert.AttKeyWeightGradKernelIdeal.τ).loc Cert.AttKeyWeightGradKernelIdeal.main_arg0)
      ∧ m' ((c.tc : Thread Cert.AttKeyWeightGradReferenceIdeal.nD Cert.AttKeyWeightGradReferenceIdeal.τ).loc Cert.AttKeyWeightGradReferenceIdeal.main_arg1) = m ((c.tc : Thread Cert.AttKeyWeightGradKernelIdeal.nD Cert.AttKeyWeightGradKernelIdeal.τ).loc Cert.AttKeyWeightGradKernelIdeal.main_arg1)
      ∧ m' ((c.tc : Thread Cert.AttKeyWeightGradReferenceIdeal.nD Cert.AttKeyWeightGradReferenceIdeal.τ).loc Cert.AttKeyWeightGradReferenceIdeal.main_arg2) = m ((c.tc : Thread Cert.AttKeyWeightGradKernelIdeal.nD Cert.AttKeyWeightGradKernelIdeal.τ).loc Cert.AttKeyWeightGradKernelIdeal.main_arg2)
      ∧ m' ((c.tc : Thread Cert.AttKeyWeightGradReferenceIdeal.nD Cert.AttKeyWeightGradReferenceIdeal.τ).loc Cert.AttKeyWeightGradReferenceIdeal.main_arg3) = m ((c.tc : Thread Cert.AttKeyWeightGradKernelIdeal.nD Cert.AttKeyWeightGradKernelIdeal.τ).loc Cert.AttKeyWeightGradKernelIdeal.main_arg3)
      ∧ m' ((c.tc : Thread Cert.AttKeyWeightGradReferenceIdeal.nD Cert.AttKeyWeightGradReferenceIdeal.τ).loc Cert.AttKeyWeightGradReferenceIdeal.main_arg4) = m ((c.tc : Thread Cert.AttKeyWeightGradKernelIdeal.nD Cert.AttKeyWeightGradKernelIdeal.τ).loc Cert.AttKeyWeightGradKernelIdeal.main_arg4)) →
    ∃ (v0 : (c : Dev Cert.AttKeyWeightGradKernelIdeal.nD) → Buf (Elt Ideal) ((c.tc : Thread Cert.AttKeyWeightGradKernelIdeal.nD Cert.AttKeyWeightGradKernelIdeal.τ).loc Cert.AttKeyWeightGradKernelIdeal.main_v0)),
      θ_run (Cert.AttKeyWeightGradKernelIdeal.defs (F := Ideal)) (onTc (τ := Cert.AttKeyWeightGradKernelIdeal.τ) (Cert.AttKeyWeightGradKernelIdeal.main (F := Ideal))) ⟨m, fun _ => 0, g⟩ (fun r => ∀ c : Dev Cert.AttKeyWeightGradKernelIdeal.nD,
          r.2.mem ((c.tc : Thread Cert.AttKeyWeightGradKernelIdeal.nD Cert.AttKeyWeightGradKernelIdeal.τ).loc Cert.AttKeyWeightGradKernelIdeal.main_v0) = v0 c
          ∧ r.2.mem ((c.tc : Thread Cert.AttKeyWeightGradKernelIdeal.nD Cert.AttKeyWeightGradKernelIdeal.τ).loc Cert.AttKeyWeightGradKernelIdeal.main_arg0) = m ((c.tc : Thread Cert.AttKeyWeightGradKernelIdeal.nD Cert.AttKeyWeightGradKernelIdeal.τ).loc Cert.AttKeyWeightGradKernelIdeal.main_arg0)
          ∧ r.2.mem ((c.tc : Thread Cert.AttKeyWeightGradKernelIdeal.nD Cert.AttKeyWeightGradKernelIdeal.τ).loc Cert.AttKeyWeightGradKernelIdeal.main_arg1) = m ((c.tc : Thread Cert.AttKeyWeightGradKernelIdeal.nD Cert.AttKeyWeightGradKernelIdeal.τ).loc Cert.AttKeyWeightGradKernelIdeal.main_arg1)
          ∧ r.2.mem ((c.tc : Thread Cert.AttKeyWeightGradKernelIdeal.nD Cert.AttKeyWeightGradKernelIdeal.τ).loc Cert.AttKeyWeightGradKernelIdeal.main_arg2) = m ((c.tc : Thread Cert.AttKeyWeightGradKernelIdeal.nD Cert.AttKeyWeightGradKernelIdeal.τ).loc Cert.AttKeyWeightGradKernelIdeal.main_arg2)
          ∧ r.2.mem ((c.tc : Thread Cert.AttKeyWeightGradKernelIdeal.nD Cert.AttKeyWeightGradKernelIdeal.τ).loc Cert.AttKeyWeightGradKernelIdeal.main_arg3) = m ((c.tc : Thread Cert.AttKeyWeightGradKernelIdeal.nD Cert.AttKeyWeightGradKernelIdeal.τ).loc Cert.AttKeyWeightGradKernelIdeal.main_arg3)
          ∧ r.2.mem ((c.tc : Thread Cert.AttKeyWeightGradKernelIdeal.nD Cert.AttKeyWeightGradKernelIdeal.τ).loc Cert.AttKeyWeightGradKernelIdeal.main_arg4) = m ((c.tc : Thread Cert.AttKeyWeightGradKernelIdeal.nD Cert.AttKeyWeightGradKernelIdeal.τ).loc Cert.AttKeyWeightGradKernelIdeal.main_arg4))
      ∧ θ_run (Cert.AttKeyWeightGradReferenceIdeal.defs (F := Ideal)) (onTc (τ := Cert.AttKeyWeightGradReferenceIdeal.τ) (Cert.AttKeyWeightGradReferenceIdeal.main (F := Ideal))) ⟨m', fun _ => 0, g'⟩ (fun r => ∀ c : Dev Cert.AttKeyWeightGradReferenceIdeal.nD,
          r.2.mem ((c.tc : Thread Cert.AttKeyWeightGradReferenceIdeal.nD Cert.AttKeyWeightGradReferenceIdeal.τ).loc Cert.AttKeyWeightGradReferenceIdeal.main_v15) = v0 c
          ∧ r.2.mem ((c.tc : Thread Cert.AttKeyWeightGradReferenceIdeal.nD Cert.AttKeyWeightGradReferenceIdeal.τ).loc Cert.AttKeyWeightGradReferenceIdeal.main_arg0) = m' ((c.tc : Thread Cert.AttKeyWeightGradReferenceIdeal.nD Cert.AttKeyWeightGradReferenceIdeal.τ).loc Cert.AttKeyWeightGradReferenceIdeal.main_arg0)
          ∧ r.2.mem ((c.tc : Thread Cert.AttKeyWeightGradReferenceIdeal.nD Cert.AttKeyWeightGradReferenceIdeal.τ).loc Cert.AttKeyWeightGradReferenceIdeal.main_arg1) = m' ((c.tc : Thread Cert.AttKeyWeightGradReferenceIdeal.nD Cert.AttKeyWeightGradReferenceIdeal.τ).loc Cert.AttKeyWeightGradReferenceIdeal.main_arg1)
          ∧ r.2.mem ((c.tc : Thread Cert.AttKeyWeightGradReferenceIdeal.nD Cert.AttKeyWeightGradReferenceIdeal.τ).loc Cert.AttKeyWeightGradReferenceIdeal.main_arg2) = m' ((c.tc : Thread Cert.AttKeyWeightGradReferenceIdeal.nD Cert.AttKeyWeightGradReferenceIdeal.τ).loc Cert.AttKeyWeightGradReferenceIdeal.main_arg2)
          ∧ r.2.mem ((c.tc : Thread Cert.AttKeyWeightGradReferenceIdeal.nD Cert.AttKeyWeightGradReferenceIdeal.τ).loc Cert.AttKeyWeightGradReferenceIdeal.main_arg3) = m' ((c.tc : Thread Cert.AttKeyWeightGradReferenceIdeal.nD Cert.AttKeyWeightGradReferenceIdeal.τ).loc Cert.AttKeyWeightGradReferenceIdeal.main_arg3)
          ∧ r.2.mem ((c.tc : Thread Cert.AttKeyWeightGradReferenceIdeal.nD Cert.AttKeyWeightGradReferenceIdeal.τ).loc Cert.AttKeyWeightGradReferenceIdeal.main_arg4) = m' ((c.tc : Thread Cert.AttKeyWeightGradReferenceIdeal.nD Cert.AttKeyWeightGradReferenceIdeal.τ).loc Cert.AttKeyWeightGradReferenceIdeal.main_arg4))

def preserves_AttValueWeightGradKernel_AttValueWeightGradKernelIdeal : Prop :=
  True

def algebraic_AttValueWeightGradKernelIdeal_AttValueWeightGradReferenceIdeal [hAttValueWeightGradKernelIdeal : Cert.AttValueWeightGradKernelIdeal.Facts] [hAttValueWeightGradReferenceIdeal : Cert.AttValueWeightGradReferenceIdeal.Facts] : Prop :=
  ∀ (m : (ℓ : Loc Cert.AttValueWeightGradKernelIdeal.nD Cert.AttValueWeightGradKernelIdeal.τ Cert.AttValueWeightGradKernelIdeal.sig) → Buf (Elt Ideal) ℓ) (g : Dev Cert.AttValueWeightGradKernelIdeal.nD → PrngReg)
    (m' : (ℓ : Loc Cert.AttValueWeightGradReferenceIdeal.nD Cert.AttValueWeightGradReferenceIdeal.τ Cert.AttValueWeightGradReferenceIdeal.sig) → Buf (Elt Ideal) ℓ) (g' : Dev Cert.AttValueWeightGradReferenceIdeal.nD → PrngReg), Pre_AttValueWeightGradKernelIdeal m →
    (∀ c : Dev Cert.AttValueWeightGradKernelIdeal.nD,
      m' ((c.tc : Thread Cert.AttValueWeightGradReferenceIdeal.nD Cert.AttValueWeightGradReferenceIdeal.τ).loc Cert.AttValueWeightGradReferenceIdeal.main_arg0) = m ((c.tc : Thread Cert.AttValueWeightGradKernelIdeal.nD Cert.AttValueWeightGradKernelIdeal.τ).loc Cert.AttValueWeightGradKernelIdeal.main_arg0)
      ∧ m' ((c.tc : Thread Cert.AttValueWeightGradReferenceIdeal.nD Cert.AttValueWeightGradReferenceIdeal.τ).loc Cert.AttValueWeightGradReferenceIdeal.main_arg1) = m ((c.tc : Thread Cert.AttValueWeightGradKernelIdeal.nD Cert.AttValueWeightGradKernelIdeal.τ).loc Cert.AttValueWeightGradKernelIdeal.main_arg1)
      ∧ m' ((c.tc : Thread Cert.AttValueWeightGradReferenceIdeal.nD Cert.AttValueWeightGradReferenceIdeal.τ).loc Cert.AttValueWeightGradReferenceIdeal.main_arg2) = m ((c.tc : Thread Cert.AttValueWeightGradKernelIdeal.nD Cert.AttValueWeightGradKernelIdeal.τ).loc Cert.AttValueWeightGradKernelIdeal.main_arg2)
      ∧ m' ((c.tc : Thread Cert.AttValueWeightGradReferenceIdeal.nD Cert.AttValueWeightGradReferenceIdeal.τ).loc Cert.AttValueWeightGradReferenceIdeal.main_arg3) = m ((c.tc : Thread Cert.AttValueWeightGradKernelIdeal.nD Cert.AttValueWeightGradKernelIdeal.τ).loc Cert.AttValueWeightGradKernelIdeal.main_arg3)
      ∧ m' ((c.tc : Thread Cert.AttValueWeightGradReferenceIdeal.nD Cert.AttValueWeightGradReferenceIdeal.τ).loc Cert.AttValueWeightGradReferenceIdeal.main_arg4) = m ((c.tc : Thread Cert.AttValueWeightGradKernelIdeal.nD Cert.AttValueWeightGradKernelIdeal.τ).loc Cert.AttValueWeightGradKernelIdeal.main_arg4)) →
    ∃ (v0 : (c : Dev Cert.AttValueWeightGradKernelIdeal.nD) → Buf (Elt Ideal) ((c.tc : Thread Cert.AttValueWeightGradKernelIdeal.nD Cert.AttValueWeightGradKernelIdeal.τ).loc Cert.AttValueWeightGradKernelIdeal.main_v0)),
      θ_run (Cert.AttValueWeightGradKernelIdeal.defs (F := Ideal)) (onTc (τ := Cert.AttValueWeightGradKernelIdeal.τ) (Cert.AttValueWeightGradKernelIdeal.main (F := Ideal))) ⟨m, fun _ => 0, g⟩ (fun r => ∀ c : Dev Cert.AttValueWeightGradKernelIdeal.nD,
          r.2.mem ((c.tc : Thread Cert.AttValueWeightGradKernelIdeal.nD Cert.AttValueWeightGradKernelIdeal.τ).loc Cert.AttValueWeightGradKernelIdeal.main_v0) = v0 c
          ∧ r.2.mem ((c.tc : Thread Cert.AttValueWeightGradKernelIdeal.nD Cert.AttValueWeightGradKernelIdeal.τ).loc Cert.AttValueWeightGradKernelIdeal.main_arg0) = m ((c.tc : Thread Cert.AttValueWeightGradKernelIdeal.nD Cert.AttValueWeightGradKernelIdeal.τ).loc Cert.AttValueWeightGradKernelIdeal.main_arg0)
          ∧ r.2.mem ((c.tc : Thread Cert.AttValueWeightGradKernelIdeal.nD Cert.AttValueWeightGradKernelIdeal.τ).loc Cert.AttValueWeightGradKernelIdeal.main_arg1) = m ((c.tc : Thread Cert.AttValueWeightGradKernelIdeal.nD Cert.AttValueWeightGradKernelIdeal.τ).loc Cert.AttValueWeightGradKernelIdeal.main_arg1)
          ∧ r.2.mem ((c.tc : Thread Cert.AttValueWeightGradKernelIdeal.nD Cert.AttValueWeightGradKernelIdeal.τ).loc Cert.AttValueWeightGradKernelIdeal.main_arg2) = m ((c.tc : Thread Cert.AttValueWeightGradKernelIdeal.nD Cert.AttValueWeightGradKernelIdeal.τ).loc Cert.AttValueWeightGradKernelIdeal.main_arg2)
          ∧ r.2.mem ((c.tc : Thread Cert.AttValueWeightGradKernelIdeal.nD Cert.AttValueWeightGradKernelIdeal.τ).loc Cert.AttValueWeightGradKernelIdeal.main_arg3) = m ((c.tc : Thread Cert.AttValueWeightGradKernelIdeal.nD Cert.AttValueWeightGradKernelIdeal.τ).loc Cert.AttValueWeightGradKernelIdeal.main_arg3)
          ∧ r.2.mem ((c.tc : Thread Cert.AttValueWeightGradKernelIdeal.nD Cert.AttValueWeightGradKernelIdeal.τ).loc Cert.AttValueWeightGradKernelIdeal.main_arg4) = m ((c.tc : Thread Cert.AttValueWeightGradKernelIdeal.nD Cert.AttValueWeightGradKernelIdeal.τ).loc Cert.AttValueWeightGradKernelIdeal.main_arg4))
      ∧ θ_run (Cert.AttValueWeightGradReferenceIdeal.defs (F := Ideal)) (onTc (τ := Cert.AttValueWeightGradReferenceIdeal.τ) (Cert.AttValueWeightGradReferenceIdeal.main (F := Ideal))) ⟨m', fun _ => 0, g'⟩ (fun r => ∀ c : Dev Cert.AttValueWeightGradReferenceIdeal.nD,
          r.2.mem ((c.tc : Thread Cert.AttValueWeightGradReferenceIdeal.nD Cert.AttValueWeightGradReferenceIdeal.τ).loc Cert.AttValueWeightGradReferenceIdeal.main_v14) = v0 c
          ∧ r.2.mem ((c.tc : Thread Cert.AttValueWeightGradReferenceIdeal.nD Cert.AttValueWeightGradReferenceIdeal.τ).loc Cert.AttValueWeightGradReferenceIdeal.main_arg0) = m' ((c.tc : Thread Cert.AttValueWeightGradReferenceIdeal.nD Cert.AttValueWeightGradReferenceIdeal.τ).loc Cert.AttValueWeightGradReferenceIdeal.main_arg0)
          ∧ r.2.mem ((c.tc : Thread Cert.AttValueWeightGradReferenceIdeal.nD Cert.AttValueWeightGradReferenceIdeal.τ).loc Cert.AttValueWeightGradReferenceIdeal.main_arg1) = m' ((c.tc : Thread Cert.AttValueWeightGradReferenceIdeal.nD Cert.AttValueWeightGradReferenceIdeal.τ).loc Cert.AttValueWeightGradReferenceIdeal.main_arg1)
          ∧ r.2.mem ((c.tc : Thread Cert.AttValueWeightGradReferenceIdeal.nD Cert.AttValueWeightGradReferenceIdeal.τ).loc Cert.AttValueWeightGradReferenceIdeal.main_arg2) = m' ((c.tc : Thread Cert.AttValueWeightGradReferenceIdeal.nD Cert.AttValueWeightGradReferenceIdeal.τ).loc Cert.AttValueWeightGradReferenceIdeal.main_arg2)
          ∧ r.2.mem ((c.tc : Thread Cert.AttValueWeightGradReferenceIdeal.nD Cert.AttValueWeightGradReferenceIdeal.τ).loc Cert.AttValueWeightGradReferenceIdeal.main_arg3) = m' ((c.tc : Thread Cert.AttValueWeightGradReferenceIdeal.nD Cert.AttValueWeightGradReferenceIdeal.τ).loc Cert.AttValueWeightGradReferenceIdeal.main_arg3)
          ∧ r.2.mem ((c.tc : Thread Cert.AttValueWeightGradReferenceIdeal.nD Cert.AttValueWeightGradReferenceIdeal.τ).loc Cert.AttValueWeightGradReferenceIdeal.main_arg4) = m' ((c.tc : Thread Cert.AttValueWeightGradReferenceIdeal.nD Cert.AttValueWeightGradReferenceIdeal.τ).loc Cert.AttValueWeightGradReferenceIdeal.main_arg4))

def Claim : Prop :=
  ∃ (hKernel : Cert.Kernel.Facts) (hKernelIdeal : Cert.KernelIdeal.Facts) (hReferenceIdeal : Cert.ReferenceIdeal.Facts) (hHiddenGradKernel : Cert.HiddenGradKernel.Facts) (hHiddenGradKernelIdeal : Cert.HiddenGradKernelIdeal.Facts) (hHiddenGradReferenceIdeal : Cert.HiddenGradReferenceIdeal.Facts) (hInputGradKernel : Cert.InputGradKernel.Facts) (hInputGradKernelIdeal : Cert.InputGradKernelIdeal.Facts) (hInputGradReferenceIdeal : Cert.InputGradReferenceIdeal.Facts) (hDownGradKernel : Cert.DownGradKernel.Facts) (hDownGradKernelIdeal : Cert.DownGradKernelIdeal.Facts) (hDownGradReferenceIdeal : Cert.DownGradReferenceIdeal.Facts) (hUpGradKernel : Cert.UpGradKernel.Facts) (hUpGradKernelIdeal : Cert.UpGradKernelIdeal.Facts) (hUpGradReferenceIdeal : Cert.UpGradReferenceIdeal.Facts) (hUpKernel : Cert.UpKernel.Facts) (hUpKernelIdeal : Cert.UpKernelIdeal.Facts) (hUpReferenceIdeal : Cert.UpReferenceIdeal.Facts) (hDownKernel : Cert.DownKernel.Facts) (hDownKernelIdeal : Cert.DownKernelIdeal.Facts) (hDownReferenceIdeal : Cert.DownReferenceIdeal.Facts) (hOutKernel : Cert.OutKernel.Facts) (hOutKernelIdeal : Cert.OutKernelIdeal.Facts) (hOutReferenceIdeal : Cert.OutReferenceIdeal.Facts) (hAttProjKernel : Cert.AttProjKernel.Facts) (hAttProjKernelIdeal : Cert.AttProjKernelIdeal.Facts) (hAttProjReferenceIdeal : Cert.AttProjReferenceIdeal.Facts) (hGlaProjKernel : Cert.GlaProjKernel.Facts) (hGlaProjKernelIdeal : Cert.GlaProjKernelIdeal.Facts) (hGlaProjReferenceIdeal : Cert.GlaProjReferenceIdeal.Facts) (hAttOutGradKernel : Cert.AttOutGradKernel.Facts) (hAttOutGradKernelIdeal : Cert.AttOutGradKernelIdeal.Facts) (hAttOutGradReferenceIdeal : Cert.AttOutGradReferenceIdeal.Facts) (hGlaOutGradKernel : Cert.GlaOutGradKernel.Facts) (hGlaOutGradKernelIdeal : Cert.GlaOutGradKernelIdeal.Facts) (hGlaOutGradReferenceIdeal : Cert.GlaOutGradReferenceIdeal.Facts) (hOutWeightGradKernel : Cert.OutWeightGradKernel.Facts) (hOutWeightGradKernelIdeal : Cert.OutWeightGradKernelIdeal.Facts) (hOutWeightGradReferenceIdeal : Cert.OutWeightGradReferenceIdeal.Facts) (hGlaProjGradKernel : Cert.GlaProjGradKernel.Facts) (hGlaProjGradKernelIdeal : Cert.GlaProjGradKernelIdeal.Facts) (hGlaProjGradReferenceIdeal : Cert.GlaProjGradReferenceIdeal.Facts) (hGlaWeightGradKernel : Cert.GlaWeightGradKernel.Facts) (hGlaWeightGradKernelIdeal : Cert.GlaWeightGradKernelIdeal.Facts) (hGlaWeightGradReferenceIdeal : Cert.GlaWeightGradReferenceIdeal.Facts) (hAttProjGradKernel : Cert.AttProjGradKernel.Facts) (hAttProjGradKernelIdeal : Cert.AttProjGradKernelIdeal.Facts) (hAttProjGradReferenceIdeal : Cert.AttProjGradReferenceIdeal.Facts) (hForwardKernel : Cert.ForwardKernel.Facts) (hForwardKernelIdeal : Cert.ForwardKernelIdeal.Facts) (hForwardReferenceIdeal : Cert.ForwardReferenceIdeal.Facts) (hAttKeyWeightGradKernel : Cert.AttKeyWeightGradKernel.Facts) (hAttKeyWeightGradKernelIdeal : Cert.AttKeyWeightGradKernelIdeal.Facts) (hAttKeyWeightGradReferenceIdeal : Cert.AttKeyWeightGradReferenceIdeal.Facts) (hAttValueWeightGradKernel : Cert.AttValueWeightGradKernel.Facts) (hAttValueWeightGradKernelIdeal : Cert.AttValueWeightGradKernelIdeal.Facts) (hAttValueWeightGradReferenceIdeal : Cert.AttValueWeightGradReferenceIdeal.Facts),
    quiescent_Kernel (hKernel := hKernel)
    ∧ quiescent_KernelIdeal (hKernelIdeal := hKernelIdeal)
    ∧ quiescent_ReferenceIdeal (hReferenceIdeal := hReferenceIdeal)
    ∧ quiescent_HiddenGradKernel (hHiddenGradKernel := hHiddenGradKernel)
    ∧ quiescent_HiddenGradKernelIdeal (hHiddenGradKernelIdeal := hHiddenGradKernelIdeal)
    ∧ quiescent_HiddenGradReferenceIdeal (hHiddenGradReferenceIdeal := hHiddenGradReferenceIdeal)
    ∧ quiescent_InputGradKernel (hInputGradKernel := hInputGradKernel)
    ∧ quiescent_InputGradKernelIdeal (hInputGradKernelIdeal := hInputGradKernelIdeal)
    ∧ quiescent_InputGradReferenceIdeal (hInputGradReferenceIdeal := hInputGradReferenceIdeal)
    ∧ quiescent_DownGradKernel (hDownGradKernel := hDownGradKernel)
    ∧ quiescent_DownGradKernelIdeal (hDownGradKernelIdeal := hDownGradKernelIdeal)
    ∧ quiescent_DownGradReferenceIdeal (hDownGradReferenceIdeal := hDownGradReferenceIdeal)
    ∧ quiescent_UpGradKernel (hUpGradKernel := hUpGradKernel)
    ∧ quiescent_UpGradKernelIdeal (hUpGradKernelIdeal := hUpGradKernelIdeal)
    ∧ quiescent_UpGradReferenceIdeal (hUpGradReferenceIdeal := hUpGradReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_AttProjKernel (hAttProjKernel := hAttProjKernel)
    ∧ quiescent_AttProjKernelIdeal (hAttProjKernelIdeal := hAttProjKernelIdeal)
    ∧ quiescent_AttProjReferenceIdeal (hAttProjReferenceIdeal := hAttProjReferenceIdeal)
    ∧ quiescent_GlaProjKernel (hGlaProjKernel := hGlaProjKernel)
    ∧ quiescent_GlaProjKernelIdeal (hGlaProjKernelIdeal := hGlaProjKernelIdeal)
    ∧ quiescent_GlaProjReferenceIdeal (hGlaProjReferenceIdeal := hGlaProjReferenceIdeal)
    ∧ quiescent_AttOutGradKernel (hAttOutGradKernel := hAttOutGradKernel)
    ∧ quiescent_AttOutGradKernelIdeal (hAttOutGradKernelIdeal := hAttOutGradKernelIdeal)
    ∧ quiescent_AttOutGradReferenceIdeal (hAttOutGradReferenceIdeal := hAttOutGradReferenceIdeal)
    ∧ quiescent_GlaOutGradKernel (hGlaOutGradKernel := hGlaOutGradKernel)
    ∧ quiescent_GlaOutGradKernelIdeal (hGlaOutGradKernelIdeal := hGlaOutGradKernelIdeal)
    ∧ quiescent_GlaOutGradReferenceIdeal (hGlaOutGradReferenceIdeal := hGlaOutGradReferenceIdeal)
    ∧ quiescent_OutWeightGradKernel (hOutWeightGradKernel := hOutWeightGradKernel)
    ∧ quiescent_OutWeightGradKernelIdeal (hOutWeightGradKernelIdeal := hOutWeightGradKernelIdeal)
    ∧ quiescent_OutWeightGradReferenceIdeal (hOutWeightGradReferenceIdeal := hOutWeightGradReferenceIdeal)
    ∧ quiescent_GlaProjGradKernel (hGlaProjGradKernel := hGlaProjGradKernel)
    ∧ quiescent_GlaProjGradKernelIdeal (hGlaProjGradKernelIdeal := hGlaProjGradKernelIdeal)
    ∧ quiescent_GlaProjGradReferenceIdeal (hGlaProjGradReferenceIdeal := hGlaProjGradReferenceIdeal)
    ∧ quiescent_GlaWeightGradKernel (hGlaWeightGradKernel := hGlaWeightGradKernel)
    ∧ quiescent_GlaWeightGradKernelIdeal (hGlaWeightGradKernelIdeal := hGlaWeightGradKernelIdeal)
    ∧ quiescent_GlaWeightGradReferenceIdeal (hGlaWeightGradReferenceIdeal := hGlaWeightGradReferenceIdeal)
    ∧ quiescent_AttProjGradKernel (hAttProjGradKernel := hAttProjGradKernel)
    ∧ quiescent_AttProjGradKernelIdeal (hAttProjGradKernelIdeal := hAttProjGradKernelIdeal)
    ∧ quiescent_AttProjGradReferenceIdeal (hAttProjGradReferenceIdeal := hAttProjGradReferenceIdeal)
    ∧ quiescent_ForwardKernel (hForwardKernel := hForwardKernel)
    ∧ quiescent_ForwardKernelIdeal (hForwardKernelIdeal := hForwardKernelIdeal)
    ∧ quiescent_ForwardReferenceIdeal (hForwardReferenceIdeal := hForwardReferenceIdeal)
    ∧ quiescent_AttKeyWeightGradKernel (hAttKeyWeightGradKernel := hAttKeyWeightGradKernel)
    ∧ quiescent_AttKeyWeightGradKernelIdeal (hAttKeyWeightGradKernelIdeal := hAttKeyWeightGradKernelIdeal)
    ∧ quiescent_AttKeyWeightGradReferenceIdeal (hAttKeyWeightGradReferenceIdeal := hAttKeyWeightGradReferenceIdeal)
    ∧ quiescent_AttValueWeightGradKernel (hAttValueWeightGradKernel := hAttValueWeightGradKernel)
    ∧ quiescent_AttValueWeightGradKernelIdeal (hAttValueWeightGradKernelIdeal := hAttValueWeightGradKernelIdeal)
    ∧ quiescent_AttValueWeightGradReferenceIdeal (hAttValueWeightGradReferenceIdeal := hAttValueWeightGradReferenceIdeal)
    ∧ preserves_Kernel_KernelIdeal
    ∧ algebraic_KernelIdeal_ReferenceIdeal (hKernelIdeal := hKernelIdeal) (hReferenceIdeal := hReferenceIdeal)
    ∧ preserves_HiddenGradKernel_HiddenGradKernelIdeal
    ∧ algebraic_HiddenGradKernelIdeal_HiddenGradReferenceIdeal (hHiddenGradKernelIdeal := hHiddenGradKernelIdeal) (hHiddenGradReferenceIdeal := hHiddenGradReferenceIdeal)
    ∧ preserves_InputGradKernel_InputGradKernelIdeal
    ∧ algebraic_InputGradKernelIdeal_InputGradReferenceIdeal (hInputGradKernelIdeal := hInputGradKernelIdeal) (hInputGradReferenceIdeal := hInputGradReferenceIdeal)
    ∧ preserves_DownGradKernel_DownGradKernelIdeal
    ∧ algebraic_DownGradKernelIdeal_DownGradReferenceIdeal (hDownGradKernelIdeal := hDownGradKernelIdeal) (hDownGradReferenceIdeal := hDownGradReferenceIdeal)
    ∧ preserves_UpGradKernel_UpGradKernelIdeal
    ∧ algebraic_UpGradKernelIdeal_UpGradReferenceIdeal (hUpGradKernelIdeal := hUpGradKernelIdeal) (hUpGradReferenceIdeal := hUpGradReferenceIdeal)
    ∧ preserves_UpKernel_UpKernelIdeal
    ∧ algebraic_UpKernelIdeal_UpReferenceIdeal (hUpKernelIdeal := hUpKernelIdeal) (hUpReferenceIdeal := hUpReferenceIdeal)
    ∧ preserves_DownKernel_DownKernelIdeal
    ∧ algebraic_DownKernelIdeal_DownReferenceIdeal (hDownKernelIdeal := hDownKernelIdeal) (hDownReferenceIdeal := hDownReferenceIdeal)
    ∧ preserves_OutKernel_OutKernelIdeal
    ∧ algebraic_OutKernelIdeal_OutReferenceIdeal (hOutKernelIdeal := hOutKernelIdeal) (hOutReferenceIdeal := hOutReferenceIdeal)
    ∧ preserves_AttProjKernel_AttProjKernelIdeal
    ∧ algebraic_AttProjKernelIdeal_AttProjReferenceIdeal (hAttProjKernelIdeal := hAttProjKernelIdeal) (hAttProjReferenceIdeal := hAttProjReferenceIdeal)
    ∧ preserves_GlaProjKernel_GlaProjKernelIdeal
    ∧ algebraic_GlaProjKernelIdeal_GlaProjReferenceIdeal (hGlaProjKernelIdeal := hGlaProjKernelIdeal) (hGlaProjReferenceIdeal := hGlaProjReferenceIdeal)
    ∧ preserves_AttOutGradKernel_AttOutGradKernelIdeal
    ∧ algebraic_AttOutGradKernelIdeal_AttOutGradReferenceIdeal (hAttOutGradKernelIdeal := hAttOutGradKernelIdeal) (hAttOutGradReferenceIdeal := hAttOutGradReferenceIdeal)
    ∧ preserves_GlaOutGradKernel_GlaOutGradKernelIdeal
    ∧ algebraic_GlaOutGradKernelIdeal_GlaOutGradReferenceIdeal (hGlaOutGradKernelIdeal := hGlaOutGradKernelIdeal) (hGlaOutGradReferenceIdeal := hGlaOutGradReferenceIdeal)
    ∧ preserves_OutWeightGradKernel_OutWeightGradKernelIdeal
    ∧ algebraic_OutWeightGradKernelIdeal_OutWeightGradReferenceIdeal (hOutWeightGradKernelIdeal := hOutWeightGradKernelIdeal) (hOutWeightGradReferenceIdeal := hOutWeightGradReferenceIdeal)
    ∧ preserves_GlaProjGradKernel_GlaProjGradKernelIdeal
    ∧ algebraic_GlaProjGradKernelIdeal_GlaProjGradReferenceIdeal (hGlaProjGradKernelIdeal := hGlaProjGradKernelIdeal) (hGlaProjGradReferenceIdeal := hGlaProjGradReferenceIdeal)
    ∧ preserves_GlaWeightGradKernel_GlaWeightGradKernelIdeal
    ∧ algebraic_GlaWeightGradKernelIdeal_GlaWeightGradReferenceIdeal (hGlaWeightGradKernelIdeal := hGlaWeightGradKernelIdeal) (hGlaWeightGradReferenceIdeal := hGlaWeightGradReferenceIdeal)
    ∧ preserves_AttProjGradKernel_AttProjGradKernelIdeal
    ∧ algebraic_AttProjGradKernelIdeal_AttProjGradReferenceIdeal (hAttProjGradKernelIdeal := hAttProjGradKernelIdeal) (hAttProjGradReferenceIdeal := hAttProjGradReferenceIdeal)
    ∧ preserves_ForwardKernel_ForwardKernelIdeal
    ∧ algebraic_ForwardKernelIdeal_ForwardReferenceIdeal (hForwardKernelIdeal := hForwardKernelIdeal) (hForwardReferenceIdeal := hForwardReferenceIdeal)
    ∧ preserves_AttKeyWeightGradKernel_AttKeyWeightGradKernelIdeal
    ∧ algebraic_AttKeyWeightGradKernelIdeal_AttKeyWeightGradReferenceIdeal (hAttKeyWeightGradKernelIdeal := hAttKeyWeightGradKernelIdeal) (hAttKeyWeightGradReferenceIdeal := hAttKeyWeightGradReferenceIdeal)
    ∧ preserves_AttValueWeightGradKernel_AttValueWeightGradKernelIdeal
    ∧ algebraic_AttValueWeightGradKernelIdeal_AttValueWeightGradReferenceIdeal (hAttValueWeightGradKernelIdeal := hAttValueWeightGradKernelIdeal) (hAttValueWeightGradReferenceIdeal := hAttValueWeightGradReferenceIdeal)
-- ==== Kernel.lean ====
abbrev S8192x3072 : Shape := ⟨2, ![8192, 3072]⟩
abbrev S8192x1024 : Shape := ⟨2, ![8192, 1024]⟩
abbrev S16x257 : Shape := ⟨2, ![16, 257]⟩
abbrev S16x1 : Shape := ⟨2, ![16, 1]⟩
abbrev S16 : Shape := ⟨1, ![16]⟩
abbrev S16x1x1 : Shape := ⟨3, ![16, 1, 1]⟩
abbrev S16x1x128 : Shape := ⟨3, ![16, 1, 128]⟩
abbrev S128x128 : Shape := ⟨2, ![128, 128]⟩
abbrev S_ : Shape := ⟨0, ![]⟩
abbrev S16x384 : Shape := ⟨2, ![16, 384]⟩
abbrev S128x128x1 : Shape := ⟨3, ![128, 128, 1]⟩
abbrev S16x128x128 : Shape := ⟨3, ![16, 128, 128]⟩
abbrev S16x1x128x128 : Shape := ⟨4, ![16, 1, 128, 128]⟩
abbrev S16x2x128x128 : Shape := ⟨4, ![16, 2, 128, 128]⟩
abbrev S1x1024 : Shape := ⟨2, ![1, 1024]⟩
abbrev S256x128 : Shape := ⟨2, ![256, 128]⟩
abbrev S2x2x128x128 : Shape := ⟨4, ![2, 2, 128, 128]⟩
abbrev S2x1x128 : Shape := ⟨3, ![2, 1, 128]⟩
abbrev S8192x128 : Shape := ⟨2, ![8192, 128]⟩
abbrev S1x128 : Shape := ⟨2, ![1, 128]⟩
abbrev S512x768 : Shape := ⟨2, ![512, 768]⟩
abbrev S1x2x128x128 : Shape := ⟨4, ![1, 2, 128, 128]⟩
abbrev S2x128x128 : Shape := ⟨3, ![2, 128, 128]⟩
abbrev S1x1x128 : Shape := ⟨3, ![1, 1, 128]⟩
abbrev S256x768 : Shape := ⟨2, ![256, 768]⟩
abbrev S1x128x128 : Shape := ⟨3, ![1, 128, 128]⟩
abbrev S128x768 : Shape := ⟨2, ![128, 768]⟩
abbrev S768x128 : Shape := ⟨2, ![768, 128]⟩
abbrev S1x768 : Shape := ⟨2, ![1, 768]⟩
abbrev S512x128 : Shape := ⟨2, ![512, 128]⟩
abbrev S512 : Shape := ⟨1, ![512]⟩
abbrev S512x1 : Shape := ⟨2, ![512, 1]⟩
abbrev S1x1x128x128 : Shape := ⟨4, ![1, 1, 128, 128]⟩
abbrev S128 : Shape := ⟨1, ![128]⟩

abbrev nBuf : Space → Nat
  | .hbm => 89
  | .vmem => 37
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S16x257, .f32⟩
  | .hbm, ⟨3, _⟩ => ⟨S16x1, .f32⟩
  | .hbm, ⟨4, _⟩ => ⟨S16, .f32⟩
  | .hbm, ⟨5, _⟩ => ⟨S16x1x1, .f32⟩
  | .hbm, ⟨6, _⟩ => ⟨S16x1x128, .f32⟩
  | .hbm, ⟨7, _⟩ => ⟨S128x128, .i32⟩
  | .hbm, ⟨8, _⟩ => ⟨S128x128, .i32⟩
  | .hbm, ⟨9, _⟩ => ⟨S_, .f32⟩
  | .hbm, ⟨10, _⟩ => ⟨S_, .f32⟩
  | .hbm, ⟨11, _⟩ => ⟨S16x384, .f32⟩
  | .hbm, ⟨12, _⟩ => ⟨S_, .i32⟩
  | .hbm, ⟨13, _⟩ => ⟨S128x128, .i32⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i32⟩
  | .hbm, ⟨18, _⟩ => ⟨S_, .i32⟩
  | .hbm, ⟨19, _⟩ => ⟨S128x128, .i32⟩
  | .hbm, ⟨20, _⟩ => ⟨S128x128, .i32⟩
  | .hbm, ⟨21, _⟩ => ⟨S128x128, .i32⟩
  | .hbm, ⟨22, _⟩ => ⟨S_, .i32⟩
  | .hbm, ⟨23, _⟩ => ⟨S128x128, .i32⟩
  | .hbm, ⟨24, _⟩ => ⟨S128x128, .i1⟩
  | .hbm, ⟨25, _⟩ => ⟨S_, .i32⟩
  | .hbm, ⟨26, _⟩ => ⟨S128x128, .i32⟩
  | .hbm, ⟨27, _⟩ => ⟨S128x128, .i1⟩
  | .hbm, ⟨28, _⟩ => ⟨S128x128, .i1⟩
  | .hbm, ⟨29, _⟩ => ⟨S_, .i32⟩
  | .hbm, ⟨30, _⟩ => ⟨S128x128, .i32⟩
  | .hbm, ⟨31, _⟩ => ⟨S128x128, .i32⟩
  | .hbm, ⟨32, _⟩ => ⟨S128x128, .i32⟩
  | .hbm, ⟨33, _⟩ => ⟨S_, .i32⟩
  | .hbm, ⟨34, _⟩ => ⟨S128x128, .i32⟩
  | .hbm, ⟨35, _⟩ => ⟨S128x128, .i32⟩
  | .hbm, ⟨36, _⟩ => ⟨S_, .i32⟩
  | .hbm, ⟨37, _⟩ => ⟨S128x128, .i32⟩
  | .hbm, ⟨38, _⟩ => ⟨S128x128, .i32⟩
  | .hbm, ⟨39, _⟩ => ⟨S_, .i32⟩
  | .hbm, ⟨40, _⟩ => ⟨S_, .i32⟩
  | .hbm, ⟨41, _⟩ => ⟨S128x128, .i32⟩
  | .hbm, ⟨42, _⟩ => ⟨S128x128, .i32⟩
  | .hbm, ⟨43, _⟩ => ⟨S128x128x1, .i32⟩
  | .hbm, ⟨44, _⟩ => ⟨S16x128x128, .f32⟩
  | .hbm, ⟨45, _⟩ => ⟨S_, .i32⟩
  | .hbm, ⟨46, _⟩ => ⟨S128x128, .i32⟩
  | .hbm, ⟨47, _⟩ => ⟨S128x128, .i32⟩
  | .hbm, ⟨48, _⟩ => ⟨S_, .i32⟩
  | .hbm, ⟨49, _⟩ => ⟨S128x128, .i32⟩
  | .hbm, ⟨50, _⟩ => ⟨S128x128, .i32⟩
  | .hbm, ⟨51, _⟩ => ⟨S_, .i32⟩
  | .hbm, ⟨52, _⟩ => ⟨S128x128, .i32⟩
  | .hbm, ⟨53, _⟩ => ⟨S128x128, .i32⟩
  | .hbm, ⟨54, _⟩ => ⟨S128x128, .i32⟩
  | .hbm, ⟨55, _⟩ => ⟨S_, .i32⟩
  | .hbm, ⟨56, _⟩ => ⟨S128x128, .i32⟩
  | .hbm, ⟨57, _⟩ => ⟨S128x128, .i1⟩
  | .hbm, ⟨58, _⟩ => ⟨S_, .i32⟩
  | .hbm, ⟨59, _⟩ => ⟨S128x128, .i32⟩
  | .hbm, ⟨60, _⟩ => ⟨S128x128, .i1⟩
  | .hbm, ⟨61, _⟩ => ⟨S128x128, .i1⟩
  | .hbm, ⟨62, _⟩ => ⟨S_, .i32⟩
  | .hbm, ⟨63, _⟩ => ⟨S128x128, .i32⟩
  | .hbm, ⟨64, _⟩ => ⟨S128x128, .i32⟩
  | .hbm, ⟨65, _⟩ => ⟨S128x128, .i32⟩
  | .hbm, ⟨66, _⟩ => ⟨S_, .i32⟩
  | .hbm, ⟨67, _⟩ => ⟨S128x128, .i32⟩
  | .hbm, ⟨68, _⟩ => ⟨S128x128, .i32⟩
  | .hbm, ⟨69, _⟩ => ⟨S_, .i32⟩
  | .hbm, ⟨70, _⟩ => ⟨S128x128, .i32⟩
  | .hbm, ⟨71, _⟩ => ⟨S128x128, .i32⟩
  | .hbm, ⟨72, _⟩ => ⟨S_, .i32⟩
  | .hbm, ⟨73, _⟩ => ⟨S_, .i32⟩
  | .hbm, ⟨74, _⟩ => ⟨S128x128, .i32⟩
  | .hbm, ⟨75, _⟩ => ⟨S128x128, .i32⟩
  | .hbm, ⟨76, _⟩ => ⟨S128x128x1, .i32⟩
  | .hbm, ⟨77, _⟩ => ⟨S16x128x128, .f32⟩
  | .hbm, ⟨78, _⟩ => ⟨S16x1x128x128, .f32⟩
  | .hbm, ⟨79, _⟩ => ⟨S16x1x128x128, .f32⟩
  | .hbm, ⟨80, _⟩ => ⟨S16x2x128x128, .f32⟩
  | .hbm, ⟨81, _⟩ => ⟨S8192x1024, .bf16⟩
  | .hbm, ⟨82, _⟩ => ⟨S8192x1024, .f32⟩
  | .hbm, ⟨83, _⟩ => ⟨S8192x1024, .f32⟩
  | .hbm, ⟨84, _⟩ => ⟨S16x2x128x128, .f32⟩
  | .hbm, ⟨85, _⟩ => ⟨S16x1x128, .f32⟩
  | .hbm, ⟨86, _⟩ => ⟨S1x1024, .f32⟩
  | .hbm, ⟨87, _⟩ => ⟨S1x1024, .f32⟩
  | .hbm, ⟨88, _⟩ => ⟨S1x1024, .f32⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S256x128, .bf16⟩
  | .local _ .vmem, ⟨13, _⟩ => ⟨S256x128, .bf16⟩
  | .local _ .vmem, ⟨14, _⟩ => ⟨S2x2x128x128, .f32⟩
  | .local _ .vmem, ⟨15, _⟩ => ⟨S2x2x128x128, .f32⟩
  | .local _ .vmem, ⟨16, _⟩ => ⟨S2x1x128, .f32⟩
  | .local _ .vmem, ⟨17, _⟩ => ⟨S2x1x128, .f32⟩
  | .local _ .vmem, ⟨18, _⟩ => ⟨S256x128, .bf16⟩
  | .local _ .vmem, ⟨19, _⟩ => ⟨S256x128, .bf16⟩
  | .local _ .vmem, ⟨20, _⟩ => ⟨S256x128, .bf16⟩
  | .local _ .vmem, ⟨21, _⟩ => ⟨S256x128, .bf16⟩
  | .local _ .vmem, ⟨22, _⟩ => ⟨S8192x128, .f32⟩
  | .local _ .vmem, ⟨23, _⟩ => ⟨S8192x128, .f32⟩
  | .local _ .vmem, ⟨24, _⟩ => ⟨S8192x128, .f32⟩
  | .local _ .vmem, ⟨25, _⟩ => ⟨S8192x128, .f32⟩
  | .local _ .vmem, ⟨26, _⟩ => ⟨S2x2x128x128, .f32⟩
  | .local _ .vmem, ⟨27, _⟩ => ⟨S2x2x128x128, .f32⟩
  | .local _ .vmem, ⟨28, _⟩ => ⟨S2x1x128, .f32⟩
  | .local _ .vmem, ⟨29, _⟩ => ⟨S2x1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S512x768, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_call0_v0 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_c_6 : Ref sig .tc := ⟨.hbm, 36, rfl⟩
abbrev main_v24 : Ref sig .tc := ⟨.hbm, 37, rfl⟩
abbrev main_v25 : Ref sig .tc := ⟨.hbm, 38, rfl⟩
abbrev main_c_7 : Ref sig .tc := ⟨.hbm, 39, rfl⟩
abbrev main_call1_v0 : Ref sig .tc := ⟨.hbm, 40, rfl⟩
abbrev main_call1_v1 : Ref sig .tc := ⟨.hbm, 41, rfl⟩
abbrev main_v26 : Ref sig .tc := ⟨.hbm, 42, rfl⟩
abbrev main_call2_v0 : Ref sig .tc := ⟨.hbm, 43, rfl⟩
abbrev main_v27 : Ref sig .tc := ⟨.hbm, 44, rfl⟩
abbrev main_c_8 : Ref sig .tc := ⟨.hbm, 45, rfl⟩
abbrev main_v28 : Ref sig .tc := ⟨.hbm, 46, rfl⟩
abbrev main_v29 : Ref sig .tc := ⟨.hbm, 47, rfl⟩
abbrev main_c_9 : Ref sig .tc := ⟨.hbm, 48, rfl⟩
abbrev main_v30 : Ref sig .tc := ⟨.hbm, 49, rfl⟩
abbrev main_v31 : Ref sig .tc := ⟨.hbm, 50, rfl⟩
abbrev main_c_10 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_11 : Ref sig .tc := ⟨.hbm, 55, rfl⟩
abbrev main_v35 : Ref sig .tc := ⟨.hbm, 56, rfl⟩
abbrev main_v36 : Ref sig .tc := ⟨.hbm, 57, rfl⟩
abbrev main_c_12 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_13 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_14 : Ref sig .tc := ⟨.hbm, 66, rfl⟩
abbrev main_v43 : Ref sig .tc := ⟨.hbm, 67, rfl⟩
abbrev main_v44 : Ref sig .tc := ⟨.hbm, 68, rfl⟩
abbrev main_c_15 : Ref sig .tc := ⟨.hbm, 69, rfl⟩
abbrev main_v45 : Ref sig .tc := ⟨.hbm, 70, rfl⟩
abbrev main_v46 : Ref sig .tc := ⟨.hbm, 71, rfl⟩
abbrev main_c_16 : Ref sig .tc := ⟨.hbm, 72, rfl⟩
abbrev main_call3_v0 : Ref sig .tc := ⟨.hbm, 73, rfl⟩
abbrev main_call3_v1 : Ref sig .tc := ⟨.hbm, 74, rfl⟩
abbrev main_v47 : Ref sig .tc := ⟨.hbm, 75, rfl⟩
abbrev main_call4_v0 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52_0 : Ref sig .tc := ⟨.hbm, 81, rfl⟩
abbrev main_v52_1 : Ref sig .tc := ⟨.hbm, 82, rfl⟩
abbrev main_v52_2 : Ref sig .tc := ⟨.hbm, 83, rfl⟩
abbrev main_v52_3 : Ref sig .tc := ⟨.hbm, 84, rfl⟩
abbrev main_v52_4 : Ref sig .tc := ⟨.hbm, 85, rfl⟩
abbrev main_v52_5 : Ref sig .tc := ⟨.hbm, 86, rfl⟩
abbrev main_v52_6 : Ref sig .tc := ⟨.hbm, 87, rfl⟩
abbrev main_v52_7 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c2_i32_87 : BitVec 32 := 2#32
  let v177 : BitVec 32 := Scalar.subi arg1 c2_i32_87
  let c0_i32_88 : BitVec 32 := 0#32
  let v178 : BitVec 32 := Scalar.addi v177 c0_i32_88
  let c0_i32_89 : BitVec 32 := 0#32
  let v179 : BitVec 1 := Scalar.cmpi .sge v178 c0_i32_89
  let v180 : BitVec 32 := Scalar.extui v179
  let c0_i32_90 : BitVec 32 := 0#32
  let v181 : BitVec 1 := Scalar.cmpi .ne v180 c0_i32_90
  v181

def k0_mult1 (i : grid0.Coords) : BitVec 32 :=
  let arg1 : BitVec 32 := BitVec.ofNat 32 (i 1).val
  let c2_i32_87 : BitVec 32 := 2#32
  let v177 : BitVec 32 := Scalar.subi arg1 c2_i32_87
  let c0_i32_88 : BitVec 32 := 0#32
  let v178 : BitVec 32 := Scalar.addi v177 c0_i32_88
  let c256_i32_99 : BitVec 32 := 256#32
  let v195 : BitVec 32 := Scalar.muli v178 c256_i32_99
  v195
def k0_off1 (i : grid0.Coords) : Fin 2 → Nat :=
  let arg1 : BitVec 32 := BitVec.ofNat 32 (i 1).val
  let c2_i32_87 : BitVec 32 := 2#32
  let v177 : BitVec 32 := Scalar.subi arg1 c2_i32_87
  let c0_i32_88 : BitVec 32 := 0#32
  let v178 : BitVec 32 := Scalar.addi v177 c0_i32_88
  let c256_i32_99 : BitVec 32 := 256#32
  let v195 : BitVec 32 := Scalar.muli v178 c256_i32_99
  let v196 : BitVec 32 := v195
  let v197 : Index := Scalar.indexCast v196
  let c0_100 : Index := 0#32
  ![v197.toNat, 0]
def k0_cond3 (i : grid0.Coords) : BitVec 1 :=
  let arg1 : BitVec 32 := BitVec.ofNat 32 (i 1).val
  let c2_i32_91 : BitVec 32 := 2#32
  let v182 : BitVec 32 := Scalar.subi arg1 c2_i32_91
  let c1_i32 : BitVec 32 := 1#32
  let v183 : BitVec 32 := Scalar.addi v182 c1_i32
  let c0_i32_92 : BitVec 32 := 0#32
  let v184 : BitVec 1 := Scalar.cmpi .sge v183 c0_i32_92
  let v185 : BitVec 32 := Scalar.extui v184
  let c0_i32_93 : BitVec 32 := 0#32
  let v186 : BitVec 1 := Scalar.cmpi .ne v185 c0_i32_93
  v186

def k0_mult2 (i : grid0.Coords) : BitVec 32 :=
  let arg1 : BitVec 32 := BitVec.ofNat 32 (i 1).val
  let c2_i32_91 : BitVec 32 := 2#32
  let v182 : BitVec 32 := Scalar.subi arg1 c2_i32_91
  let c1_i32 : BitVec 32 := 1#32
  let v183 : BitVec 32 := Scalar.addi v182 c1_i32
  let c256_i32_99 : BitVec 32 := 256#32
  let v195 : BitVec 32 := Scalar.muli v183 c256_i32_99
  v195
def k0_off2 (i : grid0.Coords) : Fin 2 → Nat :=
  let arg1 : BitVec 32 := BitVec.ofNat 32 (i 1).val
  let c2_i32_91 : BitVec 32 := 2#32
  let v182 : BitVec 32 := Scalar.subi arg1 c2_i32_91
  let c1_i32 : BitVec 32 := 1#32
  let v183 : BitVec 32 := Scalar.addi v182 c1_i32
  let c256_i32_99 : BitVec 32 := 256#32
  let v195 : BitVec 32 := Scalar.muli v183 c256_i32_99
  let v196 : BitVec 32 := v195
  let v197 : Index := Scalar.indexCast v196
  let c0_100 : Index := 0#32
  ![v197.toNat, 0]
def k0_cond4 (i : grid0.Coords) : BitVec 1 :=
  let arg1 : BitVec 32 := BitVec.ofNat 32 (i 1).val
  let c2_i32_94 : BitVec 32 := 2#32
  let v187 : BitVec 32 := Scalar.subi arg1 c2_i32_94
  let c2_i32_95 : BitVec 32 := 2#32
  let v188 : BitVec 32 := Scalar.addi v187 c2_i32_95
  let c0_i32_96 : BitVec 32 := 0#32
  let v189 : BitVec 1 := Scalar.cmpi .sge v188 c0_i32_96
  let v190 : BitVec 32 := Scalar.extui v189
  let c0_i32_97 : BitVec 32 := 0#32
  let v191 : BitVec 1 := Scalar.cmpi .ne v190 c0_i32_97
  v191

def k0_mult3 (i : grid0.Coords) : BitVec 32 :=
  let arg1 : BitVec 32 := BitVec.ofNat 32 (i 1).val
  let c2_i32_94 : BitVec 32 := 2#32
  let v187 : BitVec 32 := Scalar.subi arg1 c2_i32_94
  let c2_i32_95 : BitVec 32 := 2#32
  let v188 : BitVec 32 := Scalar.addi v187 c2_i32_95
  let c256_i32_99 : BitVec 32 := 256#32
  let v195 : BitVec 32 := Scalar.muli v188 c256_i32_99
  v195
def k0_off3 (i : grid0.Coords) : Fin 2 → Nat :=
  let arg1 : BitVec 32 := BitVec.ofNat 32 (i 1).val
  let c2_i32_94 : BitVec 32 := 2#32
  let v187 : BitVec 32 := Scalar.subi arg1 c2_i32_94
  let c2_i32_95 : BitVec 32 := 2#32
  let v188 : BitVec 32 := Scalar.addi v187 c2_i32_95
  let c256_i32_99 : BitVec 32 := 256#32
  let v195 : BitVec 32 := Scalar.muli v188 c256_i32_99
  let v196 : BitVec 32 := v195
  let v197 : Index := Scalar.indexCast v196
  let c0_100 : Index := 0#32
  ![v197.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond5 (i : grid0.Coords) : BitVec 1 :=
  let arg1 : BitVec 32 := BitVec.ofNat 32 (i 1).val
  let c31_i32 : BitVec 32 := 31#32
  let v192 : BitVec 1 := Scalar.cmpi .eq arg1 c31_i32
  let v193 : BitVec 32 := Scalar.extui v192
  let c0_i32_98 : BitVec 32 := 0#32
  let v194 : BitVec 1 := Scalar.cmpi .ne v193 c0_i32_98
  v194

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c8_i32 : BitVec 32 := 8#32
  let v2 : BitVec 32 := Scalar.addi c8_i32 arg0
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c8_i32 : BitVec 32 := 8#32
  let v2 : BitVec 32 := Scalar.addi c8_i32 arg0
  let c0_i32_0 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c8_i32 : BitVec 32 := 8#32
  let v2 : BitVec 32 := Scalar.addi c8_i32 arg0
  let c0_i32_1 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c16_i32 : BitVec 32 := 16#32
  let v2 : BitVec 32 := Scalar.addi c16_i32 arg0
  let c0_i32_0 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c16_i32 : BitVec 32 := 16#32
  let v2 : BitVec 32 := Scalar.addi c16_i32 arg0
  let c0_i32_0 : BitVec 32 := 0#32
  ![v1.toNat, v2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c16_i32 : BitVec 32 := 16#32
  let v2 : BitVec 32 := Scalar.addi c16_i32 arg0
  let c0_i32_1 : BitVec 32 := 0#32
  ![v1.toNat, v2.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x2x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8192x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S8192x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S2x2x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S2x1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8192x3072 : Shape := ⟨2, ![8192, 3072]⟩
abbrev S8192x1024 : Shape := ⟨2, ![8192, 1024]⟩
abbrev S16x257 : Shape := ⟨2, ![16, 257]⟩
abbrev S8192x8192 : Shape := ⟨2, ![8192, 8192]⟩
abbrev S128x64 : Shape := ⟨2, ![128, 64]⟩
abbrev S8192 : Shape := ⟨1, ![8192]⟩
abbrev S8192x1 : Shape := ⟨2, ![8192, 1]⟩
abbrev S1x8192 : Shape := ⟨2, ![1, 8192]⟩
abbrev S_ : Shape := ⟨0, ![]⟩
abbrev S8192x8192x1 : Shape := ⟨3, ![8192, 8192, 1]⟩
abbrev S16x8192x8192 : Shape := ⟨3, ![16, 8192, 8192]⟩
abbrev S8192x16x64 : Shape := ⟨3, ![8192, 16, 64]⟩
abbrev S16x8192x64 : Shape := ⟨3, ![16, 8192, 64]⟩
abbrev S16x8192 : Shape := ⟨2, ![16, 8192]⟩
abbrev S16x8192x1 : Shape := ⟨3, ![16, 8192, 1]⟩
abbrev S16x64x8192 : Shape := ⟨3, ![16, 64, 8192]⟩
abbrev S1024 : Shape := ⟨1, ![1024]⟩
abbrev S1x1024 : Shape := ⟨2, ![1, 1024]⟩

abbrev nBuf : Space → Nat
  | .hbm => 132
  | .vmem => 0
  | .smem => 0
  | _ => 0

abbrev hbmTy0_0 (i : Nat) : BufTy := match i % 128 with
  | 0 => ⟨S8192x3072, .bf16⟩
  | 1 => ⟨S8192x1024, .bf16⟩
  | 2 => ⟨S16x257, .f32⟩
  | 3 => ⟨S8192x8192, .i32⟩
  | 4 => ⟨S8192x8192, .i32⟩
  | 5 => ⟨S128x64, .i32⟩
  | 6 => ⟨S8192, .i32⟩
  | 7 => ⟨S8192x1, .i32⟩
  | 8 => ⟨S1x8192, .i32⟩
  | 9 => ⟨S8192x8192, .i32⟩
  | 10 => ⟨S8192x8192, .i32⟩
  | 11 => ⟨S8192x8192, .i32⟩
  | 12 => ⟨S_, .i32⟩
  | 13 => ⟨S8192x8192, .i32⟩
  | 14 => ⟨S8192x8192, .i1⟩
  | 15 => ⟨S_, .i32⟩
  | 16 => ⟨S8192x8192, .i32⟩
  | 17 => ⟨S8192x8192, .i1⟩
  | 18 => ⟨S8192x8192, .i1⟩
  | 19 => ⟨S8192x8192, .i32⟩
  | 20 => ⟨S_, .i32⟩
  | 21 => ⟨S_, .i32⟩
  | 22 => ⟨S_, .i32⟩
  | 23 => ⟨S8192x8192, .i32⟩
  | 24 => ⟨S8192x8192, .i32⟩
  | 25 => ⟨S_, .i32⟩
  | 26 => ⟨S8192x8192, .i32⟩
  | 27 => ⟨S8192x8192, .i32⟩
  | 28 => ⟨S_, .i32⟩
  | 29 => ⟨S8192x8192, .i32⟩
  | 30 => ⟨S8192x8192, .i32⟩
  | 31 => ⟨S8192x8192x1, .i32⟩
  | 32 => ⟨S16x8192x8192, .f32⟩
  | 33 => ⟨S8192x3072, .f32⟩
  | 34 => ⟨S8192x1024, .f32⟩
  | 35 => ⟨S8192x1024, .f32⟩
  | 36 => ⟨S8192x1024, .f32⟩
  | 37 => ⟨S8192x16x64, .f32⟩
  | 38 => ⟨S16x8192x64, .f32⟩
  | 39 => ⟨S_, .f32⟩
  | 40 => ⟨S16x8192x64, .f32⟩
  | 41 => ⟨S16x8192x64, .f32⟩
  | 42 => ⟨S8192x16x64, .f32⟩
  | 43 => ⟨S16x8192x64, .f32⟩
  | 44 => ⟨S16x8192x8192, .f32⟩
  | 45 => ⟨S16x8192x8192, .f32⟩
  | 46 => ⟨S_, .f32⟩
  | 47 => ⟨S_, .f32⟩
  | 48 => ⟨S16x8192x8192, .i1⟩
  | 49 => ⟨S16x8192x8192, .f32⟩
  | 50 => ⟨S16x8192x8192, .f32⟩
  | 51 => ⟨S_, .f32⟩
  | 52 => ⟨S16x8192x8192, .f32⟩
  | 53 => ⟨S_, .f32⟩
  | 54 => ⟨S16x8192, .f32⟩
  | 55 => ⟨S16x8192x1, .f32⟩
  | 56 => ⟨S16x8192x8192, .f32⟩
  | 57 => ⟨S16x8192x8192, .i1⟩
  | 58 => ⟨S16x8192x8192, .f32⟩
  | 59 => ⟨S_, .f32⟩
  | 60 => ⟨S16x8192, .f32⟩
  | 61 => ⟨S16x8192x1, .f32⟩
  | 62 => ⟨S16x8192x8192, .f32⟩
  | 63 => ⟨S16x8192x8192, .f32⟩
  | 64 => ⟨S16x8192x8192, .f32⟩
  | 65 => ⟨S_, .f32⟩
  | 66 => ⟨S16x8192, .f32⟩
  | 67 => ⟨S16x8192x1, .f32⟩
  | 68 => ⟨S_, .f32⟩
  | 69 => ⟨S16x8192x1, .f32⟩
  | 70 => ⟨S16x8192x1, .f32⟩
  | 71 => ⟨S16x8192x1, .f32⟩
  | 72 => ⟨S_, .f32⟩
  | 73 => ⟨S16x8192x1, .f32⟩
  | 74 => ⟨S16x8192x1, .f32⟩
  | 75 => ⟨S16x8192x8192, .f32⟩
  | 76 => ⟨S16x8192x8192, .f32⟩
  | 77 => ⟨S8192x16x64, .f32⟩
  | 78 => ⟨S16x8192x64, .f32⟩
  | 79 => ⟨S16x8192x64, .f32⟩
  | 80 => ⟨S8192x16x64, .f32⟩
  | 81 => ⟨S8192x1024, .f32⟩
  | 82 => ⟨S8192x1024, .f32⟩
  | 83 => ⟨S8192x16x64, .f32⟩
  | 84 => ⟨S16x8192x64, .f32⟩
  | 85 => ⟨S16x64x8192, .f32⟩
  | 86 => ⟨S16x8192x64, .f32⟩
  | 87 => ⟨S16x8192x8192, .f32⟩
  | 88 => ⟨S8192x16x64, .f32⟩
  | 89 => ⟨S8192x1024, .f32⟩
  | 90 => ⟨S16x8192x8192, .f32⟩
  | 91 => ⟨S_, .f32⟩
  | 92 => ⟨S16x8192, .f32⟩
  | 93 => ⟨S16x8192x1, .f32⟩
  | 94 => ⟨S16x8192x8192, .f32⟩
  | 95 => ⟨S16x8192x8192, .f32⟩
  | 96 => ⟨S16x8192x1, .f32⟩
  | 97 => ⟨S_, .f32⟩
  | 98 => ⟨S16x8192x1, .f32⟩
  | 99 => ⟨S16x8192x1, .f32⟩
  | 100 => ⟨S16x8192x1, .f32⟩
  | 101 => ⟨S_, .f32⟩
  | 102 => ⟨S16x8192, .f32⟩
  | 103 => ⟨S16x8192x8192, .f32⟩
  | 104 => ⟨S16x8192x8192, .f32⟩
  | 105 => ⟨S16x8192x8192, .f32⟩
  | 106 => ⟨S_, .f32⟩
  | 107 => ⟨S16x8192x8192, .f32⟩
  | 108 => ⟨S16x8192x8192, .f32⟩
  | 109 => ⟨S16x8192x64, .f32⟩
  | 110 => ⟨S16x8192x64, .f32⟩
  | 111 => ⟨S8192x16x64, .f32⟩
  | 112 => ⟨S8192x1024, .f32⟩
  | 113 => ⟨S_, .f32⟩
  | 114 => ⟨S16x8192x64, .f32⟩
  | 115 => ⟨S16x8192x64, .f32⟩
  | 116 => ⟨S8192x16x64, .f32⟩
  | 117 => ⟨S8192x1024, .f32⟩
  | 118 => ⟨S8192x3072, .f32⟩
  | 119 => ⟨S8192x1024, .f32⟩
  | 120 => ⟨S8192x1024, .f32⟩
  | 121 => ⟨S8192x1024, .f32⟩
  | 122 => ⟨S_, .f32⟩
  | 123 => ⟨S1024, .f32⟩
  | 124 => ⟨S1x1024, .f32⟩
  | 125 => ⟨S_, .f32⟩
  | 126 => ⟨S1024, .f32⟩
  | 127 => ⟨S1x1024, .f32⟩
  | _ => ⟨S8192x3072, .bf16⟩

abbrev hbmTy0_1 (i : Nat) : BufTy := match i % 128 with
  | 0 => ⟨S_, .f32⟩
  | 1 => ⟨S1024, .f32⟩
  | 2 => ⟨S1x1024, .f32⟩
  | 3 => ⟨S8192x1024, .bf16⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_c_2 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_call1_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_call2_v0 : Ref sig .tc := ⟨.hbm, 47, rfl⟩
abbrev main_v31_1 : Ref sig .tc := ⟨.hbm, 48, rfl⟩
abbrev main_call2_v2 : Ref sig .tc := ⟨.hbm, 49, rfl⟩
abbrev main_v31_0 : Ref sig .tc := ⟨.hbm, 50, rfl⟩
abbrev main_call2_cst : Ref sig .tc := ⟨.hbm, 51, rfl⟩
abbrev main_v31_2 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_10 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_11 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_12 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_call3_cst : Ref sig .tc := ⟨.hbm, 106, rfl⟩
abbrev main_call3_v0 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_13 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_14 : Ref sig .tc := ⟨.hbm, 122, rfl⟩
abbrev main_v90 : Ref sig .tc := ⟨.hbm, 123, rfl⟩
abbrev main_v91 : Ref sig .tc := ⟨.hbm, 124, rfl⟩
abbrev main_cst_15 : Ref sig .tc := ⟨.hbm, 125, rfl⟩
abbrev main_v92 : Ref sig .tc := ⟨.hbm, 126, rfl⟩
abbrev main_v93 : Ref sig .tc := ⟨.hbm, 127, rfl⟩
abbrev main_cst_16 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩

abbrev nD : Nat := 1
abbrev τ : Topo := Topo.v7x

variable {F : FTy → Type} [FloatOps F]

def κ : String → Option EReal := fun
  | "mask" => some ⊥
  | _ => none
-- ==== HiddenGradKernel.lean ====
abbrev S8192x1024 : Shape := ⟨2, ![8192, 1024]⟩
abbrev S1x4096x1024 : Shape := ⟨3, ![1, 4096, 1024]⟩
abbrev S8192x4096 : Shape := ⟨2, ![8192, 4096]⟩
abbrev S1024x1024 : Shape := ⟨2, ![1024, 1024]⟩
abbrev S1x1024x1024 : Shape := ⟨3, ![1, 1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1x4096x1024, .bf16⟩
  | .hbm, ⟨2, _⟩ => ⟨S8192x4096, .bf16⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== HiddenGradReferenceIdeal.lean ====
abbrev S8192x1024 : Shape := ⟨2, ![8192, 1024]⟩
abbrev S1x4096x1024 : Shape := ⟨3, ![1, 4096, 1024]⟩
abbrev S8192x4096 : Shape := ⟨2, ![8192, 4096]⟩
abbrev S_ : Shape := ⟨0, ![]⟩
abbrev S4096x1024 : Shape := ⟨2, ![4096, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x4096x1024, .bf16⟩
  | .hbm, ⟨2, _⟩ => ⟨S8192x4096, .bf16⟩
  | .hbm, ⟨3, _⟩ => ⟨S8192x4096, .f32⟩
  | .hbm, ⟨4, _⟩ => ⟨S1x4096x1024, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .i1⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S4096x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== InputGradKernel.lean ====
abbrev S8192x4096 : Shape := ⟨2, ![8192, 4096]⟩
abbrev S1x1024x4096 : Shape := ⟨3, ![1, 1024, 4096]⟩
abbrev S8192x1024 : Shape := ⟨2, ![8192, 1024]⟩
abbrev S1024x4096 : Shape := ⟨2, ![1024, 4096]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S1x1024x4096, .bf16⟩
  | .hbm, ⟨2, _⟩ => ⟨S8192x1024, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1024x1024, .f32⟩
  | .local _ .vmem, ⟨4, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InputGradReferenceIdeal.lean ====
abbrev S8192x4096 : Shape := ⟨2, ![8192, 4096]⟩
abbrev S1x1024x4096 : Shape := ⟨3, ![1, 1024, 4096]⟩
abbrev S_ : Shape := ⟨0, ![]⟩
abbrev S8192x1024 : Shape := ⟨2, ![8192, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x1024x4096, .bf16⟩
  | .hbm, ⟨2, _⟩ => ⟨S_, .f32⟩
  | .hbm, ⟨3, _⟩ => ⟨S8192x1024, .f32⟩
  | .hbm, ⟨4, _⟩ => ⟨S1024x4096, .bf16⟩
  | .hbm, ⟨5, _⟩ => ⟨S1024x4096, .f32⟩
  | .hbm, ⟨6, _⟩ => ⟨S8192x4096, .f32⟩
  | .hbm, ⟨7, _⟩ => ⟨S8192x4096, .f32⟩
  | .hbm, ⟨8, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownGradKernel.lean ====
abbrev S8192x4096 : Shape := ⟨2, ![8192, 4096]⟩
abbrev S8192x1024 : Shape := ⟨2, ![8192, 1024]⟩
abbrev S1x4096x1024 : Shape := ⟨3, ![1, 4096, 1024]⟩
abbrev S512x2048 : Shape := ⟨2, ![512, 2048]⟩
abbrev S512x1024 : Shape := ⟨2, ![512, 1024]⟩
abbrev S1x2048x1024 : Shape := ⟨3, ![1, 2048, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S1x4096x1024, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S2048x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond2 (i : grid0.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, arg0.toNat, v0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownGradReferenceIdeal.lean ====
abbrev S8192x4096 : Shape := ⟨2, ![8192, 4096]⟩
abbrev S8192x1024 : Shape := ⟨2, ![8192, 1024]⟩
abbrev S_ : Shape := ⟨0, ![]⟩
abbrev S1x4096x1024 : Shape := ⟨3, ![1, 4096, 1024]⟩
abbrev S4096x1024 : Shape := ⟨2, ![4096, 1024]⟩
abbrev S1024x4096 : Shape := ⟨2, ![1024, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S1x4096x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S4096x1024, .f32⟩
  | .hbm, ⟨10, _⟩ => ⟨S8192x1024, .f32⟩
  | .hbm, ⟨11, _⟩ => ⟨S8192x1024, .f32⟩
  | .hbm, ⟨12, _⟩ => ⟨S1024x4096, .f32⟩
  | .hbm, ⟨13, _⟩ => ⟨S4096x1024, .f32⟩
  | .hbm, ⟨14, _⟩ => ⟨S1x4096x1024, .f32⟩
  | .hbm, ⟨15, _⟩ => ⟨S1x4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== UpGradKernel.lean ====
abbrev S8192x1024 : Shape := ⟨2, ![8192, 1024]⟩
abbrev S1x1024 : Shape := ⟨2, ![1, 1024]⟩
abbrev S8192x4096 : Shape := ⟨2, ![8192, 4096]⟩
abbrev S1x1024x4096 : Shape := ⟨3, ![1, 1024, 4096]⟩
abbrev S512x1024 : Shape := ⟨2, ![512, 1024]⟩
abbrev S512x2048 : Shape := ⟨2, ![512, 2048]⟩
abbrev S1x1024x2048 : Shape := ⟨3, ![1, 1024, 2048]⟩
abbrev S1024x2048 : Shape := ⟨2, ![1024, 2048]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x4096, .bf16⟩
  | .hbm, ⟨4, _⟩ => ⟨S1x1024x4096, .bf16⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S1x1024, .f32⟩
  | .local _ .vmem, ⟨5, _⟩ => ⟨S1x1024, .f32⟩
  | .local _ .vmem, ⟨6, _⟩ => ⟨S1x1024x2048, .bf16⟩
  | .local _ .vmem, ⟨7, _⟩ => ⟨S1x1024x2048, .bf16⟩
  | .local _ .vmem, ⟨8, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![1, 2, 16], ![false, false, false]⟩

def k0_cond2 (i : grid0.Coords) : BitVec 1 :=
  let arg2 : BitVec 32 := BitVec.ofNat 32 (i 2).val
  let c15_i32 : BitVec 32 := 15#32
  let v20 : BitVec 1 := Scalar.cmpi .eq arg2 c15_i32
  let v21 : BitVec 32 := Scalar.extui v20
  let c0_i32_13 : BitVec 32 := 0#32
  let v22 : BitVec 1 := Scalar.cmpi .ne v21 c0_i32_13
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, arg0.toNat, v0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S1x1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== UpGradReferenceIdeal.lean ====
abbrev S8192x1024 : Shape := ⟨2, ![8192, 1024]⟩
abbrev S1x1024 : Shape := ⟨2, ![1, 1024]⟩
abbrev S8192x4096 : Shape := ⟨2, ![8192, 4096]⟩
abbrev S_ : Shape := ⟨0, ![]⟩
abbrev S1x1024x4096 : Shape := ⟨3, ![1, 1024, 4096]⟩
abbrev S1024x4096 : Shape := ⟨2, ![1024, 4096]⟩
abbrev S4096x1024 : Shape := ⟨2, ![4096, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x4096, .bf16⟩
  | .hbm, ⟨4, _⟩ => ⟨S_, .f32⟩
  | .hbm, ⟨5, _⟩ => ⟨S1x1024x4096, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S1024x4096, .f32⟩
  | .hbm, ⟨14, _⟩ => ⟨S8192x4096, .f32⟩
  | .hbm, ⟨15, _⟩ => ⟨S8192x4096, .f32⟩
  | .hbm, ⟨16, _⟩ => ⟨S4096x1024, .f32⟩
  | .hbm, ⟨17, _⟩ => ⟨S1024x4096, .f32⟩
  | .hbm, ⟨18, _⟩ => ⟨S1x1024x4096, .f32⟩
  | .hbm, ⟨19, _⟩ => ⟨S1x1024x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== UpKernel.lean ====
abbrev S8192x1024 : Shape := ⟨2, ![8192, 1024]⟩
abbrev S1x1024 : Shape := ⟨2, ![1, 1024]⟩
abbrev S1x1024x4096 : Shape := ⟨3, ![1, 1024, 4096]⟩
abbrev S8192x4096 : Shape := ⟨2, ![8192, 4096]⟩
abbrev S512x1024 : Shape := ⟨2, ![512, 1024]⟩
abbrev S512x4096 : Shape := ⟨2, ![512, 4096]⟩
abbrev S1024x4096 : Shape := ⟨2, ![1024, 4096]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024x4096, .bf16⟩
  | .hbm, ⟨4, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S1x1024x4096, .bf16⟩
  | .local _ .vmem, ⟨3, _⟩ => ⟨S1x1024, .f32⟩
  | .local _ .vmem, ⟨4, _⟩ => ⟨S1x1024, .f32⟩
  | .local _ .vmem, ⟨5, _⟩ => ⟨S512x4096, .bf16⟩
  | .local _ .vmem, ⟨6, _⟩ => ⟨S512x4096, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== UpReferenceIdeal.lean ====
abbrev S8192x1024 : Shape := ⟨2, ![8192, 1024]⟩
abbrev S1x1024 : Shape := ⟨2, ![1, 1024]⟩
abbrev S1x1024x4096 : Shape := ⟨3, ![1, 1024, 4096]⟩
abbrev S_ : Shape := ⟨0, ![]⟩
abbrev S1024x4096 : Shape := ⟨2, ![1024, 4096]⟩
abbrev S8192x4096 : Shape := ⟨2, ![8192, 4096]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024x4096, .bf16⟩
  | .hbm, ⟨4, _⟩ => ⟨S1x1024x4096, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S1024x4096, .f32⟩
  | .hbm, ⟨13, _⟩ => ⟨S8192x4096, .f32⟩
  | .hbm, ⟨14, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== DownKernel.lean ====
abbrev S8192x4096 : Shape := ⟨2, ![8192, 4096]⟩
abbrev S1x4096x1024 : Shape := ⟨3, ![1, 4096, 1024]⟩
abbrev S8192x1024 : Shape := ⟨2, ![8192, 1024]⟩
abbrev S512x4096 : Shape := ⟨2, ![512, 4096]⟩
abbrev S512x1024 : Shape := ⟨2, ![512, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S1x4096x1024, .bf16⟩
  | .hbm, ⟨2, _⟩ => ⟨S8192x1024, .f32⟩
  | .local _ .vmem, ⟨0, _⟩ => ⟨S512x4096, .bf16⟩
  | .local _ .vmem, ⟨1, _⟩ => ⟨S512x4096, .bf16⟩
  | .local _ .vmem, ⟨2, _⟩ => ⟨S1x4096x1024, .bf16⟩
  | .local _ .vmem, ⟨3, _⟩ => ⟨S512x1024, .f32⟩
  | .local _ .vmem, ⟨4, _⟩ => ⟨S512x1024, .f32⟩
  | .local _ .vmem, ⟨5, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownReferenceIdeal.lean ====
abbrev S8192x4096 : Shape := ⟨2, ![8192, 4096]⟩
abbrev S1x4096x1024 : Shape := ⟨3, ![1, 4096, 1024]⟩
abbrev S_ : Shape := ⟨0, ![]⟩
abbrev S4096x1024 : Shape := ⟨2, ![4096, 1024]⟩
abbrev S8192x1024 : Shape := ⟨2, ![8192, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x1024, .bf16⟩
  | .hbm, ⟨2, _⟩ => ⟨S8192x4096, .f32⟩
  | .hbm, ⟨3, _⟩ => ⟨S1x4096x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S4096x1024, .f32⟩
  | .hbm, ⟨9, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== OutKernel.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutReferenceIdeal.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .hbm, ⟨3, _⟩ => ⟨S1024x1024, .bf16⟩
  | .hbm, ⟨4, _⟩ => ⟨S1024x1024, .f32⟩
  | .hbm, ⟨5, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AttProjKernel.lean ====
abbrev S8192x1024 : Shape := ⟨2, ![8192, 1024]⟩
abbrev S1x1024 : Shape := ⟨2, ![1, 1024]⟩
abbrev S1x3072 : Shape := ⟨2, ![1, 3072]⟩
abbrev S1x1024x3072 : Shape := ⟨3, ![1, 1024, 3072]⟩
abbrev S8192x3072 : Shape := ⟨2, ![8192, 3072]⟩
abbrev S512x1024 : Shape := ⟨2, ![512, 1024]⟩
abbrev S512x3072 : Shape := ⟨2, ![512, 3072]⟩
abbrev S1024x3072 : Shape := ⟨2, ![1024, 3072]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x3072, .f32⟩
  | .hbm, ⟨4, _⟩ => ⟨S1x1024x3072, .bf16⟩
  | .hbm, ⟨5, _⟩ => ⟨S8192x3072, .bf16⟩
  | .local _ .vmem, ⟨0, _⟩ => ⟨S512x1024, .f32⟩
  | .local _ .vmem, ⟨1, _⟩ => ⟨S512x1024, .f32⟩
  | .local _ .vmem, ⟨2, _⟩ => ⟨S1x1024x3072, .bf16⟩
  | .local _ .vmem, ⟨3, _⟩ => ⟨S1x1024, .f32⟩
  | .local _ .vmem, ⟨4, _⟩ => ⟨S1x1024, .f32⟩
  | .local _ .vmem, ⟨5, _⟩ => ⟨S1x3072, .f32⟩
  | .local _ .vmem, ⟨6, _⟩ => ⟨S512x3072, .bf16⟩
  | .local _ .vmem, ⟨7, _⟩ => ⟨S512x3072, .bf16⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttProjReferenceIdeal.lean ====
abbrev S8192x1024 : Shape := ⟨2, ![8192, 1024]⟩
abbrev S1x1024 : Shape := ⟨2, ![1, 1024]⟩
abbrev S1x3072 : Shape := ⟨2, ![1, 3072]⟩
abbrev S1x1024x3072 : Shape := ⟨3, ![1, 1024, 3072]⟩
abbrev S_ : Shape := ⟨0, ![]⟩
abbrev S1024x3072 : Shape := ⟨2, ![1024, 3072]⟩
abbrev S8192x3072 : Shape := ⟨2, ![8192, 3072]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x3072, .f32⟩
  | .hbm, ⟨4, _⟩ => ⟨S1x1024x3072, .bf16⟩
  | .hbm, ⟨5, _⟩ => ⟨S1x1024x3072, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S1024x3072, .f32⟩
  | .hbm, ⟨14, _⟩ => ⟨S8192x3072, .f32⟩
  | .hbm, ⟨15, _⟩ => ⟨S8192x3072, .f32⟩
  | .hbm, ⟨16, _⟩ => ⟨S8192x3072, .f32⟩
  | .hbm, ⟨17, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== GlaProjKernel.lean ====
abbrev S8192x1024 : Shape := ⟨2, ![8192, 1024]⟩
abbrev S1x1024 : Shape := ⟨2, ![1, 1024]⟩
abbrev S1x1024x3200 : Shape := ⟨3, ![1, 1024, 3200]⟩
abbrev S8192x3200 : Shape := ⟨2, ![8192, 3200]⟩
abbrev S512x1024 : Shape := ⟨2, ![512, 1024]⟩
abbrev S512x3200 : Shape := ⟨2, ![512, 3200]⟩
abbrev S1024x3200 : Shape := ⟨2, ![1024, 3200]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024x3200, .bf16⟩
  | .hbm, ⟨4, _⟩ => ⟨S8192x3200, .f32⟩
  | .local _ .vmem, ⟨0, _⟩ => ⟨S512x1024, .f32⟩
  | .local _ .vmem, ⟨1, _⟩ => ⟨S512x1024, .f32⟩
  | .local _ .vmem, ⟨2, _⟩ => ⟨S1x1024x3200, .bf16⟩
  | .local _ .vmem, ⟨3, _⟩ => ⟨S1x1024, .f32⟩
  | .local _ .vmem, ⟨4, _⟩ => ⟨S1x1024, .f32⟩
  | .local _ .vmem, ⟨5, _⟩ => ⟨S512x3200, .f32⟩
  | .local _ .vmem, ⟨6, _⟩ => ⟨S512x3200, .f32⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x3200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GlaProjReferenceIdeal.lean ====
abbrev S8192x1024 : Shape := ⟨2, ![8192, 1024]⟩
abbrev S1x1024 : Shape := ⟨2, ![1, 1024]⟩
abbrev S1x1024x3200 : Shape := ⟨3, ![1, 1024, 3200]⟩
abbrev S_ : Shape := ⟨0, ![]⟩
abbrev S1024x3200 : Shape := ⟨2, ![1024, 3200]⟩
abbrev S8192x3200 : Shape := ⟨2, ![8192, 3200]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024x3200, .bf16⟩
  | .hbm, ⟨4, _⟩ => ⟨S1x1024x3200, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S1024x3200, .f32⟩
  | .hbm, ⟨13, _⟩ => ⟨S8192x3200, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== AttOutGradKernel.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttOutGradReferenceIdeal.lean ====
abbrev S8192x1024 : Shape := ⟨2, ![8192, 1024]⟩
abbrev S1x1024x1024 : Shape := ⟨3, ![1, 1024, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S_, .f32⟩
  | .hbm, ⟨3, _⟩ => ⟨S8192x1024, .f32⟩
  | .hbm, ⟨4, _⟩ => ⟨S1024x1024, .bf16⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GlaOutGradKernel.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GlaOutGradReferenceIdeal.lean ====
abbrev S8192x1024 : Shape := ⟨2, ![8192, 1024]⟩
abbrev S1x1024x1024 : Shape := ⟨3, ![1, 1024, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S_, .f32⟩
  | .hbm, ⟨3, _⟩ => ⟨S8192x1024, .f32⟩
  | .hbm, ⟨4, _⟩ => ⟨S1024x1024, .bf16⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutWeightGradKernel.lean ====
abbrev S8192x1024 : Shape := ⟨2, ![8192, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, arg0.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWeightGradReferenceIdeal.lean ====
abbrev S8192x1024 : Shape := ⟨2, ![8192, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1x1024x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S1x1024x1024, .f32⟩
  | .hbm, ⟨11, _⟩ => ⟨S1x1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GlaProjGradKernel.lean ====
abbrev S8192x3200 : Shape := ⟨2, ![8192, 3200]⟩
abbrev S1x1024x3200 : Shape := ⟨3, ![1, 1024, 3200]⟩
abbrev S8192x1024 : Shape := ⟨2, ![8192, 1024]⟩
abbrev S1024x3200 : Shape := ⟨2, ![1024, 3200]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x3200, .bf16⟩
  | .hbm, ⟨1, _⟩ => ⟨S1x1024x3200, .bf16⟩
  | .hbm, ⟨2, _⟩ => ⟨S8192x1024, .f32⟩
  | .local _ .vmem, ⟨0, _⟩ => ⟨S1024x3200, .bf16⟩
  | .local _ .vmem, ⟨1, _⟩ => ⟨S1024x3200, .bf16⟩
  | .local _ .vmem, ⟨2, _⟩ => ⟨S1x1024x3200, .bf16⟩
  | .local _ .vmem, ⟨3, _⟩ => ⟨S1024x1024, .f32⟩
  | .local _ .vmem, ⟨4, _⟩ => ⟨S1024x1024, .f32⟩
  | _, _ => ⟨S8192x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GlaProjGradReferenceIdeal.lean ====
abbrev S8192x3200 : Shape := ⟨2, ![8192, 3200]⟩
abbrev S1x1024x3200 : Shape := ⟨3, ![1, 1024, 3200]⟩
abbrev S_ : Shape := ⟨0, ![]⟩
abbrev S8192x1024 : Shape := ⟨2, ![8192, 1024]⟩
abbrev S1024x3200 : Shape := ⟨2, ![1024, 3200]⟩

abbrev nBuf : Space → Nat
  | .hbm => 9
  | .vmem => 0
  | .smem => 0
  | _ => 0

abbrev bufTy : (tb : Table) → Fin (tcTables nBuf tb) → BufTy
  | .hbm, ⟨0, _⟩ => ⟨S8192x3200, .bf16⟩
  | .hbm, ⟨1, _⟩ => ⟨S1x1024x3200, .bf16⟩
  | .hbm, ⟨2, _⟩ => ⟨S_, .f32⟩
  | .hbm, ⟨3, _⟩ => ⟨S8192x1024, .f32⟩
  | .hbm, ⟨4, _⟩ => ⟨S1024x3200, .bf16⟩
  | .hbm, ⟨5, _⟩ => ⟨S1024x3200, .f32⟩
  | .hbm, ⟨6, _⟩ => ⟨S8192x3200, .f32⟩
  | .hbm, ⟨7, _⟩ => ⟨S8192x3200, .f32⟩
  | .hbm, ⟨8, _⟩ => ⟨S8192x1024, .f32⟩
  | _, _ => ⟨S8192x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GlaWeightGradKernel.lean ====
abbrev S8192x1024 : Shape := ⟨2, ![8192, 1024]⟩
abbrev S1x1024 : Shape := ⟨2, ![1, 1024]⟩
abbrev S8192x3200 : Shape := ⟨2, ![8192, 3200]⟩
abbrev S1x1024x3200 : Shape := ⟨3, ![1, 1024, 3200]⟩
abbrev S512x512 : Shape := ⟨2, ![512, 512]⟩
abbrev S512x3200 : Shape := ⟨2, ![512, 3200]⟩
abbrev S1x512 : Shape := ⟨2, ![1, 512]⟩
abbrev S1x512x3200 : Shape := ⟨3, ![1, 512, 3200]⟩

abbrev nBuf : Space → Nat
  | .hbm => 5
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x3200, .bf16⟩
  | .hbm, ⟨4, _⟩ => ⟨S1x1024x3200, .bf16⟩
  | .local _ .vmem, ⟨0, _⟩ => ⟨S512x512, .f32⟩
  | .local _ .vmem, ⟨1, _⟩ => ⟨S512x512, .f32⟩
  | .local _ .vmem, ⟨2, _⟩ => ⟨S512x3200, .bf16⟩
  | .local _ .vmem, ⟨3, _⟩ => ⟨S512x3200, .bf16⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512x3200, .bf16⟩
  | .local _ .vmem, ⟨9, _⟩ => ⟨S1x512x3200, .bf16⟩
  | .local _ .vmem, ⟨10, _⟩ => ⟨S512x3200, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 1, 16], ![false, false, false]⟩

def k0_cond2 (i : grid0.Coords) : BitVec 1 :=
  let arg2 : BitVec 32 := BitVec.ofNat 32 (i 2).val
  let c15_i32 : BitVec 32 := 15#32
  let v20 : BitVec 1 := Scalar.cmpi .eq arg2 c15_i32
  let v21 : BitVec 32 := Scalar.extui v20
  let c0_i32_13 : BitVec 32 := 0#32
  let v22 : BitVec 1 := Scalar.cmpi .ne v21 c0_i32_13
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, arg0.toNat, v0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x512x3200 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== GlaWeightGradReferenceIdeal.lean ====
abbrev S8192x1024 : Shape := ⟨2, ![8192, 1024]⟩
abbrev S1x1024 : Shape := ⟨2, ![1, 1024]⟩
abbrev S8192x3200 : Shape := ⟨2, ![8192, 3200]⟩
abbrev S_ : Shape := ⟨0, ![]⟩
abbrev S1x1024x3200 : Shape := ⟨3, ![1, 1024, 3200]⟩
abbrev S1024x3200 : Shape := ⟨2, ![1024, 3200]⟩
abbrev S3200x1024 : Shape := ⟨2, ![3200, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x3200, .bf16⟩
  | .hbm, ⟨4, _⟩ => ⟨S_, .f32⟩
  | .hbm, ⟨5, _⟩ => ⟨S1x1024x3200, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S1024x3200, .f32⟩
  | .hbm, ⟨14, _⟩ => ⟨S8192x3200, .f32⟩
  | .hbm, ⟨15, _⟩ => ⟨S8192x3200, .f32⟩
  | .hbm, ⟨16, _⟩ => ⟨S3200x1024, .f32⟩
  | .hbm, ⟨17, _⟩ => ⟨S1024x3200, .f32⟩
  | .hbm, ⟨18, _⟩ => ⟨S1x1024x3200, .f32⟩
  | .hbm, ⟨19, _⟩ => ⟨S1x1024x3200, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== AttProjGradKernel.lean ====
abbrev S8192x1024 : Shape := ⟨2, ![8192, 1024]⟩
abbrev S1x1024x3072 : Shape := ⟨3, ![1, 1024, 3072]⟩
abbrev S512x1024 : Shape := ⟨2, ![512, 1024]⟩
abbrev S512x3072 : Shape := ⟨2, ![512, 3072]⟩
abbrev S1024x3072 : Shape := ⟨2, ![1024, 3072]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S1x1024x3072, .bf16⟩
  | .hbm, ⟨4, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024x3072, .bf16⟩
  | .local _ .vmem, ⟨7, _⟩ => ⟨S512x1024, .f32⟩
  | .local _ .vmem, ⟨8, _⟩ => ⟨S512x1024, .f32⟩
  | .local _ .vmem, ⟨9, _⟩ => ⟨S512x3072, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttProjGradReferenceIdeal.lean ====
abbrev S8192x1024 : Shape := ⟨2, ![8192, 1024]⟩
abbrev S1x1024x3072 : Shape := ⟨3, ![1, 1024, 3072]⟩
abbrev S_ : Shape := ⟨0, ![]⟩
abbrev S1024x3072 : Shape := ⟨2, ![1024, 3072]⟩
abbrev S8192x3072 : Shape := ⟨2, ![8192, 3072]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S1x1024x3072, .bf16⟩
  | .hbm, ⟨4, _⟩ => ⟨S_, .f32⟩
  | .hbm, ⟨5, _⟩ => ⟨S8192x1024, .f32⟩
  | .hbm, ⟨6, _⟩ => ⟨S1024x3072, .bf16⟩
  | .hbm, ⟨7, _⟩ => ⟨S1024x3072, .f32⟩
  | .hbm, ⟨8, _⟩ => ⟨S8192x3072, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x3072, .f32⟩
  | .hbm, ⟨14, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== ForwardKernel.lean ====
abbrev S8192x3072 : Shape := ⟨2, ![8192, 3072]⟩
abbrev S16x257 : Shape := ⟨2, ![16, 257]⟩
abbrev S16x1 : Shape := ⟨2, ![16, 1]⟩
abbrev S16 : Shape := ⟨1, ![16]⟩
abbrev S16x1x1 : Shape := ⟨3, ![16, 1, 1]⟩
abbrev S16x1x128 : Shape := ⟨3, ![16, 1, 128]⟩
abbrev S128x128 : Shape := ⟨2, ![128, 128]⟩
abbrev S_ : Shape := ⟨0, ![]⟩
abbrev S16x384 : Shape := ⟨2, ![16, 384]⟩
abbrev S128x128x1 : Shape := ⟨3, ![128, 128, 1]⟩
abbrev S16x128x128 : Shape := ⟨3, ![16, 128, 128]⟩
abbrev S16x1x128x128 : Shape := ⟨4, ![16, 1, 128, 128]⟩
abbrev S16x2x128x128 : Shape := ⟨4, ![16, 2, 128, 128]⟩
abbrev S8192x1024 : Shape := ⟨2, ![8192, 1024]⟩
abbrev S256x128 : Shape := ⟨2, ![256, 128]⟩
abbrev S2x2x128x128 : Shape := ⟨4, ![2, 2, 128, 128]⟩
abbrev S2x1x128 : Shape := ⟨3, ![2, 1, 128]⟩
abbrev S512x768 : Shape := ⟨2, ![512, 768]⟩
abbrev S1x2x128x128 : Shape := ⟨4, ![1, 2, 128, 128]⟩
abbrev S2x128x128 : Shape := ⟨3, ![2, 128, 128]⟩
abbrev S1x1x128 : Shape := ⟨3, ![1, 1, 128]⟩
abbrev S1x128 : Shape := ⟨2, ![1, 128]⟩
abbrev S256x768 : Shape := ⟨2, ![256, 768]⟩
abbrev S1x128x128 : Shape := ⟨3, ![1, 128, 128]⟩
abbrev S128x768 : Shape := ⟨2, ![128, 768]⟩
abbrev S768x128 : Shape := ⟨2, ![768, 128]⟩
abbrev S1x768 : Shape := ⟨2, ![1, 768]⟩
abbrev S256 : Shape := ⟨1, ![256]⟩
abbrev S256x1 : Shape := ⟨2, ![256, 1]⟩

abbrev nBuf : Space → Nat
  | .hbm => 81
  | .vmem => 21
  | .smem => 0
  | _ => 0

abbrev bufTy : (tb : Table) → Fin (tcTables nBuf tb) → BufTy
  | .hbm, ⟨0, _⟩ => ⟨S8192x3072, .bf16⟩
  | .hbm, ⟨1, _⟩ => ⟨S16x257, .f32⟩
  | .hbm, ⟨2, _⟩ => ⟨S16x1, .f32⟩
  | .hbm, ⟨3, _⟩ => ⟨S16, .f32⟩
  | .hbm, ⟨4, _⟩ => ⟨S16x1x1, .f32⟩
  | .hbm, ⟨5, _⟩ => ⟨S16x1x128, .f32⟩
  | .hbm, ⟨6, _⟩ => ⟨S128x128, .i32⟩
  | .hbm, ⟨7, _⟩ => ⟨S128x128, .i32⟩
  | .hbm, ⟨8, _⟩ => ⟨S_, .f32⟩
  | .hbm, ⟨9, _⟩ => ⟨S_, .f32⟩
  | .hbm, ⟨10, _⟩ => ⟨S16x384, .f32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S_, .i32⟩
  | .hbm, ⟨15, _⟩ => ⟨S128x128, .i32⟩
  | .hbm, ⟨16, _⟩ => ⟨S128x128, .i32⟩
  | .hbm, ⟨17, _⟩ => ⟨S_, .i32⟩
  | .hbm, ⟨18, _⟩ => ⟨S128x128, .i32⟩
  | .hbm, ⟨19, _⟩ => ⟨S128x128, .i32⟩
  | .hbm, ⟨20, _⟩ => ⟨S128x128, .i32⟩
  | .hbm, ⟨21, _⟩ => ⟨S_, .i32⟩
  | .hbm, ⟨22, _⟩ => ⟨S128x128, .i32⟩
  | .hbm, ⟨23, _⟩ => ⟨S128x128, .i1⟩
  | .hbm, ⟨24, _⟩ => ⟨S_, .i32⟩
  | .hbm, ⟨25, _⟩ => ⟨S128x128, .i32⟩
  | .hbm, ⟨26, _⟩ => ⟨S128x128, .i1⟩
  | .hbm, ⟨27, _⟩ => ⟨S128x128, .i1⟩
  | .hbm, ⟨28, _⟩ => ⟨S_, .i32⟩
  | .hbm, ⟨29, _⟩ => ⟨S128x128, .i32⟩
  | .hbm, ⟨30, _⟩ => ⟨S128x128, .i32⟩
  | .hbm, ⟨31, _⟩ => ⟨S128x128, .i32⟩
  | .hbm, ⟨32, _⟩ => ⟨S_, .i32⟩
  | .hbm, ⟨33, _⟩ => ⟨S128x128, .i32⟩
  | .hbm, ⟨34, _⟩ => ⟨S128x128, .i32⟩
  | .hbm, ⟨35, _⟩ => ⟨S_, .i32⟩
  | .hbm, ⟨36, _⟩ => ⟨S128x128, .i32⟩
  | .hbm, ⟨37, _⟩ => ⟨S128x128, .i32⟩
  | .hbm, ⟨38, _⟩ => ⟨S_, .i32⟩
  | .hbm, ⟨39, _⟩ => ⟨S_, .i32⟩
  | .hbm, ⟨40, _⟩ => ⟨S128x128, .i32⟩
  | .hbm, ⟨41, _⟩ => ⟨S128x128, .i32⟩
  | .hbm, ⟨42, _⟩ => ⟨S128x128x1, .i32⟩
  | .hbm, ⟨43, _⟩ => ⟨S16x128x128, .f32⟩
  | .hbm, ⟨44, _⟩ => ⟨S_, .i32⟩
  | .hbm, ⟨45, _⟩ => ⟨S128x128, .i32⟩
  | .hbm, ⟨46, _⟩ => ⟨S128x128, .i32⟩
  | .hbm, ⟨47, _⟩ => ⟨S_, .i32⟩
  | .hbm, ⟨48, _⟩ => ⟨S128x128, .i32⟩
  | .hbm, ⟨49, _⟩ => ⟨S128x128, .i32⟩
  | .hbm, ⟨50, _⟩ => ⟨S_, .i32⟩
  | .hbm, ⟨51, _⟩ => ⟨S128x128, .i32⟩
  | .hbm, ⟨52, _⟩ => ⟨S128x128, .i32⟩
  | .hbm, ⟨53, _⟩ => ⟨S128x128, .i32⟩
  | .hbm, ⟨54, _⟩ => ⟨S_, .i32⟩
  | .hbm, ⟨55, _⟩ => ⟨S128x128, .i32⟩
  | .hbm, ⟨56, _⟩ => ⟨S128x128, .i1⟩
  | .hbm, ⟨57, _⟩ => ⟨S_, .i32⟩
  | .hbm, ⟨58, _⟩ => ⟨S128x128, .i32⟩
  | .hbm, ⟨59, _⟩ => ⟨S128x128, .i1⟩
  | .hbm, ⟨60, _⟩ => ⟨S128x128, .i1⟩
  | .hbm, ⟨61, _⟩ => ⟨S_, .i32⟩
  | .hbm, ⟨62, _⟩ => ⟨S128x128, .i32⟩
  | .hbm, ⟨63, _⟩ => ⟨S128x128, .i32⟩
  | .hbm, ⟨64, _⟩ => ⟨S128x128, .i32⟩
  | .hbm, ⟨65, _⟩ => ⟨S_, .i32⟩
  | .hbm, ⟨66, _⟩ => ⟨S128x128, .i32⟩
  | .hbm, ⟨67, _⟩ => ⟨S128x128, .i32⟩
  | .hbm, ⟨68, _⟩ => ⟨S_, .i32⟩
  | .hbm, ⟨69, _⟩ => ⟨S128x128, .i32⟩
  | .hbm, ⟨70, _⟩ => ⟨S128x128, .i32⟩
  | .hbm, ⟨71, _⟩ => ⟨S_, .i32⟩
  | .hbm, ⟨72, _⟩ => ⟨S_, .i32⟩
  | .hbm, ⟨73, _⟩ => ⟨S128x128, .i32⟩
  | .hbm, ⟨74, _⟩ => ⟨S128x128, .i32⟩
  | .hbm, ⟨75, _⟩ => ⟨S128x128x1, .i32⟩
  | .hbm, ⟨76, _⟩ => ⟨S16x128x128, .f32⟩
  | .hbm, ⟨77, _⟩ => ⟨S16x1x128x128, .f32⟩
  | .hbm, ⟨78, _⟩ => ⟨S16x1x128x128, .f32⟩
  | .hbm, ⟨79, _⟩ => ⟨S16x2x128x128, .f32⟩
  | .hbm, ⟨80, _⟩ => ⟨S8192x1024, .bf16⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S256x128, .bf16⟩
  | .local _ .vmem, ⟨13, _⟩ => ⟨S256x128, .bf16⟩
  | .local _ .vmem, ⟨14, _⟩ => ⟨S2x2x128x128, .f32⟩
  | .local _ .vmem, ⟨15, _⟩ => ⟨S2x2x128x128, .f32⟩
  | .local _ .vmem, ⟨16, _⟩ => ⟨S2x1x128, .f32⟩
  | .local _ .vmem, ⟨17, _⟩ => ⟨S2x1x128, .f32⟩
  | .local _ .vmem, ⟨18, _⟩ => ⟨S256x128, .bf16⟩
  | .local _ .vmem, ⟨19, _⟩ => ⟨S256x128, .bf16⟩
  | .local _ .vmem, ⟨20, _⟩ => ⟨S512x768, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_call0_v0 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_c_7 : Ref sig .tc := ⟨.hbm, 38, rfl⟩
abbrev main_call1_v0 : Ref sig .tc := ⟨.hbm, 39, rfl⟩
abbrev main_call1_v1 : Ref sig .tc := ⟨.hbm, 40, rfl⟩
abbrev main_v26 : Ref sig .tc := ⟨.hbm, 41, rfl⟩
abbrev main_call2_v0 : Ref sig .tc := ⟨.hbm, 42, rfl⟩
abbrev main_v27 : Ref sig .tc := ⟨.hbm, 43, rfl⟩
abbrev main_c_8 : Ref sig .tc := ⟨.hbm, 44, rfl⟩
abbrev main_v28 : Ref sig .tc := ⟨.hbm, 45, rfl⟩
abbrev main_v29 : Ref sig .tc := ⟨.hbm, 46, rfl⟩
abbrev main_c_9 : Ref sig .tc := ⟨.hbm, 47, rfl⟩
abbrev main_v30 : Ref sig .tc := ⟨.hbm, 48, rfl⟩
abbrev main_v31 : Ref sig .tc := ⟨.hbm, 49, rfl⟩
abbrev main_c_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_11 : Ref sig .tc := ⟨.hbm, 54, rfl⟩
abbrev main_v35 : Ref sig .tc := ⟨.hbm, 55, rfl⟩
abbrev main_v36 : Ref sig .tc := ⟨.hbm, 56, rfl⟩
abbrev main_c_12 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_13 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_14 : Ref sig .tc := ⟨.hbm, 65, rfl⟩
abbrev main_v43 : Ref sig .tc := ⟨.hbm, 66, rfl⟩
abbrev main_v44 : Ref sig .tc := ⟨.hbm, 67, rfl⟩
abbrev main_c_15 : Ref sig .tc := ⟨.hbm, 68, rfl⟩
abbrev main_v45 : Ref sig .tc := ⟨.hbm, 69, rfl⟩
abbrev main_v46 : Ref sig .tc := ⟨.hbm, 70, rfl⟩
abbrev main_c_16 : Ref sig .tc := ⟨.hbm, 71, rfl⟩
abbrev main_call3_v0 : Ref sig .tc := ⟨.hbm, 72, rfl⟩
abbrev main_call3_v1 : Ref sig .tc := ⟨.hbm, 73, rfl⟩
abbrev main_v47 : Ref sig .tc := ⟨.hbm, 74, rfl⟩
abbrev main_call4_v0 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c8_i32 : BitVec 32 := 8#32
  let v2 : BitVec 32 := Scalar.addi c8_i32 arg0
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c8_i32 : BitVec 32 := 8#32
  let v2 : BitVec 32 := Scalar.addi c8_i32 arg0
  let c0_i32_0 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c8_i32 : BitVec 32 := 8#32
  let v2 : BitVec 32 := Scalar.addi c8_i32 arg0
  let c0_i32_1 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c16_i32 : BitVec 32 := 16#32
  let v2 : BitVec 32 := Scalar.addi c16_i32 arg0
  let c0_i32_0 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c16_i32 : BitVec 32 := 16#32
  let v2 : BitVec 32 := Scalar.addi c16_i32 arg0
  let c0_i32_0 : BitVec 32 := 0#32
  ![v1.toNat, v2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c16_i32 : BitVec 32 := 16#32
  let v2 : BitVec 32 := Scalar.addi c16_i32 arg0
  let c0_i32_1 : BitVec 32 := 0#32
  ![v1.toNat, v2.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x2x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ForwardKernelIdeal.lean ====
variable {F : FTy → Type} [FloatOps F] [Named F]
def κ : String → Option EReal := fun
  | "mask" => some ⊥
  | _ => none
-- ==== ForwardReferenceIdeal.lean ====
abbrev S8192x3072 : Shape := ⟨2, ![8192, 3072]⟩
abbrev S16x257 : Shape := ⟨2, ![16, 257]⟩
abbrev S8192x8192 : Shape := ⟨2, ![8192, 8192]⟩
abbrev S128x64 : Shape := ⟨2, ![128, 64]⟩
abbrev S8192 : Shape := ⟨1, ![8192]⟩
abbrev S8192x1 : Shape := ⟨2, ![8192, 1]⟩
abbrev S1x8192 : Shape := ⟨2, ![1, 8192]⟩
abbrev S_ : Shape := ⟨0, ![]⟩
abbrev S8192x8192x1 : Shape := ⟨3, ![8192, 8192, 1]⟩
abbrev S16x8192x8192 : Shape := ⟨3, ![16, 8192, 8192]⟩
abbrev S8192x1024 : Shape := ⟨2, ![8192, 1024]⟩
abbrev S8192x16x64 : Shape := ⟨3, ![8192, 16, 64]⟩
abbrev S16x8192x64 : Shape := ⟨3, ![16, 8192, 64]⟩
abbrev S16x8192 : Shape := ⟨2, ![16, 8192]⟩
abbrev S16x8192x1 : Shape := ⟨3, ![16, 8192, 1]⟩

abbrev nBuf : Space → Nat
  | .hbm => 70
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S16x257, .f32⟩
  | .hbm, ⟨2, _⟩ => ⟨S8192x8192, .i32⟩
  | .hbm, ⟨3, _⟩ => ⟨S8192x8192, .i32⟩
  | .hbm, ⟨4, _⟩ => ⟨S128x64, .i32⟩
  | .hbm, ⟨5, _⟩ => ⟨S8192, .i32⟩
  | .hbm, ⟨6, _⟩ => ⟨S8192x1, .i32⟩
  | .hbm, ⟨7, _⟩ => ⟨S1x8192, .i32⟩
  | .hbm, ⟨8, _⟩ => ⟨S8192x8192, .i32⟩
  | .hbm, ⟨9, _⟩ => ⟨S8192x8192, .i32⟩
  | .hbm, ⟨10, _⟩ => ⟨S8192x8192, .i32⟩
  | .hbm, ⟨11, _⟩ => ⟨S_, .i32⟩
  | .hbm, ⟨12, _⟩ => ⟨S8192x8192, .i32⟩
  | .hbm, ⟨13, _⟩ => ⟨S8192x8192, .i1⟩
  | .hbm, ⟨14, _⟩ => ⟨S_, .i32⟩
  | .hbm, ⟨15, _⟩ => ⟨S8192x8192, .i32⟩
  | .hbm, ⟨16, _⟩ => ⟨S8192x8192, .i1⟩
  | .hbm, ⟨17, _⟩ => ⟨S8192x8192, .i1⟩
  | .hbm, ⟨18, _⟩ => ⟨S8192x8192, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S8192x8192, .i32⟩
  | .hbm, ⟨23, _⟩ => ⟨S8192x8192, .i32⟩
  | .hbm, ⟨24, _⟩ => ⟨S_, .i32⟩
  | .hbm, ⟨25, _⟩ => ⟨S8192x8192, .i32⟩
  | .hbm, ⟨26, _⟩ => ⟨S8192x8192, .i32⟩
  | .hbm, ⟨27, _⟩ => ⟨S_, .i32⟩
  | .hbm, ⟨28, _⟩ => ⟨S8192x8192, .i32⟩
  | .hbm, ⟨29, _⟩ => ⟨S8192x8192, .i32⟩
  | .hbm, ⟨30, _⟩ => ⟨S8192x8192x1, .i32⟩
  | .hbm, ⟨31, _⟩ => ⟨S16x8192x8192, .f32⟩
  | .hbm, ⟨32, _⟩ => ⟨S8192x3072, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x16x64, .f32⟩
  | .hbm, ⟨37, _⟩ => ⟨S16x8192x64, .f32⟩
  | .hbm, ⟨38, _⟩ => ⟨S_, .f32⟩
  | .hbm, ⟨39, _⟩ => ⟨S16x8192x64, .f32⟩
  | .hbm, ⟨40, _⟩ => ⟨S16x8192x64, .f32⟩
  | .hbm, ⟨41, _⟩ => ⟨S8192x16x64, .f32⟩
  | .hbm, ⟨42, _⟩ => ⟨S16x8192x64, .f32⟩
  | .hbm, ⟨43, _⟩ => ⟨S16x8192x8192, .f32⟩
  | .hbm, ⟨44, _⟩ => ⟨S16x8192x8192, .f32⟩
  | .hbm, ⟨45, _⟩ => ⟨S_, .f32⟩
  | .hbm, ⟨46, _⟩ => ⟨S_, .f32⟩
  | .hbm, ⟨47, _⟩ => ⟨S16x8192x8192, .i1⟩
  | .hbm, ⟨48, _⟩ => ⟨S16x8192x8192, .f32⟩
  | .hbm, ⟨49, _⟩ => ⟨S16x8192x8192, .f32⟩
  | .hbm, ⟨50, _⟩ => ⟨S_, .f32⟩
  | .hbm, ⟨51, _⟩ => ⟨S16x8192, .f32⟩
  | .hbm, ⟨52, _⟩ => ⟨S16x8192x1, .f32⟩
  | .hbm, ⟨53, _⟩ => ⟨S16x8192x8192, .f32⟩
  | .hbm, ⟨54, _⟩ => ⟨S16x8192x8192, .f32⟩
  | .hbm, ⟨55, _⟩ => ⟨S16x8192x8192, .f32⟩
  | .hbm, ⟨56, _⟩ => ⟨S_, .f32⟩
  | .hbm, ⟨57, _⟩ => ⟨S16x8192, .f32⟩
  | .hbm, ⟨58, _⟩ => ⟨S16x8192x1, .f32⟩
  | .hbm, ⟨59, _⟩ => ⟨S_, .f32⟩
  | .hbm, ⟨60, _⟩ => ⟨S16x8192x1, .f32⟩
  | .hbm, ⟨61, _⟩ => ⟨S16x8192x1, .f32⟩
  | .hbm, ⟨62, _⟩ => ⟨S16x8192x8192, .f32⟩
  | .hbm, ⟨63, _⟩ => ⟨S16x8192x8192, .f32⟩
  | .hbm, ⟨64, _⟩ => ⟨S8192x16x64, .f32⟩
  | .hbm, ⟨65, _⟩ => ⟨S16x8192x64, .f32⟩
  | .hbm, ⟨66, _⟩ => ⟨S16x8192x64, .f32⟩
  | .hbm, ⟨67, _⟩ => ⟨S8192x16x64, .f32⟩
  | .hbm, ⟨68, _⟩ => ⟨S8192x1024, .f32⟩
  | .hbm, ⟨69, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_c_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c_1 : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_call1_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]

def κ : String → Option EReal := fun
  | "mask" => some ⊥
  | _ => none
-- ==== AttKeyWeightGradKernel.lean ====
abbrev S8192x1024 : Shape := ⟨2, ![8192, 1024]⟩
abbrev S1x1024 : Shape := ⟨2, ![1, 1024]⟩
abbrev S1x1024x3072 : Shape := ⟨3, ![1, 1024, 3072]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .f32⟩
  | .hbm, ⟨4, _⟩ => ⟨S1x1024x3072, .bf16⟩
  | .hbm, ⟨5, _⟩ => ⟨S1x1024x3072, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024x1024, .bf16⟩
  | .local _ .vmem, ⟨7, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v21 : BitVec 1 := Scalar.cmpi .eq arg2 c15_i32
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  let c0_i32_0 : BitVec 32 := 0#32
  ![c0_i32.toNat, arg0.toNat, v0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]
-- ==== AttKeyWeightGradReferenceIdeal.lean ====
abbrev S8192x1024 : Shape := ⟨2, ![8192, 1024]⟩
abbrev S1x1024 : Shape := ⟨2, ![1, 1024]⟩
abbrev S1x1024x3072 : Shape := ⟨3, ![1, 1024, 3072]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .f32⟩
  | .hbm, ⟨4, _⟩ => ⟨S1x1024x3072, .bf16⟩
  | .hbm, ⟨5, _⟩ => ⟨S_, .f32⟩
  | .hbm, ⟨6, _⟩ => ⟨S1x1024x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S1024x1024, .f32⟩
  | .hbm, ⟨15, _⟩ => ⟨S8192x1024, .f32⟩
  | .hbm, ⟨16, _⟩ => ⟨S1x1024x1024, .bf16⟩
  | .hbm, ⟨17, _⟩ => ⟨S1024x1024, .f32⟩
  | .hbm, ⟨18, _⟩ => ⟨S1024x1024, .f32⟩
  | .hbm, ⟨19, _⟩ => ⟨S1x1024x1024, .f32⟩
  | .hbm, ⟨20, _⟩ => ⟨S1x1024x1024, .bf16⟩
  | .hbm, ⟨21, _⟩ => ⟨S1x1024x1024, .bf16⟩
  | .hbm, ⟨22, _⟩ => ⟨S1x1024x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== AttValueWeightGradKernel.lean ====
abbrev S8192x1024 : Shape := ⟨2, ![8192, 1024]⟩
abbrev S1x1024 : Shape := ⟨2, ![1, 1024]⟩
abbrev S1x1024x3072 : Shape := ⟨3, ![1, 1024, 3072]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .f32⟩
  | .hbm, ⟨4, _⟩ => ⟨S1x1024x3072, .bf16⟩
  | .hbm, ⟨5, _⟩ => ⟨S1x1024x3072, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024x1024, .bf16⟩
  | .local _ .vmem, ⟨7, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v21 : BitVec 1 := Scalar.cmpi .eq arg2 c15_i32
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![c0_i32.toNat, arg0.toNat, v0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]
-- ==== AttValueWeightGradReferenceIdeal.lean ====
abbrev S8192x1024 : Shape := ⟨2, ![8192, 1024]⟩
abbrev S1x1024 : Shape := ⟨2, ![1, 1024]⟩
abbrev S1x1024x3072 : Shape := ⟨3, ![1, 1024, 3072]⟩
abbrev S_ : Shape := ⟨0, ![]⟩
abbrev S1x1024x1024 : Shape := ⟨3, ![1, 1024, 1024]⟩
abbrev S1024x1024 : Shape := ⟨2, ![1024, 1024]⟩
abbrev S1x1024x2048 : Shape := ⟨3, ![1, 1024, 2048]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .f32⟩
  | .hbm, ⟨4, _⟩ => ⟨S1x1024x3072, .bf16⟩
  | .hbm, ⟨5, _⟩ => ⟨S_, .f32⟩
  | .hbm, ⟨6, _⟩ => ⟨S1x1024x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S1024x1024, .f32⟩
  | .hbm, ⟨15, _⟩ => ⟨S8192x1024, .f32⟩
  | .hbm, ⟨16, _⟩ => ⟨S1x1024x2048, .bf16⟩
  | .hbm, ⟨17, _⟩ => ⟨S1024x1024, .f32⟩
  | .hbm, ⟨18, _⟩ => ⟨S1024x1024, .f32⟩
  | .hbm, ⟨19, _⟩ => ⟨S1x1024x1024, .f32⟩
  | .hbm, ⟨20, _⟩ => ⟨S1x1024x1024, .bf16⟩
  | .hbm, ⟨21, _⟩ => ⟨S1x1024x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Point.lean ====
/-
What one grid point of the attention-backward kernel computes, as functions of the blocks it is handed.

A point is a pair of heads (two heads side by side in 128 lanes) and a block of 256 query rows. It sees its own 256 rows of q
and of the output gradient, and three blocks of 256 keys and values: its own and the two before it. The two heads are worked
together: the rows of the first head are stacked on those of the second (512 rows), with the lanes of the other head set to zero.
Nothing here speaks of memory: the next module shows that the body leaves these values in its buffers.
-/
module

public import proofs.«01_k».proof.Proof.Gen.KernelIdeal.Frame
public import proofs.«01_k».proof.Proof.Gen.KernelIdeal.Skeleton
public import Idealize.ShloMosaic.Lib.VecWindow

@[expose] public section

noncomputable section

namespace Cert.Att

open Idealize.ShloMosaic Cert.KernelIdeal Cert.KernelIdeal.Gen

variable {F : FTy → Type} [FloatOps F] [Named F]

/-- The blocks a point reads: its query rows, its three blocks of keys and of values, the two tables the bias is laid out from,
    and its rows of the output gradient. -/
structure Inp (F : FTy → Type) where
  q : Vec F S256x128 .bf16
  k0 : Vec F S256x128 .bf16
  k1 : Vec F S256x128 .bf16
  k2 : Vec F S256x128 .bf16
  v0 : Vec F S256x128 .bf16
  v1 : Vec F S256x128 .bf16
  v2 : Vec F S256x128 .bf16
  tiles : Vec F S2x2x128x128 .f32
  clip : Vec F S2x1x128 .f32
  dO : Vec F S256x128 .bf16

/-- The bias of both heads, masked where a key is out of the query's reach: laid out once for a pair of heads, over whatever the
    scratch buffer held (every entry of it is written). -/
def biasOver (x : Inp F) (s : Vec F S512x768 .f32) : Vec F S512x768 .f32 :=
  VecWindow.put
    (VecWindow.put s ![0, 0] S256x768.size
      (k0_pay7 (VecWindow.window x.tiles ![0, 0, 0, 0] S1x2x128x128.size inb_S2x2x128x128_S1x2x128x128_0_0_0_0)
        (VecWindow.window x.clip ![0, 0, 0] S1x1x128.size inb_S2x1x128_S1x1x128_0_0_0)))
    ![256, 0] S256x768.size
    (k0_pay9 (k0_pay8 (VecWindow.window x.tiles ![1, 0, 0, 0] S1x2x128x128.size inb_S2x2x128x128_S1x2x128x128_1_0_0_0))
      (VecWindow.window x.clip ![1, 0, 0] S1x1x128.size inb_S2x1x128_S1x1x128_1_0_0))

/-- The lane numbers. -/
def lanes : IVec S1x128 32 := iota .tc S1x128 32 [1] iota_S1x128_d1_w32

/-- The softmax of the scores, both heads stacked. -/
def probs (i : grid0.Coords) (x : Inp F) (b : Vec F S512x768 .f32) : FVec F S512x768 .f32 :=
  k0_pay26 (k0_pay15 x.k0 x.k1 x.k2) (k0_pay17 (F := F) i) (k0_pay18 x.q) lanes k0_pay19 k0_pay20 b

/-- The gradient with respect to the softmax. -/
def dprobs (x : Inp F) : FVec F S512x768 .f32 :=
  k0_pay27 (k0_pay16 x.v0 x.v1 x.v2) x.dO lanes k0_pay19 k0_pay20

/-- Row sums of the softmax times its gradient. -/
def corr (i : grid0.Coords) (x : Inp F) (b : Vec F S512x768 .f32) : FVec F S512x1 .f32 :=
  k0_pay28 (k0_pay15 x.k0 x.k1 x.k2) (k0_pay16 x.v0 x.v1 x.v2) (k0_pay17 (F := F) i) (k0_pay18 x.q) x.dO lanes k0_pay19 k0_pay20 b

/-- The point's rows of the gradient of q, before the last cast. -/
def dqBlk (i : grid0.Coords) (x : Inp F) (b : Vec F S512x768 .f32) : FVec F S256x128 .f32 :=
  k0_pay31 (k0_pay15 x.k0 x.k1 x.k2) (k0_pay22 (F := F) k0_pay19) (k0_pay23 (F := F) lanes k0_pay20) (probs i x b) (dprobs x) (corr i x b)

/-- What the point adds to the gradient of its 768 keys. -/
def dkBlk (i : grid0.Coords) (x : Inp F) (b : Vec F S512x768 .f32) : FVec F S768x128 .f32 :=
  k0_pay32 (k0_pay24 (k0_pay18 x.q) lanes k0_pay19 k0_pay20) (probs i x b) (dprobs x) (corr i x b)

/-- What the point adds to the gradient of its 768 values. -/
def dvBlk (i : grid0.Coords) (x : Inp F) (b : Vec F S512x768 .f32) : FVec F S768x128 .f32 :=
  k0_pay33 (k0_pay25 x.dO lanes k0_pay19 k0_pay20) (probs i x b)

/-- Query block `g`'s key block `d` blocks back starts at this row; it lies inside the array. -/
theorem rows_inb (g d : ℕ) (hg : g < 32) : ∀ a, (![256 * (g - d), 0] : Fin 2 → ℕ) a + S256x128.size a ≤ S8192x128.size a :=
  Fin.forall_fin_two.mpr ⟨by show 256 * (g - d) + 256 ≤ 8192; omega, by show 0 + 128 ≤ 128; omega⟩

/-- One accumulation: `f` of the 256 rows of key block `g - d`, put back in their place. -/
def bump (g d : ℕ) (hg : g < 32) (f : Vec F S256x128 .f32 → FVec F S256x128 .f32) (X : Vec F S8192x128 .f32) : Vec F S8192x128 .f32 :=
  VecWindow.put X ![256 * (g - d), 0] S256x128.size (f (VecWindow.window X ![256 * (g - d), 0] S256x128.size (rows_inb g d hg)))

/-- The point's coordinate along the sequence. -/
abbrev seqc (i : grid0.Coords) : ℕ := (i 1).val

theorem seqc_lt (i : grid0.Coords) : seqc i < 32 := (i 1).isLt

/-- The key-gradient accumulator after a point, from what it held before. -/
def dkStep (i : grid0.Coords) (w : FVec F S768x128 .f32) (X : Vec F S8192x128 .f32) : Vec F S8192x128 .f32 :=
  let X0 := if seqc i = 0 then k0_pay10 else X
  let X1 := if 2 ≤ seqc i then bump (seqc i) 2 (seqc_lt i) (k0_pay48 w) X0 else X0
  let X2 := if 1 ≤ seqc i then bump (seqc i) 1 (seqc_lt i) (k0_pay1 w) X1 else X1
  bump (seqc i) 0 (seqc_lt i) (k0_pay3 w) X2

/-- The same for the values. -/
def dvStep (i : grid0.Coords) (w : FVec F S768x128 .f32) (X : Vec F S8192x128 .f32) : Vec F S8192x128 .f32 :=
  let X0 := if seqc i = 0 then k0_pay11 else X
  let X1 := if 2 ≤ seqc i then bump (seqc i) 2 (seqc_lt i) (k0_pay49 w) X0 else X0
  let X2 := if 1 ≤ seqc i then bump (seqc i) 1 (seqc_lt i) (k0_pay2 w) X1 else X1
  bump (seqc i) 0 (seqc_lt i) (k0_pay4 w) X2

/-- The column sums of the gradient of q after a point, from what they were before. -/
def sqStep (i : grid0.Coords) (w : FVec F S256x128 .f32) (X : Vec F S1x128 .f32) : Vec F S1x128 .f32 :=
  k0_pay47 w (if seqc i = 0 then k0_pay14 else X)

/-- The scratch buffer after a point. -/
def scrStep (i : grid0.Coords) (x : Inp F) (s : Vec F S512x768 .f32) : Vec F S512x768 .f32 :=
  if seqc i = 0 then biasOver x s else s

end Cert.Att

end
-- ==== Proof.Offs.lean ====
/-
The places of the three accumulations, and when each conditional store runs, in terms of the point's place along the sequence.
-/
module

public import proofs.«01_k».proof.Proof.Point

@[expose] public section

namespace Cert.Att

open Idealize.ShloMosaic Cert.KernelIdeal Cert.KernelIdeal.Gen

/-- From the third block on, the first accumulation is at the block two back. -/
theorem off1_eq (i : grid0.Coords) (h : 2 ≤ seqc i) : k0_off1 i = ![256 * (seqc i - 2), 0] := by
  obtain ⟨n, hn⟩ : ∃ n, n = (i 1).val := ⟨_, rfl⟩
  have hi : n < 32 := hn ▸ (i 1).isLt
  have h' : 2 ≤ n := hn ▸ h
  have g : Affine.IsInt (BitVec.ofNat 32 (i 1).val) (n : ℤ) := hn ▸ Affine.ofNat _ (by omega)
  have d : Affine.IsInt _ ((n : ℤ) - 2) := Affine.subi g (Affine.ofNat 2 (by omega) : Affine.IsInt 2#32 2) (by omega)
  have e : Affine.IsInt _ ((n : ℤ) - 2) := Affine.addi d (Affine.ofNat 0 (by omega) : Affine.IsInt 0#32 0) (by omega)
  have r : Affine.IsInt _ (256 * ((n : ℤ) - 2)) :=
    Affine.muli e (Affine.ofNat 256 (by omega) : Affine.IsInt 256#32 256) (by omega)
  show k0_off1 i = ![256 * ((i 1).val - 2), 0]
  rw [← hn]
  exact Affine.vec_cons (Affine.indexCast r) (by omega) <|
    Affine.vec_cons (Affine.ofNat 0 (by omega) : Affine.IsInt 0#32 0) (by omega) Affine.vec_nil

/-- From the second block on, the next accumulation is at the block before. -/
theorem off2_eq (i : grid0.Coords) (h : 1 ≤ seqc i) : k0_off2 i = ![256 * (seqc i - 1), 0] := by
  obtain ⟨n, hn⟩ : ∃ n, n = (i 1).val := ⟨_, rfl⟩
  have hi : n < 32 := hn ▸ (i 1).isLt
  have h' : 1 ≤ n := hn ▸ h
  have g : Affine.IsInt (BitVec.ofNat 32 (i 1).val) (n : ℤ) := hn ▸ Affine.ofNat _ (by omega)
  have d : Affine.IsInt _ ((n : ℤ) - 2) := Affine.subi g (Affine.ofNat 2 (by omega) : Affine.IsInt 2#32 2) (by omega)
  have e : Affine.IsInt _ ((n : ℤ) - 1) := Affine.addi d (Affine.ofNat 1 (by omega) : Affine.IsInt 1#32 1) (by omega)
  have r : Affine.IsInt _ (256 * ((n : ℤ) - 1)) :=
    Affine.muli e (Affine.ofNat 256 (by omega) : Affine.IsInt 256#32 256) (by omega)
  show k0_off2 i = ![256 * ((i 1).val - 1), 0]
  rw [← hn]
  exact Affine.vec_cons (Affine.indexCast r) (by omega) <|
    Affine.vec_cons (Affine.ofNat 0 (by omega) : Affine.IsInt 0#32 0) (by omega) Affine.vec_nil

/-- The last accumulation is at the point's own block. -/
theorem off3_eq (i : grid0.Coords) : k0_off3 i = ![256 * (seqc i - 0), 0] := k0_off3_eq i

section
variable (i : grid0.Coords)

theorem cond1_iff : k0_cond1 i = 1#1 ↔ seqc i = 0 :=
  (by decide +kernel : ∀ n : Fin 32, Scalar.cmpi .ne (Scalar.extui (Scalar.cmpi .eq (BitVec.ofNat 32 n.val) 0#32) : BitVec 32) 0#32 = 1#1
    ↔ n.val = 0) (i 1)

theorem cond2_iff : k0_cond2 i = 1#1 ↔ 2 ≤ seqc i :=
  (by decide +kernel : ∀ n : Fin 32, Scalar.cmpi .ne (Scalar.extui (Scalar.cmpi .sge (Scalar.addi (Scalar.subi (BitVec.ofNat 32 n.val) 2#32) 0#32) 0#32) : BitVec 32) 0#32 = 1#1
    ↔ 2 ≤ n.val) (i 1)

theorem cond3_iff : k0_cond3 i = 1#1 ↔ 1 ≤ seqc i :=
  (by decide +kernel : ∀ n : Fin 32, Scalar.cmpi .ne (Scalar.extui (Scalar.cmpi .sge (Scalar.addi (Scalar.subi (BitVec.ofNat 32 n.val) 2#32) 1#32) 0#32) : BitVec 32) 0#32 = 1#1
    ↔ 1 ≤ n.val) (i 1)

theorem cond4_always : k0_cond4 i = 1#1 :=
  (by decide +kernel : ∀ n : Fin 32, Scalar.cmpi .ne (Scalar.extui (Scalar.cmpi .sge (Scalar.addi (Scalar.subi (BitVec.ofNat 32 n.val) 2#32) 2#32) 0#32) : BitVec 32) 0#32 = 1#1) (i 1)

theorem cond5_iff : k0_cond5 i = 1#1 ↔ seqc i = 31 :=
  (by decide +kernel : ∀ n : Fin 32, Scalar.cmpi .ne (Scalar.extui (Scalar.cmpi .eq (BitVec.ofNat 32 n.val) 31#32) : BitVec 32) 0#32 = 1#1
    ↔ n.val = 31) (i 1)

end

end Cert.Att
-- ==== Proof.Body.lean ====
/-
The body of the kernel at one grid point: from buffers at any contents it leaves in each result's buffer the values
`Point.lean` names. The grid points fall into four cases, by which of the conditional stores run.
-/
module

public import proofs.«01_k».proof.Proof.Offs

@[expose] public section

set_option maxRecDepth 16384

noncomputable section

namespace Cert.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The buffers one call of the body works on. -/
structure Bufs where
  a2 : Memref sig .tc .vmem S256x128 .bf16
  h2 : a2.IsWhole
  a3 : Memref sig .tc .vmem S256x128 .bf16
  h3 : a3.IsWhole
  a4 : Memref sig .tc .vmem S256x128 .bf16
  h4 : a4.IsWhole
  a5 : Memref sig .tc .vmem S256x128 .bf16
  h5 : a5.IsWhole
  a6 : Memref sig .tc .vmem S256x128 .bf16
  h6 : a6.IsWhole
  a7 : Memref sig .tc .vmem S256x128 .bf16
  h7 : a7.IsWhole
  a8 : Memref sig .tc .vmem S256x128 .bf16
  h8 : a8.IsWhole
  a9 : Memref sig .tc .vmem S2x2x128x128 .f32
  h9 : a9.IsWhole
  a10 : Memref sig .tc .vmem S2x1x128 .f32
  h10 : a10.IsWhole
  a11 : Memref sig .tc .vmem S256x128 .bf16
  h11 : a11.IsWhole
  a12 : Memref sig .tc .vmem S256x128 .bf16
  h12 : a12.IsWhole
  a13 : Memref sig .tc .vmem S8192x128 .f32
  h13 : a13.IsWhole
  a14 : Memref sig .tc .vmem S8192x128 .f32
  h14 : a14.IsWhole
  a15 : Memref sig .tc .vmem S2x2x128x128 .f32
  h15 : a15.IsWhole
  a16 : Memref sig .tc .vmem S2x1x128 .f32
  h16 : a16.IsWhole
  a17 : Memref sig .tc .vmem S1x128 .f32
  h17 : a17.IsWhole
  a18 : Memref sig .tc .vmem S1x128 .f32
  h18 : a18.IsWhole
  a19 : Memref sig .tc .vmem S1x128 .f32
  h19 : a19.IsWhole
  a20 : Memref sig .tc .vmem S512x768 .f32
  h20 : a20.IsWhole

/-- The body on a set of buffers. -/
abbrev body (i : grid0.Coords) (B : Bufs) : Prog (TpuEff nD τ sig (Elt F) Λ₀ .tc) PUnit :=
  cc0_att_core_bwd i B.a2 B.h2 B.a3 B.h3 B.a4 B.h4 B.a5 B.h5 B.a6 B.h6 B.a7 B.h7 B.a8 B.h8 B.a9 B.h9 B.a10 B.h10 B.a11 B.h11
    B.a12 B.h12 B.a13 B.h13 B.a14 B.h14 B.a15 B.h15 B.a16 B.h16 B.a17 B.h17 B.a18 B.h18 B.a19 B.h19 B.a20 B.h20

/-- The inputs' buffers, holding a point's blocks. -/
def inputs (c : Dev nD) (B : Bufs) (x : Inp F) : sProp 𝕄 :=
  iprop(owns (c : Thread nD τ) B.a2 fullShare x.q ∗ owns (c : Thread nD τ) B.a3 fullShare x.k0
    ∗ owns (c : Thread nD τ) B.a4 fullShare x.k1 ∗ owns (c : Thread nD τ) B.a5 fullShare x.k2
    ∗ owns (c : Thread nD τ) B.a6 fullShare x.v0 ∗ owns (c : Thread nD τ) B.a7 fullShare x.v1
    ∗ owns (c : Thread nD τ) B.a8 fullShare x.v2 ∗ owns (c : Thread nD τ) B.a9 fullShare x.tiles
    ∗ owns (c : Thread nD τ) B.a10 fullShare x.clip ∗ owns (c : Thread nD τ) B.a11 fullShare x.dO)

/-- Contents of the buffers the body writes. The two partial sums of the bias gradient are kept at some contents. -/
structure Out (F : FTy → Type) where
  dq : Vec F S256x128 .bf16
  dk : Vec F S8192x128 .f32
  dv : Vec F S8192x128 .f32
  sq : Vec F S1x128 .f32
  sk : Vec F S1x128 .f32
  sv : Vec F S1x128 .f32
  scr : Vec F S512x768 .f32

/-- The buffers the body writes, at given contents. -/
def outputs (c : Dev nD) (B : Bufs) (y : Out F) : sProp 𝕄 :=
  iprop(owns (c : Thread nD τ) B.a12 fullShare y.dq ∗ owns (c : Thread nD τ) B.a13 fullShare y.dk
    ∗ owns (c : Thread nD τ) B.a14 fullShare y.dv
    ∗ (∃ d : Vec F S2x2x128x128 .f32, owns (c : Thread nD τ) B.a15 fullShare d)
    ∗ (∃ d : Vec F S2x1x128 .f32, owns (c : Thread nD τ) B.a16 fullShare d)
    ∗ owns (c : Thread nD τ) B.a17 fullShare y.sq ∗ owns (c : Thread nD τ) B.a18 fullShare y.sk
    ∗ owns (c : Thread nD τ) B.a19 fullShare y.sv ∗ owns (c : Thread nD τ) B.a20 fullShare y.scr)

/-- A whole buffer owned at contents `X`, as its cells at the contents that read `X`. -/
theorem owns_whole (c : Dev nD) {s : Shape} {e : EltTy} (a : Memref sig .tc .vmem s e) (h : a.IsWhole) (X : s.Idx → Elt F e) :
    (owns (c : Thread nD τ) a fullShare X : sProp 𝕄) ⊣⊢ iprop(a.view.loc (c : Thread nD τ) ↦[a.view.set]{fullShare} h.unread X) := by
  unfold owns
  constructor
  · iintro ⟨%f, %hf, H⟩
    obtain rfl := h.eq_unread hf
    iexact H
  · iintro H
    iexists _; isplitr; swap; · iexact H
    ipureintro; exact h.read_unread _

/-- Cells that read `X` are the buffer owned at `X`. -/
theorem owns_of_read (c : Dev nD) {s : Shape} {e : EltTy} (a : Memref sig .tc .vmem s e) {f : BufTy.Contents (Elt F) a.view.ty}
    {X : s.Idx → Elt F e} (h : a.view.read (Elt F) f = X) :
    iprop(a.view.loc (c : Thread nD τ) ↦[a.view.set]{fullShare} f) ⊢ (owns (c : Thread nD τ) a fullShare X : sProp 𝕄) := by
  unfold owns
  iintro H
  iexists _; isplitr; swap; · iexact H
  ipureintro; exact h

/-- A buffer's cells at the contents that read `X`. -/
abbrev cells (c : Dev nD) {s : Shape} {e : EltTy} (a : Memref sig .tc .vmem s e) (h : a.IsWhole) (X : s.Idx → Elt F e) : sProp 𝕄 :=
  iprop(a.view.loc (c : Thread nD τ) ↦[a.view.set]{fullShare} h.unread X)

theorem inputs_cells (c : Dev nD) (B : Bufs) (x : Inp F) : inputs c B x ⊣⊢
    iprop(cells c B.a2 B.h2 x.q ∗ cells c B.a3 B.h3 x.k0 ∗ cells c B.a4 B.h4 x.k1 ∗ cells c B.a5 B.h5 x.k2 ∗ cells c B.a6 B.h6 x.v0
      ∗ cells c B.a7 B.h7 x.v1 ∗ cells c B.a8 B.h8 x.v2 ∗ cells c B.a9 B.h9 x.tiles ∗ cells c B.a10 B.h10 x.clip
      ∗ cells c B.a11 B.h11 x.dO) :=
  sep_congr (owns_whole ..) <| sep_congr (owns_whole ..) <| sep_congr (owns_whole ..) <| sep_congr (owns_whole ..) <|
    sep_congr (owns_whole ..) <| sep_congr (owns_whole ..) <| sep_congr (owns_whole ..) <| sep_congr (owns_whole ..) <|
    sep_congr (owns_whole ..) (owns_whole ..)

theorem outputs_cells (c : Dev nD) (B : Bufs) (y : Out F) : outputs c B y ⊣⊢
    iprop(cells c B.a12 B.h12 y.dq ∗ cells c B.a13 B.h13 y.dk ∗ cells c B.a14 B.h14 y.dv
      ∗ (∃ d : Vec F S2x2x128x128 .f32, cells c B.a15 B.h15 d) ∗ (∃ d : Vec F S2x1x128 .f32, cells c B.a16 B.h16 d)
      ∗ cells c B.a17 B.h17 y.sq ∗ cells c B.a18 B.h18 y.sk ∗ cells c B.a19 B.h19 y.sv ∗ cells c B.a20 B.h20 y.scr) :=
  sep_congr (owns_whole ..) <| sep_congr (owns_whole ..) <| sep_congr (owns_whole ..) <|
    sep_congr (exists_congr fun _ => owns_whole ..) <| sep_congr (exists_congr fun _ => owns_whole ..) <|
    sep_congr (owns_whole ..) <| sep_congr (owns_whole ..) <| sep_congr (owns_whole ..) (owns_whole ..)

/-- What the body makes of them. -/
def Out.step (i : grid0.Coords) (x : Inp F) (y : Out F) : Out F :=
  let b := scrStep i x y.scr
  let dk := dkStep i (dkBlk i x b) y.dk
  let dv := dvStep i (dvBlk i x b) y.dv
  { dq := k0_pay46 (dqBlk i x b), dk := dk, dv := dv, sq := sqStep i (dqBlk i x b) y.sq
    sk := if seqc i = 31 then k0_pay5 dk else y.sk, sv := if seqc i = 31 then k0_pay6 dv else y.sv, scr := b }

/-- A load of a whole buffer reads its contents. -/
theorem load256 {e : EltTy} (a : Memref sig .tc .vmem S256x128 e) (h : a.IsWhole) (X : S256x128.Idx → Elt F e)
    (inb : ∀ k, (![0, 0] : Fin 2 → ℕ) k + (![256, 128] : Fin 2 → ℕ) k ≤ S256x128.size k) :
    a.view.readAt (Elt F) (Rect.unit (s := S256x128) ![0, 0] ![256, 128] inb).toLoadRect (h.unread X) = X :=
  (View.readAt_full ..).trans (h.read_unread X)

theorem load512 {e : EltTy} (a : Memref sig .tc .vmem S512x768 e) (h : a.IsWhole) (X : S512x768.Idx → Elt F e)
    (inb : ∀ k, (![0, 0] : Fin 2 → ℕ) k + (![512, 768] : Fin 2 → ℕ) k ≤ S512x768.size k) :
    a.view.readAt (Elt F) (Rect.unit (s := S512x768) ![0, 0] ![512, 768] inb).toLoadRect (h.unread X) = X :=
  (View.readAt_full ..).trans (h.read_unread X)

/-- An accumulation, as the contents of the buffer after it. -/
theorem read_bump {a : Memref sig .tc .vmem S8192x128 .f32} {f : BufTy.Contents (Elt F) a.view.ty} {off : Fin 2 → ℕ}
    {inb : ∀ k, off k + S256x128.size k ≤ S8192x128.size k} {L : List (View.Piece (Elt F) S8192x128 .f32)} (g d : ℕ) (hg : g < 32)
    (h : off = ![256 * (g - d), 0]) (pay : Vec F S256x128 .f32 → FVec F S256x128 .f32) :
    a.view.read (Elt F) (a.view.writes (Elt F) f (⟨Rect.unit (s := S8192x128) off S256x128.size inb,
        pay (a.view.readAt (Elt F) (Rect.unit (s := S8192x128) off S256x128.size inb).toLoadRect (a.view.writes (Elt F) f L))⟩ :: L))
      = bump g d hg pay (a.view.read (Elt F) (a.view.writes (Elt F) f L)) := by
  rw [View.read_writes_cons_put _ _ _ _ _ h, View.readAt_unit _ _ _ h (rows_inb g d hg)]
  rfl

/-- The accumulators after the first point of a sequence, -/
theorem dkStep_first (i : grid0.Coords) (h : seqc i = 0) (w : FVec F S768x128 .f32) (X : Vec F S8192x128 .f32) :
    dkStep i w X = bump (seqc i) 0 (seqc_lt i) (k0_pay3 w) k0_pay10 := by
  have h2 : ¬ 2 ≤ seqc i := by rw [h]; omega
  have h1 : ¬ 1 ≤ seqc i := by rw [h]; omega
  simp only [dkStep, if_pos h, if_neg h1, if_neg h2]

theorem dvStep_first (i : grid0.Coords) (h : seqc i = 0) (w : FVec F S768x128 .f32) (X : Vec F S8192x128 .f32) :
    dvStep i w X = bump (seqc i) 0 (seqc_lt i) (k0_pay4 w) k0_pay11 := by
  have h2 : ¬ 2 ≤ seqc i := by rw [h]; omega
  have h1 : ¬ 1 ≤ seqc i := by rw [h]; omega
  simp only [dvStep, if_pos h, if_neg h1, if_neg h2]

/-- after the second, -/
theorem dkStep_second (i : grid0.Coords) (h : 1 ≤ seqc i) (h2 : ¬ 2 ≤ seqc i) (w : FVec F S768x128 .f32) (X : Vec F S8192x128 .f32) :
    dkStep i w X = bump (seqc i) 0 (seqc_lt i) (k0_pay3 w) (bump (seqc i) 1 (seqc_lt i) (k0_pay1 w) X) := by
  simp only [dkStep, if_neg (Nat.ne_of_gt h), if_neg h2, if_pos h]

theorem dvStep_second (i : grid0.Coords) (h : 1 ≤ seqc i) (h2 : ¬ 2 ≤ seqc i) (w : FVec F S768x128 .f32) (X : Vec F S8192x128 .f32) :
    dvStep i w X = bump (seqc i) 0 (seqc_lt i) (k0_pay4 w) (bump (seqc i) 1 (seqc_lt i) (k0_pay2 w) X) := by
  simp only [dvStep, if_neg (Nat.ne_of_gt h), if_neg h2, if_pos h]

/-- and after a later one, which adds to all three blocks. -/
theorem dkStep_three (i : grid0.Coords) (h : 2 ≤ seqc i) (w : FVec F S768x128 .f32) (X : Vec F S8192x128 .f32) :
    dkStep i w X = bump (seqc i) 0 (seqc_lt i) (k0_pay3 w) (bump (seqc i) 1 (seqc_lt i) (k0_pay1 w)
      (bump (seqc i) 2 (seqc_lt i) (k0_pay48 w) X)) := by
  simp only [dkStep, if_neg (Nat.ne_of_gt (Nat.le_of_succ_le h)), if_pos h, if_pos (Nat.le_of_succ_le h)]

theorem dvStep_three (i : grid0.Coords) (h : 2 ≤ seqc i) (w : FVec F S768x128 .f32) (X : Vec F S8192x128 .f32) :
    dvStep i w X = bump (seqc i) 0 (seqc_lt i) (k0_pay4 w) (bump (seqc i) 1 (seqc_lt i) (k0_pay2 w)
      (bump (seqc i) 2 (seqc_lt i) (k0_pay49 w) X)) := by
  simp only [dvStep, if_neg (Nat.ne_of_gt (Nat.le_of_succ_le h)), if_pos h, if_pos (Nat.le_of_succ_le h)]

/-- What a first point lays out as the bias does not depend on what the buffer held. -/
theorem biasOver_indep (x : Inp F) (s s' : Vec F S512x768 .f32) : biasOver x s = biasOver x s' := by
  funext j
  unfold biasOver VecWindow.put
  by_cases h : 256 ≤ (j 0).val
  · have hm : ∀ a : Fin 2, (![256, 0] : Fin 2 → ℕ) a ≤ (j a).val ∧ (j a).val < (![256, 0] : Fin 2 → ℕ) a + S256x768.size a :=
      Fin.forall_fin_two.mpr ⟨⟨h, (j 0).isLt⟩, ⟨Nat.zero_le _, (j 1).isLt⟩⟩
    rw [dif_pos hm, dif_pos hm]
  · have hn : ¬ ∀ a : Fin 2, (![256, 0] : Fin 2 → ℕ) a ≤ (j a).val ∧ (j a).val < (![256, 0] : Fin 2 → ℕ) a + S256x768.size a :=
      fun hm => h (hm 0).1
    have hm : ∀ a : Fin 2, (![0, 0] : Fin 2 → ℕ) a ≤ (j a).val ∧ (j a).val < (![0, 0] : Fin 2 → ℕ) a + S256x768.size a :=
      Fin.forall_fin_two.mpr ⟨⟨Nat.zero_le _, by show (j 0).val < 0 + 256; omega⟩, ⟨Nat.zero_le _, by show (j 1).val < 0 + 768; have := (j 1).isLt; show (j 1).val < 768; exact this⟩⟩
    rw [dif_neg hn, dif_neg hn, dif_pos hm, dif_pos hm]

/-- The same where the load was stated over another base, the contents before it being known either way. -/
theorem read_bump_of {a : Memref sig .tc .vmem S8192x128 .f32} {f f' : BufTy.Contents (Elt F) a.view.ty} {off : Fin 2 → ℕ}
    {inb : ∀ k, off k + S256x128.size k ≤ S8192x128.size k} {L L' : List (View.Piece (Elt F) S8192x128 .f32)} (g d : ℕ) (hg : g < 32)
    (h : off = ![256 * (g - d), 0]) (pay : Vec F S256x128 .f32 → FVec F S256x128 .f32) {Z : Vec F S8192x128 .f32}
    (hf : a.view.read (Elt F) (a.view.writes (Elt F) f L) = Z) (hf' : a.view.read (Elt F) (a.view.writes (Elt F) f' L') = Z) :
    a.view.read (Elt F) (a.view.writes (Elt F) f (⟨Rect.unit (s := S8192x128) off S256x128.size inb,
        pay (a.view.readAt (Elt F) (Rect.unit (s := S8192x128) off S256x128.size inb).toLoadRect (a.view.writes (Elt F) f' L'))⟩ :: L))
      = bump g d hg pay Z := by
  rw [View.read_writes_cons_put _ _ _ _ _ h, View.readAt_unit _ _ _ h (rows_inb g d hg), hf, hf']
  rfl

/-- A load of a part of a whole buffer reads that part of its contents. -/
theorem load_window {s : Shape} {e : EltTy} (a : Memref sig .tc .vmem s e) (h : a.IsWhole) (X : s.Idx → Elt F e) {off size : Fin s.rank → ℕ}
    (inb : ∀ k, off k + size k ≤ s.size k) :
    a.view.readAt (Elt F) (Rect.unit off size inb).toLoadRect (h.unread X) = VecWindow.window X off size inb := by
  rw [View.readAt_unit _ _ _ rfl inb, h.read_unread]

/-- The two stores that lay the bias out leave `biasOver` in the buffer. -/
theorem read_bias (B : Bufs) (x : Inp F) (f : BufTy.Contents (Elt F) B.a20.view.ty) :
    B.a20.view.read (Elt F) (B.a20.view.writes (Elt F) f
      [⟨Rect.unit (s := S512x768) ![256, 0] S256x768.size inb_S512x768_S256x768_256_0,
        k0_pay9 (k0_pay8 (B.a9.view.readAt (Elt F) (Rect.unit (s := S2x2x128x128) ![1, 0, 0, 0] S1x2x128x128.size
            inb_S2x2x128x128_S1x2x128x128_1_0_0_0).toLoadRect (B.h9.unread x.tiles)))
          (B.a10.view.readAt (Elt F) (Rect.unit (s := S2x1x128) ![1, 0, 0] S1x1x128.size inb_S2x1x128_S1x1x128_1_0_0).toLoadRect
            (B.h10.unread x.clip))⟩,
       ⟨Rect.unit (s := S512x768) ![0, 0] S256x768.size inb_S512x768_S256x768_0_0,
        k0_pay7 (B.a9.view.readAt (Elt F) (Rect.unit (s := S2x2x128x128) ![0, 0, 0, 0] S1x2x128x128.size
            inb_S2x2x128x128_S1x2x128x128_0_0_0_0).toLoadRect (B.h9.unread x.tiles))
          (B.a10.view.readAt (Elt F) (Rect.unit (s := S2x1x128) ![0, 0, 0] S1x1x128.size inb_S2x1x128_S1x1x128_0_0_0).toLoadRect
            (B.h10.unread x.clip))⟩])
      = biasOver x (B.a20.view.read (Elt F) f) := by
  rw [View.read_writes_cons_put _ _ _ _ _ rfl, View.read_writes_cons_put _ _ _ _ _ rfl, load_window B.a9 B.h9, load_window B.a9 B.h9,
    load_window B.a10 B.h10, load_window B.a10 B.h10]
  rfl

instance closedOff1 (i : grid0.Coords) [h : Fact (2 ≤ (i 1).val)] : ClosedOff (k0_off1 i) := ⟨![256 * ((i 1).val - 2), 0], off1_eq i h.out⟩

instance closedOff2 (i : grid0.Coords) [h : Fact (1 ≤ (i 1).val)] : ClosedOff (k0_off2 i) := ⟨![256 * ((i 1).val - 1), 0], off2_eq i h.out⟩

end Cert.Att

end
-- ==== Proof.RunA.lean ====
/-
The body at the first point of a sequence: it lays the bias out and clears the accumulators.
-/
module

public import proofs.«01_k».proof.Proof.Body

@[expose] public section

set_option maxRecDepth 16384

noncomputable section

namespace Cert.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

set_option maxHeartbeats 1000000 in
theorem run_A (c : Dev nD) (i : grid0.Coords) (B : Bufs) (x : Inp F) (y : Out F) (E : Set ℕ) (K : PUnit → sProp 𝕄)
    (hc1 : k0_cond1 i = 1#1) (hc2 : ¬ k0_cond2 i = 1#1) (hc3 : ¬ k0_cond3 i = 1#1) (hc4 : k0_cond4 i = 1#1) (hc5 : ¬ k0_cond5 i = 1#1) :
    iprop((inputs c B x ∗ outputs c B y) ∗ (iprop(inputs c B x ∗ outputs c B (y.step i x)) -∗ K ⟨⟩))
      ⊢ wp frame (wpE (defs₀ (F := F)) Variants.none c none) E (body i B) K := by
  have hg : seqc i = 0 := (cond1_iff i).mp hc1
  refine (sep_mono (sep_mono (inputs_cells c B x).1 (outputs_cells c B y).1) .rfl).trans ?_
  iintro ⟨⟨⟨H0, H1, H2, H3, H4, H5, H6, H7, H8, H9⟩, ⟨H10, H11, H12, ⟨%d13, H13⟩, ⟨%d14, H14⟩, H15, H16, H17, H18⟩⟩, Hk⟩
  unfold body
  simp only [cc0_att_core_bwd_eq_skeleton]; unfold cc0_att_core_bwd_skel
  simp only [k0_part1_eq_skeleton, k0_part2_eq_skeleton, k0_part3_eq_skeleton, k0_part4_eq_skeleton, k0_part5_eq_skeleton, k0_part6_eq_skeleton, k0_part7_eq_skeleton]
  sl_exec (disch := first | sl_exact hc1 | sl_exact hc2 | sl_exact hc3 | sl_exact hc4 | sl_exact hc5)
  sl_step
  iapply Hk
  isplitl [H0 H1 H2 H3 H4 H5 H6 H7 H8 H9]
  · iapply (inputs_cells c B x).2
    iframe
  have hs : scrStep i x y.scr = biasOver x y.scr := if_pos hg
  have e58 : run_A.sl.v58 B x = biasOver x y.scr :=
    ((View.readAt_full ..).trans (read_bias B x _)).trans (biasOver_indep x _ _)
  have e11 : run_A.sl.r_11 i B x = dqBlk i x (biasOver x y.scr) := by
    rw [← e58]
    delta run_A.sl.r_11 run_A.sl.r_1 run_A.sl.r_2 run_A.sl.r_3 run_A.sl.r_4 run_A.sl.r_7 run_A.sl.r_8 run_A.sl.r_9
    simp only [load256]
    rfl
  have e12 : run_A.sl.r_12 i B x = dkBlk i x (biasOver x y.scr) := by
    rw [← e58]
    delta run_A.sl.r_12 run_A.sl.r_1 run_A.sl.r_2 run_A.sl.r_3 run_A.sl.r_4 run_A.sl.r_5 run_A.sl.r_7 run_A.sl.r_8 run_A.sl.r_9
    simp only [load256]
    rfl
  have e13 : run_A.sl.r_13 i B x = dvBlk i x (biasOver x y.scr) := by
    rw [← e58]
    delta run_A.sl.r_13 run_A.sl.r_1 run_A.sl.r_3 run_A.sl.r_4 run_A.sl.r_6 run_A.sl.r_7
    simp only [load256]
    rfl
  unfold outputs Out.step
  simp only [hs, if_neg (fun h => hc5 ((cond5_iff i).mpr h)), dkStep_first i hg, dvStep_first i hg, ← e11, ← e12, ← e13]
  isplitl [H10]; · iapply owns_of_read c B.a12 (View.read_writes_full ..); iexact H10
  isplitl [H11]
  · iapply owns_of_read c B.a13 (read_bump_of _ 0 (seqc_lt i) (off3_eq i) (k0_pay3 _) (View.read_writes_full ..) (View.read_writes_full ..))
    iexact H11
  isplitl [H12]
  · iapply owns_of_read c B.a14 (read_bump_of _ 0 (seqc_lt i) (off3_eq i) (k0_pay4 _) (View.read_writes_full ..) (View.read_writes_full ..))
    iexact H12
  isplitl [H13]; · iexists _; iapply owns_of_read c B.a15 rfl; iexact H13
  isplitl [H14]; · iexists _; iapply owns_of_read c B.a16 rfl; iexact H14
  isplitl [H15]
  · rw [sqStep, if_pos hg]
    iapply owns_of_read c B.a17 ?_; swap; · iexact H15
    refine (View.read_writes_full ..).trans (congrArg (k0_pay47 _) ?_)
    exact View.readCov_full ..
  isplitl [H16]; · iapply (owns_whole c B.a18 B.h18 _).2; iexact H16
  isplitl [H17]; · iapply (owns_whole c B.a19 B.h19 _).2; iexact H17
  iapply owns_of_read c B.a20 ((read_bias B x _).trans (biasOver_indep x _ _)); iexact H18

end Cert.Att

end
-- ==== Proof.RunB.lean ====
/-
The body at the second point of a sequence: there is no block two back.
-/
module

public import proofs.«01_k».proof.Proof.Body

@[expose] public section

set_option maxRecDepth 16384

noncomputable section

namespace Cert.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

set_option maxHeartbeats 1000000 in
theorem run_B (c : Dev nD) (i : grid0.Coords) (B : Bufs) (x : Inp F) (y : Out F) (E : Set ℕ) (K : PUnit → sProp 𝕄)
    (hc1 : ¬ k0_cond1 i = 1#1) (hc2 : ¬ k0_cond2 i = 1#1) (hc3 : k0_cond3 i = 1#1) (hc4 : k0_cond4 i = 1#1) (hc5 : ¬ k0_cond5 i = 1#1) :
    iprop((inputs c B x ∗ outputs c B y) ∗ (iprop(inputs c B x ∗ outputs c B (y.step i x)) -∗ K ⟨⟩))
      ⊢ wp frame (wpE (defs₀ (F := F)) Variants.none c none) E (body i B) K := by
  have hg : 1 ≤ (i 1).val := (cond3_iff i).mp hc3
  have hg2 : ¬ 2 ≤ (i 1).val := fun h => hc2 ((cond2_iff i).mpr h)
  have hg' : (i 1).val < 32 := seqc_lt i
  haveI : Fact (1 ≤ (i 1).val) := ⟨hg⟩
  refine (sep_mono (sep_mono (inputs_cells c B x).1 (outputs_cells c B y).1) .rfl).trans ?_
  iintro ⟨⟨⟨H0, H1, H2, H3, H4, H5, H6, H7, H8, H9⟩, ⟨H10, H11, H12, ⟨%d13, H13⟩, ⟨%d14, H14⟩, H15, H16, H17, H18⟩⟩, Hk⟩
  unfold body
  simp only [cc0_att_core_bwd_eq_skeleton]; unfold cc0_att_core_bwd_skel
  simp only [k0_part3_eq_skeleton, k0_part4_eq_skeleton, k0_part5_eq_skeleton, k0_part6_eq_skeleton, k0_part7_eq_skeleton]
  sl_exec (disch := first | sl_exact hc1 | sl_exact hc2 | sl_exact hc3 | sl_exact hc4 | sl_exact hc5)
  sl_step
  iapply Hk
  isplitl [H0 H1 H2 H3 H4 H5 H6 H7 H8 H9]
  · iapply (inputs_cells c B x).2
    iframe
  have hs : scrStep i x y.scr = y.scr := if_neg fun h => hc1 ((cond1_iff i).mpr h)
  have e10 : run_B.sl.r_10 i B x y = dqBlk i x y.scr := by
    delta run_B.sl.r_10 run_B.sl.r run_B.sl.r_1 run_B.sl.r_2 run_B.sl.r_3 run_B.sl.r_6 run_B.sl.r_7 run_B.sl.r_8
    simp only [load256, load512]
    rfl
  have e11 : run_B.sl.r_11 i B x y = dkBlk i x y.scr := by
    delta run_B.sl.r_11 run_B.sl.r run_B.sl.r_1 run_B.sl.r_2 run_B.sl.r_3 run_B.sl.r_4 run_B.sl.r_6 run_B.sl.r_7 run_B.sl.r_8
    simp only [load256, load512]
    rfl
  have e12 : run_B.sl.r_12 i B x y = dvBlk i x y.scr := by
    delta run_B.sl.r_12 run_B.sl.r run_B.sl.r_2 run_B.sl.r_3 run_B.sl.r_5 run_B.sl.r_6
    simp only [load256, load512]
    rfl
  unfold outputs Out.step
  simp only [hs, if_neg (fun h => hc5 ((cond5_iff i).mpr h)), dkStep_second i hg hg2, dvStep_second i hg hg2, ← e10, ← e11, ← e12]
  isplitl [H10]; · iapply owns_of_read c B.a12 (View.read_writes_full ..); iexact H10
  isplitl [H11]
  · iapply owns_of_read c B.a13 (((read_bump _ 0 (seqc_lt i) (off3_eq i) (k0_pay3 _)).trans (congrArg _
      ((read_bump _ 1 (seqc_lt i) (off2_eq i hg) (L := []) (k0_pay1 _)).trans (congrArg _ (B.h13.read_unread _))))))
    iexact H11
  isplitl [H12]
  · iapply owns_of_read c B.a14 (((read_bump _ 0 (seqc_lt i) (off3_eq i) (k0_pay4 _)).trans (congrArg _
      ((read_bump _ 1 (seqc_lt i) (off2_eq i hg) (L := []) (k0_pay2 _)).trans (congrArg _ (B.h14.read_unread _))))))
    iexact H12
  isplitl [H13]; · iexists _; iapply owns_of_read c B.a15 rfl; iexact H13
  isplitl [H14]; · iexists _; iapply owns_of_read c B.a16 rfl; iexact H14
  isplitl [H15]
  · rw [sqStep, if_neg fun h => hc1 ((cond1_iff i).mpr h)]
    iapply owns_of_read c B.a17 ((View.read_writes_full ..).trans (congrArg _ ((View.readAt_full ..).trans (B.h17.read_unread _)))); iexact H15
  isplitl [H16]; · iapply (owns_whole c B.a18 B.h18 _).2; iexact H16
  isplitl [H17]; · iapply (owns_whole c B.a19 B.h19 _).2; iexact H17
  iapply (owns_whole c B.a20 B.h20 _).2; iexact H18

end Cert.Att

end
-- ==== Proof.RunC.lean ====
/-
The body at the points between the ends of the sequence.
-/
module

public import proofs.«01_k».proof.Proof.Body

@[expose] public section

set_option maxRecDepth 16384

noncomputable section

namespace Cert.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

set_option maxHeartbeats 1000000 in
theorem run_C (c : Dev nD) (i : grid0.Coords) (B : Bufs) (x : Inp F) (y : Out F) (E : Set ℕ) (K : PUnit → sProp 𝕄)
    (hc1 : ¬ k0_cond1 i = 1#1) (hc2 : k0_cond2 i = 1#1) (hc3 : k0_cond3 i = 1#1) (hc4 : k0_cond4 i = 1#1) (hc5 : ¬ k0_cond5 i = 1#1) :
    iprop((inputs c B x ∗ outputs c B y) ∗ (iprop(inputs c B x ∗ outputs c B (y.step i x)) -∗ K ⟨⟩))
      ⊢ wp frame (wpE (defs₀ (F := F)) Variants.none c none) E (body i B) K := by
  have hg : 2 ≤ (i 1).val := (cond2_iff i).mp hc2
  have hg' : (i 1).val < 32 := seqc_lt i
  haveI : Fact (2 ≤ (i 1).val) := ⟨hg⟩
  haveI : Fact (1 ≤ (i 1).val) := ⟨Nat.le_of_succ_le hg⟩
  refine (sep_mono (sep_mono (inputs_cells c B x).1 (outputs_cells c B y).1) .rfl).trans ?_
  iintro ⟨⟨⟨H0, H1, H2, H3, H4, H5, H6, H7, H8, H9⟩, ⟨H10, H11, H12, ⟨%d13, H13⟩, ⟨%d14, H14⟩, H15, H16, H17, H18⟩⟩, Hk⟩
  unfold body
  simp only [cc0_att_core_bwd_eq_skeleton]; unfold cc0_att_core_bwd_skel
  simp only [k0_part3_eq_skeleton, k0_part4_eq_skeleton, k0_part5_eq_skeleton, k0_part6_eq_skeleton, k0_part7_eq_skeleton]
  sl_exec (disch := first | sl_exact hc1 | sl_exact hc2 | sl_exact hc3 | sl_exact hc4 | sl_exact hc5)
  sl_step
  iapply Hk
  isplitl [H0 H1 H2 H3 H4 H5 H6 H7 H8 H9]
  · iapply (inputs_cells c B x).2
    iframe
  have hs : scrStep i x y.scr = y.scr := if_neg fun h => hc1 ((cond1_iff i).mpr h)
  have e10 : run_C.sl.r_10 i B x y = dqBlk i x y.scr := by
    delta run_C.sl.r_10 run_C.sl.r run_C.sl.r_1 run_C.sl.r_2 run_C.sl.r_3 run_C.sl.r_6 run_C.sl.r_7 run_C.sl.r_8
    simp only [load256, load512]
    rfl
  have e11 : run_C.sl.r_11 i B x y = dkBlk i x y.scr := by
    delta run_C.sl.r_11 run_C.sl.r run_C.sl.r_1 run_C.sl.r_2 run_C.sl.r_3 run_C.sl.r_4 run_C.sl.r_6 run_C.sl.r_7 run_C.sl.r_8
    simp only [load256, load512]
    rfl
  have e12 : run_C.sl.r_12 i B x y = dvBlk i x y.scr := by
    delta run_C.sl.r_12 run_C.sl.r run_C.sl.r_2 run_C.sl.r_3 run_C.sl.r_5 run_C.sl.r_6
    simp only [load256, load512]
    rfl
  unfold outputs Out.step
  simp only [hs, if_neg (fun h => hc5 ((cond5_iff i).mpr h)), dkStep_three i hg, dvStep_three i hg, ← e10, ← e11, ← e12]
  isplitl [H10]; · iapply owns_of_read c B.a12 (View.read_writes_full ..); iexact H10
  isplitl [H11]
  · iapply owns_of_read c B.a13 (((read_bump _ 0 (seqc_lt i) (off3_eq i) (k0_pay3 _)).trans (congrArg _
      ((read_bump _ 1 (seqc_lt i) (off2_eq i (Nat.le_of_succ_le hg)) (k0_pay1 _)).trans (congrArg _
        ((read_bump _ 2 (seqc_lt i) (off1_eq i hg) (L := []) (k0_pay48 _)).trans (congrArg _ (B.h13.read_unread _))))))))
    iexact H11
  isplitl [H12]
  · iapply owns_of_read c B.a14 (((read_bump _ 0 (seqc_lt i) (off3_eq i) (k0_pay4 _)).trans (congrArg _
      ((read_bump _ 1 (seqc_lt i) (off2_eq i (Nat.le_of_succ_le hg)) (k0_pay2 _)).trans (congrArg _
        ((read_bump _ 2 (seqc_lt i) (off1_eq i hg) (L := []) (k0_pay49 _)).trans (congrArg _ (B.h14.read_unread _))))))))
    iexact H12
  isplitl [H13]; · iexists _; iapply owns_of_read c B.a15 rfl; iexact H13
  isplitl [H14]; · iexists _; iapply owns_of_read c B.a16 rfl; iexact H14
  isplitl [H15]
  · rw [sqStep, if_neg fun h => hc1 ((cond1_iff i).mpr h)]
    iapply owns_of_read c B.a17 ((View.read_writes_full ..).trans (congrArg _ ((View.readAt_full ..).trans (B.h17.read_unread _)))); iexact H15
  isplitl [H16]; · iapply (owns_whole c B.a18 B.h18 _).2; iexact H16
  isplitl [H17]; · iapply (owns_whole c B.a19 B.h19 _).2; iexact H17
  iapply (owns_whole c B.a20 B.h20 _).2; iexact H18

end Cert.Att

end
-- ==== Proof.RunD.lean ====
/-
The body at the last point of a sequence: it also sums the columns of the two accumulators.
-/
module

public import proofs.«01_k».proof.Proof.Body

@[expose] public section

set_option maxRecDepth 16384

noncomputable section

namespace Cert.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

set_option maxHeartbeats 1000000 in
theorem run_D (c : Dev nD) (i : grid0.Coords) (B : Bufs) (x : Inp F) (y : Out F) (E : Set ℕ) (K : PUnit → sProp 𝕄)
    (hc1 : ¬ k0_cond1 i = 1#1) (hc2 : k0_cond2 i = 1#1) (hc3 : k0_cond3 i = 1#1) (hc4 : k0_cond4 i = 1#1) (hc5 : k0_cond5 i = 1#1) :
    iprop((inputs c B x ∗ outputs c B y) ∗ (iprop(inputs c B x ∗ outputs c B (y.step i x)) -∗ K ⟨⟩))
      ⊢ wp frame (wpE (defs₀ (F := F)) Variants.none c none) E (body i B) K := by
  have hg : 2 ≤ (i 1).val := (cond2_iff i).mp hc2
  have hg' : (i 1).val < 32 := seqc_lt i
  haveI : Fact (2 ≤ (i 1).val) := ⟨hg⟩
  haveI : Fact (1 ≤ (i 1).val) := ⟨Nat.le_of_succ_le hg⟩
  refine (sep_mono (sep_mono (inputs_cells c B x).1 (outputs_cells c B y).1) .rfl).trans ?_
  iintro ⟨⟨⟨H0, H1, H2, H3, H4, H5, H6, H7, H8, H9⟩, ⟨H10, H11, H12, ⟨%d13, H13⟩, ⟨%d14, H14⟩, H15, H16, H17, H18⟩⟩, Hk⟩
  unfold body
  simp only [cc0_att_core_bwd_eq_skeleton]; unfold cc0_att_core_bwd_skel
  simp only [k0_part3_eq_skeleton, k0_part4_eq_skeleton, k0_part5_eq_skeleton, k0_part6_eq_skeleton, k0_part7_eq_skeleton]
  sl_exec (disch := first | sl_exact hc1 | sl_exact hc2 | sl_exact hc3 | sl_exact hc4 | sl_exact hc5)
  sl_step
  iapply Hk
  isplitl [H0 H1 H2 H3 H4 H5 H6 H7 H8 H9]
  · iapply (inputs_cells c B x).2
    iframe
  have hs : scrStep i x y.scr = y.scr := if_neg fun h => hc1 ((cond1_iff i).mpr h)
  have e10 : run_D.sl.r_10 i B x y = dqBlk i x y.scr := by
    delta run_D.sl.r_10 run_D.sl.r run_D.sl.r_1 run_D.sl.r_2 run_D.sl.r_3 run_D.sl.r_6 run_D.sl.r_7 run_D.sl.r_8
    simp only [load256, load512]
    rfl
  have e11 : run_D.sl.r_11 i B x y = dkBlk i x y.scr := by
    delta run_D.sl.r_11 run_D.sl.r run_D.sl.r_1 run_D.sl.r_2 run_D.sl.r_3 run_D.sl.r_4 run_D.sl.r_6 run_D.sl.r_7 run_D.sl.r_8
    simp only [load256, load512]
    rfl
  have e12 : run_D.sl.r_12 i B x y = dvBlk i x y.scr := by
    delta run_D.sl.r_12 run_D.sl.r run_D.sl.r_2 run_D.sl.r_3 run_D.sl.r_5 run_D.sl.r_6
    simp only [load256, load512]
    rfl
  unfold outputs Out.step
  simp only [hs, if_pos ((cond5_iff i).mp hc5), dkStep_three i hg, dvStep_three i hg, ← e10, ← e11, ← e12]
  have hdk := (read_bump (a := B.a13) (f := B.h13.unread y.dk) (inb := k0_off3_inb i hc4) _ 0 (seqc_lt i) (off3_eq i) (k0_pay3 (run_D.sl.r_11 i B x y))).trans (congrArg _
      ((read_bump (inb := k0_off2_inb i hc3) _ 1 (seqc_lt i) (off2_eq i (Nat.le_of_succ_le hg)) (k0_pay1 (run_D.sl.r_11 i B x y))).trans (congrArg _
        ((read_bump (inb := k0_off1_inb i hc2) _ 2 (seqc_lt i) (off1_eq i hg) (L := []) (k0_pay48 (run_D.sl.r_11 i B x y))).trans
          (congrArg _ (B.h13.read_unread _))))))
  have hdv := (read_bump (a := B.a14) (f := B.h14.unread y.dv) (inb := k0_off3_inb i hc4) _ 0 (seqc_lt i) (off3_eq i) (k0_pay4 (run_D.sl.r_12 i B x y))).trans (congrArg _
      ((read_bump (inb := k0_off2_inb i hc3) _ 1 (seqc_lt i) (off2_eq i (Nat.le_of_succ_le hg)) (k0_pay2 (run_D.sl.r_12 i B x y))).trans (congrArg _
        ((read_bump (inb := k0_off1_inb i hc2) _ 2 (seqc_lt i) (off1_eq i hg) (L := []) (k0_pay49 (run_D.sl.r_12 i B x y))).trans
          (congrArg _ (B.h14.read_unread _))))))
  isplitl [H10]; · iapply owns_of_read c B.a12 (View.read_writes_full ..); iexact H10
  isplitl [H11]; · iapply owns_of_read c B.a13 hdk; iexact H11
  isplitl [H12]; · iapply owns_of_read c B.a14 hdv; iexact H12
  isplitl [H13]; · iexists _; iapply owns_of_read c B.a15 rfl; iexact H13
  isplitl [H14]; · iexists _; iapply owns_of_read c B.a16 rfl; iexact H14
  isplitl [H15]
  · rw [sqStep, if_neg fun h => hc1 ((cond1_iff i).mpr h)]
    iapply owns_of_read c B.a17 ((View.read_writes_full ..).trans (congrArg _ ((View.readAt_full ..).trans (B.h17.read_unread _)))); iexact H15
  isplitl [H16]
  · iapply owns_of_read c B.a18 ((View.read_writes_full ..).trans (congrArg k0_pay5 ((View.readAt_full ..).trans hdk))); iexact H16
  isplitl [H17]
  · iapply owns_of_read c B.a19 ((View.read_writes_full ..).trans (congrArg k0_pay6 ((View.readAt_full ..).trans hdv))); iexact H17
  iapply (owns_whole c B.a20 B.h20 _).2; iexact H18

end Cert.Att

end
-- ==== Proof.Track.lean ====
/-
The kernel's whole run: what the buffers hold after each grid point, and that the run ends with the argument arrays unchanged.
-/
module

public import proofs.«01_k».proof.Proof.RunA
public import proofs.«01_k».proof.Proof.RunB
public import proofs.«01_k».proof.Proof.RunC
public import proofs.«01_k».proof.Proof.RunD
public import Idealize.ShloMosaic.Lib.Pipeline.DatRel

@[expose] public section

set_option maxRecDepth 16384

noncomputable section

namespace Cert.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)
open Cert.KernelIdeal Cert.KernelIdeal.Gen

variable {F : FTy → Type} [FloatOps F] [Named F]

local notation "𝕄" => MT nD τ sig Unit (Elt F) ℕ (UR sig nD τ) ℕ

/-! ## One point -/

/-- The body at any point. -/
theorem run_point (c : Dev nD) (i : grid0.Coords) (B : Bufs) (x : Inp F) (y : Out F) (E : Set ℕ) (K : PUnit → sProp 𝕄) :
    iprop((inputs c B x ∗ outputs c B y) ∗ (iprop(inputs c B x ∗ outputs c B (y.step i x)) -∗ K ⟨⟩))
      ⊢ wp frame (wpE (defs₀ (F := F)) Variants.none c none) E (body i B) K := by
  have h1 := cond1_iff i
  have h2 := cond2_iff i
  have h3 := cond3_iff i
  have h4 := cond4_always i
  have h5 := cond5_iff i
  have hlt := seqc_lt i
  generalize seqc i = n at h1 h2 h3 h5 hlt
  by_cases n0 : n = 0
  · exact run_A c i B x y E K (h1.mpr n0) (fun h => absurd (h2.mp h) (by omega)) (fun h => absurd (h3.mp h) (by omega)) h4
      (fun h => absurd (h5.mp h) (by omega))
  by_cases n1 : n = 1
  · exact run_B c i B x y E K (fun h => n0 (h1.mp h)) (fun h => absurd (h2.mp h) (by omega)) (h3.mpr (by omega)) h4
      (fun h => absurd (h5.mp h) (by omega))
  by_cases n31 : n = 31
  · exact run_D c i B x y E K (fun h => n0 (h1.mp h)) (h2.mpr (by omega)) (h3.mpr (by omega)) h4 (h5.mpr n31)
  · exact run_C c i B x y E K (fun h => n0 (h1.mp h)) (h2.mpr (by omega)) (h3.mpr (by omega)) h4 (fun h => n31 (h5.mp h))

/-- Two contents that agree on everything a later point of the same pair of heads reads. -/
structure Out.Same (y y' : Out F) : Prop where
  dk : y.dk = y'.dk
  dv : y.dv = y'.dv
  sq : y.sq = y'.sq
  scr : y.scr = y'.scr

/-- At the first point of a pair of heads nothing earlier is read. -/
theorem step_same (i : grid0.Coords) (x : Inp F) (y y' : Out F) (h : seqc i ≠ 0 → y.Same y') :
    (y.step i x).Same (y'.step i x) ∧ (y.step i x).dq = (y'.step i x).dq
      ∧ (seqc i = 31 → (y.step i x).sk = (y'.step i x).sk ∧ (y.step i x).sv = (y'.step i x).sv) := by
  have hb : scrStep i x y.scr = scrStep i x y'.scr := by
    unfold scrStep
    by_cases h0 : seqc i = 0
    · rw [if_pos h0, if_pos h0]; exact biasOver_indep x _ _
    · rw [if_neg h0, if_neg h0]; exact (h h0).scr
  have hk (w : FVec F S768x128 .f32) : dkStep i w y.dk = dkStep i w y'.dk := by
    by_cases h0 : seqc i = 0
    · unfold dkStep; simp only [if_pos h0]
    · rw [(h h0).dk]
  have hv (w : FVec F S768x128 .f32) : dvStep i w y.dv = dvStep i w y'.dv := by
    by_cases h0 : seqc i = 0
    · unfold dvStep; simp only [if_pos h0]
    · rw [(h h0).dv]
  have hq (w : FVec F S256x128 .f32) : sqStep i w y.sq = sqStep i w y'.sq := by
    by_cases h0 : seqc i = 0
    · unfold sqStep; simp only [if_pos h0]
    · rw [(h h0).sq]
  unfold Out.step
  dsimp only
  rw [hb, hk, hv, hq]
  refine ⟨⟨rfl, rfl, rfl, rfl⟩, rfl, fun h31 => ?_⟩
  rw [if_pos h31, if_pos h31, if_pos h31, if_pos h31]
  exact ⟨rfl, rfl⟩

/-! ## All points in turn -/

section

variable (m : (ℓ : Loc nD τ sig) → Buf (Elt F) ℓ)

/-- The blocks point `t` reads. -/
noncomputable def inpAt (c : Dev nD) (t : Fin cfg0.N) : Inp F where
  q := iblk m c 0 t
  k0 := iblk m c 1 t
  k1 := iblk m c 2 t
  k2 := iblk m c 3 t
  v0 := iblk m c 4 t
  v1 := iblk m c 5 t
  v2 := iblk m c 6 t
  tiles := iblk m c 7 t
  clip := iblk m c 8 t
  dO := iblk m c 9 t

/-- Contents before the first point: some. -/
noncomputable def outInit : Out F where
  dq _ := (Elt.inhabited F _).default
  dk _ := (Elt.inhabited F _).default
  dv _ := (Elt.inhabited F _).default
  sq _ := (Elt.inhabited F _).default
  sk _ := (Elt.inhabited F _).default
  sv _ := (Elt.inhabited F _).default
  scr _ := (Elt.inhabited F _).default

/-- What the buffers hold after `n` points. -/
noncomputable def outAt (c : Dev nD) : ℕ → Out F
  | 0 => outInit
  | n + 1 => if h : n < cfg0.N then (outAt c n).step (grid0.coords ⟨n, h⟩) (inpAt m c ⟨n, h⟩) else outAt c n

theorem outAt_succ (c : Dev nD) (t : Fin cfg0.N) :
    outAt m c (t.val + 1) = (outAt m c t.val).step (grid0.coords t) (inpAt m c t) := by
  rw [outAt, dif_pos t.isLt]

/-- The region's own buffers before point `n`. -/
def Phi (c : Dev nD) : ℕ → sProp 𝕄
  | 0 => Pipeline.ΦA spec0 c
  | n + 1 => iprop(owns (c : Thread nD τ) (Memref.whole cc0_scratch0 : Memref sig .tc .vmem S512x768 .f32) fullShare
      (outAt m c (n + 1)).scr ∗ (∃ r, prngReg c r))

/-- What the body leaves in a result's buffer. -/
def left (c : Dev nD) (w : Fin cfg0.W) (t : Fin cfg0.N) (X : (cfg0.win w).block.Idx → Elt F (cfg0.win w).elt) : Prop :=
  match w, X with
  | ⟨10, _⟩, X => X = (outAt m c (t.val + 1)).dq
  | ⟨11, _⟩, X => X = (outAt m c (t.val + 1)).dk
  | ⟨12, _⟩, X => X = (outAt m c (t.val + 1)).dv
  | ⟨15, _⟩, X => X = (outAt m c (t.val + 1)).sq
  | ⟨16, _⟩, X => t.val % 32 = 31 → X = (outAt m c (t.val + 1)).sk
  | ⟨17, _⟩, X => t.val % 32 = 31 → X = (outAt m c (t.val + 1)).sv
  | _, _ => True

/-- The inputs' blocks stay in place. -/
noncomputable def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨_ + 10, _⟩ => fun _ => (Elt.inhabited F _).default
  Φ t := Phi m c t.val
  q w := Pipeline.shareOf spec0 w
  owed _ := 0

/-- The results' windows. -/
abbrev isRes (w : Fin cfg0.W) : Bool := decide (10 ≤ w.val)

/-- What is known of every window: inputs at their blocks, results as `left` says. -/
abbrev rdat (c : Dev nD) : RDat τ (Elt F) Unit ℕ (UR sig nD τ) ℕ cfg0 c := (dat m c).toRRel isRes (left m c)

theorem A_eq (c : Dev nD) (w : Fin cfg0.W) : (rdat m c).A w = V m c (Pipeline.arrRef spec0 w) := by
  rw [Pipeline.Dat.toRRel_A]; dsimp only [dat]

theorem A_dat (c : Dev nD) (w : Fin cfg0.W) : (dat m c).A w = V m c (Pipeline.arrRef spec0 w) := by dsimp only [dat]

/-- An input's buffer holds its block at every point. -/
theorem find_in (c : Dev nD) (w : Fin cfg0.W) (h : isRes w = false) (t : Fin cfg0.N) (B X : (cfg0.win w).block.Idx → Elt F (cfg0.win w).elt)
    (hb : ∀ d, (dat m c).before w t d = B) (hX : (rdat m c).Finds w t X) : X = B := by
  obtain ⟨d, rfl⟩ := (dat m c).toRRel_finds h t X hX
  exact hb d

/-- At every point all inputs' buffers hold the point's blocks. -/
theorem find_inputs (c : Dev nD) (t : Fin cfg0.N) (Y : (w : Fin cfg0.W) → (cfg0.win w).block.Idx → Elt F (cfg0.win w).elt)
    (hY : ∀ w, (rdat m c).Finds w t (Y w)) :
    Y 0 = iblk m c 0 t
      ∧ Y 1 = iblk m c 1 t
      ∧ Y 2 = iblk m c 2 t
      ∧ Y 3 = iblk m c 3 t
      ∧ Y 4 = iblk m c 4 t
      ∧ Y 5 = iblk m c 5 t
      ∧ Y 6 = iblk m c 6 t
      ∧ Y 7 = iblk m c 7 t
      ∧ Y 8 = iblk m c 8 t
      ∧ Y 9 = iblk m c 9 t := by
  refine ⟨?_, ?_, ?_, ?_, ?_, ?_, ?_, ?_, ?_, ?_⟩
  · exact find_in m c 0 rfl t (iblk m c 0 t) _ (before0_0_of m (dat m c) (A_dat m c 0) (fun t => by dsimp only [dat]) t) (hY 0)
  · exact find_in m c 1 rfl t (iblk m c 1 t) _ (before0_1_of m (dat m c) (A_dat m c 1) (fun t => by dsimp only [dat]) t) (hY 1)
  · exact find_in m c 2 rfl t (iblk m c 2 t) _ (before0_2_of m (dat m c) (A_dat m c 2) (fun t => by dsimp only [dat]) t) (hY 2)
  · exact find_in m c 3 rfl t (iblk m c 3 t) _ (before0_3_of m (dat m c) (A_dat m c 3) (fun t => by dsimp only [dat]) t) (hY 3)
  · exact find_in m c 4 rfl t (iblk m c 4 t) _ (before0_4_of m (dat m c) (A_dat m c 4) (fun t => by dsimp only [dat]) t) (hY 4)
  · exact find_in m c 5 rfl t (iblk m c 5 t) _ (before0_5_of m (dat m c) (A_dat m c 5) (fun t => by dsimp only [dat]) t) (hY 5)
  · exact find_in m c 6 rfl t (iblk m c 6 t) _ (before0_6_of m (dat m c) (A_dat m c 6) (fun t => by dsimp only [dat]) t) (hY 6)
  · exact find_in m c 7 rfl t (iblk m c 7 t) _ (before0_7_of m (dat m c) (A_dat m c 7) (fun t => by dsimp only [dat]) t) (hY 7)
  · exact find_in m c 8 rfl t (iblk m c 8 t) _ (before0_8_of m (dat m c) (A_dat m c 8) (fun t => by dsimp only [dat]) t) (hY 8)
  · exact find_in m c 9 rfl t (iblk m c 9 t) _ (before0_9_of m (dat m c) (A_dat m c 9) (fun t => by dsimp only [dat]) t) (hY 9)

/-- A result's buffer that is not written back between two points is found as it was left. -/
theorem find_res (c : Dev nD) (w : Fin cfg0.W) (h : isRes w = true) (hf : (cfg0.win w).isOut = true)
    (hw : ∀ t, (cfg0.win w).flush t = true ↔ t.val % 32 = 31) (t : Fin cfg0.N) (ht : t.val % 32 ≠ 0)
    (X : (cfg0.win w).block.Idx → Elt F (cfg0.win w).elt) (hX : (rdat m c).Finds w t X) :
    left m c w ⟨t.val - 1, Nat.lt_of_le_of_lt (Nat.sub_le _ _) t.isLt⟩ X := by
  have h0 : t.val ≠ 0 := fun e => ht (by rw [e])
  rcases ((rdat m c).finds_of_pos ((cfg0.win w).fetch_out hf t) h0 X).mp hX with h' | h'
  · have := (hw _).mp h'
    dsimp only at this
    omega
  · exact Pipeline.Dat.toRRel_leaves _ h h'

/-- What `after` says of an input. -/
theorem after_in (c : Dev nD) (w : Fin cfg0.W) (h : isRes w = false) (t : Fin cfg0.N)
    (hi : cfg0.idle w (cfg0.grid.coords t) = false) (hl : cfg0.loose w = false) (Y B : (cfg0.win w).block.Idx → Elt F (cfg0.win w).elt)
    (hB : (dat m c).after w t = B) : (rdat m c).after w t Y B := by
  rw [(dat m c).toRRel_after_of_eq_false h]
  show (dat m c).Leaves w t B
  rw [← hB]
  rw [Pipeline.Dat.Leaves.live_iff (dat m c) (.inl hi), hl]

/-- What it says of a result. -/
theorem after_res (c : Dev nD) (w : Fin cfg0.W) (h : isRes w = true) (t : Fin cfg0.N) (Y X : (cfg0.win w).block.Idx → Elt F (cfg0.win w).elt)
    (hX : left m c w t X) : (rdat m c).after w t Y X := by
  rw [(dat m c).toRRel_after_of_eq_true h]; exact hX

theorem seqc_coords (t : Fin cfg0.N) : seqc (grid0.coords t) = t.val % 32 := by
  have h : (grid0.coords t 1).val = t.val / 1 % 32 := Pipeline.Grid.coords_val t 1 (by decide) rfl
  rwa [Nat.div_one] at h

/-- The buffers at point `t`. -/
noncomputable def bufs (t : Fin cfg0.N) : Bufs where
  a2 := win0_0.stage (cfg0.slots t 0)
  h2 := hstage0_0 ((cfg0.slots t 0).cast nbuf0_0)
  a3 := win0_1.stage (cfg0.slots t 1)
  h3 := hstage0_1 ((cfg0.slots t 1).cast nbuf0_1)
  a4 := win0_2.stage (cfg0.slots t 2)
  h4 := hstage0_2 ((cfg0.slots t 2).cast nbuf0_2)
  a5 := win0_3.stage (cfg0.slots t 3)
  h5 := hstage0_3 ((cfg0.slots t 3).cast nbuf0_3)
  a6 := win0_4.stage (cfg0.slots t 4)
  h6 := hstage0_4 ((cfg0.slots t 4).cast nbuf0_4)
  a7 := win0_5.stage (cfg0.slots t 5)
  h7 := hstage0_5 ((cfg0.slots t 5).cast nbuf0_5)
  a8 := win0_6.stage (cfg0.slots t 6)
  h8 := hstage0_6 ((cfg0.slots t 6).cast nbuf0_6)
  a9 := win0_7.stage (cfg0.slots t 7)
  h9 := hstage0_7 ((cfg0.slots t 7).cast nbuf0_7)
  a10 := win0_8.stage (cfg0.slots t 8)
  h10 := hstage0_8 ((cfg0.slots t 8).cast nbuf0_8)
  a11 := win0_9.stage (cfg0.slots t 9)
  h11 := hstage0_9 ((cfg0.slots t 9).cast nbuf0_9)
  a12 := win0_10.stage (cfg0.slots t 10)
  h12 := hstage0_10 ((cfg0.slots t 10).cast nbuf0_10)
  a13 := win0_11.stage (cfg0.slots t 11)
  h13 := hstage0_11 ((cfg0.slots t 11).cast nbuf0_11)
  a14 := win0_12.stage (cfg0.slots t 12)
  h14 := hstage0_12 ((cfg0.slots t 12).cast nbuf0_12)
  a15 := win0_13.stage (cfg0.slots t 13)
  h15 := hstage0_13 ((cfg0.slots t 13).cast nbuf0_13)
  a16 := win0_14.stage (cfg0.slots t 14)
  h16 := hstage0_14 ((cfg0.slots t 14).cast nbuf0_14)
  a17 := win0_15.stage (cfg0.slots t 15)
  h17 := hstage0_15 ((cfg0.slots t 15).cast nbuf0_15)
  a18 := win0_16.stage (cfg0.slots t 16)
  h18 := hstage0_16 ((cfg0.slots t 16).cast nbuf0_16)
  a19 := win0_17.stage (cfg0.slots t 17)
  h19 := hstage0_17 ((cfg0.slots t 17).cast nbuf0_17)
  a20 := Memref.whole cc0_scratch0
  h20 := Memref.isWhole_whole _

theorem call_eq (t : Fin cfg0.N) :
    defs₀ (F := F) .tc cfg0.body (cfg0.bodyArgs t (cfg0.slots t)) = body (grid0.coords t) (bufs t) := by
  unfold defs₀; rw [Defs.onTc_tc]; rfl

/-- The region's own buffers: the scratch buffer at some contents. -/
theorem Phi_first (c : Dev nD) : (Pipeline.ΦA spec0 c : sProp 𝕄)
    = iprop((∃ d, owns (c : Thread nD τ) (Memref.whole cc0_scratch0 : Memref sig .tc .vmem S512x768 .f32) fullShare d)
      ∗ (∃ r, prngReg c r)) := by
  unfold Pipeline.ΦA; rw [scopedRest0_eq]; simp only [Idealize.ShloMosaic.owns_whole]; try rfl

/-- Before any point the scratch buffer holds something; after the first, what the point before left. -/
theorem Phi_open (c : Dev nD) (n : ℕ) : Phi m c n ⊢ iprop(∃ s, ⌜n ≠ 0 → s = (outAt m c n).scr⌝
    ∗ owns (c : Thread nD τ) (Memref.whole cc0_scratch0 : Memref sig .tc .vmem S512x768 .f32) fullShare s ∗ (∃ r, prngReg c r)) := by
  cases n with
  | zero =>
    unfold Phi; rw [Phi_first]
    iintro ⟨⟨%s, H⟩, Hg⟩
    iexists s
    isplitr; · ipureintro; exact fun h => absurd rfl h
    iframe
  | succ n =>
    unfold Phi
    iintro ⟨H, Hg⟩
    iexists _
    isplitr; swap; · iframe
    ipureintro; exact fun _ => rfl

/-- The body at point `t`, over what every buffer may hold there. -/
theorem body_obligation (c : Dev nD) : (rdat m c).BodyObligation (defs₀ (F := F)) Variants.none () Set.univ := fun t Y hY => by
  obtain ⟨e0, e1, e2, e3, e4, e5, e6, e7, e8, e9⟩ := find_inputs m c t Y hY
  have hs := seqc_coords t
  have e11 := fun h => find_res m c 11 rfl rfl flush0_11 t h _ (hY 11)
  have e12 := fun h => find_res m c 12 rfl rfl flush0_12 t h _ (hY 12)
  have e15 := fun h => find_res m c 15 rfl rfl flush0_15 t h _ (hY 15)
  rw [bigSep_W0, bigSep_W0, call_eq]
  rw [e0, e1, e2, e3, e4, e5, e6, e7, e8, e9]
  have hsame : ∀ sc, (t.val ≠ 0 → sc = (outAt m c t.val).scr) → seqc (grid0.coords t) ≠ 0 →
      (Out.mk (F := F) (Y 10) (Y 11) (Y 12) (Y 15) (Y 16) (Y 17) sc).Same (outAt m c t.val) := fun sc hsc h => by
    rw [hs] at h
    have h0 : t.val ≠ 0 := fun e => h (by rw [e])
    have e : t.val - 1 + 1 = t.val := Nat.sub_add_cancel (Nat.pos_of_ne_zero h0)
    have a11 := e11 h
    have a12 := e12 h
    have a15 := e15 h
    dsimp only [left] at a11 a12 a15
    rw [e] at a11 a12 a15
    exact ⟨a11, a12, a15, hsc h0⟩
  refine (sep_mono (Phi_open m c t.val) .rfl).trans ?_
  iintro ⟨⟨%sc, %hsc, Hs, Hg⟩, Ho, H0, H1, H2, H3, H4, H5, H6, H7, H8, H9, H10, H11, H12, H13, H14, H15, H16, H17⟩
  obtain ⟨hS, hq, hkv⟩ := step_same (grid0.coords t) (inpAt m c t) _ _ (hsame sc hsc)
  rw [← outAt_succ] at hS hq hkv
  iapply (run_point c (grid0.coords t) (bufs t) (inpAt m c t) (Out.mk (Y 10) (Y 11) (Y 12) (Y 15) (Y 16) (Y 17) sc) Set.univ _)
  isplitl [H0 H1 H2 H3 H4 H5 H6 H7 H8 H9 H10 H11 H12 H13 H14 H15 H16 H17 Hs]
  · isplitl [H0 H1 H2 H3 H4 H5 H6 H7 H8 H9]
    · unfold inputs; dsimp only [inpAt, bufs]
      iframe
    · unfold outputs; dsimp only [bufs]
      iframe
      isplitl [H13]
      · iexists _; iexact H13
      · iexists _; iexact H14
  iintro ⟨Hi, Hr⟩
  unfold inputs outputs; dsimp only [bufs]
  icases Hi with ⟨H0, H1, H2, H3, H4, H5, H6, H7, H8, H9⟩
  icases Hr with ⟨H10, H11, H12, ⟨%d13, H13⟩, ⟨%d14, H14⟩, H15, H16, H17, Hs⟩
  isplitl [Hs Hg]
  · rw [hS.scr, show (rdat m c).Φ t.succ = Phi m c (t.val + 1) from rfl]; unfold Phi
    isplitl [Hs]
    · iexact Hs
    · iexact Hg
  isplitl [Ho]
  · iexact Ho
  isplitl [H0]
  · iexists _; isplitr; swap; · iexact H0
    ipureintro; exact after_in m c 0 rfl t rfl rfl _ _ (by dsimp only [dat, inpAt])
  isplitl [H1]
  · iexists _; isplitr; swap; · iexact H1
    ipureintro; exact after_in m c 1 rfl t rfl rfl _ _ (by dsimp only [dat, inpAt])
  isplitl [H2]
  · iexists _; isplitr; swap; · iexact H2
    ipureintro; exact after_in m c 2 rfl t rfl rfl _ _ (by dsimp only [dat, inpAt])
  isplitl [H3]
  · iexists _; isplitr; swap; · iexact H3
    ipureintro; exact after_in m c 3 rfl t rfl rfl _ _ (by dsimp only [dat, inpAt])
  isplitl [H4]
  · iexists _; isplitr; swap; · iexact H4
    ipureintro; exact after_in m c 4 rfl t rfl rfl _ _ (by dsimp only [dat, inpAt])
  isplitl [H5]
  · iexists _; isplitr; swap; · iexact H5
    ipureintro; exact after_in m c 5 rfl t rfl rfl _ _ (by dsimp only [dat, inpAt])
  isplitl [H6]
  · iexists _; isplitr; swap; · iexact H6
    ipureintro; exact after_in m c 6 rfl t rfl rfl _ _ (by dsimp only [dat, inpAt])
  isplitl [H7]
  · iexists _; isplitr; swap; · iexact H7
    ipureintro; exact after_in m c 7 rfl t rfl rfl _ _ (by dsimp only [dat, inpAt])
  isplitl [H8]
  · iexists _; isplitr; swap; · iexact H8
    ipureintro; exact after_in m c 8 rfl t rfl rfl _ _ (by dsimp only [dat, inpAt])
  isplitl [H9]
  · iexists _; isplitr; swap; · iexact H9
    ipureintro; exact after_in m c 9 rfl t rfl rfl _ _ (by dsimp only [dat, inpAt])
  isplitl [H10]
  · iexists _; isplitr; swap; · iexact H10
    ipureintro; exact after_res m c 10 rfl t _ _ (hq)
  isplitl [H11]
  · iexists _; isplitr; swap; · iexact H11
    ipureintro; exact after_res m c 11 rfl t _ _ (hS.dk)
  isplitl [H12]
  · iexists _; isplitr; swap; · iexact H12
    ipureintro; exact after_res m c 12 rfl t _ _ (hS.dv)
  isplitl [H13]
  · iexists _; isplitr; swap; · iexact H13
    ipureintro; exact after_res m c 13 rfl t _ _ (trivial)
  isplitl [H14]
  · iexists _; isplitr; swap; · iexact H14
    ipureintro; exact after_res m c 14 rfl t _ _ (trivial)
  isplitl [H15]
  · iexists _; isplitr; swap; · iexact H15
    ipureintro; exact after_res m c 15 rfl t _ _ (hS.sq)
  isplitl [H16]
  · iexists _; isplitr; swap; · iexact H16
    ipureintro; exact after_res m c 16 rfl t _ _ (fun h => (hkv (hs.trans h)).1)
  · iexists _; isplitr; swap; · iexact H17
    ipureintro; exact after_res m c 17 rfl t _ _ (fun h => (hkv (hs.trans h)).2)

/-- The run starts with the region's own buffers at anything, -/
theorem hin (c : Dev nD) : Pipeline.ΦA spec0 c ⊢ (rdat m c).Φ 0 := .rfl

/-- and gives them back at anything. -/
theorem hout (c : Dev nD) : (rdat m c).Φ (Fin.last cfg0.N) ⊢ Pipeline.ΦA spec0 c := by
  rw [Phi_first]
  refine (Phi_open m c cfg0.N).trans ?_
  iintro ⟨%s, -, H, Hg⟩
  isplitl [H]
  · iexists _; iexact H
  · iexact Hg

variable (ρ : Dev nD → PrngReg)

set_option backward.isDefEq.respectTransparency.types false in
/-- Every run of the program ends, with every array at what the points left in it and every semaphore at zero. -/
theorem run_main : θ_run defs (onTc (τ := τ) (main (F := F))) (s₀ m ρ)
    (fun r => Pipeline.RDat.FramePost (cfgs 0) (rdat m) (V m) r ∧ r.2.sem = fun _ => 0) :=
  Pipeline.RDat.θ_run_frame_track_shared cfgs (0 : Fin 1) launch₀0 defs₀ Variants.none (rdat m) m ρ main
    (hbody := body_obligation m) (hq := fun _ _ _ => rfl) (howed := fun _ _ => rfl) (V := V m) (hmain := hmain m Variants.none)
    (hA := A_eq m) (hin := hin m) (hout := hout m) (Q' := _)

/-- The argument arrays end as they began. -/
theorem unchanged (r : PUnit × MemSt nD τ sig (Elt F)) (h : Pipeline.RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have hin (w : Fin cfg0.W) (hw : (cfg0.win w).isOut = false) :
      r.2.mem ((cfg0.spec w).arr.view.loc (c.tc : Thread nD τ)) = (rdat m c).A w := by
    have h1 := (h c).1 w
    rw [(rdat m c).ArrAt_in w hw] at h1
    exact h1
  exact ⟨(hin 6 rfl).trans ((A_eq m c 6).trans (V_main_arg0 m c)), (hin 9 rfl).trans ((A_eq m c 9).trans (V_main_arg1 m c)),
    ((h c).2 main_arg2 (Pipeline.mem_restRefs_of main_arg2 (by decide) (by decide))).trans (V_main_arg2 m c)⟩

end

end Cert.Att

end
-- ==== Proof.Frames.lean ====
/-
The frames: each program runs to its end, and leaves its arguments and every semaphore as they were.
-/
module

public import proofs.«01_k».proof.Defs
public import proofs.«01_k».proof.Proof.Track
public import proofs.«01_k».proof.Proof.Bits.Track
public import proofs.«01_k».proof.Proof.Gen.ReferenceIdeal.Run

@[expose] public section

noncomputable section

namespace Cert.Att

open Idealize.ShloMosaic Idealize.ShloMosaic.TcCoe Idealize.SL.Sem

/-- The kernel as written. -/
theorem frame_kernel : Cert.quiescent_Kernel := fun m ρ _ =>
  (θ_run Cert.Kernel.defs _ _).mono (fun r h => ⟨fun c => Cert.AttBits.unchanged (F := Bits) m r h.1 c, h.2⟩)
    (Cert.AttBits.run_main (F := Bits) m ρ)

/-- The kernel at exact arithmetic. -/
theorem frame_ideal : Cert.quiescent_KernelIdeal := fun m ρ _ =>
  (θ_run Cert.KernelIdeal.defs _ _).mono (fun r h => ⟨fun c => unchanged (F := Ideal) m r h.1 c, h.2⟩) (run_main (F := Ideal) m ρ)

/-- The reference. -/
theorem frame_reference : Cert.quiescent_ReferenceIdeal := fun m ρ _ =>
  (θ_run Cert.ReferenceIdeal.defs _ _).mono
    (fun r h => ⟨fun c => (h c).2.2.2.2.2.2, sem_eq_zero_of_no_sems (by decide) r.2⟩) (Cert.ReferenceIdeal.Value.run (F := Ideal) m ρ)

/-- The mask's constant: read as minus infinity where arithmetic is exact. -/
theorem preserves : Cert.preserves_Kernel_KernelIdeal :=
  IdealRules.named_const.statement _ _ _ _ _ rfl

end Cert.Att

end
-- ==== Proof.Math.lean ====
/-
The arithmetic of one row of the softmax and of its gradient, on the extended reals.

A row is a function of the key's number. `rowDs` is the gradient of the scores the way the kernel computes it (the probabilities
times the gradient less its mean), `rowDsDiv` the way differentiating `e * (1 / sum e)` gives it; they agree on every input, infinite
ones included (`rowDsDiv_eq`). The kernel looks at 768 keys only, the reference at all 8192: where every key left out has score −∞
both rows have the same maximum, sum and gradients (`Window`).
-/
module

public import Idealize.ShloMosaic.PureOps.Ideal
public import Idealize.ShloMosaic.Lib.IdealHost

@[expose] public section

noncomputable section

namespace Cert.Att

open Idealize.ShloMosaic

/-- The row's largest score. -/
def rowMax (n : ℕ) (s : ℕ → EReal) : EReal := (Finset.range n).sup s

/-- The largest score as a fold of `max` from −∞. -/
theorem rowMax_eq_fold (n : ℕ) (s : ℕ → EReal) : Finset.univ.fold max ⊥ (fun x : Fin n => s x.val) = rowMax n s := by
  show Finset.univ.sup (fun x : Fin n => s x.val) = _
  refine le_antisymm (Finset.sup_le fun x _ => Finset.le_sup (f := s) (Finset.mem_range.mpr x.isLt))
    (Finset.sup_le fun j hj => ?_)
  exact Finset.le_sup (f := fun x : Fin n => s x.val) (Finset.mem_univ ⟨j, Finset.mem_range.mp hj⟩)

/-- The exponential of a score less the largest. -/
def rowExp (n : ℕ) (s : ℕ → EReal) (j : ℕ) : EReal := Ideal.exp (s j - rowMax n s)

/-- The sum of the row's exponentials. -/
def rowSum (n : ℕ) (s : ℕ → EReal) : EReal := ∑ j ∈ Finset.range n, rowExp n s j

/-- The row's probabilities. -/
def rowP (n : ℕ) (s : ℕ → EReal) (j : ℕ) : EReal := rowExp n s j * Ideal.div 1 (rowSum n s)

/-- The mean, under the row's probabilities, of the gradient `dp` with respect to them. -/
def rowMean (n : ℕ) (s dp : ℕ → EReal) : EReal := ∑ j ∈ Finset.range n, rowP n s j * dp j

/-- The gradient of the scores. -/
def rowDs (n : ℕ) (s dp : ℕ → EReal) (j : ℕ) : EReal := rowP n s j * (dp j - rowMean n s dp)

/-- The gradient of the scores as the derivative of `e * (1 / sum e)`. -/
def rowDsDiv (n : ℕ) (s dp : ℕ → EReal) (j : ℕ) : EReal :=
  (dp j * Ideal.div 1 (rowSum n s)
      + -((∑ j ∈ Finset.range n, rowExp n s j * dp j) * Ideal.div 1 (rowSum n s * rowSum n s))) * rowExp n s j

theorem exp_of_bot (M : EReal) : Ideal.exp (⊥ - M) = 0 := by
  rw [EReal.bot_sub]; rfl

/-- Either every exponential of a row is zero (its largest score is infinite), or all are real and their sum is positive. -/
theorem row_cases (n : ℕ) (s : ℕ → EReal) :
    (∀ j < n, rowExp n s j = 0)
      ∨ ∃ (L : ℝ) (a : ℕ → ℝ), 0 < L ∧ rowSum n s = (L : EReal) ∧ ∀ j < n, 0 ≤ a j ∧ rowExp n s j = (a j : EReal) := by
  have hle : ∀ j < n, s j ≤ rowMax n s := fun j hj => Finset.le_sup (f := s) (Finset.mem_range.mpr hj)
  rcases Nat.eq_zero_or_pos n with rfl | hn
  · exact .inl fun j hj => absurd hj (Nat.not_lt_zero j)
  obtain ⟨j0, hj0, hmax⟩ := Finset.exists_mem_eq_sup (Finset.range n) ⟨0, Finset.mem_range.mpr hn⟩ s
  rw [Finset.mem_range] at hj0
  induction hM : rowMax n s with
  | bot =>
    refine .inl fun j hj => ?_
    have h := hle j hj
    rw [hM, le_bot_iff] at h
    rw [rowExp, h, exp_of_bot]
  | top =>
    refine .inl fun j _ => ?_
    rw [rowExp, hM, EReal.sub_top]; rfl
  | coe m =>
    have hreal : ∀ j < n, ∃ r : ℝ, 0 ≤ r ∧ rowExp n s j = (r : EReal) := fun j hj => by
      have h := hle j hj
      rw [rowExp, hM]
      rw [hM] at h
      induction hs : s j with
      | bot => exact ⟨0, le_refl _, by rw [exp_of_bot]; rfl⟩
      | top => rw [hs] at h; exact absurd h (by simp)
      | coe r => exact ⟨Real.exp (r - m), (Real.exp_pos _).le, rfl⟩
    choose! a ha using hreal
    refine .inr ⟨∑ j ∈ Finset.range n, a j, a, ?_, ?_, ha⟩
    · have h1 : a j0 = 1 := by
        have h := (ha j0 hj0).2
        rw [rowExp, show s j0 = rowMax n s from hmax.symm, hM] at h
        have h' : ((Real.exp (m - m) : ℝ) : EReal) = (a j0 : EReal) := h
        rw [sub_self, Real.exp_zero] at h'
        exact (EReal.coe_injective h').symm
      refine lt_of_lt_of_le one_pos ?_
      rw [← h1]
      exact Finset.single_le_sum (f := a) (fun j hj => (ha j (Finset.mem_range.mp hj)).1) (Finset.mem_range.mpr hj0)
    · have hcoe : ∀ J : Finset ℕ, ((∑ j ∈ J, a j : ℝ) : EReal) = ∑ j ∈ J, (a j : EReal) := fun J => by
        induction J using Finset.cons_induction with
        | empty => rfl
        | cons x J hx ih => rw [Finset.sum_cons, Finset.sum_cons, EReal.coe_add, ih]
      rw [rowSum, hcoe]
      exact Finset.sum_congr rfl fun j hj => (ha j (Finset.mem_range.mp hj)).2

/-- A nonnegative real factor moves into a sum. -/
theorem mul_sum_of_real {r : ℝ} (hr : 0 ≤ r) (J : Finset ℕ) (f : ℕ → EReal) :
    (r : EReal) * ∑ j ∈ J, f j = ∑ j ∈ J, (r : EReal) * f j := by
  induction J using Finset.cons_induction with
  | empty => simp
  | cons x J hx ih =>
    rw [Finset.sum_cons, Finset.sum_cons, EReal.left_distrib_of_nonneg_of_ne_top (EReal.coe_nonneg.mpr hr) (EReal.coe_ne_top r), ih]

/-- The two ways of writing the gradient of a row's scores agree. -/
theorem rowDsDiv_eq (n : ℕ) (s dp : ℕ → EReal) {j : ℕ} (hj : j < n) : rowDsDiv n s dp j = rowDs n s dp j := by
  rcases row_cases n s with h | ⟨L, a, hL, hsum, ha⟩
  · rw [rowDsDiv, rowDs, rowP, h j hj, mul_zero, zero_mul, zero_mul]
  · have hr : (0 : ℝ) ≤ 1 / L := by positivity
    have hmean : rowMean n s dp = ((1 / L : ℝ) : EReal) * ∑ j ∈ Finset.range n, rowExp n s j * dp j := by
      rw [mul_sum_of_real hr, rowMean]
      refine Finset.sum_congr rfl fun j _ => ?_
      rw [rowP, hsum, Ideal.div_coe hL.ne', one_mul]
      ac_rfl
    have hsq : Ideal.div 1 ((L : EReal) * (L : EReal)) = ((1 / L : ℝ) : EReal) * ((1 / L : ℝ) : EReal) := by
      rw [← EReal.coe_mul, Ideal.div_coe (mul_pos hL hL).ne', one_mul, ← EReal.coe_mul]
      congr 1
      field_simp
    rw [rowDsDiv, rowDs, rowP, hmean, hsum, Ideal.div_coe hL.ne', one_mul, hsq, sub_eq_add_neg,
      mul_assoc (rowExp n s j), EReal.left_distrib_of_nonneg_of_ne_top (EReal.coe_nonneg.mpr hr) (EReal.coe_ne_top _),
      mul_neg, mul_comm (rowExp n s j)]
    congr 2
    · exact mul_comm _ _
    · congr 1; ac_rfl

/-- Two rows, one over the 768 keys of a window that starts 512 keys before `256 * g`, the other over all 8192 keys: the scores
    agree on the keys both have, and are −∞ on the others. -/
structure Window (g : ℕ) (sK sR : ℕ → EReal) : Prop where
  le : g < 32
  eq : ∀ w < 768, 512 ≤ 256 * g + w → sK w = sR (256 * g + w - 512)
  before : ∀ w < 768, 256 * g + w < 512 → sK w = ⊥
  outside : ∀ j < 8192, ¬(256 * g ≤ j + 512 ∧ j + 512 < 256 * g + 768) → sR j = ⊥

/-- A sum over the window is the sum over all keys, if the terms agree on the keys both have and are zero on the others. -/
theorem sum_window {g : ℕ} (hg : g < 32) {fK fR : ℕ → EReal}
    (heq : ∀ w < 768, 512 ≤ 256 * g + w → fK w = fR (256 * g + w - 512))
    (hbefore : ∀ w < 768, 256 * g + w < 512 → fK w = 0)
    (houtside : ∀ j < 8192, ¬(256 * g ≤ j + 512 ∧ j + 512 < 256 * g + 768) → fR j = 0) :
    ∑ w ∈ Finset.range 768, fK w = ∑ j ∈ Finset.range 8192, fR j := by
  rw [← Finset.sum_filter_of_ne (p := fun w => 512 ≤ 256 * g + w)
      (fun w hw hne => by
        by_contra hc
        exact hne (hbefore w (Finset.mem_range.mp hw) (by omega))),
    ← Finset.sum_filter_of_ne (s := Finset.range 8192) (p := fun j => 256 * g ≤ j + 512 ∧ j + 512 < 256 * g + 768)
      (fun j hj hne => by
        by_contra hc
        exact hne (houtside j (Finset.mem_range.mp hj) hc))]
  refine Finset.sum_nbij' (fun w => 256 * g + w - 512) (fun j => j + 512 - 256 * g) ?_ ?_ ?_ ?_ ?_
  · intro w hw
    simp only [Finset.mem_filter, Finset.mem_range] at hw ⊢
    omega
  · intro j hj
    simp only [Finset.mem_filter, Finset.mem_range] at hj ⊢
    omega
  · intro w hw
    simp only [Finset.mem_filter, Finset.mem_range] at hw
    omega
  · intro j hj
    simp only [Finset.mem_filter, Finset.mem_range] at hj
    omega
  · intro w hw
    simp only [Finset.mem_filter, Finset.mem_range] at hw
    exact heq w hw.1 hw.2

section
variable {g : ℕ} {sK sR : ℕ → EReal} (W : Window g sK sR)
include W

theorem Window.rowMax : rowMax 768 sK = rowMax 8192 sR := by
  refine le_antisymm (Finset.sup_le fun w hw => ?_) (Finset.sup_le fun j hj => ?_)
  · rw [Finset.mem_range] at hw
    by_cases h : 512 ≤ 256 * g + w
    · rw [W.eq w hw h]
      have := W.le
      exact Finset.le_sup (f := sR) (Finset.mem_range.mpr (by omega))
    · rw [W.before w hw (by omega)]; exact bot_le
  · rw [Finset.mem_range] at hj
    by_cases h : 256 * g ≤ j + 512 ∧ j + 512 < 256 * g + 768
    · have e := W.eq (j + 512 - 256 * g) (by omega) (by omega)
      rw [show 256 * g + (j + 512 - 256 * g) - 512 = j by omega] at e
      rw [← e]
      exact Finset.le_sup (f := sK) (Finset.mem_range.mpr (by omega))
    · rw [W.outside j hj h]; exact bot_le

theorem Window.rowExp {w : ℕ} (hw : w < 768) (h : 512 ≤ 256 * g + w) : rowExp 768 sK w = rowExp 8192 sR (256 * g + w - 512) := by
  rw [Att.rowExp, Att.rowExp, W.rowMax, W.eq w hw h]

theorem Window.rowExp_before {w : ℕ} (hw : w < 768) (h : 256 * g + w < 512) : Att.rowExp 768 sK w = 0 := by
  rw [Att.rowExp, W.before w hw h, exp_of_bot]

theorem Window.rowExp_outside {j : ℕ} (hj : j < 8192) (h : ¬(256 * g ≤ j + 512 ∧ j + 512 < 256 * g + 768)) :
    Att.rowExp 8192 sR j = 0 := by
  rw [Att.rowExp, W.outside j hj h, exp_of_bot]

theorem Window.rowSum : rowSum 768 sK = rowSum 8192 sR :=
  sum_window W.le (fun _ hw h => W.rowExp hw h) (fun _ hw h => W.rowExp_before hw h) (fun _ hj h => W.rowExp_outside hj h)

theorem Window.rowP {w : ℕ} (hw : w < 768) (h : 512 ≤ 256 * g + w) : rowP 768 sK w = rowP 8192 sR (256 * g + w - 512) := by
  rw [Att.rowP, Att.rowP, W.rowSum, W.rowExp hw h]

theorem Window.rowP_before {w : ℕ} (hw : w < 768) (h : 256 * g + w < 512) : Att.rowP 768 sK w = 0 := by
  rw [Att.rowP, W.rowExp_before hw h, zero_mul]

theorem Window.rowP_outside {j : ℕ} (hj : j < 8192) (h : ¬(256 * g ≤ j + 512 ∧ j + 512 < 256 * g + 768)) :
    Att.rowP 8192 sR j = 0 := by
  rw [Att.rowP, W.rowExp_outside hj h, zero_mul]

variable {dK dR : ℕ → EReal} (hd : ∀ w < 768, 512 ≤ 256 * g + w → dK w = dR (256 * g + w - 512))
include hd

theorem Window.rowMean : rowMean 768 sK dK = rowMean 8192 sR dR :=
  sum_window W.le (fun w hw h => by rw [W.rowP hw h, hd w hw h]) (fun w hw h => by rw [W.rowP_before hw h, zero_mul])
    (fun j hj h => by rw [W.rowP_outside hj h, zero_mul])

theorem Window.rowDs {w : ℕ} (hw : w < 768) (h : 512 ≤ 256 * g + w) :
    rowDs 768 sK dK w = rowDs 8192 sR dR (256 * g + w - 512) := by
  rw [Att.rowDs, Att.rowDs, W.rowMean hd, W.rowP hw h, hd w hw h]

omit hd in
theorem Window.rowDs_before {w : ℕ} (hw : w < 768) (h : 256 * g + w < 512) : Att.rowDs 768 sK dK w = 0 := by
  rw [Att.rowDs, W.rowP_before hw h, zero_mul]

omit hd in
theorem Window.rowDs_outside {j : ℕ} (hj : j < 8192) (h : ¬(256 * g ≤ j + 512 ∧ j + 512 < 256 * g + 768)) :
    Att.rowDs 8192 sR dR j = 0 := by
  rw [Att.rowDs, W.rowP_outside hj h, zero_mul]

end

end Cert.Att

end
-- ==== Proof.Spec.lean ====
/-
What the attention's backward computes, as plain formulas: the gradients of q, k and v and their column sums, of a table `a` (a row
per position: q, k and v side by side, 16 heads of 64 columns each), the output's gradient `o` and the bias table `rel` (a row per head).
Rows and columns are natural numbers, so that the kernel's blocks and the reference's heads are both read from the same formulas.
-/
module

public import proofs.«01_k».proof.Proof.Math

@[expose] public section

noncomputable section

namespace Cert.Att

open Idealize.ShloMosaic

/-- A query of chunk `c` (64 positions) sees the keys of the chunks `c - 8` to `c`. -/
def Seen (t j : ℕ) : Prop := j / 64 ≤ t / 64 ∧ t / 64 ≤ j / 64 + 8

instance (t j : ℕ) : Decidable (Seen t j) := by unfold Seen; infer_instance

/-- One over the square root of the head's width. -/
def scale : EReal := Ideal.ofBits .f32 0x3E000000#32

variable (a o rel : ℕ → ℕ → EReal)

/-- The score of a key for a query: −∞ out of reach. The bias is of the distance, clipped to 128 either way. -/
def score (h t j : ℕ) : EReal :=
  if Seen t j then
    ∑ d ∈ Finset.range 64, a t (64 * h + d) * scale * a j (1024 + (64 * h + d)) + rel h (min (t + 128 - j) 256)
  else ⊥

/-- The gradient with respect to a probability. -/
def dprob (h t j : ℕ) : EReal := ∑ d ∈ Finset.range 64, o t (64 * h + d) * a j (2048 + (64 * h + d))

/-- A probability. -/
def prob (h t j : ℕ) : EReal := rowP 8192 (score a rel h t) j

/-- The gradient with respect to a score. -/
def dscore (h t j : ℕ) : EReal := rowDs 8192 (score a rel h t) (dprob a o h t) j

/-- The gradient of q. -/
def specQ (t c : ℕ) : EReal := (∑ j ∈ Finset.range 8192, dscore a o rel (c / 64) t j * a j (1024 + c)) * scale

/-- The gradient of k. -/
def specK (j c : ℕ) : EReal := ∑ t ∈ Finset.range 8192, dscore a o rel (c / 64) t j * (a t c * scale)

/-- The gradient of v. -/
def specV (j c : ℕ) : EReal := ∑ t ∈ Finset.range 8192, prob a rel (c / 64) t j * o t c

/-- Column sums of a gradient. -/
def colSum (f : ℕ → ℕ → EReal) (c : ℕ) : EReal := ∑ t ∈ Finset.range 8192, f t c

end Cert.Att

end
-- ==== Proof.Words.lean ====
/-
Small facts about 32-bit words that the kernel and the reference compute with: which chunks a query sees, the clipped distance that
indexes the bias table, the positions before the sequence's start; and a table looked up by columns.
-/
module

public import Idealize.ShloMosaic.Lib.WordCmp
public import Idealize.ShloMosaic.Lib.ValueIdx
public import Idealize.ShloMosaic.Lib.Pointwise

@[expose] public section

noncomputable section

namespace Cert.Att

open Idealize.ShloMosaic

/-- The word for minus infinity is the least extended real. -/
theorem ofBits_negInf : Ideal.ofBits .f32 0xFF800000#32 = ⊥ := by
  simp [Ideal.ofBits, Ideal.ieee]

theorem toInt_word {a : ℕ} (ha : a < 2 ^ 30) : (BitVec.ofNat 32 a).toInt = (a : ℤ) :=
  WordCmp.toInt_ofNat_of_lt (by omega)

theorem toInt_sub_word {a b : ℕ} (ha : a < 2 ^ 30) (hb : b < 2 ^ 30) :
    (IntOp.subi (BitVec.ofNat 32 a) (BitVec.ofNat 32 b)).toInt = (a : ℤ) - b := by
  show (BitVec.ofNat 32 a - BitVec.ofNat 32 b).toInt = _
  rw [BitVec.toInt_sub, toInt_word ha, toInt_word hb, Int.bmod_def]
  split <;> omega

/-- Whether chunk `a` lies zero to eight chunks after chunk `b`. -/
theorem band_word {a b : ℕ} (ha : a < 2 ^ 30) (hb : b < 2 ^ 30) :
    IntOp.andi (IntOp.cmpi .sge (IntOp.subi (BitVec.ofNat 32 a) (BitVec.ofNat 32 b)) 0#32)
        (IntOp.cmpi .sle (IntOp.subi (BitVec.ofNat 32 a) (BitVec.ofNat 32 b)) 8#32)
      = if b ≤ a ∧ a ≤ b + 8 then 1#1 else 0#1 := by
  rw [WordCmp.cmpi_sge_eq, WordCmp.cmpi_sle_eq, toInt_sub_word ha hb, show (0#32).toInt = 0 from rfl, show (8#32).toInt = 8 from rfl]
  by_cases h1 : (0 : ℤ) ≤ (a : ℤ) - b <;> by_cases h2 : (a : ℤ) - b ≤ 8
  · rw [if_pos (by omega), decide_eq_true h1, decide_eq_true h2]; rfl
  · rw [if_neg (by omega), decide_eq_true h1, decide_eq_false h2]; rfl
  · rw [if_neg (by omega), decide_eq_false h1, decide_eq_true h2]; rfl
  · rw [if_neg (by omega), decide_eq_false h1, decide_eq_false h2]; rfl

/-- The distance between two positions, clipped to 128 either way and moved to start at 0. -/
theorem clip_word {t j : ℕ} (ht : t < 8192) (hj : j < 8192) :
    (IntOp.addi (IntOp.minsi 128#32 (IntOp.maxsi 4294967168#32 (IntOp.subi (BitVec.ofNat 32 t) (BitVec.ofNat 32 j)))) 128#32).toInt
      = ((min (t + 128 - j) 256 : ℕ) : ℤ) := by
  have hd := toInt_sub_word (a := t) (b := j) (by omega) (by omega)
  generalize IntOp.subi (BitVec.ofNat 32 t) (BitVec.ofNat 32 j) = x at hd
  have hmax : (IntOp.maxsi 4294967168#32 x).toInt = max (-128) ((t : ℤ) - j) := by
    rw [IntOp.maxsi, BitVec.slt]
    rw [hd, show (4294967168#32).toInt = -128 from rfl]
    by_cases h : ((t : ℤ) - j) < -128
    · rw [if_pos (decide_eq_true h)]; simp; omega
    · rw [if_neg (by simpa using h), hd]; omega
  generalize IntOp.maxsi 4294967168#32 x = y at hmax
  have hmin : (IntOp.minsi 128#32 y).toInt = min 128 (max (-128) ((t : ℤ) - j)) := by
    rw [IntOp.minsi, BitVec.slt]
    rw [hmax, show (128#32).toInt = 128 from rfl]
    by_cases h : (128 : ℤ) < max (-128) ((t : ℤ) - j)
    · rw [if_pos (decide_eq_true h)]; simp; omega
    · rw [if_neg (by simpa using h), hmax]; omega
  generalize IntOp.minsi 128#32 y = z at hmin
  show (z + 128#32).toInt = _
  rw [BitVec.toInt_add, hmin, show (128#32).toInt = 128 from rfl, Int.bmod_def]
  split <;> omega

section Columns
variable {α : Type}

/-- A table of `H` rows and `N` columns looked up by columns at an array of column numbers: every row at each number. -/
abbrev columnDims (H N R C : ℕ) (wf : GatherDims.WF ⟨2, ![H, N]⟩ ⟨3, ![R, C, 1]⟩ ⟨3, ![H, R, C]⟩ [0] [1] [] [1] [] 2 ![H, 1]) :
    GatherDims ⟨2, ![H, N]⟩ ⟨3, ![R, C, 1]⟩ ⟨3, ![H, R, C]⟩ where
  offsetDims := [0]
  collapsedSliceDims := [1]
  operandBatchingDims := []
  startIndicesBatchingDims := []
  startIndexMap := [1]
  indexVectorDim := 2
  sliceSizes := ![H, 1]
  wf := wf

/-- The entry looked up: the column number is read signed and clamped to the table. -/
theorem columns_apply {H N R C w : ℕ} (hN : 0 < N)
    (wf : GatherDims.WF ⟨2, ![H, N]⟩ ⟨3, ![R, C, 1]⟩ ⟨3, ![H, R, C]⟩ [0] [1] [] [1] [] 2 ![H, 1])
    (x : (⟨2, ![H, N]⟩ : Shape).Idx → α) (idx : IVec ⟨3, ![R, C, 1]⟩ w) (h : Fin H) (r : Fin R) (c : Fin C) :
    Host.gather (columnDims H N R C wf) x idx (ix3 h r c)
      = x (ix2 h ⟨min (idx (ix3 r c 0)).toInt.toNat (N - 1), by omega⟩) := by
  unfold Host.gather
  congr 1
  funext a
  refine Fin.ext ?_
  show (columnDims H N R C wf).start (ix3 h r c) idx a + (columnDims H N R C wf).batchCoord (ix3 h r c) a
      + (columnDims H N R C wf).offCoord (ix3 h r c) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · unfold GatherDims.start
    rw [dif_neg (fun hm => absurd (congrArg Fin.val (List.mem_singleton.mp hm)) Nat.zero_ne_one), Nat.zero_add]
    rfl
  · rw [GatherDims.offCoord_eq_zero _ _ _ (fun hm => ((GatherDims.mem_sKept _ _).mp hm).1 (List.mem_singleton.mpr rfl)), Nat.add_zero]
    unfold GatherDims.start
    rw [dif_pos (show (1 : Fin 2) ∈ (columnDims H N R C wf).startIndexMap from List.mem_singleton.mpr rfl)]
    have hsi : (columnDims H N R C wf).siIdx (ix3 h r c) ⟨List.idxOf (1 : Fin 2) (columnDims H N R C wf).startIndexMap,
        List.idxOf_lt_length_iff.2 (List.mem_singleton.mpr rfl)⟩ = ix3 r c 0 := by
      funext b; refine Fin.ext ?_
      match b with
      | ⟨0, _⟩ => rfl
      | ⟨1, _⟩ => rfl
      | ⟨2, _⟩ => rfl
    show min (idx ((columnDims H N R C wf).siIdx (ix3 h r c) _)).toInt.toNat (N - 1) = _
    rw [hsi]
    rfl

end Columns

end Cert.Att

end
-- ==== Proof.Bias.lean ====
/-
What the scratch buffer holds, entry by entry: the bias of both heads of the pair where the query's chunk sees the key's, and minus
infinity elsewhere. Also how a window of whole rows is read and written at an entry.
-/
module

public import proofs.«01_k».proof.Proof.Spec
public import proofs.«01_k».proof.Proof.Words
public import proofs.«01_k».proof.Proof.Point
public import Idealize.ShloMosaic.Lib.Pointwise

@[expose] public section

set_option maxRecDepth 16384

noncomputable section

namespace Cert.Att

open Idealize.ShloMosaic
open Cert.KernelIdeal Cert.KernelIdeal.Gen

section
variable {α : Type} {n m k : ℕ}

/-- An entry of an array some rows of which were written over. -/
theorem put_rows (X : (⟨2, ![n, m]⟩ : Shape).Idx → α) (o : ℕ) (w : (⟨2, ![k, m]⟩ : Shape).Idx → α) (j : Fin n) (l : Fin m) :
    VecWindow.put (s := ⟨2, ![n, m]⟩) X ![o, 0] ![k, m] w (ix2 j l)
      = if h : o ≤ j.val ∧ j.val < o + k then w (ix2 ⟨j.val - o, by omega⟩ l) else X (ix2 j l) := by
  by_cases h : o ≤ j.val ∧ j.val < o + k
  · rw [dif_pos h]
    have hall : ∀ a : Fin 2, (![o, 0] : Fin 2 → ℕ) a ≤ (ix2 j l a).val ∧ (ix2 j l a).val < (![o, 0] : Fin 2 → ℕ) a + (![k, m] : Fin 2 → ℕ) a :=
      Fin.forall_fin_two.mpr ⟨h, by show 0 ≤ l.val ∧ l.val < 0 + m; have := l.isLt; omega⟩
    refine (dif_pos hall).trans (congrArg w (funext fun a => Fin.ext ?_))
    match a with
    | ⟨0, _⟩ => rfl
    | ⟨1, _⟩ => rfl
  · rw [dif_neg h]
    exact dif_neg fun hall => h (hall (0 : Fin 2))

/-- An entry of a window of whole rows. -/
theorem window_rows (X : (⟨2, ![n, m]⟩ : Shape).Idx → α) (o : ℕ)
    (inb : ∀ a, (![o, 0] : Fin 2 → ℕ) a + (![k, m] : Fin 2 → ℕ) a ≤ (⟨2, ![n, m]⟩ : Shape).size a) (r : Fin k) (l : Fin m)
    (h : o + r.val < n) :
    VecWindow.window (s := ⟨2, ![n, m]⟩) X ![o, 0] ![k, m] inb (ix2 r l) = X (ix2 ⟨o + r.val, h⟩ l) := by
  refine congrArg X (funext fun a => Fin.ext ?_)
  match a with
  | ⟨0, _⟩ => show o + 1 * r.val = o + r.val; omega
  | ⟨1, _⟩ => show 0 + 1 * l.val = l.val; omega

end

/-- The chunk of a position. -/
theorem chunk_word {a : ℕ} (ha : a < 2 ^ 30) : IntOp.shrui .vector (BitVec.ofNat 32 a) 6#32 = BitVec.ofNat 32 (a / 64) := by
  refine BitVec.eq_of_toNat_eq ?_
  show ((BitVec.ofNat 32 a) >>> (6#32 : BitVec 32).toNat).toNat = _
  rw [BitVec.toNat_ushiftRight, BitVec.toNat_ofNat, BitVec.toNat_ofNat, Nat.shiftRight_eq_div_pow, BitVec.toNat_ofNat,
    Nat.mod_eq_of_lt (by omega : a < 2 ^ 32), Nat.mod_eq_of_lt (by omega : a / 64 < 2 ^ 32)]

/-- The bias of head `h` at row `r` of the block of queries and key `w` of the window, minus infinity out of reach. -/
def winBias (rel : ℕ → ℕ → EReal) (h r w : ℕ) : EReal :=
  if r / 64 ≤ w / 64 ∧ w / 64 ≤ r / 64 + 8 then rel h (min (r + 640 - w) 256) else ⊥

/-- Minus infinity stands for the mask. -/
theorem mask_eq : (Named.named κ "mask" 0xF149F2CA#32 : Ideal .f32) = ⊥ := rfl

set_option maxHeartbeats 1000000 in
/-- One head's rows of the bias, from its tiles and its value past the clipping distance. -/
theorem headBias_apply {rel : ℕ → ℕ → EReal} {h : ℕ} (t : Vec Ideal S1x2x128x128 .f32) (cl : Vec Ideal S1x1x128 .f32)
    (h0 : ∀ r w : Fin 128, t (ix4 0 0 r w) = rel h (min (128 + r.val + 128 - w.val) 256))
    (h1 : ∀ r w : Fin 128, w.val / 64 ≤ r.val / 64 → t (ix4 0 1 r w) = rel h (min (r.val + 128 - w.val) 256))
    (hc : ∀ w : Fin 128, cl (ix3 0 0 w) = rel h 256) (r : Fin 256) (w : Fin 768) :
    k0_pay7 (F := Ideal) t cl (ix2 r w) = winBias rel h r.val w.val := by
  have hr := r.isLt
  have hw := w.isLt
  pointwise [k0_pay7]
  have cr := chunk_word (a := r.val) (by omega)
  have cw := chunk_word (a := w.val) (by omega)
  have bw := band_word (a := w.val / 64) (b := r.val / 64) (by omega) (by omega)
  rw [cr, cw, bw, winBias]
  by_cases hb : r.val / 64 ≤ w.val / 64 ∧ w.val / 64 ≤ r.val / 64 + 8
  · rw [if_pos hb, if_pos hb, ValueIdx.select_one]
    have fin : ∀ n : ℕ, n = min (r.val + 640 - w.val) 256 → rel h n = rel h (min (r.val + 640 - w.val) 256) := fun n e => e ▸ rfl
    by_cases hr1 : r.val < 128
    · have hq : r.val / 64 ≤ 1 := by omega
      by_cases hw0 : w.val < 128
      · rw [dif_pos hr1, dif_pos (by omega), hc]; exact fin _ (by omega)
      by_cases hw1 : w.val < 256
      · rw [dif_pos hr1, dif_neg (by omega), dif_pos (by omega), hc]; exact fin _ (by omega)
      by_cases hw2 : w.val < 384
      · rw [dif_pos hr1, dif_neg (by omega), dif_neg (by omega), dif_pos (by omega), hc]; exact fin _ (by omega)
      by_cases hw3 : w.val < 512
      · rw [dif_pos hr1, dif_neg (by omega), dif_neg (by omega), dif_neg (by omega), dif_pos (by omega), h0]; exact fin _ (by dsimp only; omega)
      by_cases hw4 : w.val < 640
      · rw [dif_pos hr1, dif_neg (by omega), dif_neg (by omega), dif_neg (by omega), dif_neg (by omega), dif_pos (by omega), h1 _ _ (by dsimp only; omega)]; exact fin _ (by dsimp only; omega)
      exact absurd hb (by omega)
    · have hq : 2 ≤ r.val / 64 := by omega
      by_cases hw0 : w.val < 128
      · exact absurd hb (by omega)
      by_cases hw1 : w.val < 256
      · rw [dif_neg hr1, dif_neg (by omega), dif_pos (by omega), hc]; exact fin _ (by omega)
      by_cases hw2 : w.val < 384
      · rw [dif_neg hr1, dif_neg (by omega), dif_neg (by omega), dif_pos (by omega), hc]; exact fin _ (by omega)
      by_cases hw3 : w.val < 512
      · rw [dif_neg hr1, dif_neg (by omega), dif_neg (by omega), dif_neg (by omega), dif_pos (by omega), hc]; exact fin _ (by omega)
      by_cases hw4 : w.val < 640
      · rw [dif_neg hr1, dif_neg (by omega), dif_neg (by omega), dif_neg (by omega), dif_neg (by omega), dif_pos (by omega), h0]; exact fin _ (by dsimp only; omega)
      rw [dif_neg hr1, dif_neg (by omega), dif_neg (by omega), dif_neg (by omega), dif_neg (by omega), dif_neg (by omega), h1 _ _ (by dsimp only; omega)]; exact fin _ (by dsimp only; omega)
  · rw [if_neg hb, if_neg hb, ValueIdx.select_zero]
    exact mask_eq

/-- The scratch buffer after it is laid out. -/
theorem biasOver_apply {rel : ℕ → ℕ → EReal} {hp : ℕ} (x : Inp Ideal) (s : Vec Ideal S512x768 .f32)
    (h0 : ∀ (hd : Fin 2) (r w : Fin 128), x.tiles (ix4 hd 0 r w) = rel (2 * hp + hd.val) (min (128 + r.val + 128 - w.val) 256))
    (h1 : ∀ (hd : Fin 2) (r w : Fin 128), w.val / 64 ≤ r.val / 64 →
      x.tiles (ix4 hd 1 r w) = rel (2 * hp + hd.val) (min (r.val + 128 - w.val) 256))
    (hc : ∀ (hd : Fin 2) (w : Fin 128), x.clip (ix3 hd 0 w) = rel (2 * hp + hd.val) 256) (R : Fin 512) (w : Fin 768) :
    biasOver x s (ix2 R w) = winBias rel (2 * hp + R.val / 256) (R.val % 256) w.val := by
  have hR := R.isLt
  have et : ∀ (hd k : Fin 2) (inb) (r w : Fin 128),
      VecWindow.window x.tiles ![hd.val, 0, 0, 0] S1x2x128x128.size inb (ix4 0 k r w) = x.tiles (ix4 hd k r w) := by
    intro hd k inb r w
    refine congrArg x.tiles (funext fun a => Fin.ext ?_)
    match a with
    | ⟨0, _⟩ => show hd.val + 1 * 0 = hd.val; omega
    | ⟨1, _⟩ => show 0 + 1 * k.val = k.val; omega
    | ⟨2, _⟩ => show 0 + 1 * r.val = r.val; omega
    | ⟨3, _⟩ => show 0 + 1 * w.val = w.val; omega
  have ec : ∀ (hd : Fin 2) (inb) (w : Fin 128),
      VecWindow.window x.clip ![hd.val, 0, 0] S1x1x128.size inb (ix3 0 0 w) = x.clip (ix3 hd 0 w) := by
    intro hd inb w
    refine congrArg x.clip (funext fun a => Fin.ext ?_)
    match a with
    | ⟨0, _⟩ => show hd.val + 1 * 0 = hd.val; omega
    | ⟨1, _⟩ => rfl
    | ⟨2, _⟩ => show 0 + 1 * w.val = w.val; omega
  rw [biasOver]
  by_cases hh : 256 ≤ R.val
  · refine (put_rows _ 256 _ R w).trans ?_
    rw [dif_pos ⟨hh, hR⟩]
    refine (headBias_apply (rel := rel) (h := 2 * hp + 1) _ _ (fun r w => (et 1 0 _ r w).trans (h0 1 r w))
      (fun r w hs => (et 1 1 _ r w).trans (h1 1 r w hs)) (fun w => (ec 1 _ w).trans (hc 1 w)) _ w).trans ?_
    show winBias rel (2 * hp + 1) (R.val - 256) w.val = _
    rw [show R.val / 256 = 1 by omega, show R.val % 256 = R.val - 256 by omega]
  · refine (put_rows _ 256 _ R w).trans ?_
    rw [dif_neg (by omega)]
    refine (put_rows _ 0 _ R w).trans ?_
    rw [dif_pos ⟨by omega, by omega⟩]
    refine (headBias_apply (rel := rel) (h := 2 * hp + 0) _ _ (fun r w => (et 0 0 _ r w).trans (h0 0 r w))
      (fun r w hs => (et 0 1 _ r w).trans (h1 0 r w hs)) (fun w => (ec 0 _ w).trans (hc 0 w)) _ w).trans ?_
    show winBias rel (2 * hp + 0) (R.val - 0) w.val = _
    rw [show R.val / 256 = 0 by omega, show R.val % 256 = R.val - 0 by omega]

end Cert.Att

end
-- ==== Proof.BlockValue.lean ====
/-
What one grid point computes, in the terms of the specification. The point's 512 rows are the rows of two heads; its 768 keys are the
keys the specification's queries see, with positions before the sequence's start masked. So its softmax rows are the
specification's, restricted to the window, and its three products are the specification's sums restricted to it.
-/
module

public import proofs.«01_k».proof.Proof.Bias

@[expose] public section

set_option maxRecDepth 16384

noncomputable section

namespace Cert.Att

open Idealize.ShloMosaic
open Cert.KernelIdeal Cert.KernelIdeal.Gen

/-- The sum over two halves of the terms of one of them. -/
theorem half_sum {k n : ℕ} (hn : n = k + k) {hd : ℕ} (hhd : hd < 2) (f : ℕ → EReal) :
    ∑ i : Fin n, (if i.val / k = hd then f i.val else 0) = ∑ d ∈ Finset.range k, f (k * hd + d) := by
  subst hn
  rw [← Finset.sum_range (fun i => if i / k = hd then f i else 0), Finset.sum_range_add]
  have e0 : ∀ x ∈ Finset.range k, x / k = 0 := fun x hx => Nat.div_eq_of_lt (Finset.mem_range.mp hx)
  have e1 : ∀ x ∈ Finset.range k, (k + x) / k = 1 := fun x hx => by
    have hx := Finset.mem_range.mp hx
    rw [Nat.add_div_left x (by omega), Nat.div_eq_of_lt hx]
  obtain rfl | rfl : hd = 0 ∨ hd = 1 := by omega
  · rw [Finset.sum_congr rfl (fun x hx => if_pos (e0 x hx)),
      Finset.sum_congr rfl (fun x hx => if_neg (by rw [e1 x hx]; decide)), Finset.sum_const_zero, add_zero]
    exact Finset.sum_congr rfl fun x _ => by rw [Nat.mul_zero, Nat.zero_add]
  · rw [Finset.sum_congr rfl (fun x hx => if_neg (by rw [e0 x hx]; decide)),
      Finset.sum_congr rfl (fun x hx => if_pos (e1 x hx)), Finset.sum_const_zero, zero_add]
    exact Finset.sum_congr rfl fun x _ => by rw [Nat.mul_one]

/-- The lanes of the first head. -/
theorem lanes_zero : ∀ l : Fin 128, IntOp.andi (IntOp.cmpi .sge (BitVec.ofNat 32 l.val) 0#32) (IntOp.cmpi .slt (BitVec.ofNat 32 l.val) 64#32)
    = if l.val / 64 = 0 then 1#1 else 0#1 := by decide

/-- The lanes of the second head. -/
theorem lanes_one : ∀ l : Fin 128, IntOp.andi (IntOp.cmpi .sge (BitVec.ofNat 32 l.val) 64#32) (IntOp.cmpi .slt (BitVec.ofNat 32 l.val) 128#32)
    = if l.val / 64 = 1 then 1#1 else 0#1 := by decide

/-- A condition as a number. -/
theorem number_of_bit (p : Prop) [Decidable p] :
    (FloatOps.sitofp .f32 (BitVec.setWidth 32 (if p then 1#1 else 0#1)) : Ideal .f32) = if p then (1 : EReal) else 0 := by
  split
  · show (((BitVec.setWidth 32 1#1).toInt : ℝ) : EReal) = 1
    rw [show (BitVec.setWidth 32 1#1).toInt = 1 by decide]; simp
  · show (((BitVec.setWidth 32 0#1).toInt : ℝ) : EReal) = 0
    rw [show (BitVec.setWidth 32 0#1).toInt = 0 by decide]; simp

/-- What a point is handed, in the terms of the specification: the pair of heads `hp`, the block of queries `g`. -/
structure Handed (a o rel : ℕ → ℕ → EReal) (hp g : ℕ) (x : Inp Ideal) : Prop where
  hp_lt : hp < 8
  g_lt : g < 32
  q : ∀ (r : Fin 256) (l : Fin 128), x.q (ix2 r l) = a (256 * g + r.val) (128 * hp + l.val)
  k0 : 2 ≤ g → ∀ (r : Fin 256) (l : Fin 128), x.k0 (ix2 r l) = a (256 * (g - 2) + r.val) (1024 + (128 * hp + l.val))
  k1 : 1 ≤ g → ∀ (r : Fin 256) (l : Fin 128), x.k1 (ix2 r l) = a (256 * (g - 1) + r.val) (1024 + (128 * hp + l.val))
  k2 : ∀ (r : Fin 256) (l : Fin 128), x.k2 (ix2 r l) = a (256 * g + r.val) (1024 + (128 * hp + l.val))
  v0 : 2 ≤ g → ∀ (r : Fin 256) (l : Fin 128), x.v0 (ix2 r l) = a (256 * (g - 2) + r.val) (2048 + (128 * hp + l.val))
  v1 : 1 ≤ g → ∀ (r : Fin 256) (l : Fin 128), x.v1 (ix2 r l) = a (256 * (g - 1) + r.val) (2048 + (128 * hp + l.val))
  v2 : ∀ (r : Fin 256) (l : Fin 128), x.v2 (ix2 r l) = a (256 * g + r.val) (2048 + (128 * hp + l.val))
  tile0 : ∀ (hd : Fin 2) (r w : Fin 128), x.tiles (ix4 hd 0 r w) = rel (2 * hp + hd.val) (min (128 + r.val + 128 - w.val) 256)
  tile1 : ∀ (hd : Fin 2) (r w : Fin 128), w.val / 64 ≤ r.val / 64 →
    x.tiles (ix4 hd 1 r w) = rel (2 * hp + hd.val) (min (r.val + 128 - w.val) 256)
  clip : ∀ (hd : Fin 2) (w : Fin 128), x.clip (ix3 hd 0 w) = rel (2 * hp + hd.val) 256
  dO : ∀ (r : Fin 256) (l : Fin 128), x.dO (ix2 r l) = o (256 * g + r.val) (128 * hp + l.val)

/-- What the scratch buffer holds while the pair of heads `hp` is worked. -/
def HoldsBias (rel : ℕ → ℕ → EReal) (hp : ℕ) (b : Vec Ideal S512x768 .f32) : Prop :=
  ∀ (R : Fin 512) (w : Fin 768), b (ix2 R w) = winBias rel (2 * hp + R.val / 256) (R.val % 256) w.val

/-- The scores of query `t` against the window of block `g`: minus infinity before the sequence's start. -/
def winScore (a rel : ℕ → ℕ → EReal) (h g t w : ℕ) : EReal := if 512 ≤ 256 * g + w then score a rel h t (256 * g + w - 512) else ⊥

/-- A query of block `g` sees no key outside the block's window. -/
theorem winScore_window (a rel : ℕ → ℕ → EReal) {h g t : ℕ} (hg : g < 32) (ht : t / 256 = g) :
    Window g (winScore a rel h g t) (score a rel h t) where
  le := hg
  eq w _ h1 := by rw [winScore, if_pos h1]
  before w _ h1 := by rw [winScore, if_neg (by omega)]
  outside j _ h1 := by
    rw [score, if_neg]
    rintro ⟨h2, h3⟩
    omega

/-- The mask of the keys before the sequence's start. -/
theorem keyBias_apply (i : grid0.Coords) (w : Fin 768) :
    k0_pay17 (F := Ideal) i (ix2 0 w) = if 512 ≤ 256 * seqc i + w.val then (0 : EReal) else ⊥ := by
  have hg : seqc i < 32 := seqc_lt i
  have hw := w.isLt
  pointwise [k0_pay17]
  have hs : ((BitVec.ofNat 32 (seqc i)) - 2#32).toInt = (seqc i : ℤ) - 2 := toInt_sub_word (b := 2) (by omega) (by omega)
  have hz : (IntOp.addi (BitVec.ofNat 32 w.val) (Scalar.muli (Scalar.subi (BitVec.ofNat 32 (seqc i)) 2#32) 256#32)).toInt
      = w.val + ((seqc i : ℤ) - 2) * 256 := by
    show (BitVec.ofNat 32 w.val + ((BitVec.ofNat 32 (seqc i)) - 2#32) * 256#32).toInt = _
    have hm : (((BitVec.ofNat 32 (seqc i)) - 2#32) * 256#32).toInt = ((seqc i : ℤ) - 2) * 256 := by
      rw [BitVec.toInt_mul, hs, show (256#32).toInt = 256 from rfl, Int.bmod_def]
      split <;> omega
    rw [BitVec.toInt_add, hm, toInt_word (by omega), Int.bmod_def]
    split <;> omega
  rw [WordCmp.cmpi_sge_eq, hz, show (0#32).toInt = 0 from rfl]
  by_cases h : 512 ≤ 256 * seqc i + w.val
  · rw [if_pos h, decide_eq_true (by omega)]; rfl
  · rw [if_neg h, decide_eq_false (by omega)]; rfl

section
variable {a o rel : ℕ → ℕ → EReal} {hp g : ℕ} {x : Inp Ideal} (H : Handed a o rel hp g x)
include H

theorem Handed.key (w : Fin 768) (l : Fin 128) (h : 512 ≤ 256 * g + w.val) :
    k0_pay15 x.k0 x.k1 x.k2 (ix2 w l) = a (256 * g + w.val - 512) (1024 + (128 * hp + l.val)) := by
  have hw := w.isLt
  pointwise [k0_pay15]
  by_cases h1 : w.val < 256
  · rw [dif_pos h1, H.k0 (by omega)]; congr 1; show 256 * (g - 2) + w.val = _; omega
  by_cases h2 : w.val - 256 < 256
  · rw [dif_neg h1, dif_pos h2, H.k1 (by omega)]; congr 1; show 256 * (g - 1) + (w.val - 256) = _; omega
  · rw [dif_neg h1, dif_neg h2, H.k2]; congr 1; show 256 * g + (w.val - 256 - 256) = _; omega

theorem Handed.value (w : Fin 768) (l : Fin 128) (h : 512 ≤ 256 * g + w.val) :
    k0_pay16 x.v0 x.v1 x.v2 (ix2 w l) = a (256 * g + w.val - 512) (2048 + (128 * hp + l.val)) := by
  have hw := w.isLt
  pointwise [k0_pay16]
  by_cases h1 : w.val < 256
  · rw [dif_pos h1, H.v0 (by omega)]; congr 1; show 256 * (g - 2) + w.val = _; omega
  by_cases h2 : w.val - 256 < 256
  · rw [dif_neg h1, dif_pos h2, H.v1 (by omega)]; congr 1; show 256 * (g - 1) + (w.val - 256) = _; omega
  · rw [dif_neg h1, dif_neg h2, H.v2]; congr 1; show 256 * g + (w.val - 256 - 256) = _; omega

/-- The stacked rows of q, scaled, the other head's lanes zero. -/
theorem Handed.query (R : Fin 512) (l : Fin 128) :
    k0_pay24 (k0_pay18 x.q) lanes k0_pay19 k0_pay20 (ix2 R l)
      = if l.val / 64 = R.val / 256 then a (256 * g + R.val % 256) (128 * hp + l.val) * scale else 0 := by
  have hR := R.isLt
  pointwise [k0_pay24, k0_pay22, k0_pay23, k0_pay19, k0_pay20, k0_pay21, k0_pay18, lanes]
  rw [lanes_zero, lanes_one, number_of_bit, number_of_bit]
  by_cases h : R.val < 256
  · rw [dif_pos h, H.q, show R.val / 256 = 0 by omega, show R.val % 256 = R.val by omega]
    by_cases hl : l.val / 64 = 0
    · rw [if_pos hl, if_pos hl, one_mul]; rfl
    · rw [if_neg hl, if_neg hl, zero_mul, mul_zero]
  · rw [dif_neg h, H.q, show R.val / 256 = 1 by omega, show R.val % 256 = R.val - 256 by omega]
    by_cases hl : l.val / 64 = 1
    · rw [if_pos hl, if_pos hl, one_mul]; rfl
    · rw [if_neg hl, if_neg hl, zero_mul, mul_zero]

/-- The stacked rows of the output gradient, the other head's lanes zero. -/
theorem Handed.grad (R : Fin 512) (l : Fin 128) :
    k0_pay25 x.dO lanes k0_pay19 k0_pay20 (ix2 R l)
      = if l.val / 64 = R.val / 256 then o (256 * g + R.val % 256) (128 * hp + l.val) else 0 := by
  have hR := R.isLt
  pointwise [k0_pay25, k0_pay19, k0_pay20, k0_pay21, lanes]
  rw [lanes_zero, lanes_one]
  by_cases h : R.val < 256
  · rw [dif_pos h, H.dO, show R.val / 256 = 0 by omega, show R.val % 256 = R.val by omega]
    by_cases hl : l.val / 64 = 0
    · rw [if_pos hl, if_pos hl]; rfl
    · rw [if_neg hl, if_neg hl]; rfl
  · rw [dif_neg h, H.dO, show R.val / 256 = 1 by omega, show R.val % 256 = R.val - 256 by omega]
    by_cases hl : l.val / 64 = 1
    · rw [if_pos hl, if_pos hl]; rfl
    · rw [if_neg hl, if_neg hl]; rfl

/-- The gradient with respect to the softmax. -/
theorem Handed.dprobs (R : Fin 512) (w : Fin 768) (h : 512 ≤ 256 * g + w.val) :
    Att.dprobs x (ix2 R w) = dprob a o (2 * hp + R.val / 256) (256 * g + R.val % 256) (256 * g + w.val - 512) := by
  have hR := R.isLt
  pointwise [Att.dprobs, k0_pay27]
  refine (Finset.sum_congr rfl fun l _ => by rw [H.grad, H.value w l h, ite_mul, zero_mul]).trans
    ((half_sum (k := 64) (n := 128) rfl (hd := R.val / 256) (by omega)
      (fun l => o (256 * g + R.val % 256) (128 * hp + l) * a (256 * g + w.val - 512) (2048 + (128 * hp + l)))).trans ?_)
  refine Finset.sum_congr rfl fun d _ => ?_
  rw [show 128 * hp + (64 * (R.val / 256) + d) = 64 * (2 * hp + R.val / 256) + d by omega]

variable {i : grid0.Coords} (hi : seqc i = g) {b : Vec Ideal S512x768 .f32} (hb : HoldsBias rel hp b)
include hi hb

/-- The scores of a row. -/
theorem Handed.score (R : Fin 512) (w : Fin 768) :
    ∑ l : Fin 128, k0_pay24 (k0_pay18 x.q) lanes k0_pay19 k0_pay20 (ix2 R l) * k0_pay15 x.k0 x.k1 x.k2 (ix2 w l) + b (ix2 R w)
        + k0_pay17 (F := Ideal) i (ix2 0 w)
      = winScore a rel (2 * hp + R.val / 256) g (256 * g + R.val % 256) w.val := by
  have hR := R.isLt
  have hw := w.isLt
  rw [keyBias_apply, hi, winScore]
  by_cases h : 512 ≤ 256 * g + w.val
  · rw [if_pos h, if_pos h, add_zero, hb, winBias, Att.score]
    by_cases hs : Seen (256 * g + R.val % 256) (256 * g + w.val - 512)
    · have hs' := hs
      unfold Seen at hs'
      rw [if_pos hs, if_pos (by omega)]
      congr 1
      · refine (Finset.sum_congr rfl fun l _ => by rw [H.query, H.key w l h, ite_mul, zero_mul]).trans
          ((half_sum (k := 64) (n := 128) rfl (hd := R.val / 256) (by omega)
            (fun l => a (256 * g + R.val % 256) (128 * hp + l) * scale * a (256 * g + w.val - 512) (1024 + (128 * hp + l)))).trans ?_)
        refine Finset.sum_congr rfl fun d _ => ?_
        rw [show 128 * hp + (64 * (R.val / 256) + d) = 64 * (2 * hp + R.val / 256) + d by omega]
      · congr 1; omega
    · have hs' := hs
      unfold Seen at hs'
      rw [if_neg hs, if_neg (by omega), EReal.add_bot]
  · rw [if_neg h, if_neg h, EReal.add_bot]

/-- The softmax of a row. -/
theorem Handed.probs (R : Fin 512) (w : Fin 768) :
    Att.probs i x b (ix2 R w) = rowP 768 (winScore a rel (2 * hp + R.val / 256) g (256 * g + R.val % 256)) w.val := by
  pointwise [Att.probs, k0_pay26]
  simp only [H.score hi hb]
  rw [ofBits_negInf, rowMax_eq_fold, rowP, rowSum, Finset.sum_range]
  rfl

/-- The gradient of the scores of a row. -/
theorem Handed.ds (R : Fin 512) (w : Fin 768) :
    Att.probs i x b (ix2 R w) * (Att.dprobs x (ix2 R w) - corr i x b (ix2 R 0))
      = if 512 ≤ 256 * g + w.val then dscore a o rel (2 * hp + R.val / 256) (256 * g + R.val % 256) (256 * g + w.val - 512) else 0 := by
  have hR := R.isLt
  have W := winScore_window a rel (h := 2 * hp + R.val / 256) (t := 256 * g + R.val % 256) H.g_lt (by omega)
  let dK : ℕ → EReal := fun w => if h : w < 768 then Att.dprobs x (ix2 R ⟨w, h⟩) else 0
  have hdK : ∀ w : Fin 768, dK w.val = Att.dprobs x (ix2 R w) := fun w => dif_pos w.isLt
  have hd : ∀ w < 768, 512 ≤ 256 * g + w → dK w
      = dprob a o (2 * hp + R.val / 256) (256 * g + R.val % 256) (256 * g + w - 512) := fun w hw h => by
    rw [hdK ⟨w, hw⟩, H.dprobs R ⟨w, hw⟩ h]
  have hc : corr i x b (ix2 R 0) = rowMean 768 (winScore a rel (2 * hp + R.val / 256) g (256 * g + R.val % 256)) dK := by
    pointwise [corr, k0_pay28]
    rw [rowMean, Finset.sum_range]
    exact Finset.sum_congr rfl fun w _ => congrArg₂ (· * ·) (H.probs hi hb R w) (hdK w).symm
  rw [H.probs hi hb, hc, ← hdK]
  by_cases h : 512 ≤ 256 * g + w.val
  · rw [if_pos h]
    exact W.rowDs hd w.isLt h
  · rw [if_neg h]
    exact W.rowDs_before w.isLt (by omega)

/-- What the point adds to the gradient of a key: its queries' terms of the specification's sum. -/
theorem Handed.dkBlk (w : Fin 768) (l : Fin 128) (h : 512 ≤ 256 * g + w.val) :
    Att.dkBlk i x b (ix2 w l) = ∑ r ∈ Finset.range 256, dscore a o rel ((128 * hp + l.val) / 64) (256 * g + r) (256 * g + w.val - 512)
      * (a (256 * g + r) (128 * hp + l.val) * scale) := by
  have hl := l.isLt
  pointwise [Att.dkBlk, k0_pay32, k0_pay30, k0_pay29]
  refine (Finset.sum_congr rfl fun R _ => ?_).trans
    ((half_sum (k := 256) (n := 512) rfl (hd := l.val / 64) (by omega)
      (fun R => dscore a o rel (2 * hp + R / 256) (256 * g + R % 256) (256 * g + w.val - 512)
        * (a (256 * g + R % 256) (128 * hp + l.val) * scale))).trans ?_)
  · rw [H.ds hi hb, if_pos h, H.query, mul_ite, mul_zero]
    simp only [eq_comm]
  · refine Finset.sum_congr rfl fun r hr => ?_
    have hr := Finset.mem_range.mp hr
    rw [show (256 * (l.val / 64) + r) / 256 = l.val / 64 by omega, show (256 * (l.val / 64) + r) % 256 = r by omega,
      show 2 * hp + l.val / 64 = (128 * hp + l.val) / 64 by omega]

/-- What the point adds to the gradient of a value. -/
theorem Handed.dvBlk (w : Fin 768) (l : Fin 128) (h : 512 ≤ 256 * g + w.val) :
    Att.dvBlk i x b (ix2 w l) = ∑ r ∈ Finset.range 256, prob a rel ((128 * hp + l.val) / 64) (256 * g + r) (256 * g + w.val - 512)
      * o (256 * g + r) (128 * hp + l.val) := by
  have hl := l.isLt
  pointwise [Att.dvBlk, k0_pay33]
  refine (Finset.sum_congr rfl fun R _ => ?_).trans
    ((half_sum (k := 256) (n := 512) rfl (hd := l.val / 64) (by omega)
      (fun R => prob a rel (2 * hp + R / 256) (256 * g + R % 256) (256 * g + w.val - 512)
        * o (256 * g + R % 256) (128 * hp + l.val))).trans ?_)
  · have hR := R.isLt
    have W := winScore_window a rel (h := 2 * hp + R.val / 256) (t := 256 * g + R.val % 256) H.g_lt (by omega)
    rw [H.probs hi hb, W.rowP w.isLt h, H.grad, mul_ite, mul_zero, prob]
    simp only [eq_comm]
  · refine Finset.sum_congr rfl fun r hr => ?_
    have hr := Finset.mem_range.mp hr
    rw [show (256 * (l.val / 64) + r) / 256 = l.val / 64 by omega, show (256 * (l.val / 64) + r) % 256 = r by omega,
      show 2 * hp + l.val / 64 = (128 * hp + l.val) / 64 by omega]

/-- One row of the product of the scores' gradient with the keys. -/
theorem Handed.dsKeys (R : Fin 512) (l : Fin 128) :
    ∑ w : Fin 768, Att.probs i x b (ix2 R w) * (Att.dprobs x (ix2 R w) - corr i x b (ix2 R 0)) * k0_pay15 x.k0 x.k1 x.k2 (ix2 w l)
      = ∑ j ∈ Finset.range 8192, dscore a o rel (2 * hp + R.val / 256) (256 * g + R.val % 256) j * a j (1024 + (128 * hp + l.val)) := by
  have hR := R.isLt
  have W := winScore_window a rel (h := 2 * hp + R.val / 256) (t := 256 * g + R.val % 256) H.g_lt (by omega)
  rw [← sum_window H.g_lt (fK := fun w => if 512 ≤ 256 * g + w then
      dscore a o rel (2 * hp + R.val / 256) (256 * g + R.val % 256) (256 * g + w - 512) * a (256 * g + w - 512) (1024 + (128 * hp + l.val)) else 0)
    (fun w _ h => if_pos h) (fun w _ h => if_neg (by omega))
    (fun j hj h => by rw [dscore, W.rowDs_outside hj h, zero_mul]), Finset.sum_range]
  refine Finset.sum_congr rfl fun w _ => ?_
  rw [H.ds hi hb]
  by_cases h : 512 ≤ 256 * g + w.val
  · rw [if_pos h, if_pos h, H.key w l h]
  · rw [if_neg h, if_neg h, zero_mul]

/-- The point's rows of the gradient of q. -/
theorem Handed.dqBlk (r : Fin 256) (l : Fin 128) :
    Att.dqBlk i x b (ix2 r l) = specQ a o rel (256 * g + r.val) (128 * hp + l.val) := by
  have hr := r.isLt
  have hl := l.isLt
  pointwise [Att.dqBlk, k0_pay31, k0_pay30, k0_pay29]
  rw [H.dsKeys hi hb, H.dsKeys hi hb]
  pointwise [k0_pay22, k0_pay23, k0_pay19, k0_pay20, k0_pay21, lanes]
  rw [lanes_zero, lanes_one, number_of_bit, number_of_bit, specQ]
  rw [show r.val / 256 = 0 by omega, show r.val % 256 = r.val by omega, show (256 + r.val) / 256 = 1 by omega,
    show (256 + r.val) % 256 = r.val by omega]
  by_cases h : l.val / 64 = 0
  · rw [if_pos h, if_neg (by omega), one_mul, zero_mul, mul_zero, add_zero, show (128 * hp + l.val) / 64 = 2 * hp + 0 by omega]
    rfl
  · rw [if_neg h, if_pos (by omega), one_mul, zero_mul, mul_zero, zero_add, show (128 * hp + l.val) / 64 = 2 * hp + 1 by omega]
    rfl

end

end Cert.Att

end
-- ==== Proof.Accum.lean ====
/-
How the gradients add up along the sequence. The points of a pair of heads come in order of the blocks of queries; after each, the
accumulators hold the specification's sums over the queries seen so far.
-/
module

public import proofs.«01_k».proof.Proof.BlockValue
public import proofs.«01_k».proof.Proof.Body

@[expose] public section

set_option maxRecDepth 16384

noncomputable section

namespace Cert.Att

open Idealize.ShloMosaic
open Cert.KernelIdeal Cert.KernelIdeal.Gen

/-- One accumulation, at an entry: the rows of one block of keys gain the terms `C`, the others keep what they held. -/
theorem bump_apply {g d off : ℕ} (hg : g < 32) (hoff : off + 256 * d = 512) (hd : d ≤ g)
    {f : Vec Ideal S256x128 .f32 → FVec Ideal S256x128 .f32} {w : FVec Ideal S768x128 .f32}
    (hf : ∀ (Y : Vec Ideal S256x128 .f32) (r : Fin 256) (l : Fin 128),
      f Y (ix2 r l) = Y (ix2 r l) + w (ix2 ⟨off + r.val, by have := r.isLt; omega⟩ l))
    (X : Vec Ideal S8192x128 .f32) {C : ℕ → EReal} {l : Fin 128}
    (hw : ∀ v : Fin 768, 512 ≤ 256 * g + v.val → w (ix2 v l) = C (256 * g + v.val - 512)) (j : Fin 8192) :
    bump g d hg f X (ix2 j l) = X (ix2 j l) + if j.val / 256 + d = g then C j.val else 0 := by
  rw [bump]
  refine (put_rows X (256 * (g - d)) _ j l).trans ?_
  by_cases h : 256 * (g - d) ≤ j.val ∧ j.val < 256 * (g - d) + 256
  · rw [dif_pos h, if_pos (by omega), hf, hw _ (by dsimp only; omega)]
    congr 1
    · refine (window_rows X (256 * (g - d)) _ _ l (by dsimp only; omega)).trans ?_
      congr 2
      exact Fin.ext (by dsimp only; omega)
    · congr 1; dsimp only; omega
  · rw [dif_neg h, if_neg (by omega), add_zero]

/-- The three accumulations of a point, at an entry. -/
theorem bumps_apply {g : ℕ} (hg : g < 32) {f2 f1 f0 : Vec Ideal S256x128 .f32 → FVec Ideal S256x128 .f32} {w : FVec Ideal S768x128 .f32}
    (h2 : ∀ (Y : Vec Ideal S256x128 .f32) (r : Fin 256) (l : Fin 128),
      f2 Y (ix2 r l) = Y (ix2 r l) + w (ix2 ⟨0 + r.val, by have := r.isLt; omega⟩ l))
    (h1 : ∀ (Y : Vec Ideal S256x128 .f32) (r : Fin 256) (l : Fin 128),
      f1 Y (ix2 r l) = Y (ix2 r l) + w (ix2 ⟨256 + r.val, by have := r.isLt; omega⟩ l))
    (h0 : ∀ (Y : Vec Ideal S256x128 .f32) (r : Fin 256) (l : Fin 128),
      f0 Y (ix2 r l) = Y (ix2 r l) + w (ix2 ⟨512 + r.val, by have := r.isLt; omega⟩ l))
    (X : Vec Ideal S8192x128 .f32) {C : ℕ → EReal} {l : Fin 128}
    (hw : ∀ v : Fin 768, 512 ≤ 256 * g + v.val → w (ix2 v l) = C (256 * g + v.val - 512))
    (hout : ∀ j < 8192, ¬(256 * g ≤ j + 512 ∧ j + 512 < 256 * g + 768) → C j = 0) (j : Fin 8192) :
    bump g 0 hg f0 (if 1 ≤ g then bump g 1 hg f1 (if 2 ≤ g then bump g 2 hg f2 X else X) else if 2 ≤ g then bump g 2 hg f2 X else X) (ix2 j l)
      = X (ix2 j l) + C j.val := by
  have hj := j.isLt
  have e2 : (if 2 ≤ g then bump g 2 hg f2 X else X) (ix2 j l) = X (ix2 j l) + if j.val / 256 + 2 = g then C j.val else 0 := by
    by_cases h : 2 ≤ g
    · rw [if_pos h]; exact bump_apply hg rfl h h2 X hw j
    · rw [if_neg h, if_neg (by omega), add_zero]
  generalize (if 2 ≤ g then bump g 2 hg f2 X else X) = X1 at e2
  have e1 : (if 1 ≤ g then bump g 1 hg f1 X1 else X1) (ix2 j l) = X1 (ix2 j l) + if j.val / 256 + 1 = g then C j.val else 0 := by
    by_cases h : 1 ≤ g
    · rw [if_pos h]; exact bump_apply hg rfl h h1 X1 hw j
    · rw [if_neg h, if_neg (by omega), add_zero]
  generalize (if 1 ≤ g then bump g 1 hg f1 X1 else X1) = X2 at e1
  rw [bump_apply hg rfl (Nat.zero_le g) h0 X2 hw j, e1, e2]
  by_cases c2 : j.val / 256 + 2 = g
  · rw [if_pos c2, if_neg (by omega), if_neg (by omega), add_zero, add_zero]
  by_cases c1 : j.val / 256 + 1 = g
  · rw [if_neg c2, if_pos c1, if_neg (by omega), add_zero, add_zero]
  by_cases c0 : j.val / 256 + 0 = g
  · rw [if_neg c2, if_neg c1, if_pos c0, add_zero, add_zero]
  · rw [if_neg c2, if_neg c1, if_neg c0, hout j.val hj (by omega), add_zero, add_zero]

/-- The key-gradient accumulator after a point, at an entry. -/
theorem dkStep_apply (i : grid0.Coords) (w : FVec Ideal S768x128 .f32) (X : Vec Ideal S8192x128 .f32) {C : ℕ → EReal} {l : Fin 128}
    (hw : ∀ v : Fin 768, 512 ≤ 256 * seqc i + v.val → w (ix2 v l) = C (256 * seqc i + v.val - 512))
    (hout : ∀ j < 8192, ¬(256 * seqc i ≤ j + 512 ∧ j + 512 < 256 * seqc i + 768) → C j = 0) (j : Fin 8192) :
    dkStep i w X (ix2 j l) = (if seqc i = 0 then 0 else X (ix2 j l)) + C j.val := by
  have h2 : ∀ (Y : Vec Ideal S256x128 .f32) (r : Fin 256) (l : Fin 128),
      k0_pay48 w Y (ix2 r l) = Y (ix2 r l) + w (ix2 ⟨0 + r.val, by have := r.isLt; omega⟩ l) := by
    intro Y r l; pointwise [k0_pay48]
  have h1 : ∀ (Y : Vec Ideal S256x128 .f32) (r : Fin 256) (l : Fin 128),
      k0_pay1 w Y (ix2 r l) = Y (ix2 r l) + w (ix2 ⟨256 + r.val, by have := r.isLt; omega⟩ l) := by
    intro Y r l; pointwise [k0_pay1]
  have h0 : ∀ (Y : Vec Ideal S256x128 .f32) (r : Fin 256) (l : Fin 128),
      k0_pay3 w Y (ix2 r l) = Y (ix2 r l) + w (ix2 ⟨512 + r.val, by have := r.isLt; omega⟩ l) := by
    intro Y r l; pointwise [k0_pay3]
  have e := bumps_apply (seqc_lt i) h2 h1 h0 (if seqc i = 0 then (k0_pay10 (F := Ideal)) else X) hw hout j
  unfold dkStep
  rw [e]
  congr 1
  by_cases h : seqc i = 0
  · rw [if_pos h, if_pos h]; pointwise [k0_pay10]
  · rw [if_neg h, if_neg h]

/-- The value-gradient accumulator after a point, at an entry. -/
theorem dvStep_apply (i : grid0.Coords) (w : FVec Ideal S768x128 .f32) (X : Vec Ideal S8192x128 .f32) {C : ℕ → EReal} {l : Fin 128}
    (hw : ∀ v : Fin 768, 512 ≤ 256 * seqc i + v.val → w (ix2 v l) = C (256 * seqc i + v.val - 512))
    (hout : ∀ j < 8192, ¬(256 * seqc i ≤ j + 512 ∧ j + 512 < 256 * seqc i + 768) → C j = 0) (j : Fin 8192) :
    dvStep i w X (ix2 j l) = (if seqc i = 0 then 0 else X (ix2 j l)) + C j.val := by
  have h2 : ∀ (Y : Vec Ideal S256x128 .f32) (r : Fin 256) (l : Fin 128),
      k0_pay49 w Y (ix2 r l) = Y (ix2 r l) + w (ix2 ⟨0 + r.val, by have := r.isLt; omega⟩ l) := by
    intro Y r l; pointwise [k0_pay49]
  have h1 : ∀ (Y : Vec Ideal S256x128 .f32) (r : Fin 256) (l : Fin 128),
      k0_pay2 w Y (ix2 r l) = Y (ix2 r l) + w (ix2 ⟨256 + r.val, by have := r.isLt; omega⟩ l) := by
    intro Y r l; pointwise [k0_pay2]
  have h0 : ∀ (Y : Vec Ideal S256x128 .f32) (r : Fin 256) (l : Fin 128),
      k0_pay4 w Y (ix2 r l) = Y (ix2 r l) + w (ix2 ⟨512 + r.val, by have := r.isLt; omega⟩ l) := by
    intro Y r l; pointwise [k0_pay4]
  have e := bumps_apply (seqc_lt i) h2 h1 h0 (if seqc i = 0 then (k0_pay11 (F := Ideal)) else X) hw hout j
  unfold dvStep
  rw [e]
  congr 1
  by_cases h : seqc i = 0
  · rw [if_pos h, if_pos h]; pointwise [k0_pay11]
  · rw [if_neg h, if_neg h]

/-- What the accumulators hold once the first `n` queries of the pair of heads `hp` are done. -/
structure Upto (a o rel : ℕ → ℕ → EReal) (hp n : ℕ) (y : Out Ideal) : Prop where
  dk : ∀ (j : Fin 8192) (l : Fin 128), y.dk (ix2 j l)
    = ∑ t ∈ Finset.range n, dscore a o rel ((128 * hp + l.val) / 64) t j.val * (a t (128 * hp + l.val) * scale)
  dv : ∀ (j : Fin 8192) (l : Fin 128), y.dv (ix2 j l)
    = ∑ t ∈ Finset.range n, prob a rel ((128 * hp + l.val) / 64) t j.val * o t (128 * hp + l.val)
  sq : ∀ l : Fin 128, y.sq (ix2 0 l) = ∑ t ∈ Finset.range n, specQ a o rel t (128 * hp + l.val)
  scr : HoldsBias rel hp y.scr

section
variable {a o rel : ℕ → ℕ → EReal} {hp g : ℕ} {x : Inp Ideal} (H : Handed a o rel hp g x) {i : grid0.Coords} (hi : seqc i = g)
include H hi

/-- After a point the scratch buffer holds the bias of its pair of heads. -/
theorem Handed.scr {s : Vec Ideal S512x768 .f32} (hs : g ≠ 0 → HoldsBias rel hp s) : HoldsBias rel hp (scrStep i x s) := by
  rw [scrStep]
  by_cases h : seqc i = 0
  · rw [if_pos h]
    exact biasOver_apply x s H.tile0 H.tile1 H.clip
  · rw [if_neg h]
    exact hs (by omega)

/-- A point adds its 256 queries' terms. -/
theorem Handed.step {y : Out Ideal} (hy : g ≠ 0 → Upto a o rel hp (256 * g) y) :
    Upto a o rel hp (256 * g + 256) (y.step i x)
      ∧ ∀ (r : Fin 256) (l : Fin 128), (y.step i x).dq (ix2 r l) = specQ a o rel (256 * g + r.val) (128 * hp + l.val) := by
  have hb := H.scr hi (s := y.scr) fun h => (hy h).scr
  have W : ∀ (h : ℕ) (r : ℕ), r < 256 → Window g (winScore a rel h g (256 * g + r)) (Att.score a rel h (256 * g + r)) :=
    fun h r hr => winScore_window a rel (t := 256 * g + r) H.g_lt (by omega)
  have start : ∀ (X : EReal) (f : ℕ → EReal), (g ≠ 0 → X = ∑ t ∈ Finset.range (256 * g), f t) →
      (if seqc i = 0 then 0 else X) = ∑ t ∈ Finset.range (256 * g), f t := by
    intro X f hX
    by_cases h : g = 0
    · rw [if_pos (by omega), h]; rfl
    · rw [if_neg (by omega), hX h]
  refine ⟨⟨fun j l => ?_, fun j l => ?_, fun l => ?_, hb⟩, fun r l => ?_⟩
  · refine (dkStep_apply i _ y.dk (C := fun j => ∑ r ∈ Finset.range 256, dscore a o rel ((128 * hp + l.val) / 64) (256 * g + r) j
        * (a (256 * g + r) (128 * hp + l.val) * scale)) (fun v hv => ?_) (fun j hj hn => ?_) j).trans ?_
    · rw [hi] at hv ⊢
      exact H.dkBlk hi hb v l hv
    · rw [hi] at hn
      exact Finset.sum_eq_zero fun r hr => by
        rw [dscore, (W _ r (Finset.mem_range.mp hr)).rowDs_outside hj hn, zero_mul]
    · rw [Finset.sum_range_add, start _ _ fun h => (hy h).dk j l]
  · refine (dvStep_apply i _ y.dv (C := fun j => ∑ r ∈ Finset.range 256, prob a rel ((128 * hp + l.val) / 64) (256 * g + r) j
        * o (256 * g + r) (128 * hp + l.val)) (fun v hv => ?_) (fun j hj hn => ?_) j).trans ?_
    · rw [hi] at hv ⊢
      exact H.dvBlk hi hb v l hv
    · rw [hi] at hn
      exact Finset.sum_eq_zero fun r hr => by
        rw [prob, (W _ r (Finset.mem_range.mp hr)).rowP_outside hj hn, zero_mul]
    · rw [Finset.sum_range_add, start _ _ fun h => (hy h).dv j l]
  · show k0_pay47 (Att.dqBlk i x (scrStep i x y.scr)) (if seqc i = 0 then (k0_pay14 (F := Ideal)) else y.sq) (ix2 0 l) = _
    pointwise [k0_pay47]
    rw [Finset.sum_range_add, ← start _ _ fun h => (hy h).sq l, Finset.sum_range (n := 256)]
    congr 1
    · split
      · pointwise [k0_pay14]
      · rfl
    · exact Finset.sum_congr rfl fun r _ => H.dqBlk hi hb r l
  · exact H.dqBlk hi hb r l

/-- The last point of a pair of heads leaves the column sums of the gradients of k and of v. -/
theorem Handed.last {y : Out Ideal} (hy : g ≠ 0 → Upto a o rel hp (256 * g) y) (h31 : g = 31) (l : Fin 128) :
    (y.step i x).sk (ix2 0 l) = colSum (specK a o rel) (128 * hp + l.val)
      ∧ (y.step i x).sv (ix2 0 l) = colSum (specV a o rel) (128 * hp + l.val) := by
  have U := (H.step hi hy).1
  have ek : (y.step i x).sk = k0_pay5 (y.step i x).dk := if_pos (hi.trans h31)
  have ev : (y.step i x).sv = k0_pay6 (y.step i x).dv := if_pos (hi.trans h31)
  rw [ek, ev]
  constructor
  · pointwise [k0_pay5]
    rw [colSum, Finset.sum_range (n := 8192)]
    exact Finset.sum_congr rfl fun j _ => (U.dk j l).trans (by rw [h31]; rfl)
  · pointwise [k0_pay6]
    rw [colSum, Finset.sum_range (n := 8192)]
    exact Finset.sum_congr rfl fun j _ => (U.dv j l).trans (by rw [h31]; rfl)

end

end Cert.Att

end
-- ==== Proof.Tiles.lean ====
/-
The two tables the kernel's host side prepares for the bias: for every head, two tiles of 128 by 128 distances, and the value past the
clipping distance. Each entry is an entry of the bias table.
-/
module

public import proofs.«01_k».proof.Proof.Spec
public import proofs.«01_k».proof.Proof.Words
public import proofs.«01_k».proof.Proof.Gen.KernelIdeal.Frame

@[expose] public section

set_option maxRecDepth 16384

noncomputable section

namespace Cert.Att

open Idealize.ShloMosaic Idealize.ShloMosaic.TcCoe
open Cert.KernelIdeal Cert.KernelIdeal.Gen

/-- A constant at every place of a tile. -/
abbrev splat (n : BitVec 32) : IVec S128x128 32 := broadcastInDim S128x128 ![] bcast_S_S128x128 (constantI S_ 32 n)

/-- How many chunks the key of a tile's entry lies after the query's, given the distance `cc` of the tile. -/
def tileChunks (cc : BitVec 32) : IVec S128x128 32 :=
  subi (addi (splat cc) (Host.shrui (iotaInDim S128x128 32 1) (splat 6#32))) (Host.shrui (iotaInDim S128x128 32 0) (splat 6#32))

/-- The column of the bias table each entry of a tile reads: column 257, which holds a constant, where the key is out of reach. -/
def tileCols (cc dd : BitVec 32) : IVec S128x128x1 32 :=
  broadcastInDim S128x128x1 ![0, 1] bcast_S128x128_S128x128x1_0_1
    (select (andi (cmpi .sge (tileChunks cc) (splat 0#32)) (cmpi .sle (tileChunks cc) (splat 8#32)))
      (addi (minsi (subi (addi (splat dd) (iotaInDim S128x128 32 0)) (iotaInDim S128x128 32 1)) (splat 128#32)) (splat 128#32))
      (broadcastInDim S128x128 ![] bcast_S_S128x128 (id (constantI S_ 32 257#32))))

section
variable {F : FTy → Type} [FloatOps F] [Named F]

/-- The bias table with constant columns added. -/
def paddedRel (x : FVec F S16x257 .f32) : FVec F S16x384 .f32 :=
  pad S16x384 ![0, 0] ![0, 127] ![0, 0] x (id (constant S_ .f32 0xF149F2CA#32)) pads_S16x257_S16x384_000_01270 h_S_

/-- One tile of every head. -/
def hostTile (cc dd : BitVec 32) (x : FVec F S16x257 .f32) : FVec F S16x128x128 .f32 :=
  Host.gather gather_S16x384_S128x128x1_S16x128x128_0_1_n_n_1_2_161 (paddedRel x) (tileCols cc dd)

/-- Both tiles of every head. -/
def hostTiles (x : FVec F S16x257 .f32) : FVec F S16x2x128x128 .f32 :=
  concatenate S16x2x128x128 1
    [⟨S16x1x128x128, broadcastInDim S16x1x128x128 ![0, 2, 3] bcast_S16x128x128_S16x1x128x128_0_2_3 (hostTile 6#32 128#32 x)⟩,
     ⟨S16x1x128x128, broadcastInDim S16x1x128x128 ![0, 2, 3] bcast_S16x128x128_S16x1x128x128_0_2_3 (hostTile 8#32 0#32 x)⟩]
    concatenates_S16x1x128x128_S16x1x128x128_S16x2x128x128_d1

/-- The value past the clipping distance, of every head, along a row of lanes. -/
def hostClip (x : FVec F S16x257 .f32) : FVec F S16x1x128 .f32 :=
  broadcastInDim S16x1x128 ![0, 1, 2] bcast_S16x1x1_S16x1x128_0_1_2
    (broadcastInDim S16x1x1 ![0] bcast_S16_S16x1x1_0
      (shapeCast S16 (extractStridedSlice S16x1 ![0, 256] x slices_S16x257_S16x1_0_256) shapeCasts_S16x1_S16))

end

/-- Whether a key's chunk lies in reach, and the clipped distance moved to start at 0. -/
theorem tile_word {cc dd t j : ℕ} (hcc : cc < 16) (hdd : dd ≤ 128) (ht : t < 128) (hj : j < 128)
    (h1 : t / 64 ≤ cc + j / 64) (h2 : cc + j / 64 ≤ t / 64 + 8) (z : BitVec 32) :
    (Scalar.select
      (IntOp.andi
        (IntOp.cmpi .sge (IntOp.subi (IntOp.addi (BitVec.ofNat 32 cc) (BitVec.ofNat 32 (j / 64))) (BitVec.ofNat 32 (t / 64))) 0#32)
        (IntOp.cmpi .sle (IntOp.subi (IntOp.addi (BitVec.ofNat 32 cc) (BitVec.ofNat 32 (j / 64))) (BitVec.ofNat 32 (t / 64))) 8#32))
      (IntOp.addi (IntOp.minsi (IntOp.subi (IntOp.addi (BitVec.ofNat 32 dd) (BitVec.ofNat 32 t)) (BitVec.ofNat 32 j)) 128#32) 128#32)
      z).toInt = min ((dd : ℤ) + t - j) 128 + 128 := by
  have e1 : IntOp.addi (BitVec.ofNat 32 cc) (BitVec.ofNat 32 (j / 64)) = BitVec.ofNat 32 (cc + j / 64) := (BitVec.ofNat_add ..).symm
  have e2 : IntOp.addi (BitVec.ofNat 32 dd) (BitVec.ofNat 32 t) = BitVec.ofNat 32 (dd + t) := (BitVec.ofNat_add ..).symm
  rw [e1, e2, band_word (by omega) (by omega), if_pos ⟨h1, h2⟩]
  show (IntOp.addi (IntOp.minsi (IntOp.subi (BitVec.ofNat 32 (dd + t)) (BitVec.ofNat 32 j)) 128#32) 128#32).toInt = _
  have hd := toInt_sub_word (a := dd + t) (b := j) (by omega) (by omega)
  generalize IntOp.subi (BitVec.ofNat 32 (dd + t)) (BitVec.ofNat 32 j) = x at hd
  have hmin : (IntOp.minsi x 128#32).toInt = min ((dd : ℤ) + t - j) 128 := by
    rw [IntOp.minsi, BitVec.slt]
    rw [hd, show (128#32).toInt = 128 from rfl]
    by_cases h : ((dd + t : ℕ) : ℤ) - j < 128
    · rw [if_pos (decide_eq_true h), hd]; omega
    · rw [if_neg (by simpa using h)]; simp; omega
  generalize IntOp.minsi x 128#32 = y at hmin
  show (y + 128#32).toInt = _
  rw [BitVec.toInt_add, hmin, show (128#32).toInt = 128 from rfl, Int.bmod_def]
  split <;> omega

section
variable {x : FVec Ideal S16x257 .f32} {rel : ℕ → ℕ → EReal} (hr : ∀ (h : Fin 16) (n : Fin 257), x (ix2 h n) = rel h.val n.val)

include hr

/-- An entry of a tile whose key is in reach. -/
theorem hostTile_apply {cc dd : ℕ} (hcc : cc < 16) (hdd : dd ≤ 128) (h : Fin 16) (t j : Fin 128)
    (h1 : t.val / 64 ≤ cc + j.val / 64) (h2 : cc + j.val / 64 ≤ t.val / 64 + 8) :
    hostTile (F := Ideal) (BitVec.ofNat 32 cc) (BitVec.ofNat 32 dd) x (ix3 h t j)
      = rel h.val (min (dd + t.val + 128 - j.val) 256) := by
  have e : (tileCols (BitVec.ofNat 32 cc) (BitVec.ofNat 32 dd) (ix3 t j 0)).toInt = min ((dd : ℤ) + t.val - j.val) 128 + 128 := by
    pointwise [tileCols, tileChunks]
    have hs : ∀ a : Fin 128, IntOp.shrui .host (BitVec.ofNat 32 a.val) 6#32 = BitVec.ofNat 32 (a.val / 64) := by decide
    rw [hs, hs]
    exact tile_word hcc hdd t.isLt j.isLt h1 h2 _
  have hn : min (tileCols (BitVec.ofNat 32 cc) (BitVec.ofNat 32 dd) (ix3 t j 0)).toInt.toNat (384 - 1)
      = min (dd + t.val + 128 - j.val) 256 := by
    rw [e]; omega
  refine (columns_apply (by decide) gather_S16x384_S128x128x1_S16x128x128_0_1_n_n_1_2_161.wf _ _ h t j).trans ?_
  pointwise [paddedRel]
  have hlt : min (tileCols (BitVec.ofNat 32 cc) (BitVec.ofNat 32 dd) (ix3 t j 0)).toInt.toNat (384 - 1) < 257 := by
    rw [hn]; omega
  rw [dif_pos hlt, hr]
  exact congrArg (rel h.val) hn

/-- The first tile: keys one tile before the queries. -/
theorem hostTiles_zero (h : Fin 16) (t j : Fin 128) :
    hostTiles (F := Ideal) x (ix4 h 0 t j) = rel h.val (min (128 + t.val + 128 - j.val) 256) := by
  pointwise [hostTiles]
  exact hostTile_apply hr (cc := 6) (dd := 128) (by decide) (by decide) h t j (by omega) (by omega)

/-- The second tile: keys in the same tile as the queries. -/
theorem hostTiles_one (h : Fin 16) (t j : Fin 128) (hs : j.val / 64 ≤ t.val / 64) :
    hostTiles (F := Ideal) x (ix4 h 1 t j) = rel h.val (min (t.val + 128 - j.val) 256) := by
  pointwise [hostTiles]
  refine (hostTile_apply hr (cc := 8) (dd := 0) (by decide) (by decide) h t j (by omega) (by omega)).trans ?_
  rw [Nat.zero_add]

theorem hostClip_apply (h : Fin 16) (l : Fin 128) : hostClip (F := Ideal) x (ix3 h 0 l) = rel h.val 256 := by
  pointwise [hostClip]
  exact hr h 256

end

end Cert.Att

end
-- ==== Proof.TilesRun.lean ====
/-
The host side leaves the two tables in the buffers the kernel reads them from.
-/
module

public import proofs.«01_k».proof.Proof.Tiles

@[expose] public section

set_option maxRecDepth 16384

noncomputable section

namespace Cert.Att

open Idealize.ShloMosaic Idealize.ShloMosaic.TcCoe
open Cert.KernelIdeal Cert.KernelIdeal.Gen

variable {F : FTy → Type} [FloatOps F] [Named F]
variable (m : (l : Loc nD τ sig) → Buf (Elt F) l)

set_option maxHeartbeats 4000000 in
/-- The buffer of the tiles. -/
theorem V_tiles (c : Dev nD) : V m c main_v51 = hostTiles (m ((c : Thread nD τ).loc main_arg2)) := by
  simp only [V, hostOps0, hostOps0_1, hostOps0_2, hostOps0_3, hostOps0_4, hostOps0_5, hostOps0_6, hostOps0_7, hostOps0_8,
    List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp
  rfl

/-- The buffer of the values past the clipping distance. -/
theorem V_clip (c : Dev nD) : V m c main_v3 = hostClip (m ((c : Thread nD τ).loc main_arg2)) := by
  simp only [V, hostOps0, hostOps0_1, hostOps0_2, hostOps0_3, hostOps0_4, hostOps0_5, hostOps0_6, hostOps0_7, hostOps0_8,
    List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp
  rfl

end Cert.Att

end
-- ==== Proof.Blocks.lean ====
/-
The blocks a grid point is handed, read from the argument arrays: the point of the pair of heads `hp` and the block of queries `g` gets
the rows and columns of the tables that the specification's formulas name.
-/
module

public import proofs.«01_k».proof.Proof.BlockValue
public import proofs.«01_k».proof.Proof.Track
public import proofs.«01_k».proof.Proof.TilesRun
public import Idealize.ShloMosaic.Lib.Pipeline.ValueKit

@[expose] public section

set_option maxRecDepth 16384

noncomputable section

namespace Cert.Att

open Idealize.ShloMosaic Idealize.ShloMosaic.TcCoe
open Cert.KernelIdeal Cert.KernelIdeal.Gen

/-! ### Where the blocks lie -/

theorem index_q : ∀ t : Fin grid0.N, win0_0.index t = ![t.val % 32, t.val / 32] := by decide +kernel
theorem index_k0 : ∀ t : Fin grid0.N, win0_1.index t = ![t.val % 32 - 2, 8 + t.val / 32] := by decide +kernel
theorem index_k1 : ∀ t : Fin grid0.N, win0_2.index t = ![t.val % 32 - 1, 8 + t.val / 32] := by decide +kernel
theorem index_k2 : ∀ t : Fin grid0.N, win0_3.index t = ![t.val % 32, 8 + t.val / 32] := by decide +kernel
theorem index_v0 : ∀ t : Fin grid0.N, win0_4.index t = ![t.val % 32 - 2, 16 + t.val / 32] := by decide +kernel
theorem index_v1 : ∀ t : Fin grid0.N, win0_5.index t = ![t.val % 32 - 1, 16 + t.val / 32] := by decide +kernel
theorem index_v2 : ∀ t : Fin grid0.N, win0_6.index t = ![t.val % 32, 16 + t.val / 32] := by decide +kernel
theorem index_tiles : ∀ t : Fin grid0.N, win0_7.index t = ![t.val / 32, 0, 0, 0] := by decide +kernel
theorem index_clip : ∀ t : Fin grid0.N, win0_8.index t = ![t.val / 32, 0, 0] := by decide +kernel
theorem index_dO : ∀ t : Fin grid0.N, win0_9.index t = ![t.val % 32, t.val / 32] := by decide +kernel

section
variable (m : (ℓ : Loc nD τ sig) → Buf (Elt Ideal) ℓ) (c : Dev nD) {a o rel : ℕ → ℕ → EReal}
  (ha : ∀ (t : Fin 8192) (k : Fin 3072), m ((c : Thread nD τ).loc main_arg0) (ix2 t k) = a t.val k.val)
  (ho : ∀ (t : Fin 8192) (k : Fin 1024), m ((c : Thread nD τ).loc main_arg1) (ix2 t k) = o t.val k.val)
  (hr : ∀ (h : Fin 16) (n : Fin 257), m ((c : Thread nD τ).loc main_arg2) (ix2 h n) = rel h.val n.val)

include ha in
/-- An entry of the table of q, k and v, its place given by two numbers. -/
theorem table_apply (i : main_arg0.ty.shape.Idx) {t k : ℕ} (h0 : (i 0).val = t) (h1 : (i 1).val = k) :
    V m c main_arg0 i = a t k := by
  subst h0 h1
  rw [V_main_arg0, eq_ix2 i]
  exact ha _ _

include ho in
theorem grad_apply (i : main_arg1.ty.shape.Idx) {t k : ℕ} (h0 : (i 0).val = t) (h1 : (i 1).val = k) :
    V m c main_arg1 i = o t k := by
  subst h0 h1
  rw [V_main_arg1, eq_ix2 i]
  exact ho _ _

/-- An entry of the bias tiles. -/
theorem tile_apply (i : main_v51.ty.shape.Idx) {h : ℕ} (hh : h < 16) {k : Fin 2} {r w : Fin 128} (h0 : (i 0).val = h)
    (h1 : (i 1).val = k.val) (h2 : (i 2).val = r.val) (h3 : (i 3).val = w.val) :
    V m c main_v51 i = hostTiles (F := Ideal) (m ((c : Thread nD τ).loc main_arg2)) (ix4 ⟨h, hh⟩ k r w) := by
  have e : i = ix4 ⟨h, hh⟩ k r w := by
    rw [eq_ix4 i, show i 0 = (⟨h, hh⟩ : Fin 16) from Fin.ext h0, show i 1 = k from Fin.ext h1, show i 2 = r from Fin.ext h2, show i 3 = w from Fin.ext h3]
  rw [V_tiles, e]

/-- An entry of the bias beyond the tiles. -/
theorem clip_apply (i : main_v3.ty.shape.Idx) {h : ℕ} (hh : h < 16) {w : Fin 128} (h0 : (i 0).val = h) (h1 : (i 1).val = 0)
    (h2 : (i 2).val = w.val) : V m c main_v3 i = hostClip (F := Ideal) (m ((c : Thread nD τ).loc main_arg2)) (ix3 ⟨h, hh⟩ 0 w) := by
  have e : i = ix3 ⟨h, hh⟩ 0 w := by
    rw [eq_ix3 i, show i 0 = (⟨h, hh⟩ : Fin 16) from Fin.ext h0, show i 1 = (0 : Fin 1) from Fin.ext h1, show i 2 = w from Fin.ext h2]
  rw [V_clip, e]

/-- The points' heads. -/
theorem head_lt (t : Fin cfg0.N) (hd : Fin 2) : 2 * (t.val / 32) + hd.val < 16 := by
  have := t.isLt
  have : cfg0.N = 256 := N_0
  have := hd.isLt
  omega

set_option maxHeartbeats 4000000 in
include ha ho hr in
/-- Every point is handed the blocks of its heads and its queries. -/
theorem handed (t : Fin cfg0.N) : Handed a o rel (t.val / 32) (t.val % 32) (inpAt m c t) where
  hp_lt := by have := t.isLt; have : cfg0.N = 256 := N_0; omega
  g_lt := Nat.mod_lt _ (by decide)
  q r l := by
    show iblk m c 0 t (ix2 r l) = _
    blk_simp [iblk]
    refine table_apply m c ha _ ?_ ?_ <;> blk_simp [index_q t] <;> omega
  k0 hg r l := by
    show iblk m c 1 t (ix2 r l) = _
    blk_simp [iblk]
    refine table_apply m c ha _ ?_ ?_ <;> blk_simp [index_k0 t] <;> omega
  k1 hg r l := by
    show iblk m c 2 t (ix2 r l) = _
    blk_simp [iblk]
    refine table_apply m c ha _ ?_ ?_ <;> blk_simp [index_k1 t] <;> omega
  k2 r l := by
    show iblk m c 3 t (ix2 r l) = _
    blk_simp [iblk]
    refine table_apply m c ha _ ?_ ?_ <;> blk_simp [index_k2 t] <;> omega
  v0 hg r l := by
    show iblk m c 4 t (ix2 r l) = _
    blk_simp [iblk]
    refine table_apply m c ha _ ?_ ?_ <;> blk_simp [index_v0 t] <;> omega
  v1 hg r l := by
    show iblk m c 5 t (ix2 r l) = _
    blk_simp [iblk]
    refine table_apply m c ha _ ?_ ?_ <;> blk_simp [index_v1 t] <;> omega
  v2 r l := by
    show iblk m c 6 t (ix2 r l) = _
    blk_simp [iblk]
    refine table_apply m c ha _ ?_ ?_ <;> blk_simp [index_v2 t] <;> omega
  tile0 hd r w := by
    show iblk m c 7 t (ix4 hd 0 r w) = _
    blk_simp [iblk]
    refine (tile_apply m c _ (head_lt t hd) (k := 0) (r := r) (w := w) ?_ ?_ ?_ ?_).trans
      (hostTiles_zero hr ⟨_, head_lt t hd⟩ r w) <;> blk_simp [index_tiles t] <;> omega
  tile1 hd r w hs := by
    show iblk m c 7 t (ix4 hd 1 r w) = _
    blk_simp [iblk]
    refine (tile_apply m c _ (head_lt t hd) (k := 1) (r := r) (w := w) ?_ ?_ ?_ ?_).trans
      (hostTiles_one hr ⟨_, head_lt t hd⟩ r w hs) <;> blk_simp [index_tiles t] <;> omega
  clip hd w := by
    show iblk m c 8 t (ix3 hd 0 w) = _
    blk_simp [iblk]
    refine (clip_apply m c _ (head_lt t hd) (w := w) ?_ ?_ ?_).trans (hostClip_apply hr ⟨_, head_lt t hd⟩ w)
      <;> blk_simp [index_clip t] <;> omega
  dO r l := by
    show iblk m c 9 t (ix2 r l) = _
    blk_simp [iblk]
    refine grad_apply m c ho _ ?_ ?_ <;> blk_simp [index_dO t] <;> omega

end

end Cert.Att

end
-- ==== Proof.Arrays.lean ====
/-
The result arrays: what every run leaves in them is the specification, of the tables the arguments hold.
-/
module

public import proofs.«01_k».proof.Proof.Accum
public import proofs.«01_k».proof.Proof.Blocks
public import Idealize.ShloMosaic.Lib.Pipeline.ArrRel

@[expose] public section

set_option maxRecDepth 16384

noncomputable section

namespace Cert.Att

open Idealize.ShloMosaic Idealize.ShloMosaic.TcCoe
open Cert.KernelIdeal Cert.KernelIdeal.Gen

theorem index_dq : ∀ t : Fin grid0.N, win0_10.index t = ![t.val % 32, t.val / 32] := by decide +kernel
theorem index_dk : ∀ t : Fin grid0.N, win0_11.index t = ![0, t.val / 32] := by decide +kernel
theorem index_dv : ∀ t : Fin grid0.N, win0_12.index t = ![0, t.val / 32] := by decide +kernel
theorem index_sq : ∀ t : Fin grid0.N, win0_15.index t = ![0, t.val / 32] := by decide +kernel
theorem index_sk : ∀ t : Fin grid0.N, win0_16.index t = ![0, t.val / 32] := by decide +kernel
theorem index_sv : ∀ t : Fin grid0.N, win0_17.index t = ![0, t.val / 32] := by decide +kernel

section
variable (m : (ℓ : Loc nD τ sig) → Buf (Elt Ideal) ℓ) (c : Dev nD) {a o rel : ℕ → ℕ → EReal}
  (ha : ∀ (t : Fin 8192) (k : Fin 3072), m ((c : Thread nD τ).loc main_arg0) (ix2 t k) = a t.val k.val)
  (ho : ∀ (t : Fin 8192) (k : Fin 1024), m ((c : Thread nD τ).loc main_arg1) (ix2 t k) = o t.val k.val)
  (hr : ∀ (h : Fin 16) (n : Fin 257), m ((c : Thread nD τ).loc main_arg2) (ix2 h n) = rel h.val n.val)
include ha ho hr

/-! ### The points in order -/

/-- After every point the accumulators hold the sums over its heads' queries so far. -/
theorem upto (n : ℕ) (hn : n < cfg0.N) : Upto a o rel (n / 32) (256 * (n % 32) + 256) (outAt m c (n + 1)) := by
  induction n with
  | zero =>
    rw [outAt_succ m c ⟨0, hn⟩]
    exact ((handed m c ha ho hr ⟨0, hn⟩).step (seqc_coords ⟨0, hn⟩) fun h => absurd rfl h).1
  | succ n ih =>
    rw [outAt_succ m c ⟨n + 1, hn⟩]
    refine ((handed m c ha ho hr ⟨n + 1, hn⟩).step (seqc_coords ⟨n + 1, hn⟩) fun h => ?_).1
    have e1 : n / 32 = (n + 1) / 32 := by dsimp only at h; omega
    have e2 : 256 * (n % 32) + 256 = 256 * ((n + 1) % 32) := by dsimp only at h; omega
    rw [← e1, ← e2]
    exact ih (by omega)

/-- Before a point that is not its heads' first. -/
theorem upto_before (t : Fin cfg0.N) (h : t.val % 32 ≠ 0) : Upto a o rel (t.val / 32) (256 * (t.val % 32)) (outAt m c t.val) := by
  obtain ⟨n, e⟩ : ∃ n, t.val = n + 1 := ⟨t.val - 1, by omega⟩
  have hN := t.isLt
  rw [e] at h hN ⊢
  have e1 : n / 32 = (n + 1) / 32 := by omega
  have e2 : 256 * (n % 32) + 256 = 256 * ((n + 1) % 32) := by omega
  rw [← e1, ← e2]
  exact upto m c ha ho hr n (by omega)

/-- After its heads' last point, they hold the sums over all queries. -/
theorem upto_all (t : Fin cfg0.N) (h : t.val % 32 = 31) : Upto a o rel (t.val / 32) 8192 (outAt m c (t.val + 1)) := by
  have U := upto m c ha ho hr t.val t.isLt
  rw [h] at U
  exact U

/-- The block of q's gradient a point leaves. -/
theorem dq_after (t : Fin cfg0.N) (r : Fin 256) (l : Fin 128) :
    (outAt m c (t.val + 1)).dq (ix2 r l) = specQ a o rel (256 * (t.val % 32) + r.val) (128 * (t.val / 32) + l.val) := by
  rw [outAt_succ m c t]
  exact ((handed m c ha ho hr t).step (seqc_coords t) (upto_before m c ha ho hr t)).2 r l

/-- The column sums its heads' last point leaves. -/
theorem sums_after (t : Fin cfg0.N) (h : t.val % 32 = 31) (l : Fin 128) :
    (outAt m c (t.val + 1)).sk (ix2 0 l) = colSum (specK a o rel) (128 * (t.val / 32) + l.val)
      ∧ (outAt m c (t.val + 1)).sv (ix2 0 l) = colSum (specV a o rel) (128 * (t.val / 32) + l.val) := by
  rw [outAt_succ m c t]
  exact (handed m c ha ho hr t).last (seqc_coords t) (upto_before m c ha ho hr t) h l

end

/-! ### The arrays -/

/-- A place in a table of one row. -/
theorem row_eq {n : ℕ} (y : (⟨2, ![1, n]⟩ : Shape).Idx) : y = ix2 0 (y 1) :=
  (eq_ix2 y).trans (congrArg (fun z : Fin 1 => ix2 z (y 1)) (Subsingleton.elim (α := Fin 1) (y 0) 0))

section
variable {m : (ℓ : Loc nD τ sig) → Buf (Elt Ideal) ℓ} {r : PUnit.{1} × MemSt nD τ sig (Elt Ideal)}
  (h : Pipeline.RDat.FramePost (cfgs 0) (rdat m) (V m) r) (c : Dev nD)
include h

/-- A result's array, from what is known of its blocks where they are written back. -/
theorem result (w : Fin cfg0.W) (hw : isRes w = true) (G : Buf (Elt Ideal) ((cfg0.win w).arr.view.loc (c.tc : Thread nD τ)))
    (hcov : (cfg0.win w).Covers) (harr : (cfg0.win w).arr.IsWhole)
    (hG : ∀ t, (cfg0.win w).flush t = true → ∀ X, left m c w t X → ∀ y : ((cfg0.win w).xblock (cfg0.grid.coords t)).Idx,
      _root_.cast (congrArg (Elt Ideal) ((cfg0.win w).blk t).view.elt_eq.symm) (X ((cfg0.win w).xinj (cfg0.grid.coords t) y))
        = G (((cfg0.win w).blk t).view.emb y)) :
    r.2.mem ((cfg0.spec w).arr.view.loc (c.tc : Thread nD τ)) = G := by
  obtain ⟨after, hL, hA⟩ := Pipeline.RDat.FramePost.exists_exact h c
  refine (hA w).trans (Pipeline.Dat.arrAt_eq_of_covers _ w G hcov (fun t hf y => ?_) harr)
  rw [Pipeline.RDat.withAfter_after]
  exact hG t hf _ (Pipeline.Dat.toRRel_leaves _ hw (hL w t hf)) y

variable {a o rel : ℕ → ℕ → EReal}
  (ha : ∀ (t : Fin 8192) (k : Fin 3072), m ((c : Thread nD τ).loc main_arg0) (ix2 t k) = a t.val k.val)
  (ho : ∀ (t : Fin 8192) (k : Fin 1024), m ((c : Thread nD τ).loc main_arg1) (ix2 t k) = o t.val k.val)
  (hr : ∀ (h : Fin 16) (n : Fin 257), m ((c : Thread nD τ).loc main_arg2) (ix2 h n) = rel h.val n.val)
include ha ho hr

/-- The gradient of q. -/
theorem dq_array : r.2.mem ((c.tc : Thread nD τ).loc main_v52_0) = fun i => specQ a o rel (i 0).val (i 1).val := by
  refine result h c 10 rfl _ (by decide +kernel) (Memref.isWhole_whole _) fun t hf X hX y => ?_
  have e : X = (outAt m c (t.val + 1)).dq := hX
  rw [e]
  blk_simp [index_dq t]
  refine (congrArg _ (eq_ix2 y)).trans ((dq_after m c ha ho hr t (y 0) (y 1)).trans ?_)
  congr 1 <;> pointwise <;> omega

/-- The gradient of k. -/
theorem dk_array : r.2.mem ((c.tc : Thread nD τ).loc main_v52_1) = fun i => specK a o rel (i 0).val (i 1).val := by
  refine result h c 11 rfl _ (by decide +kernel) (Memref.isWhole_whole _) fun t hf X hX y => ?_
  have e : X = (outAt m c (t.val + 1)).dk := hX
  rw [e]
  blk_simp [index_dk t]
  refine (congrArg _ (eq_ix2 y)).trans (((upto_all m c ha ho hr t ((flush0_11 t).mp hf)).dk (y 0) (y 1)).trans ?_)
  rw [specK]
  pointwise
  rw [Nat.mul_comm]

/-- The gradient of v. -/
theorem dv_array : r.2.mem ((c.tc : Thread nD τ).loc main_v52_2) = fun i => specV a o rel (i 0).val (i 1).val := by
  refine result h c 12 rfl _ (by decide +kernel) (Memref.isWhole_whole _) fun t hf X hX y => ?_
  have e : X = (outAt m c (t.val + 1)).dv := hX
  rw [e]
  blk_simp [index_dv t]
  refine (congrArg _ (eq_ix2 y)).trans (((upto_all m c ha ho hr t ((flush0_12 t).mp hf)).dv (y 0) (y 1)).trans ?_)
  rw [specV]
  pointwise
  rw [Nat.mul_comm]

/-- The column sums of q's gradient. -/
theorem sq_array : r.2.mem ((c.tc : Thread nD τ).loc main_v52_5) = fun i => colSum (specQ a o rel) (i 1).val := by
  refine result h c 15 rfl _ (by decide +kernel) (Memref.isWhole_whole _) fun t hf X hX y => ?_
  have e : X = (outAt m c (t.val + 1)).sq := hX
  rw [e]
  blk_simp [index_sq t]
  refine (congrArg _ (row_eq y)).trans (((upto_all m c ha ho hr t ((flush0_15 t).mp hf)).sq (y 1)).trans ?_)
  rw [colSum]
  pointwise
  rw [Nat.mul_comm]

/-- The column sums of k's gradient. -/
theorem sk_array : r.2.mem ((c.tc : Thread nD τ).loc main_v52_6) = fun i => colSum (specK a o rel) (i 1).val := by
  refine result h c 16 rfl _ (by decide +kernel) (Memref.isWhole_whole _) fun t hf X hX y => ?_
  have h31 := (flush0_16 t).mp hf
  have e : X = (outAt m c (t.val + 1)).sk := hX h31
  rw [e]
  blk_simp [index_sk t]
  refine (congrArg _ (row_eq y)).trans ((sums_after m c ha ho hr t h31 (y 1)).1.trans ?_)
  rw [Nat.mul_comm]

/-- The column sums of v's gradient. -/
theorem sv_array : r.2.mem ((c.tc : Thread nD τ).loc main_v52_7) = fun i => colSum (specV a o rel) (i 1).val := by
  refine result h c 17 rfl _ (by decide +kernel) (Memref.isWhole_whole _) fun t hf X hX y => ?_
  have h31 := (flush0_17 t).mp hf
  have e : X = (outAt m c (t.val + 1)).sv := hX h31
  rw [e]
  blk_simp [index_sv t]
  refine (congrArg _ (row_eq y)).trans ((sums_after m c ha ho hr t h31 (y 1)).2.trans ?_)
  rw [Nat.mul_comm]

end

end Cert.Att

end
-- ==== Proof.RefValue.lean ====
/-
The reference's six results, entry by entry, are the formulas of the specification: the reference's arrays are read at an index from
the inputs to the results, one head's row of scores at a time.
-/
module

public import proofs.«01_k».proof.Proof.Spec
public import proofs.«01_k».proof.Proof.Words
public import proofs.«01_k».proof.Proof.Gen.ReferenceIdeal.Read

@[expose] public section

set_option maxRecDepth 16384

noncomputable section

namespace Cert.Att.Ref

open Idealize.ShloMosaic
open Cert.ReferenceIdeal Cert.ReferenceIdeal.Read

/-- A query sees a key: the reference's comparison of the chunks. -/
theorem seen_apply (t j : Fin 8192) : val_main_v13 (F := Ideal) (ix2 t j) = if Seen t j then 1#1 else 0#1 := by
  have ht := t.isLt
  have hj := j.isLt
  pointwise [val_main_v13, val_main_v12, val_main_v11, val_main_v10, val_main_v9, val_main_v8, val_main_v7, val_main_v6, val_main_v5,
    val_main_v4, val_main_v3, val_main_v2, val_main_c, val_main_c_0]
  exact band_word (by omega) (by omega)

/-- The column of the bias table a pair of positions reads. -/
theorem column_apply (t j : Fin 8192) :
    (val_main_call1_v0 (F := Ideal) (ix3 t j 0)).toInt = ((min (t.val + 128 - j.val) 256 : ℕ) : ℤ) := by
  have e : val_main_call1_v0 (F := Ideal) (ix3 t j 0)
      = IntOp.addi (IntOp.minsi 128#32 (IntOp.maxsi 4294967168#32 (IntOp.subi (BitVec.ofNat 32 t.val) (BitVec.ofNat 32 j.val)))) 128#32 := by
    pointwise [val_main_call1_v0, val_main_v17, val_main_v16, val_main_v15, val_main_call0_v4, val_main_call0_v3, val_main_call0_v2,
      val_main_call0_v1, val_main_call0_v0, val_main_v14, val_main_c_1, val_main_c_2, val_main_c_3, val_main_v0, val_main_v1]
    rfl
  rw [e]
  exact clip_word t.isLt j.isLt

section
variable {x0 : FVec Ideal S8192x3072 .bf16} {x1 : FVec Ideal S8192x1024 .bf16} {x2 : FVec Ideal S16x257 .f32}
  {a o rel : ℕ → ℕ → EReal}
  (ha : ∀ (t : Fin 8192) (c : Fin 3072), x0 (ix2 t c) = a t.val c.val)
  (ho : ∀ (t : Fin 8192) (c : Fin 1024), x1 (ix2 t c) = o t.val c.val)
  (hr : ∀ (h : Fin 16) (n : Fin 257), x2 (ix2 h n) = rel h.val n.val)

include ha in
theorem q_apply (h : Fin 16) (t : Fin 8192) (d : Fin 64) :
    val_main_v26 (F := Ideal) x0 (ix3 h t d) = a t.val (64 * h.val + d.val) * scale := by
  pointwise [val_main_v26, val_main_v25, val_main_v24, val_main_v23, val_main_v20, val_main_v19, val_main_cst]
  rw [ha]
  show a t.val (h.val * 64 + d.val) * scale = _
  rw [mul_comm h.val]

include ha in
theorem k_apply (h : Fin 16) (j : Fin 8192) (d : Fin 64) :
    val_main_v28 (F := Ideal) x0 (ix3 h j d) = a j.val (1024 + (64 * h.val + d.val)) := by
  pointwise [val_main_v28, val_main_v27, val_main_v21, val_main_v19]
  rw [ha]
  show a j.val (1024 + (h.val * 64 + d.val)) = _
  rw [mul_comm h.val]

include ha in
theorem v_apply (h : Fin 16) (j : Fin 8192) (d : Fin 64) :
    val_main_v52 (F := Ideal) x0 (ix3 h j d) = a j.val (2048 + (64 * h.val + d.val)) := by
  pointwise [val_main_v52, val_main_v51, val_main_v22, val_main_v19]
  rw [ha]
  show a j.val (2048 + (h.val * 64 + d.val)) = _
  rw [mul_comm h.val]

include ho in
theorem do_apply (h : Fin 16) (t : Fin 8192) (d : Fin 64) :
    val_main_v58 (F := Ideal) x1 (ix3 h t d) = o t.val (64 * h.val + d.val) := by
  pointwise [val_main_v58, val_main_v57, val_main_v56]
  rw [ho]
  show o t.val (h.val * 64 + d.val) = _
  rw [mul_comm h.val]

include hr in
theorem bias_apply (h : Fin 16) (t j : Fin 8192) :
    val_main_v18 (F := Ideal) x2 (ix3 h t j) = rel h.val (min (t.val + 128 - j.val) 256) := by
  refine (columns_apply (by decide) gather_S16x257_S8192x8192x1_S16x8192x8192_0_1_n_n_1_2_161.wf x2 (val_main_call1_v0 (F := Ideal)) h t j).trans ?_
  rw [hr]
  show rel h.val (min (val_main_call1_v0 (F := Ideal) (ix3 t j 0)).toInt.toNat 256) = _
  rw [column_apply, Int.toNat_natCast]
  congr 1
  omega

include ha hr in
theorem score_apply (h : Fin 16) (t j : Fin 8192) :
    val_main_v31_0 (F := Ideal) x0 x2 (ix3 h t j) = score a rel h.val t.val j.val := by
  pointwise [val_main_v31_0, val_main_v31_1, val_main_v30, val_main_call2_v0, val_main_call2_v2, val_main_cst_4, val_main_v29]
  rw [seen_apply, score, bias_apply hr, Finset.sum_range]
  by_cases hs : Seen t j
  · rw [if_pos hs, if_pos hs]
    show _ + _ = _
    congr 1
    exact Finset.sum_congr rfl fun d _ => by rw [q_apply ha, k_apply ha]
  · rw [if_neg hs, if_neg hs]
    exact ofBits_negInf

include ha hr in
theorem max_apply (h : Fin 16) (t : Fin 8192) :
    val_main_v32 (F := Ideal) x0 x2 (ix2 h t) = rowMax 8192 (score a rel h.val t.val) := by
  pointwise [val_main_v32, val_main_cst_5]
  rw [ofBits_negInf, ← rowMax_eq_fold]
  exact congrArg (fun f => Finset.univ.fold max ⊥ f) (funext fun j => score_apply ha hr h t j)

include ha hr in
theorem exp_apply (h : Fin 16) (t j : Fin 8192) :
    val_main_v41 (F := Ideal) x0 x2 (ix3 h t j) = rowExp 8192 (score a rel h.val t.val) j.val := by
  pointwise [val_main_v41, val_main_v40, val_main_v39, val_main_v38]
  rw [score_apply ha hr, max_apply ha hr, rowExp]

include ha hr in
theorem sum_apply (h : Fin 16) (t : Fin 8192) :
    ∑ j : Fin 8192, val_main_v41 (F := Ideal) x0 x2 (ix3 h t j) = rowSum 8192 (score a rel h.val t.val) := by
  rw [rowSum, Finset.sum_range]
  exact Finset.sum_congr rfl fun j _ => exp_apply ha hr h t j

include ha hr in
theorem prob_apply (h : Fin 16) (t j : Fin 8192) :
    val_main_v50 (F := Ideal) x0 x2 (ix3 h t j) = prob a rel h.val t.val j.val := by
  pointwise [val_main_v50, val_main_v49, val_main_v45, val_main_v44, val_main_v43, val_main_v42, val_main_cst_7, val_main_cst_8]
  rw [exp_apply ha hr, sum_apply ha hr, prob, rowP]

include ha ho in
theorem dprob_apply (h : Fin 16) (t j : Fin 8192) :
    val_main_v61 (F := Ideal) x0 x1 (ix3 h t j) = dprob a o h.val t.val j.val := by
  pointwise [val_main_v61]
  rw [dprob, Finset.sum_range]
  exact Finset.sum_congr rfl fun d _ => by rw [do_apply ho, v_apply ha]

include ha ho hr in
theorem dscore_apply (h : Fin 16) (t j : Fin 8192) :
    val_main_v77 (F := Ideal) x0 x1 x2 (ix3 h t j) = dscore a o rel h.val t.val j.val := by
  pointwise [val_main_v77, val_main_v76, val_main_v75, val_main_v74, val_main_v73, val_main_v72, val_main_v71, val_main_v70, val_main_v69,
    val_main_v68, val_main_v67, val_main_v66, val_main_v65, val_main_v64, val_main_v48, val_main_v47, val_main_v46, val_main_v45,
    val_main_v44, val_main_v43, val_main_v42, val_main_cst_7, val_main_cst_8, val_main_cst_9, val_main_cst_10, val_main_cst_11,
    val_main_cst_12, val_main_v31_1, val_main_call3_v0, val_main_call3_cst]
  rw [seen_apply, sum_apply ha hr, dprob_apply ha ho, exp_apply ha hr, Fin.sum_univ_one]
  have hm : ∑ j : Fin 8192, val_main_v41 (F := Ideal) x0 x2 (ix3 h t j) * val_main_v61 (F := Ideal) x0 x1 (ix3 h t j)
      = ∑ j ∈ Finset.range 8192, rowExp 8192 (score a rel h.val t.val) j * dprob a o h.val t.val j := by
    rw [Finset.sum_range]
    exact Finset.sum_congr rfl fun j _ => by rw [exp_apply ha hr, dprob_apply ha ho]
  rw [hm, dscore, ← rowDsDiv_eq 8192 _ _ j.isLt]
  by_cases hs : Seen t j
  · rw [if_pos hs]
    rfl
  · rw [if_neg hs, rowDsDiv, rowExp, score, if_neg hs, exp_of_bot, mul_zero]
    rfl

include ha ho hr in
/-- The gradient of q. -/
theorem dq_apply (t : Fin 8192) (c : Fin 1024) :
    val_main_v87 (F := Ideal) x0 x1 x2 (ix2 t c) = specQ a o rel t.val c.val := by
  pointwise [val_main_v87, val_main_v86, val_main_v85, val_main_v84, val_main_v83, val_main_v82, val_main_cst_13, val_main_v79]
  rw [specQ, Finset.sum_range]
  show _ * scale = _ * scale
  congr 1
  refine Finset.sum_congr rfl fun j _ => ?_
  rw [dscore_apply ha ho hr, k_apply ha]
  show dscore a o rel (c.val / 64) t.val j.val * a j.val (1024 + (64 * (c.val / 64) + c.val % 64)) = _
  rw [Nat.div_add_mod]

include ha ho hr in
/-- The gradient of k. -/
theorem dk_apply (j : Fin 8192) (c : Fin 1024) :
    val_main_v88 (F := Ideal) x0 x1 x2 (ix2 j c) = specK a o rel j.val c.val := by
  pointwise [val_main_v88, val_main_v86, val_main_v81, val_main_v80, val_main_v78]
  rw [specK, Finset.sum_range]
  refine Finset.sum_congr rfl fun t _ => ?_
  rw [dscore_apply ha ho hr, q_apply ha]
  show dscore a o rel (c.val / 64) t.val j.val * (a t.val (64 * (c.val / 64) + c.val % 64) * scale) = _
  rw [Nat.div_add_mod]

include ha ho hr in
/-- The gradient of v. -/
theorem dv_apply (j : Fin 8192) (c : Fin 1024) :
    val_main_v89 (F := Ideal) x0 x1 x2 (ix2 j c) = specV a o rel j.val c.val := by
  pointwise [val_main_v89, val_main_v86, val_main_v63, val_main_v62, val_main_v60, val_main_v59]
  rw [dif_neg (by omega), dif_neg (by omega), specV, Finset.sum_range]
  refine Finset.sum_congr rfl fun t _ => ?_
  rw [prob_apply ha hr, do_apply ho, mul_comm]
  show prob a rel ((2048 + c.val - 1024 - 1024) / 64) t.val j.val
      * o t.val (64 * ((2048 + c.val - 1024 - 1024) / 64) + (2048 + c.val - 1024 - 1024) % 64) = _
  rw [Nat.div_add_mod, show 2048 + c.val - 1024 - 1024 = c.val by omega]

include ha ho hr in
theorem dqOut_apply (t : Fin 8192) (c : Fin 1024) :
    val_main_v96 (F := Ideal) x0 x1 x2 (ix2 t c) = specQ a o rel t.val c.val := dq_apply ha ho hr t c

include ha ho hr in
theorem sumQ_apply (c : Fin 1024) :
    val_main_v91 (F := Ideal) x0 x1 x2 (ix2 0 c) = colSum (specQ a o rel) c.val := by
  pointwise [val_main_v91, val_main_v90, val_main_cst_14]
  rw [colSum, Finset.sum_range]
  exact Finset.sum_congr rfl fun t _ => dq_apply ha ho hr t c

include ha ho hr in
theorem sumK_apply (c : Fin 1024) :
    val_main_v93 (F := Ideal) x0 x1 x2 (ix2 0 c) = colSum (specK a o rel) c.val := by
  pointwise [val_main_v93, val_main_v92, val_main_cst_15]
  rw [colSum, Finset.sum_range]
  exact Finset.sum_congr rfl fun t _ => dk_apply ha ho hr t c

include ha ho hr in
theorem sumV_apply (c : Fin 1024) :
    val_main_v95 (F := Ideal) x0 x1 x2 (ix2 0 c) = colSum (specV a o rel) c.val := by
  pointwise [val_main_v95, val_main_v94, val_main_cst_16]
  rw [colSum, Finset.sum_range]
  exact Finset.sum_congr rfl fun t _ => dv_apply ha ho hr t c

end

end Cert.Att.Ref

end
-- ==== Proof.Algebraic.lean ====
/-
The kernel at exact arithmetic computes the reference: from the same arguments every run of either leaves the same gradients of q, k and v
and the same column sums.
-/
module

public import proofs.«01_k».proof.Defs
public import proofs.«01_k».proof.Proof.Arrays
public import proofs.«01_k».proof.Proof.RefValue

@[expose] public section

set_option maxRecDepth 16384

noncomputable section

namespace Cert.Att

open Idealize.ShloMosaic Idealize.ShloMosaic.TcCoe Idealize.SL.Sem

/-- A table by its rows' and columns' numbers. -/
def numbered {n k : ℕ} (x : (⟨2, ![n, k]⟩ : Shape).Idx → EReal) (i j : ℕ) : EReal :=
  if h : i < n ∧ j < k then x (ix2 ⟨i, h.1⟩ ⟨j, h.2⟩) else 0

theorem numbered_apply {n k : ℕ} (x : (⟨2, ![n, k]⟩ : Shape).Idx → EReal) (i : Fin n) (j : Fin k) :
    x (ix2 i j) = numbered x i.val j.val := by
  rw [numbered, dif_pos ⟨i.isLt, j.isLt⟩]

section
variable (m : (ℓ : Loc Cert.KernelIdeal.nD Cert.KernelIdeal.τ Cert.KernelIdeal.sig) → Buf (Elt Ideal) ℓ) (c : Dev Cert.KernelIdeal.nD)

/-- The table of q, k and v. -/
def argA : ℕ → ℕ → EReal := numbered (n := 8192) (k := 3072) (m ((c : Thread Cert.KernelIdeal.nD Cert.KernelIdeal.τ).loc Cert.KernelIdeal.main_arg0))

/-- The output's gradient. -/
def argO : ℕ → ℕ → EReal := numbered (n := 8192) (k := 1024) (m ((c : Thread Cert.KernelIdeal.nD Cert.KernelIdeal.τ).loc Cert.KernelIdeal.main_arg1))

/-- The bias table. -/
def argR : ℕ → ℕ → EReal := numbered (n := 16) (k := 257) (m ((c : Thread Cert.KernelIdeal.nD Cert.KernelIdeal.τ).loc Cert.KernelIdeal.main_arg2))

end

/-- From the same arguments the kernel and the reference leave the same six results. -/
theorem algebraic : Cert.algebraic_KernelIdeal_ReferenceIdeal := by
  intro m g m' g' _ hargs
  refine ⟨fun c i => specQ (argA m c) (argO m c) (argR m c) (i 0).val (i 1).val,
    fun c i => specK (argA m c) (argO m c) (argR m c) (i 0).val (i 1).val,
    fun c i => specV (argA m c) (argO m c) (argR m c) (i 0).val (i 1).val,
    fun c i => colSum (specQ (argA m c) (argO m c) (argR m c)) (i 1).val,
    fun c i => colSum (specK (argA m c) (argO m c) (argR m c)) (i 1).val,
    fun c i => colSum (specV (argA m c) (argO m c) (argR m c)) (i 1).val, ?_, ?_⟩
  · refine (θ_run Cert.KernelIdeal.defs _ _).mono (fun r h c => ?_) (run_main (F := Ideal) m g)
    have ha := numbered_apply (n := 8192) (k := 3072) (m ((c : Thread Cert.KernelIdeal.nD Cert.KernelIdeal.τ).loc Cert.KernelIdeal.main_arg0))
    have ho := numbered_apply (n := 8192) (k := 1024) (m ((c : Thread Cert.KernelIdeal.nD Cert.KernelIdeal.τ).loc Cert.KernelIdeal.main_arg1))
    have hr := numbered_apply (n := 16) (k := 257) (m ((c : Thread Cert.KernelIdeal.nD Cert.KernelIdeal.τ).loc Cert.KernelIdeal.main_arg2))
    exact ⟨dq_array h.1 c ha ho hr, dk_array h.1 c ha ho hr, dv_array h.1 c ha ho hr, sq_array h.1 c ha ho hr,
      sk_array h.1 c ha ho hr, sv_array h.1 c ha ho hr, unchanged (F := Ideal) m r h.1 c⟩
  · refine (θ_run Cert.ReferenceIdeal.defs _ _).mono (fun r h c => ?_) (Cert.ReferenceIdeal.Value.run (F := Ideal) m' g')
    obtain ⟨e0, e1, e2⟩ := hargs c
    have ha := numbered_apply (n := 8192) (k := 3072) (m ((c : Thread Cert.KernelIdeal.nD Cert.KernelIdeal.τ).loc Cert.KernelIdeal.main_arg0))
    have ho := numbered_apply (n := 8192) (k := 1024) (m ((c : Thread Cert.KernelIdeal.nD Cert.KernelIdeal.τ).loc Cert.KernelIdeal.main_arg1))
    have hr := numbered_apply (n := 16) (k := 257) (m ((c : Thread Cert.KernelIdeal.nD Cert.KernelIdeal.τ).loc Cert.KernelIdeal.main_arg2))
    obtain ⟨h0, h1, h2, h3, h4, h5, h6⟩ := h c
    rw [Cert.ReferenceIdeal.Read.val_main_v96_eq, e0, e1, e2] at h0
    rw [Cert.ReferenceIdeal.Read.val_main_v88_eq, e0, e1, e2] at h1
    rw [Cert.ReferenceIdeal.Read.val_main_v89_eq, e0, e1, e2] at h2
    rw [Cert.ReferenceIdeal.Read.val_main_v91_eq, e0, e1, e2] at h3
    rw [Cert.ReferenceIdeal.Read.val_main_v93_eq, e0, e1, e2] at h4
    rw [Cert.ReferenceIdeal.Read.val_main_v95_eq, e0, e1, e2] at h5
    exact ⟨h0.trans (funext fun i => (congrArg _ (eq_ix2 i)).trans (Ref.dqOut_apply ha ho hr (i 0) (i 1))),
      h1.trans (funext fun i => (congrArg _ (eq_ix2 i)).trans (Ref.dk_apply ha ho hr (i 0) (i 1))),
      h2.trans (funext fun i => (congrArg _ (eq_ix2 i)).trans (Ref.dv_apply ha ho hr (i 0) (i 1))),
      h3.trans (funext fun i => (congrArg _ (row_eq i)).trans (Ref.sumQ_apply ha ho hr (i 1))),
      h4.trans (funext fun i => (congrArg _ (row_eq i)).trans (Ref.sumK_apply ha ho hr (i 1))),
      h5.trans (funext fun i => (congrArg _ (row_eq i)).trans (Ref.sumV_apply ha ho hr (i 1))), h6⟩

end Cert.Att

end
-- ==== Proof.Mlp.HiddenGrad.lean ====
/-
The gradient of the MLP's hidden layer: the product of the output's gradient with the transposed second weight, times the derivative
2 max(h, 0) of the squared ReLU, in 32 blocks of 1024 × 1024.
-/
module

public import proofs.«01_k».proof.Defs
public import proofs.«01_k».proof.Proof.Gen.HiddenGradKernelIdeal.Value
public import proofs.«01_k».proof.Proof.Gen.HiddenGradKernel.Frame
public import proofs.«01_k».proof.Proof.Gen.HiddenGradReferenceIdeal.Run
public import proofs.«01_k».proof.Proof.Gen.HiddenGradReferenceIdeal.Read
public import Idealize.ShloMosaic.Lib.Pipeline.ValueKit
public import Idealize.ShloMosaic.Lib.Pointwise

@[expose] public section

set_option maxRecDepth 16384

noncomputable section

namespace Cert.Mlp.HiddenGrad

open Idealize.ShloMosaic Idealize.ShloMosaic.TcCoe Idealize.SL.Sem
open Cert.HiddenGradKernelIdeal Cert.HiddenGradKernelIdeal.Gen
open Cert.HiddenGradReferenceIdeal.Read

theorem index (t : Fin cfg0.N) : win0_0.index t = ![t.val / 4, 0] ∧ win0_1.index t = ![0, t.val % 4, 0]
    ∧ win0_2.index t = ![t.val / 4, t.val % 4] ∧ win0_3.index t = ![t.val / 4, t.val % 4] :=
  (by decide +kernel : ∀ t : Fin grid0.N, win0_0.index t = ![t.val / 4, 0] ∧ win0_1.index t = ![0, t.val % 4, 0]
    ∧ win0_2.index t = ![t.val / 4, t.val % 4] ∧ win0_3.index t = ![t.val / 4, t.val % 4]) t

/-- The constant two in either format. -/
theorem two_word : Ideal.ofBits .bf16 0x4000#16 = Ideal.ofBits .f32 0x40000000#32 := by
  simp [Ideal.ofBits, Ideal.ieee, -EReal.coe_mul]
  norm_num

/-- What the reference leaves: where h is not above 0 its product with max(h, 0) is 0, as chosen there. -/
theorem reference_apply (x0 : FVec Ideal Cert.HiddenGradReferenceIdeal.S8192x1024 .bf16) (x1 : FVec Ideal Cert.HiddenGradReferenceIdeal.S1x4096x1024 .bf16)
    (x2 : FVec Ideal Cert.HiddenGradReferenceIdeal.S8192x4096 .bf16) (i : S8192x4096.Idx) :
    val_main_v16 (F := Ideal) x0 x1 x2 i
      = (∑ k : Fin 1024, x0 (ix2 (i 0) k) * x1 (ix3 0 (i 1) k)) * (Ideal.ofBits .bf16 0x4000#16 * max (x2 i) 0) := by
  pointwise [val_main_v16, val_main_v15, val_main_v14, val_main_v13, val_main_v12, val_main_v11, val_main_v9, val_main_v8, val_main_v7,
    val_main_v4, val_main_v3, val_main_v2, val_main_v1, val_main_v0, val_main_call0_v0, val_main_call0_cst, val_main_cst, val_main_cst_1,
    val_main_cst_2]
  rw [two_word]
  by_cases h : 0 < x2 i
  · rw [if_pos h]
  · rw [if_neg h, max_eq_right (not_lt.mp h)]
    exact ((congrArg _ (mul_zero _)).trans (mul_zero _)).symm

/-- What a point leaves in its block. -/
theorem block_apply (v0 : Vec Ideal S1024x1024 .bf16) (v1 : Vec Ideal S1x1024x1024 .bf16) (v4 : Vec Ideal S1024x1024 .bf16) (y : S1024x1024.Idx) :
    k0_pay1 v0 v1 v4 y
      = (∑ k : Fin 1024, v0 (ix2 (y 0) k) * v1 (ix3 0 (y 1) k)) * (Ideal.ofBits .bf16 0x4000#16 * max (v4 y) 0) := by
  pointwise [k0_pay1]

/-- The result array is the reference's. -/
theorem final (m : (ℓ : Loc nD τ sig) → Buf (Elt Ideal) ℓ) (c : Dev nD) :
    (dats m 0 c).arrAt 3 (cfgs 0).N = val_main_v16 (F := Ideal) (m ((c : Thread nD τ).loc main_arg0)) (m ((c : Thread nD τ).loc main_arg1))
      (m ((c : Thread nD τ).loc main_arg2)) := by
  refine (dats m 0 c).arrAt_eq_of_covers 3 _ (by decide +kernel) fun t _ y => ?_
  blk_simp
  rw [after0_3]
  frame_out
  refine (block_apply _ _ _ y).trans (Eq.trans ?_ (reference_apply _ _ _ _).symm)
  blk_point [iblk, V, index t]

/-- From the same arguments the kernel and the reference leave the same result. -/
theorem algebraic : Cert.algebraic_HiddenGradKernelIdeal_HiddenGradReferenceIdeal := by
  intro m g m' g' _ hargs
  refine ⟨fun c => val_main_v16 (F := Ideal) (m ((c : Thread nD τ).loc main_arg0)) (m ((c : Thread nD τ).loc main_arg1))
      (m ((c : Thread nD τ).loc main_arg2)), ?_, ?_⟩
  · refine (θ_run defs _ _).mono (fun r h c => ?_) (Value.run_blocks (F := Ideal) m g)
    exact ⟨(h c).1.trans (final m c), (h c).2⟩
  · refine (θ_run Cert.HiddenGradReferenceIdeal.defs _ _).mono (fun r h c => ?_) (Cert.HiddenGradReferenceIdeal.Value.run (F := Ideal) m' g')
    obtain ⟨e0, e1, e2⟩ := hargs c
    obtain ⟨h0, h1⟩ := h c
    rw [val_main_v16_eq, e0, e1, e2] at h0
    exact ⟨h0, h1⟩

/-- The kernel as written runs to its end, and leaves its arguments and every semaphore as they were. -/
theorem frame_kernel : Cert.quiescent_HiddenGradKernel := fun m ρ _ => Cert.HiddenGradKernel.Gen.frame m ρ

/-- So does the kernel at exact arithmetic. -/
theorem frame_ideal : Cert.quiescent_HiddenGradKernelIdeal := fun m ρ _ => frame m ρ

/-- And the reference. -/
theorem frame_reference : Cert.quiescent_HiddenGradReferenceIdeal := fun m ρ _ =>
  (θ_run Cert.HiddenGradReferenceIdeal.defs _ _).mono (fun r h => ⟨fun c => (h c).2, sem_eq_zero_of_no_sems (by decide) r.2⟩)
    (Cert.HiddenGradReferenceIdeal.Value.run (F := Ideal) m ρ)

theorem preserves : Cert.preserves_HiddenGradKernel_HiddenGradKernelIdeal := trivial

end Cert.Mlp.HiddenGrad

end
-- ==== Proof.Mlp.InputGrad.lean ====
/-
The gradient of the MLP's modulated input: the product of the hidden layer's gradient with the transposed first weight, in eight blocks of
1024 rows.
-/
module

public import proofs.«01_k».proof.Defs
public import proofs.«01_k».proof.Proof.Gen.InputGradKernel.Frame
public import proofs.«01_k».proof.Proof.Gen.InputGradKernelIdeal.Value
public import proofs.«01_k».proof.Proof.Gen.InputGradReferenceIdeal.Run
public import proofs.«01_k».proof.Proof.Gen.InputGradReferenceIdeal.Read
public import Idealize.ShloMosaic.Lib.Pipeline.ValueKit
public import Idealize.ShloMosaic.Lib.Pointwise

@[expose] public section

set_option maxRecDepth 16384

noncomputable section

namespace Cert.Mlp.InputGrad

open Idealize.ShloMosaic Idealize.ShloMosaic.TcCoe Idealize.SL.Sem
open Cert.InputGradKernelIdeal Cert.InputGradKernelIdeal.Gen
open Cert.InputGradReferenceIdeal.Read

theorem index (t : Fin cfg0.N) : win0_0.index t = ![t.val, 0] ∧ win0_1.index t = ![0, 0, 0] ∧ win0_2.index t = ![t.val, 0] :=
  (by decide +kernel : ∀ t : Fin grid0.N, win0_0.index t = ![t.val, 0] ∧ win0_1.index t = ![0, 0, 0] ∧ win0_2.index t = ![t.val, 0]) t

/-- The result array is the reference's: each point leaves the product of its rows. -/
theorem final (m : (ℓ : Loc nD τ sig) → Buf (Elt Ideal) ℓ) (c : Dev nD) :
    (dats m 0 c).arrAt 2 (cfgs 0).N
      = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, val_main_v5, val_main_v4, val_main_v3, val_main_v2, val_main_v1, val_main_v0]
  blk_point [iblk, V, index t]

/-- From the same arguments the kernel and the reference leave the same result. -/
theorem algebraic : Cert.algebraic_InputGradKernelIdeal_InputGradReferenceIdeal := by
  intro m g m' g' _ hargs
  refine ⟨fun c => val_main_v5 (F := Ideal) (m ((c : Thread nD τ).loc main_arg0)) (m ((c : Thread nD τ).loc main_arg1)), ?_, ?_⟩
  · refine (θ_run defs _ _).mono (fun r h c => ?_) (Value.run_blocks (F := Ideal) m g)
    exact ⟨(h c).1.trans (final m c), (h c).2⟩
  · refine (θ_run Cert.InputGradReferenceIdeal.defs _ _).mono (fun r h c => ?_) (Cert.InputGradReferenceIdeal.Value.run (F := Ideal) m' g')
    obtain ⟨e0, e1⟩ := hargs c
    obtain ⟨h0, h1⟩ := h c
    rw [val_main_v5_eq, e0, e1] at h0
    exact ⟨h0, h1⟩

/-- The kernel as written runs to its end, and leaves its arguments and every semaphore as they were. -/
theorem frame_kernel : Cert.quiescent_InputGradKernel := fun m ρ _ => Cert.InputGradKernel.Gen.frame m ρ

/-- So does the kernel at exact arithmetic. -/
theorem frame_ideal : Cert.quiescent_InputGradKernelIdeal := fun m ρ _ => frame m ρ

/-- And the reference. -/
theorem frame_reference : Cert.quiescent_InputGradReferenceIdeal := fun m ρ _ =>
  (θ_run Cert.InputGradReferenceIdeal.defs _ _).mono (fun r h => ⟨fun c => (h c).2, sem_eq_zero_of_no_sems (by decide) r.2⟩)
    (Cert.InputGradReferenceIdeal.Value.run (F := Ideal) m ρ)

theorem preserves : Cert.preserves_InputGradKernel_InputGradKernelIdeal := trivial

end Cert.Mlp.InputGrad

end
-- ==== Proof.Mlp.DownGrad.lean ====
/-
The gradient of the MLP's second weight: the product of the transposed squared ReLU of the hidden layer with the output's gradient. Each of
two blocks of 2048 rows is summed over sixteen points, of 512 positions each, in the scratch, and written at the last of them.
-/
module

public import proofs.«01_k».proof.Defs
public import proofs.«01_k».proof.Proof.Gen.DownGradKernel.Frame
public import proofs.«01_k».proof.Proof.Gen.DownGradKernelIdeal.Value
public import proofs.«01_k».proof.Proof.Gen.DownGradReferenceIdeal.Run
public import proofs.«01_k».proof.Proof.Gen.DownGradReferenceIdeal.Read
public import Idealize.ShloMosaic.Lib.Pipeline.ValueKit
public import Idealize.ShloMosaic.Lib.Pointwise

@[expose] public section

set_option maxRecDepth 16384

noncomputable section

namespace Cert.Mlp.DownGrad

open Idealize.ShloMosaic Idealize.ShloMosaic.TcCoe Idealize.SL.Sem
open Cert.DownGradKernelIdeal Cert.DownGradKernelIdeal.Gen
open Cert.DownGradReferenceIdeal.Read

theorem index (t : Fin cfg0.N) : win0_0.index t = ![t.val % 16, t.val / 16] ∧ win0_1.index t = ![t.val % 16, 0]
    ∧ win0_2.index t = ![0, t.val / 16, 0] :=
  (by decide +kernel : ∀ t : Fin grid0.N, win0_0.index t = ![t.val % 16, t.val / 16] ∧ win0_1.index t = ![t.val % 16, 0]
    ∧ win0_2.index t = ![0, t.val / 16, 0]) t

theorem zero_apply (y : S2048x1024.Idx) : k0_pay1 (F := Ideal) y = 0 := by
  pointwise [k0_pay1]

/-- What a point adds. -/
theorem step_apply (v3 : Vec Ideal S512x2048 .bf16) (v7 : Vec Ideal S512x1024 .bf16) (v8 : Vec Ideal S2048x1024 .f32) (y : S2048x1024.Idx) :
    k0_pay2 v3 v7 v8 y = v8 y + ∑ k : Fin 512, (max (v3 (ix2 k (y 0))) 0 * max (v3 (ix2 k (y 0))) 0) * v7 (ix2 k (y 1)) := by
  pointwise [k0_pay2]

section
variable (m : (ℓ : Loc nD τ sig) → Buf (Elt Ideal) ℓ) (c : Dev nD)

/-- A point's own positions. -/
def part (t : Fin cfg0.N) (y : S2048x1024.Idx) : EReal :=
  ∑ k : Fin 512, (max ((show FVec Ideal S512x2048 .bf16 from iblk m c 0 t) (ix2 k (y 0))) 0
    * max ((show FVec Ideal S512x2048 .bf16 from iblk m c 0 t) (ix2 k (y 0))) 0)
    * (show FVec Ideal S512x1024 .bf16 from iblk m c 1 t) (ix2 k (y 1))

/-- At the last point of a block the scratch holds the sum over all positions. -/
theorem carried (t : Fin cfg0.N) (h : t.val % 16 = 15) (y : S2048x1024.Idx) :
    (outsAt0 m c t.val t.isLt).2 y = ∑ s : Fin 16, part m c ⟨16 * (t.val / 16) + s.val, Pipeline.run_point_lt_of_flush t h s⟩ y := by
  refine (Pipeline.eq_sum_fin_of_reset_step_apply_of_flush (fun n hn => (outsAt0 m c n hn).2) 16 (fun _ => (0 : EReal)) (part m c)
    (fun t h0 y => ?_) (fun t h0 y => ?_) t h y).trans (zero_add _)
  · rw [outsAt0_A m c t h0 (by omega)]
    frame_out
    rw [step_apply, zero_apply]
    rfl
  · by_cases h1 : t.val % 16 = 15
    · rw [outsAt0_C m c t h0 h1]
      frame_out
      rw [step_apply]
      exact congrArg (· + part m c t y) (congrFun (Memref.IsWhole.read_unread _ _) y)
    · rw [outsAt0_B m c t h0 h1]
      frame_out
      rw [step_apply]
      exact congrArg (· + part m c t y) (congrFun (Memref.IsWhole.read_unread _ _) y)

/-- And the block written is the scratch. -/
theorem written (t : Fin cfg0.N) (h : t.val % 16 = 15) : (outsAt0 m c t.val t.isLt).1 = k0_pay3 (outsAt0 m c t.val t.isLt).2 := by
  rw [outsAt0_C m c t (by omega) h]
  frame_out

/-- The result array is the reference's. -/
theorem final : (dats m 0 c).arrAt 2 (cfgs 0).N
    = val_main_v10 (F := Ideal) (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, written m c t h]
  pointwise [k0_pay3, val_main_v10, val_main_v9, val_main_v8, val_main_v7, val_main_v6, val_main_v5, val_main_v4, val_main_v3, val_main_v2,
    val_main_v1, val_main_v0, val_main_call0_v0, val_main_call0_cst]
  refine (carried m c t h _).trans ?_
  unfold part
  refine Fin.sum_mul_add_congr fun s k hl => ?_
  blk_point [iblk, V, index t, index ⟨_, Pipeline.run_point_lt_of_flush t h s⟩]

end

/-- From the same arguments the kernel and the reference leave the same result. -/
theorem algebraic : Cert.algebraic_DownGradKernelIdeal_DownGradReferenceIdeal := by
  intro m g m' g' _ hargs
  refine ⟨fun c => val_main_v10 (F := Ideal) (m ((c : Thread nD τ).loc main_arg0)) (m ((c : Thread nD τ).loc main_arg1)), ?_, ?_⟩
  · refine (θ_run defs _ _).mono (fun r h c => ?_) (Value.run_blocks (F := Ideal) m g)
    exact ⟨(h c).1.trans (final m c), (h c).2⟩
  · refine (θ_run Cert.DownGradReferenceIdeal.defs _ _).mono (fun r h c => ?_) (Cert.DownGradReferenceIdeal.Value.run (F := Ideal) m' g')
    obtain ⟨e0, e1⟩ := hargs c
    obtain ⟨h0, h1⟩ := h c
    rw [val_main_v10_eq, e0, e1] at h0
    exact ⟨h0, h1⟩

/-- The kernel as written runs to its end, and leaves its arguments and every semaphore as they were. -/
theorem frame_kernel : Cert.quiescent_DownGradKernel := fun m ρ _ => Cert.DownGradKernel.Gen.frame m ρ

/-- So does the kernel at exact arithmetic. -/
theorem frame_ideal : Cert.quiescent_DownGradKernelIdeal := fun m ρ _ => frame m ρ

/-- And the reference. -/
theorem frame_reference : Cert.quiescent_DownGradReferenceIdeal := fun m ρ _ =>
  (θ_run Cert.DownGradReferenceIdeal.defs _ _).mono (fun r h => ⟨fun c => (h c).2, sem_eq_zero_of_no_sems (by decide) r.2⟩)
    (Cert.DownGradReferenceIdeal.Value.run (F := Ideal) m ρ)

theorem preserves : Cert.preserves_DownGradKernel_DownGradKernelIdeal := trivial

end Cert.Mlp.DownGrad

end
-- ==== Proof.Mlp.UpGrad.lean ====
/-
The gradient of the MLP's first weight: the product of the transposed modulated input with the hidden layer's gradient. Each of two blocks of
2048 columns is summed over sixteen points, of 512 positions each, in the scratch, and written at the last of them.
-/
module

public import proofs.«01_k».proof.Defs
public import proofs.«01_k».proof.Proof.Gen.UpGradKernel.Frame
public import proofs.«01_k».proof.Proof.Gen.UpGradKernelIdeal.Value
public import proofs.«01_k».proof.Proof.Gen.UpGradReferenceIdeal.Run
public import proofs.«01_k».proof.Proof.Gen.UpGradReferenceIdeal.Read
public import Idealize.ShloMosaic.Lib.Pipeline.ValueKit
public import Idealize.ShloMosaic.Lib.Pointwise

@[expose] public section

set_option maxRecDepth 16384

noncomputable section

namespace Cert.Mlp.UpGrad

open Idealize.ShloMosaic Idealize.ShloMosaic.TcCoe Idealize.SL.Sem
open Cert.UpGradKernelIdeal Cert.UpGradKernelIdeal.Gen
open Cert.UpGradReferenceIdeal.Read

theorem index (t : Fin cfg0.N) : win0_0.index t = ![t.val % 16, 0] ∧ win0_1.index t = ![t.val % 16, t.val / 16]
    ∧ win0_2.index t = ![0, 0] ∧ win0_3.index t = ![0, 0] ∧ win0_4.index t = ![0, 0, t.val / 16] :=
  (by decide +kernel : ∀ t : Fin grid0.N, win0_0.index t = ![t.val % 16, 0] ∧ win0_1.index t = ![t.val % 16, t.val / 16]
    ∧ win0_2.index t = ![0, 0] ∧ win0_3.index t = ![0, 0] ∧ win0_4.index t = ![0, 0, t.val / 16]) t

theorem zero_apply (y : S1024x2048.Idx) : k0_pay1 (F := Ideal) y = 0 := by
  pointwise [k0_pay1]

/-- What a point adds. -/
theorem step_apply (v3 : Vec Ideal S512x1024 .f32) (v4 v5 : Vec Ideal S1x1024 .f32) (v12 : Vec Ideal S512x2048 .bf16)
    (v13 : Vec Ideal S1024x2048 .f32) (y : S1024x2048.Idx) :
    k0_pay2 v3 v4 v5 v12 v13 y
      = v13 y + ∑ k : Fin 512, (v3 (ix2 k (y 0)) * (1 + v4 (ix2 0 (y 0))) + v5 (ix2 0 (y 0))) * v12 (ix2 k (y 1)) := by
  pointwise [k0_pay2]

section
variable (m : (ℓ : Loc nD τ sig) → Buf (Elt Ideal) ℓ) (c : Dev nD)

/-- A point's own positions. -/
def part (t : Fin cfg0.N) (y : S1024x2048.Idx) : EReal :=
  ∑ k : Fin 512, ((show FVec Ideal S512x1024 .f32 from iblk m c 0 t) (ix2 k (y 0))
    * (1 + (show FVec Ideal S1x1024 .f32 from iblk m c 2 t) (ix2 0 (y 0))) + (show FVec Ideal S1x1024 .f32 from iblk m c 3 t) (ix2 0 (y 0)))
    * (show FVec Ideal S512x2048 .bf16 from iblk m c 1 t) (ix2 k (y 1))

/-- At the last point of a block the scratch holds the sum over all positions. -/
theorem carried (t : Fin cfg0.N) (h : t.val % 16 = 15) (y : S1024x2048.Idx) :
    (outsAt0 m c t.val t.isLt).2 y = ∑ s : Fin 16, part m c ⟨16 * (t.val / 16) + s.val, Pipeline.run_point_lt_of_flush t h s⟩ y := by
  refine (Pipeline.eq_sum_fin_of_reset_step_apply_of_flush (fun n hn => (outsAt0 m c n hn).2) 16 (fun _ => (0 : EReal)) (part m c)
    (fun t h0 y => ?_) (fun t h0 y => ?_) t h y).trans (zero_add _)
  · rw [outsAt0_A m c t h0 (by omega)]
    frame_out
    rw [step_apply, zero_apply]
    rfl
  · by_cases h1 : t.val % 16 = 15
    · rw [outsAt0_C m c t h0 h1]
      frame_out
      rw [step_apply]
      exact congrArg (· + part m c t y) (congrFun (Memref.IsWhole.read_unread _ _) y)
    · rw [outsAt0_B m c t h0 h1]
      frame_out
      rw [step_apply]
      exact congrArg (· + part m c t y) (congrFun (Memref.IsWhole.read_unread _ _) y)

/-- And the block written is the scratch. -/
theorem written (t : Fin cfg0.N) (h : t.val % 16 = 15) : (outsAt0 m c t.val t.isLt).1 = k0_pay3 (outsAt0 m c t.val t.isLt).2 := by
  rw [outsAt0_C m c t (by omega) h]
  frame_out

/-- The result array is the reference's. -/
theorem final : (dats m 0 c).arrAt 4 (cfgs 0).N = val_main_v13 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t hf y => ?_
  have h := (flush0_4 t).mp hf
  blk_simp
  rw [after0_4, written m c t h]
  pointwise [k0_pay3, val_main_v13, val_main_v12, val_main_v11, val_main_v10, val_main_v9, val_main_v8, val_main_v7, val_main_v6,
    val_main_v5, val_main_v4, val_main_v3, val_main_v2, val_main_v1, val_main_v0, val_main_cst, val_main_cst_0]
  refine (carried m c t h _).trans ?_
  unfold part
  refine Fin.sum_mul_add_congr fun s k hl => ?_
  blk_point [iblk, V, index t, index ⟨_, Pipeline.run_point_lt_of_flush t h s⟩]

end

/-- From the same arguments the kernel and the reference leave the same result. -/
theorem algebraic : Cert.algebraic_UpGradKernelIdeal_UpGradReferenceIdeal := by
  intro m g m' g' _ hargs
  refine ⟨fun c => val_main_v13 (F := Ideal) (m ((c : Thread nD τ).loc main_arg0)) (m ((c : Thread nD τ).loc main_arg1)) (m ((c : Thread nD τ).loc main_arg2)) (m ((c : Thread nD τ).loc main_arg3)), ?_, ?_⟩
  · refine (θ_run defs _ _).mono (fun r h c => ?_) (Value.run_blocks (F := Ideal) m g)
    exact ⟨(h c).1.trans (final m c), (h c).2⟩
  · refine (θ_run Cert.UpGradReferenceIdeal.defs _ _).mono (fun r h c => ?_) (Cert.UpGradReferenceIdeal.Value.run (F := Ideal) m' g')
    obtain ⟨e0, e1, e2, e3⟩ := hargs c
    obtain ⟨h0, h1⟩ := h c
    rw [val_main_v13_eq, e0, e1, e2, e3] at h0
    exact ⟨h0, h1⟩

/-- The kernel as written runs to its end, and leaves its arguments and every semaphore as they were. -/
theorem frame_kernel : Cert.quiescent_UpGradKernel := fun m ρ _ => Cert.UpGradKernel.Gen.frame m ρ

/-- So does the kernel at exact arithmetic. -/
theorem frame_ideal : Cert.quiescent_UpGradKernelIdeal := fun m ρ _ => frame m ρ

/-- And the reference. -/
theorem frame_reference : Cert.quiescent_UpGradReferenceIdeal := fun m ρ _ =>
  (θ_run Cert.UpGradReferenceIdeal.defs _ _).mono (fun r h => ⟨fun c => (h c).2, sem_eq_zero_of_no_sems (by decide) r.2⟩)
    (Cert.UpGradReferenceIdeal.Value.run (F := Ideal) m ρ)

theorem preserves : Cert.preserves_UpGradKernel_UpGradKernelIdeal := trivial

end Cert.Mlp.UpGrad

end
-- ==== Proof.Mlp.Up.lean ====
/-
The MLP's first product, of the modulated input, in sixteen blocks of 512 rows. The first point of a row block leaves the modulated rows
in the scratch; as a row block has one point, each point does.
-/
module

public import proofs.«01_k».proof.Defs
public import proofs.«01_k».proof.Proof.Gen.UpKernel.Frame
public import proofs.«01_k».proof.Proof.Gen.UpKernelIdeal.Value
public import proofs.«01_k».proof.Proof.Gen.UpReferenceIdeal.Run
public import proofs.«01_k».proof.Proof.Gen.UpReferenceIdeal.Read
public import Idealize.ShloMosaic.Lib.Pipeline.ValueKit
public import Idealize.ShloMosaic.Lib.Pointwise

@[expose] public section

set_option maxRecDepth 16384

noncomputable section

namespace Cert.Mlp.Up

open Idealize.ShloMosaic Idealize.ShloMosaic.TcCoe Idealize.SL.Sem
open Cert.UpKernelIdeal Cert.UpKernelIdeal.Gen
open Cert.UpReferenceIdeal.Read

theorem index (t : Fin cfg0.N) : win0_0.index t = ![t.val, 0] ∧ win0_1.index t = ![0, 0, 0] ∧ win0_2.index t = ![0, 0]
    ∧ win0_3.index t = ![0, 0] ∧ win0_4.index t = ![t.val, 0] :=
  (by decide +kernel : ∀ t : Fin grid0.N, win0_0.index t = ![t.val, 0] ∧ win0_1.index t = ![0, 0, 0] ∧ win0_2.index t = ![0, 0]
    ∧ win0_3.index t = ![0, 0] ∧ win0_4.index t = ![t.val, 0]) t

/-- The result array is the reference's. -/
theorem final (m : (ℓ : Loc nD τ sig) → Buf (Elt Ideal) ℓ) (c : Dev nD) :
    (dats m 0 c).arrAt 4 (cfgs 0).N = val_main_v9 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t _ y => ?_
  blk_simp
  rw [after0_4]
  unfold outsAt0
  frame_out
  pointwise [k0_pay1, k0_pay2, val_main_v9, val_main_v8, val_main_v7, val_main_v6, val_main_v5, val_main_v4, val_main_v3, val_main_v2,
    val_main_v1, val_main_v0, val_main_cst]
  blk_point [iblk, V, index t]

/-- From the same arguments the kernel and the reference leave the same result. -/
theorem algebraic : Cert.algebraic_UpKernelIdeal_UpReferenceIdeal := by
  intro m g m' g' _ hargs
  refine ⟨fun c => val_main_v9 (F := Ideal) (m ((c : Thread nD τ).loc main_arg0)) (m ((c : Thread nD τ).loc main_arg1)) (m ((c : Thread nD τ).loc main_arg2)) (m ((c : Thread nD τ).loc main_arg3)), ?_, ?_⟩
  · refine (θ_run defs _ _).mono (fun r h c => ?_) (Value.run_blocks (F := Ideal) m g)
    exact ⟨(h c).1.trans (final m c), (h c).2⟩
  · refine (θ_run Cert.UpReferenceIdeal.defs _ _).mono (fun r h c => ?_) (Cert.UpReferenceIdeal.Value.run (F := Ideal) m' g')
    obtain ⟨e0, e1, e2, e3⟩ := hargs c
    obtain ⟨h0, h1⟩ := h c
    rw [val_main_v9_eq, e0, e1, e2, e3] at h0
    exact ⟨h0, h1⟩

/-- The kernel as written runs to its end, and leaves its arguments and every semaphore as they were. -/
theorem frame_kernel : Cert.quiescent_UpKernel := fun m ρ _ => Cert.UpKernel.Gen.frame m ρ

/-- So does the kernel at exact arithmetic. -/
theorem frame_ideal : Cert.quiescent_UpKernelIdeal := fun m ρ _ => frame m ρ

/-- And the reference. -/
theorem frame_reference : Cert.quiescent_UpReferenceIdeal := fun m ρ _ =>
  (θ_run Cert.UpReferenceIdeal.defs _ _).mono (fun r h => ⟨fun c => (h c).2, sem_eq_zero_of_no_sems (by decide) r.2⟩)
    (Cert.UpReferenceIdeal.Value.run (F := Ideal) m ρ)

theorem preserves : Cert.preserves_UpKernel_UpKernelIdeal := trivial

end Cert.Mlp.Up

end
-- ==== Proof.Mlp.Down.lean ====
/-
The MLP's second product, of the squared ReLU of the hidden layer, in sixteen blocks of 512 rows. The first point of a row block leaves the
squares in the scratch; as a row block has one point, each point does.
-/
module

public import proofs.«01_k».proof.Defs
public import proofs.«01_k».proof.Proof.Gen.DownKernel.Frame
public import proofs.«01_k».proof.Proof.Gen.DownKernelIdeal.Value
public import proofs.«01_k».proof.Proof.Gen.DownReferenceIdeal.Run
public import proofs.«01_k».proof.Proof.Gen.DownReferenceIdeal.Read
public import Idealize.ShloMosaic.Lib.Pipeline.ValueKit
public import Idealize.ShloMosaic.Lib.Pointwise

@[expose] public section

set_option maxRecDepth 16384

noncomputable section

namespace Cert.Mlp.Down

open Idealize.ShloMosaic Idealize.ShloMosaic.TcCoe Idealize.SL.Sem
open Cert.DownKernelIdeal Cert.DownKernelIdeal.Gen
open Cert.DownReferenceIdeal.Read

theorem index (t : Fin cfg0.N) : win0_0.index t = ![t.val, 0] ∧ win0_1.index t = ![0, 0, 0] ∧ win0_2.index t = ![t.val, 0] :=
  (by decide +kernel : ∀ t : Fin grid0.N, win0_0.index t = ![t.val, 0] ∧ win0_1.index t = ![0, 0, 0] ∧ win0_2.index t = ![t.val, 0]) t

/-- The result array is the reference's. -/
theorem final (m : (ℓ : Loc nD τ sig) → Buf (Elt Ideal) ℓ) (c : Dev nD) :
    (dats m 0 c).arrAt 2 (cfgs 0).N
      = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  pointwise [k0_pay1, k0_pay2, val_main_v5, val_main_v4, val_main_v3, val_main_v2, val_main_v1, val_main_v0, val_main_call0_v0,
    val_main_call0_cst]
  blk_point [iblk, V, index t]

/-- From the same arguments the kernel and the reference leave the same result. -/
theorem algebraic : Cert.algebraic_DownKernelIdeal_DownReferenceIdeal := by
  intro m g m' g' _ hargs
  refine ⟨fun c => val_main_v5 (F := Ideal) (m ((c : Thread nD τ).loc main_arg0)) (m ((c : Thread nD τ).loc main_arg1)), ?_, ?_⟩
  · refine (θ_run defs _ _).mono (fun r h c => ?_) (Value.run_blocks (F := Ideal) m g)
    exact ⟨(h c).1.trans (final m c), (h c).2⟩
  · refine (θ_run Cert.DownReferenceIdeal.defs _ _).mono (fun r h c => ?_) (Cert.DownReferenceIdeal.Value.run (F := Ideal) m' g')
    obtain ⟨e0, e1⟩ := hargs c
    obtain ⟨h0, h1⟩ := h c
    rw [val_main_v5_eq, e0, e1] at h0
    exact ⟨h0, h1⟩

/-- The kernel as written runs to its end, and leaves its arguments and every semaphore as they were. -/
theorem frame_kernel : Cert.quiescent_DownKernel := fun m ρ _ => Cert.DownKernel.Gen.frame m ρ

/-- So does the kernel at exact arithmetic. -/
theorem frame_ideal : Cert.quiescent_DownKernelIdeal := fun m ρ _ => frame m ρ

/-- And the reference. -/
theorem frame_reference : Cert.quiescent_DownReferenceIdeal := fun m ρ _ =>
  (θ_run Cert.DownReferenceIdeal.defs _ _).mono (fun r h => ⟨fun c => (h c).2, sem_eq_zero_of_no_sems (by decide) r.2⟩)
    (Cert.DownReferenceIdeal.Value.run (F := Ideal) m ρ)

theorem preserves : Cert.preserves_DownKernel_DownKernelIdeal := trivial

end Cert.Mlp.Down

end
-- ==== Proof.Proj.Out.lean ====
/-
The mixers' output projection, in eight blocks of 1024 rows.
-/
module

public import proofs.«01_k».proof.Defs
public import proofs.«01_k».proof.Proof.Gen.OutKernel.Frame
public import proofs.«01_k».proof.Proof.Gen.OutKernelIdeal.Value
public import proofs.«01_k».proof.Proof.Gen.OutReferenceIdeal.Run
public import proofs.«01_k».proof.Proof.Gen.OutReferenceIdeal.Read
public import Idealize.ShloMosaic.Lib.Pipeline.ValueKit
public import Idealize.ShloMosaic.Lib.Pointwise

@[expose] public section

set_option maxRecDepth 16384

noncomputable section

namespace Cert.Proj.Out

open Idealize.ShloMosaic Idealize.ShloMosaic.TcCoe Idealize.SL.Sem
open Cert.OutKernelIdeal Cert.OutKernelIdeal.Gen
open Cert.OutReferenceIdeal.Read

theorem index (t : Fin cfg0.N) : win0_0.index t = ![t.val, 0] ∧ win0_1.index t = ![0, 0, 0] ∧ win0_2.index t = ![t.val, 0] :=
  (by decide +kernel : ∀ t : Fin grid0.N, win0_0.index t = ![t.val, 0] ∧ win0_1.index t = ![0, 0, 0] ∧ win0_2.index t = ![t.val, 0]) t

/-- The result array is the reference's. -/
theorem final (m : (ℓ : Loc nD τ sig) → Buf (Elt Ideal) ℓ) (c : Dev nD) :
    (dats m 0 c).arrAt 2 (cfgs 0).N
      = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, val_main_v3, val_main_v2, val_main_v1, val_main_v0]
  blk_point [iblk, V, index t]

/-- From the same arguments the kernel and the reference leave the same result. -/
theorem algebraic : Cert.algebraic_OutKernelIdeal_OutReferenceIdeal := by
  intro m g m' g' _ hargs
  refine ⟨fun c => val_main_v3 (F := Ideal) (m ((c : Thread nD τ).loc main_arg0)) (m ((c : Thread nD τ).loc main_arg1)), ?_, ?_⟩
  · refine (θ_run defs _ _).mono (fun r h c => ?_) (Value.run_blocks (F := Ideal) m g)
    exact ⟨(h c).1.trans (final m c), (h c).2⟩
  · refine (θ_run Cert.OutReferenceIdeal.defs _ _).mono (fun r h c => ?_) (Cert.OutReferenceIdeal.Value.run (F := Ideal) m' g')
    obtain ⟨e0, e1⟩ := hargs c
    obtain ⟨h0, h1⟩ := h c
    rw [val_main_v3_eq, e0, e1] at h0
    exact ⟨h0, h1⟩

/-- The kernel as written runs to its end, and leaves its arguments and every semaphore as they were. -/
theorem frame_kernel : Cert.quiescent_OutKernel := fun m ρ _ => Cert.OutKernel.Gen.frame m ρ

/-- So does the kernel at exact arithmetic. -/
theorem frame_ideal : Cert.quiescent_OutKernelIdeal := fun m ρ _ => frame m ρ

/-- And the reference. -/
theorem frame_reference : Cert.quiescent_OutReferenceIdeal := fun m ρ _ =>
  (θ_run Cert.OutReferenceIdeal.defs _ _).mono (fun r h => ⟨fun c => (h c).2, sem_eq_zero_of_no_sems (by decide) r.2⟩)
    (Cert.OutReferenceIdeal.Value.run (F := Ideal) m ρ)

theorem preserves : Cert.preserves_OutKernel_OutKernelIdeal := trivial

end Cert.Proj.Out

end
-- ==== Proof.Proj.AttProj.lean ====
/-
The attention's projection to q, k and v, of the modulated input, with its bias, in sixteen blocks of 512 rows. Each point leaves the
modulated rows in the scratch first.
-/
module

public import proofs.«01_k».proof.Defs
public import proofs.«01_k».proof.Proof.Gen.AttProjKernel.Frame
public import proofs.«01_k».proof.Proof.Gen.AttProjKernelIdeal.Value
public import proofs.«01_k».proof.Proof.Gen.AttProjReferenceIdeal.Run
public import proofs.«01_k».proof.Proof.Gen.AttProjReferenceIdeal.Read
public import Idealize.ShloMosaic.Lib.Pipeline.ValueKit
public import Idealize.ShloMosaic.Lib.Pointwise

@[expose] public section

set_option maxRecDepth 16384

noncomputable section

namespace Cert.Proj.AttProj

open Idealize.ShloMosaic Idealize.ShloMosaic.TcCoe Idealize.SL.Sem
open Cert.AttProjKernelIdeal Cert.AttProjKernelIdeal.Gen
open Cert.AttProjReferenceIdeal.Read

theorem index (t : Fin cfg0.N) : win0_0.index t = ![t.val, 0] ∧ win0_1.index t = ![0, 0, 0] ∧ win0_2.index t = ![0, 0]
    ∧ win0_3.index t = ![0, 0] ∧ win0_4.index t = ![0, 0] ∧ win0_5.index t = ![t.val, 0] :=
  (by decide +kernel : ∀ t : Fin grid0.N, win0_0.index t = ![t.val, 0] ∧ win0_1.index t = ![0, 0, 0] ∧ win0_2.index t = ![0, 0]
    ∧ win0_3.index t = ![0, 0] ∧ win0_4.index t = ![0, 0] ∧ win0_5.index t = ![t.val, 0]) t

/-- The result array is the reference's. -/
theorem final (m : (ℓ : Loc nD τ sig) → Buf (Elt Ideal) ℓ) (c : Dev nD) :
    (dats m 0 c).arrAt 5 (cfgs 0).N
      = val_main_v11 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  unfold outsAt0
  frame_out
  pointwise [k0_pay1, k0_pay2, val_main_v11, val_main_v10, val_main_v9, val_main_v8, val_main_v7, val_main_v6, val_main_v5, val_main_v4,
    val_main_v3, val_main_v2, val_main_v1, val_main_v0, val_main_cst]
  blk_point [iblk, V, index t]

/-- From the same arguments the kernel and the reference leave the same result. -/
theorem algebraic : Cert.algebraic_AttProjKernelIdeal_AttProjReferenceIdeal := by
  intro m g m' g' _ hargs
  refine ⟨fun c => val_main_v11 (F := Ideal) (m ((c : Thread nD τ).loc main_arg0)) (m ((c : Thread nD τ).loc main_arg1)) (m ((c : Thread nD τ).loc main_arg2)) (m ((c : Thread nD τ).loc main_arg3)) (m ((c : Thread nD τ).loc main_arg4)), ?_, ?_⟩
  · refine (θ_run defs _ _).mono (fun r h c => ?_) (Value.run_blocks (F := Ideal) m g)
    exact ⟨(h c).1.trans (final m c), (h c).2⟩
  · refine (θ_run Cert.AttProjReferenceIdeal.defs _ _).mono (fun r h c => ?_) (Cert.AttProjReferenceIdeal.Value.run (F := Ideal) m' g')
    obtain ⟨e0, e1, e2, e3, e4⟩ := hargs c
    obtain ⟨h0, h1⟩ := h c
    rw [val_main_v11_eq, e0, e1, e2, e3, e4] at h0
    exact ⟨h0, h1⟩

/-- The kernel as written runs to its end, and leaves its arguments and every semaphore as they were. -/
theorem frame_kernel : Cert.quiescent_AttProjKernel := fun m ρ _ => Cert.AttProjKernel.Gen.frame m ρ

/-- So does the kernel at exact arithmetic. -/
theorem frame_ideal : Cert.quiescent_AttProjKernelIdeal := fun m ρ _ => frame m ρ

/-- And the reference. -/
theorem frame_reference : Cert.quiescent_AttProjReferenceIdeal := fun m ρ _ =>
  (θ_run Cert.AttProjReferenceIdeal.defs _ _).mono (fun r h => ⟨fun c => (h c).2, sem_eq_zero_of_no_sems (by decide) r.2⟩)
    (Cert.AttProjReferenceIdeal.Value.run (F := Ideal) m ρ)

theorem preserves : Cert.preserves_AttProjKernel_AttProjKernelIdeal := trivial

end Cert.Proj.AttProj

end
-- ==== Proof.Proj.GlaProj.lean ====
/-
The gated linear attention's projection, of the modulated input, in sixteen blocks of 512 rows. Each point leaves the modulated rows in
the scratch first.
-/
module

public import proofs.«01_k».proof.Defs
public import proofs.«01_k».proof.Proof.Gen.GlaProjKernel.Frame
public import proofs.«01_k».proof.Proof.Gen.GlaProjKernelIdeal.Value
public import proofs.«01_k».proof.Proof.Gen.GlaProjReferenceIdeal.Run
public import proofs.«01_k».proof.Proof.Gen.GlaProjReferenceIdeal.Read
public import Idealize.ShloMosaic.Lib.Pipeline.ValueKit
public import Idealize.ShloMosaic.Lib.Pointwise

@[expose] public section

set_option maxRecDepth 16384

noncomputable section

namespace Cert.Proj.GlaProj

open Idealize.ShloMosaic Idealize.ShloMosaic.TcCoe Idealize.SL.Sem
open Cert.GlaProjKernelIdeal Cert.GlaProjKernelIdeal.Gen
open Cert.GlaProjReferenceIdeal.Read

theorem index (t : Fin cfg0.N) : win0_0.index t = ![t.val, 0] ∧ win0_1.index t = ![0, 0, 0] ∧ win0_2.index t = ![0, 0]
    ∧ win0_3.index t = ![0, 0] ∧ win0_4.index t = ![t.val, 0] :=
  (by decide +kernel : ∀ t : Fin grid0.N, win0_0.index t = ![t.val, 0] ∧ win0_1.index t = ![0, 0, 0] ∧ win0_2.index t = ![0, 0]
    ∧ win0_3.index t = ![0, 0] ∧ win0_4.index t = ![t.val, 0]) t

/-- The result array is the reference's. -/
theorem final (m : (ℓ : Loc nD τ sig) → Buf (Elt Ideal) ℓ) (c : Dev nD) :
    (dats m 0 c).arrAt 4 (cfgs 0).N
      = val_main_v8 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  unfold outsAt0
  frame_out
  pointwise [k0_pay1, k0_pay2, val_main_v8, val_main_v7, val_main_v6, val_main_v5, val_main_v4, val_main_v3, val_main_v2, val_main_v1,
    val_main_v0, val_main_cst]
  blk_point [iblk, V, index t]

/-- From the same arguments the kernel and the reference leave the same result. -/
theorem algebraic : Cert.algebraic_GlaProjKernelIdeal_GlaProjReferenceIdeal := by
  intro m g m' g' _ hargs
  refine ⟨fun c => val_main_v8 (F := Ideal) (m ((c : Thread nD τ).loc main_arg0)) (m ((c : Thread nD τ).loc main_arg1)) (m ((c : Thread nD τ).loc main_arg2)) (m ((c : Thread nD τ).loc main_arg3)), ?_, ?_⟩
  · refine (θ_run defs _ _).mono (fun r h c => ?_) (Value.run_blocks (F := Ideal) m g)
    exact ⟨(h c).1.trans (final m c), (h c).2⟩
  · refine (θ_run Cert.GlaProjReferenceIdeal.defs _ _).mono (fun r h c => ?_) (Cert.GlaProjReferenceIdeal.Value.run (F := Ideal) m' g')
    obtain ⟨e0, e1, e2, e3⟩ := hargs c
    obtain ⟨h0, h1⟩ := h c
    rw [val_main_v8_eq, e0, e1, e2, e3] at h0
    exact ⟨h0, h1⟩

/-- The kernel as written runs to its end, and leaves its arguments and every semaphore as they were. -/
theorem frame_kernel : Cert.quiescent_GlaProjKernel := fun m ρ _ => Cert.GlaProjKernel.Gen.frame m ρ

/-- So does the kernel at exact arithmetic. -/
theorem frame_ideal : Cert.quiescent_GlaProjKernelIdeal := fun m ρ _ => frame m ρ

/-- And the reference. -/
theorem frame_reference : Cert.quiescent_GlaProjReferenceIdeal := fun m ρ _ =>
  (θ_run Cert.GlaProjReferenceIdeal.defs _ _).mono (fun r h => ⟨fun c => (h c).2, sem_eq_zero_of_no_sems (by decide) r.2⟩)
    (Cert.GlaProjReferenceIdeal.Value.run (F := Ideal) m ρ)

theorem preserves : Cert.preserves_GlaProjKernel_GlaProjKernelIdeal := trivial

end Cert.Proj.GlaProj

end
-- ==== Proof.Proj.AttOutGrad.lean ====
/-
The gradient of the attention's output: the product of the projection's gradient with the transposed weight, in eight blocks of 1024 rows.
-/
module

public import proofs.«01_k».proof.Defs
public import proofs.«01_k».proof.Proof.Gen.AttOutGradKernel.Frame
public import proofs.«01_k».proof.Proof.Gen.AttOutGradKernelIdeal.Value
public import proofs.«01_k».proof.Proof.Gen.AttOutGradReferenceIdeal.Run
public import proofs.«01_k».proof.Proof.Gen.AttOutGradReferenceIdeal.Read
public import Idealize.ShloMosaic.Lib.Pipeline.ValueKit
public import Idealize.ShloMosaic.Lib.Pointwise

@[expose] public section

set_option maxRecDepth 16384

noncomputable section

namespace Cert.Proj.AttOutGrad

open Idealize.ShloMosaic Idealize.ShloMosaic.TcCoe Idealize.SL.Sem
open Cert.AttOutGradKernelIdeal Cert.AttOutGradKernelIdeal.Gen
open Cert.AttOutGradReferenceIdeal.Read

theorem index (t : Fin cfg0.N) : win0_0.index t = ![t.val, 0] ∧ win0_1.index t = ![0, 0, 0] ∧ win0_2.index t = ![t.val, 0] :=
  (by decide +kernel : ∀ t : Fin grid0.N, win0_0.index t = ![t.val, 0] ∧ win0_1.index t = ![0, 0, 0] ∧ win0_2.index t = ![t.val, 0]) t

/-- The result array is the reference's. -/
theorem final (m : (ℓ : Loc nD τ sig) → Buf (Elt Ideal) ℓ) (c : Dev nD) :
    (dats m 0 c).arrAt 2 (cfgs 0).N
      = val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, val_main_v6, val_main_v5, val_main_v4, val_main_v3, val_main_v2, val_main_v1, val_main_v0]
  blk_point [iblk, V, index t]

/-- From the same arguments the kernel and the reference leave the same result. -/
theorem algebraic : Cert.algebraic_AttOutGradKernelIdeal_AttOutGradReferenceIdeal := by
  intro m g m' g' _ hargs
  refine ⟨fun c => val_main_v6 (F := Ideal) (m ((c : Thread nD τ).loc main_arg0)) (m ((c : Thread nD τ).loc main_arg1)), ?_, ?_⟩
  · refine (θ_run defs _ _).mono (fun r h c => ?_) (Value.run_blocks (F := Ideal) m g)
    exact ⟨(h c).1.trans (final m c), (h c).2⟩
  · refine (θ_run Cert.AttOutGradReferenceIdeal.defs _ _).mono (fun r h c => ?_) (Cert.AttOutGradReferenceIdeal.Value.run (F := Ideal) m' g')
    obtain ⟨e0, e1⟩ := hargs c
    obtain ⟨h0, h1⟩ := h c
    rw [val_main_v6_eq, e0, e1] at h0
    exact ⟨h0, h1⟩

/-- The kernel as written runs to its end, and leaves its arguments and every semaphore as they were. -/
theorem frame_kernel : Cert.quiescent_AttOutGradKernel := fun m ρ _ => Cert.AttOutGradKernel.Gen.frame m ρ

/-- So does the kernel at exact arithmetic. -/
theorem frame_ideal : Cert.quiescent_AttOutGradKernelIdeal := fun m ρ _ => frame m ρ

/-- And the reference. -/
theorem frame_reference : Cert.quiescent_AttOutGradReferenceIdeal := fun m ρ _ =>
  (θ_run Cert.AttOutGradReferenceIdeal.defs _ _).mono (fun r h => ⟨fun c => (h c).2, sem_eq_zero_of_no_sems (by decide) r.2⟩)
    (Cert.AttOutGradReferenceIdeal.Value.run (F := Ideal) m ρ)

theorem preserves : Cert.preserves_AttOutGradKernel_AttOutGradKernelIdeal := trivial

end Cert.Proj.AttOutGrad

end
-- ==== Proof.Proj.GlaOutGrad.lean ====
/-
The gradient of the gated linear attention's output: the product of the projection's gradient with the transposed weight, in eight blocks
of 1024 rows.
-/
module

public import proofs.«01_k».proof.Defs
public import proofs.«01_k».proof.Proof.Gen.GlaOutGradKernel.Frame
public import proofs.«01_k».proof.Proof.Gen.GlaOutGradKernelIdeal.Value
public import proofs.«01_k».proof.Proof.Gen.GlaOutGradReferenceIdeal.Run
public import proofs.«01_k».proof.Proof.Gen.GlaOutGradReferenceIdeal.Read
public import Idealize.ShloMosaic.Lib.Pipeline.ValueKit
public import Idealize.ShloMosaic.Lib.Pointwise

@[expose] public section

set_option maxRecDepth 16384

noncomputable section

namespace Cert.Proj.GlaOutGrad

open Idealize.ShloMosaic Idealize.ShloMosaic.TcCoe Idealize.SL.Sem
open Cert.GlaOutGradKernelIdeal Cert.GlaOutGradKernelIdeal.Gen
open Cert.GlaOutGradReferenceIdeal.Read

theorem index (t : Fin cfg0.N) : win0_0.index t = ![t.val, 0] ∧ win0_1.index t = ![0, 0, 0] ∧ win0_2.index t = ![t.val, 0] :=
  (by decide +kernel : ∀ t : Fin grid0.N, win0_0.index t = ![t.val, 0] ∧ win0_1.index t = ![0, 0, 0] ∧ win0_2.index t = ![t.val, 0]) t

/-- The result array is the reference's. -/
theorem final (m : (ℓ : Loc nD τ sig) → Buf (Elt Ideal) ℓ) (c : Dev nD) :
    (dats m 0 c).arrAt 2 (cfgs 0).N
      = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, val_main_v5, val_main_v4, val_main_v3, val_main_v2, val_main_v1, val_main_v0]
  blk_point [iblk, V, index t]

/-- From the same arguments the kernel and the reference leave the same result. -/
theorem algebraic : Cert.algebraic_GlaOutGradKernelIdeal_GlaOutGradReferenceIdeal := by
  intro m g m' g' _ hargs
  refine ⟨fun c => val_main_v5 (F := Ideal) (m ((c : Thread nD τ).loc main_arg0)) (m ((c : Thread nD τ).loc main_arg1)), ?_, ?_⟩
  · refine (θ_run defs _ _).mono (fun r h c => ?_) (Value.run_blocks (F := Ideal) m g)
    exact ⟨(h c).1.trans (final m c), (h c).2⟩
  · refine (θ_run Cert.GlaOutGradReferenceIdeal.defs _ _).mono (fun r h c => ?_) (Cert.GlaOutGradReferenceIdeal.Value.run (F := Ideal) m' g')
    obtain ⟨e0, e1⟩ := hargs c
    obtain ⟨h0, h1⟩ := h c
    rw [val_main_v5_eq, e0, e1] at h0
    exact ⟨h0, h1⟩

/-- The kernel as written runs to its end, and leaves its arguments and every semaphore as they were. -/
theorem frame_kernel : Cert.quiescent_GlaOutGradKernel := fun m ρ _ => Cert.GlaOutGradKernel.Gen.frame m ρ

/-- So does the kernel at exact arithmetic. -/
theorem frame_ideal : Cert.quiescent_GlaOutGradKernelIdeal := fun m ρ _ => frame m ρ

/-- And the reference. -/
theorem frame_reference : Cert.quiescent_GlaOutGradReferenceIdeal := fun m ρ _ =>
  (θ_run Cert.GlaOutGradReferenceIdeal.defs _ _).mono (fun r h => ⟨fun c => (h c).2, sem_eq_zero_of_no_sems (by decide) r.2⟩)
    (Cert.GlaOutGradReferenceIdeal.Value.run (F := Ideal) m ρ)

theorem preserves : Cert.preserves_GlaOutGradKernel_GlaOutGradKernelIdeal := trivial

end Cert.Proj.GlaOutGrad

end
-- ==== Proof.Proj.OutWeightGrad.lean ====
/-
The gradient of an output projection's weight: the product of the transposed mixer output with the projection's gradient, summed over
sixteen points, of 512 positions each, in the scratch, and written at the last of them.
-/
module

public import proofs.«01_k».proof.Defs
public import proofs.«01_k».proof.Proof.Gen.OutWeightGradKernel.Frame
public import proofs.«01_k».proof.Proof.Gen.OutWeightGradKernelIdeal.Value
public import proofs.«01_k».proof.Proof.Gen.OutWeightGradReferenceIdeal.Run
public import proofs.«01_k».proof.Proof.Gen.OutWeightGradReferenceIdeal.Read
public import Idealize.ShloMosaic.Lib.Pipeline.ValueKit
public import Idealize.ShloMosaic.Lib.Pointwise

@[expose] public section

set_option maxRecDepth 16384

noncomputable section

namespace Cert.Proj.OutWeightGrad

open Idealize.ShloMosaic Idealize.ShloMosaic.TcCoe Idealize.SL.Sem
open Cert.OutWeightGradKernelIdeal Cert.OutWeightGradKernelIdeal.Gen
open Cert.OutWeightGradReferenceIdeal.Read

theorem index (t : Fin cfg0.N) : win0_0.index t = ![t.val, 0] ∧ win0_1.index t = ![t.val, 0] ∧ win0_2.index t = ![0, 0, 0] :=
  (by decide +kernel : ∀ t : Fin grid0.N, win0_0.index t = ![t.val, 0] ∧ win0_1.index t = ![t.val, 0] ∧ win0_2.index t = ![0, 0, 0]) t

theorem zero_apply (y : S1024x1024.Idx) : k0_pay1 (F := Ideal) y = 0 := by
  pointwise [k0_pay1]

/-- What a point adds. -/
theorem step_apply (v3 v4 : Vec Ideal S512x1024 .bf16) (v5 : Vec Ideal S1024x1024 .f32) (y : S1024x1024.Idx) :
    k0_pay2 v3 v4 v5 y = v5 y + ∑ k : Fin 512, v3 (ix2 k (y 0)) * v4 (ix2 k (y 1)) := by
  pointwise [k0_pay2]

section
variable (m : (ℓ : Loc nD τ sig) → Buf (Elt Ideal) ℓ) (c : Dev nD)

/-- A point's own positions. -/
def part (t : Fin cfg0.N) (y : S1024x1024.Idx) : EReal :=
  ∑ k : Fin 512, (show FVec Ideal S512x1024 .bf16 from iblk m c 0 t) (ix2 k (y 0))
    * (show FVec Ideal S512x1024 .bf16 from iblk m c 1 t) (ix2 k (y 1))

/-- At the last point of a block the scratch holds the sum over all positions. -/
theorem carried (t : Fin cfg0.N) (h : t.val % 16 = 15) (y : S1024x1024.Idx) :
    (outsAt0 m c t.val t.isLt).2 y = ∑ s : Fin 16, part m c ⟨16 * (t.val / 16) + s.val, Pipeline.run_point_lt_of_flush t h s⟩ y := by
  refine (Pipeline.eq_sum_fin_of_reset_step_apply_of_flush (fun n hn => (outsAt0 m c n hn).2) 16 (fun _ => (0 : EReal)) (part m c)
    (fun t h0 y => ?_) (fun t h0 y => ?_) t h y).trans (zero_add _)
  · rw [outsAt0_A m c t h0 (by omega)]
    frame_out
    rw [step_apply, zero_apply]
    rfl
  · by_cases h1 : t.val % 16 = 15
    · rw [outsAt0_C m c t h0 h1]
      frame_out
      rw [step_apply]
      exact congrArg (· + part m c t y) (congrFun (Memref.IsWhole.read_unread _ _) y)
    · rw [outsAt0_B m c t h0 h1]
      frame_out
      rw [step_apply]
      exact congrArg (· + part m c t y) (congrFun (Memref.IsWhole.read_unread _ _) y)

/-- And the block written is the scratch. -/
theorem written (t : Fin cfg0.N) (h : t.val % 16 = 15) : (outsAt0 m c t.val t.isLt).1 = k0_pay3 (outsAt0 m c t.val t.isLt).2 := by
  rw [outsAt0_C m c t (by omega) h]
  frame_out

/-- The result array is the reference's. -/
theorem final : (dats m 0 c).arrAt 2 (cfgs 0).N
    = val_main_v8 (F := Ideal) (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, written m c t h]
  pointwise [k0_pay3, val_main_v8, val_main_v7, val_main_v6, val_main_v5, val_main_v4, val_main_v3, val_main_v2, val_main_v1, val_main_v0,
    val_main_cst]
  refine (carried m c t h _).trans ?_
  unfold part
  refine Fin.sum_mul_add_congr fun s k hl => (mul_comm _ _).trans ?_
  blk_point [iblk, V, index t, index ⟨_, Pipeline.run_point_lt_of_flush t h s⟩]

end

/-- From the same arguments the kernel and the reference leave the same result. -/
theorem algebraic : Cert.algebraic_OutWeightGradKernelIdeal_OutWeightGradReferenceIdeal := by
  intro m g m' g' _ hargs
  refine ⟨fun c => val_main_v8 (F := Ideal) (m ((c : Thread nD τ).loc main_arg0)) (m ((c : Thread nD τ).loc main_arg1)), ?_, ?_⟩
  · refine (θ_run defs _ _).mono (fun r h c => ?_) (Value.run_blocks (F := Ideal) m g)
    exact ⟨(h c).1.trans (final m c), (h c).2⟩
  · refine (θ_run Cert.OutWeightGradReferenceIdeal.defs _ _).mono (fun r h c => ?_) (Cert.OutWeightGradReferenceIdeal.Value.run (F := Ideal) m' g')
    obtain ⟨e0, e1⟩ := hargs c
    obtain ⟨h0, h1⟩ := h c
    rw [val_main_v8_eq, e0, e1] at h0
    exact ⟨h0, h1⟩

/-- The kernel as written runs to its end, and leaves its arguments and every semaphore as they were. -/
theorem frame_kernel : Cert.quiescent_OutWeightGradKernel := fun m ρ _ => Cert.OutWeightGradKernel.Gen.frame m ρ

/-- So does the kernel at exact arithmetic. -/
theorem frame_ideal : Cert.quiescent_OutWeightGradKernelIdeal := fun m ρ _ => frame m ρ

/-- And the reference. -/
theorem frame_reference : Cert.quiescent_OutWeightGradReferenceIdeal := fun m ρ _ =>
  (θ_run Cert.OutWeightGradReferenceIdeal.defs _ _).mono (fun r h => ⟨fun c => (h c).2, sem_eq_zero_of_no_sems (by decide) r.2⟩)
    (Cert.OutWeightGradReferenceIdeal.Value.run (F := Ideal) m ρ)

theorem preserves : Cert.preserves_OutWeightGradKernel_OutWeightGradKernelIdeal := trivial

end Cert.Proj.OutWeightGrad

end
-- ==== Proof.Proj.GlaProjGrad.lean ====
/-
The gradient of the gated linear attention's modulated input: the product of the projection's gradient with the transposed weight, over
3200 columns, in eight blocks of 1024 rows.
-/
module

public import proofs.«01_k».proof.Defs
public import proofs.«01_k».proof.Proof.Gen.GlaProjGradKernel.Frame
public import proofs.«01_k».proof.Proof.Gen.GlaProjGradKernelIdeal.Value
public import proofs.«01_k».proof.Proof.Gen.GlaProjGradReferenceIdeal.Run
public import proofs.«01_k».proof.Proof.Gen.GlaProjGradReferenceIdeal.Read
public import Idealize.ShloMosaic.Lib.Pipeline.ValueKit
public import Idealize.ShloMosaic.Lib.Pointwise

@[expose] public section

set_option maxRecDepth 16384

noncomputable section

namespace Cert.Proj.GlaProjGrad

open Idealize.ShloMosaic Idealize.ShloMosaic.TcCoe Idealize.SL.Sem
open Cert.GlaProjGradKernelIdeal Cert.GlaProjGradKernelIdeal.Gen
open Cert.GlaProjGradReferenceIdeal.Read

theorem index (t : Fin cfg0.N) : win0_0.index t = ![t.val, 0] ∧ win0_1.index t = ![0, 0, 0] ∧ win0_2.index t = ![t.val, 0] :=
  (by decide +kernel : ∀ t : Fin grid0.N, win0_0.index t = ![t.val, 0] ∧ win0_1.index t = ![0, 0, 0] ∧ win0_2.index t = ![t.val, 0]) t

/-- The result array is the reference's. -/
theorem final (m : (ℓ : Loc nD τ sig) → Buf (Elt Ideal) ℓ) (c : Dev nD) :
    (dats m 0 c).arrAt 2 (cfgs 0).N
      = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, val_main_v5, val_main_v4, val_main_v3, val_main_v2, val_main_v1, val_main_v0]
  blk_point [iblk, V, index t]

/-- From the same arguments the kernel and the reference leave the same result. -/
theorem algebraic : Cert.algebraic_GlaProjGradKernelIdeal_GlaProjGradReferenceIdeal := by
  intro m g m' g' _ hargs
  refine ⟨fun c => val_main_v5 (F := Ideal) (m ((c : Thread nD τ).loc main_arg0)) (m ((c : Thread nD τ).loc main_arg1)), ?_, ?_⟩
  · refine (θ_run defs _ _).mono (fun r h c => ?_) (Value.run_blocks (F := Ideal) m g)
    exact ⟨(h c).1.trans (final m c), (h c).2⟩
  · refine (θ_run Cert.GlaProjGradReferenceIdeal.defs _ _).mono (fun r h c => ?_) (Cert.GlaProjGradReferenceIdeal.Value.run (F := Ideal) m' g')
    obtain ⟨e0, e1⟩ := hargs c
    obtain ⟨h0, h1⟩ := h c
    rw [val_main_v5_eq, e0, e1] at h0
    exact ⟨h0, h1⟩

/-- The kernel as written runs to its end, and leaves its arguments and every semaphore as they were. -/
theorem frame_kernel : Cert.quiescent_GlaProjGradKernel := fun m ρ _ => Cert.GlaProjGradKernel.Gen.frame m ρ

/-- So does the kernel at exact arithmetic. -/
theorem frame_ideal : Cert.quiescent_GlaProjGradKernelIdeal := fun m ρ _ => frame m ρ

/-- And the reference. -/
theorem frame_reference : Cert.quiescent_GlaProjGradReferenceIdeal := fun m ρ _ =>
  (θ_run Cert.GlaProjGradReferenceIdeal.defs _ _).mono (fun r h => ⟨fun c => (h c).2, sem_eq_zero_of_no_sems (by decide) r.2⟩)
    (Cert.GlaProjGradReferenceIdeal.Value.run (F := Ideal) m ρ)

theorem preserves : Cert.preserves_GlaProjGradKernel_GlaProjGradKernelIdeal := trivial

end Cert.Proj.GlaProjGrad

end
-- ==== Proof.Proj.GlaWeightGrad.lean ====
/-
The gradient of the weight of the gated linear attention's projection: the product of the transposed modulated input with the
projection's gradient. Each of two blocks of 512 rows is summed over sixteen points, of 512 positions each, in the scratch, and written at
the last of them.
-/
module

public import proofs.«01_k».proof.Defs
public import proofs.«01_k».proof.Proof.Gen.GlaWeightGradKernel.Frame
public import proofs.«01_k».proof.Proof.Gen.GlaWeightGradKernelIdeal.Value
public import proofs.«01_k».proof.Proof.Gen.GlaWeightGradReferenceIdeal.Run
public import proofs.«01_k».proof.Proof.Gen.GlaWeightGradReferenceIdeal.Read
public import Idealize.ShloMosaic.Lib.Pipeline.ValueKit
public import Idealize.ShloMosaic.Lib.Pointwise

@[expose] public section

set_option maxRecDepth 16384

noncomputable section

namespace Cert.Proj.GlaWeightGrad

open Idealize.ShloMosaic Idealize.ShloMosaic.TcCoe Idealize.SL.Sem
open Cert.GlaWeightGradKernelIdeal Cert.GlaWeightGradKernelIdeal.Gen
open Cert.GlaWeightGradReferenceIdeal.Read

theorem index (t : Fin cfg0.N) : win0_0.index t = ![t.val % 16, t.val / 16] ∧ win0_1.index t = ![t.val % 16, 0] ∧ win0_2.index t = ![0, t.val / 16]
    ∧ win0_3.index t = ![0, t.val / 16] ∧ win0_4.index t = ![0, t.val / 16, 0] :=
  (by decide +kernel : ∀ t : Fin grid0.N, win0_0.index t = ![t.val % 16, t.val / 16] ∧ win0_1.index t = ![t.val % 16, 0] ∧ win0_2.index t = ![0, t.val / 16]
    ∧ win0_3.index t = ![0, t.val / 16] ∧ win0_4.index t = ![0, t.val / 16, 0]) t

theorem zero_apply (y : S512x3200.Idx) : k0_pay1 (F := Ideal) y = 0 := by
  pointwise [k0_pay1]

/-- What a point adds. -/
theorem step_apply (v3 : Vec Ideal S512x512 .f32) (v4 v5 : Vec Ideal S1x512 .f32) (v12 : Vec Ideal S512x3200 .bf16)
    (v13 : Vec Ideal S512x3200 .f32) (y : S512x3200.Idx) :
    k0_pay2 v3 v4 v5 v12 v13 y
      = v13 y + ∑ k : Fin 512, (v3 (ix2 k (y 0)) * (1 + v4 (ix2 0 (y 0))) + v5 (ix2 0 (y 0))) * v12 (ix2 k (y 1)) := by
  pointwise [k0_pay2]

section
variable (m : (ℓ : Loc nD τ sig) → Buf (Elt Ideal) ℓ) (c : Dev nD)

/-- A point's own positions. -/
def part (t : Fin cfg0.N) (y : S512x3200.Idx) : EReal :=
  ∑ k : Fin 512, ((show FVec Ideal S512x512 .f32 from iblk m c 0 t) (ix2 k (y 0))
    * (1 + (show FVec Ideal S1x512 .f32 from iblk m c 2 t) (ix2 0 (y 0))) + (show FVec Ideal S1x512 .f32 from iblk m c 3 t) (ix2 0 (y 0)))
    * (show FVec Ideal S512x3200 .bf16 from iblk m c 1 t) (ix2 k (y 1))

/-- At the last point of a block the scratch holds the sum over all positions. -/
theorem carried (t : Fin cfg0.N) (h : t.val % 16 = 15) (y : S512x3200.Idx) :
    (outsAt0 m c t.val t.isLt).2 y = ∑ s : Fin 16, part m c ⟨16 * (t.val / 16) + s.val, Pipeline.run_point_lt_of_flush t h s⟩ y := by
  refine (Pipeline.eq_sum_fin_of_reset_step_apply_of_flush (fun n hn => (outsAt0 m c n hn).2) 16 (fun _ => (0 : EReal)) (part m c)
    (fun t h0 y => ?_) (fun t h0 y => ?_) t h y).trans (zero_add _)
  · rw [outsAt0_A m c t h0 (by omega)]
    frame_out
    rw [step_apply, zero_apply]
    rfl
  · by_cases h1 : t.val % 16 = 15
    · rw [outsAt0_C m c t h0 h1]
      frame_out
      rw [step_apply]
      exact congrArg (· + part m c t y) (congrFun (Memref.IsWhole.read_unread _ _) y)
    · rw [outsAt0_B m c t h0 h1]
      frame_out
      rw [step_apply]
      exact congrArg (· + part m c t y) (congrFun (Memref.IsWhole.read_unread _ _) y)

/-- And the block written is the scratch. -/
theorem written (t : Fin cfg0.N) (h : t.val % 16 = 15) : (outsAt0 m c t.val t.isLt).1 = k0_pay3 (outsAt0 m c t.val t.isLt).2 := by
  rw [outsAt0_C m c t (by omega) h]
  frame_out

/-- The result array is the reference's. -/
theorem final : (dats m 0 c).arrAt 4 (cfgs 0).N
    = val_main_v13 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have h := (flush0_4 t).mp hf
  blk_simp
  rw [after0_4, written m c t h]
  pointwise [k0_pay3, val_main_v13, val_main_v12, val_main_v11, val_main_v10, val_main_v9, val_main_v8, val_main_v7, val_main_v6,
    val_main_v5, val_main_v4, val_main_v3, val_main_v2, val_main_v1, val_main_v0, val_main_cst, val_main_cst_0]
  refine (carried m c t h _).trans ?_
  unfold part
  refine Fin.sum_mul_add_congr fun s k hl => ?_
  blk_point [iblk, V, index t, index ⟨_, Pipeline.run_point_lt_of_flush t h s⟩]

end

/-- From the same arguments the kernel and the reference leave the same result. -/
theorem algebraic : Cert.algebraic_GlaWeightGradKernelIdeal_GlaWeightGradReferenceIdeal := by
  intro m g m' g' _ hargs
  refine ⟨fun c => val_main_v13 (F := Ideal) (m ((c : Thread nD τ).loc main_arg0)) (m ((c : Thread nD τ).loc main_arg1)) (m ((c : Thread nD τ).loc main_arg2)) (m ((c : Thread nD τ).loc main_arg3)), ?_, ?_⟩
  · refine (θ_run defs _ _).mono (fun r h c => ?_) (Value.run_blocks (F := Ideal) m g)
    exact ⟨(h c).1.trans (final m c), (h c).2⟩
  · refine (θ_run Cert.GlaWeightGradReferenceIdeal.defs _ _).mono (fun r h c => ?_) (Cert.GlaWeightGradReferenceIdeal.Value.run (F := Ideal) m' g')
    obtain ⟨e0, e1, e2, e3⟩ := hargs c
    obtain ⟨h0, h1⟩ := h c
    rw [val_main_v13_eq, e0, e1, e2, e3] at h0
    exact ⟨h0, h1⟩

/-- The kernel as written runs to its end, and leaves its arguments and every semaphore as they were. -/
theorem frame_kernel : Cert.quiescent_GlaWeightGradKernel := fun m ρ _ => Cert.GlaWeightGradKernel.Gen.frame m ρ

/-- So does the kernel at exact arithmetic. -/
theorem frame_ideal : Cert.quiescent_GlaWeightGradKernelIdeal := fun m ρ _ => frame m ρ

/-- And the reference. -/
theorem frame_reference : Cert.quiescent_GlaWeightGradReferenceIdeal := fun m ρ _ =>
  (θ_run Cert.GlaWeightGradReferenceIdeal.defs _ _).mono (fun r h => ⟨fun c => (h c).2, sem_eq_zero_of_no_sems (by decide) r.2⟩)
    (Cert.GlaWeightGradReferenceIdeal.Value.run (F := Ideal) m ρ)

theorem preserves : Cert.preserves_GlaWeightGradKernel_GlaWeightGradKernelIdeal := trivial

end Cert.Proj.GlaWeightGrad

end
-- ==== Proof.Proj.AttProjGrad.lean ====
/-
The gradient of the attention's modulated input: the product of the gradients of q, k and v, side by side in the scratch, with the
transposed weight, in sixteen blocks of 512 rows.
-/
module

public import proofs.«01_k».proof.Defs
public import proofs.«01_k».proof.Proof.Gen.AttProjGradKernel.Frame
public import proofs.«01_k».proof.Proof.Gen.AttProjGradKernelIdeal.Value
public import proofs.«01_k».proof.Proof.Gen.AttProjGradReferenceIdeal.Run
public import proofs.«01_k».proof.Proof.Gen.AttProjGradReferenceIdeal.Read
public import Idealize.ShloMosaic.Lib.Pipeline.ValueKit
public import Idealize.ShloMosaic.Lib.Pointwise

@[expose] public section

set_option maxRecDepth 16384

noncomputable section

namespace Cert.Proj.AttProjGrad

open Idealize.ShloMosaic Idealize.ShloMosaic.TcCoe Idealize.SL.Sem
open Cert.AttProjGradKernelIdeal Cert.AttProjGradKernelIdeal.Gen
open Cert.AttProjGradReferenceIdeal.Read

theorem index (t : Fin cfg0.N) : win0_0.index t = ![t.val, 0] ∧ win0_1.index t = ![t.val, 0] ∧ win0_2.index t = ![t.val, 0]
    ∧ win0_3.index t = ![0, 0, 0] ∧ win0_4.index t = ![t.val, 0] :=
  (by decide +kernel : ∀ t : Fin grid0.N, win0_0.index t = ![t.val, 0] ∧ win0_1.index t = ![t.val, 0] ∧ win0_2.index t = ![t.val, 0]
    ∧ win0_3.index t = ![0, 0, 0] ∧ win0_4.index t = ![t.val, 0]) t

/-- Three blocks of 1024 columns side by side. -/
def beside (a b d : FVec Ideal S512x1024 .bf16) : FVec Ideal S512x3072 .bf16 := fun j =>
  if h : (j 1).val < 1024 then a (ix2 (j 0) ⟨(j 1).val, h⟩)
  else if h' : (j 1).val - 1024 < 1024 then b (ix2 (j 0) ⟨(j 1).val - 1024, h'⟩)
  else d (ix2 (j 0) ⟨(j 1).val - 1024 - 1024, by have := (j 1).isLt; change (j 1).val < 3072 at this; omega⟩)

/-- The scratch, after its three blocks of columns are stored. -/
theorem scratch_eq (a b d : FVec Ideal S512x1024 .bf16) :
    (View.whole cc0_scratch0).readCov (Val := Elt Ideal)
        [⟨Rect.unit ![0, 2048] ![512, 1024] inb_S512x3072_S512x1024_0_2048, d⟩,
          ⟨Rect.unit ![0, 1024] ![512, 1024] inb_S512x3072_S512x1024_0_1024, b⟩,
          ⟨Rect.unit ![0, 0] ![512, 1024] inb_S512x3072_S512x1024_0_0, a⟩]
        (Rect.unit ![0, 0] ![512, 3072] inb_S512x3072_S512x3072_0_0).toLoadRect = beside a b d := by
  rw [View.readCov_eq_canon']
  funext j
  have hj : (Rect.unit (s := S512x3072) ![0, 0] ![512, 3072] inb_S512x3072_S512x3072_0_0).toLoadRect.idx j = j :=
    funext fun k => Fin.ext (by
      show ![0, 0] k + 1 * (j k).val = (j k).val
      fin_cases k <;> simp)
  rw [hj]
  canon_tiles x h
  · unfold beside
    rw [dif_neg (by omega), dif_neg (by omega)]
    exact congrArg d (funext fun k => Fin.ext (by fin_cases k <;> simp <;> omega))
  · unfold beside
    rw [dif_neg (by omega), dif_pos (by omega)]
    exact congrArg b (funext fun k => Fin.ext (by fin_cases k <;> simp <;> omega))
  · unfold beside
    rw [dif_pos (by omega)]
    exact congrArg a (funext fun k => Fin.ext (by fin_cases k <;> simp <;> omega))

/-- The result array is the reference's. -/
theorem final (m : (ℓ : Loc nD τ sig) → Buf (Elt Ideal) ℓ) (c : Dev nD) :
    (dats m 0 c).arrAt 4 (cfgs 0).N
      = val_main_v9 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  unfold outsAt0
  frame_out
  rw [scratch_eq]
  pointwise [k0_pay1, k0_pay2, k0_pay3, k0_pay4, beside, val_main_v9, val_main_v8, val_main_v7, val_main_v2, val_main_v1]
  refine Finset.sum_congr (M := EReal) rfl fun k _ => congrArg₂ (fun p q : EReal => p * q) ?_ ?_
  · split
    · blk_point [iblk, V, index t]
    · split
      · blk_point [iblk, V, index t]
      · blk_point [iblk, V, index t]
  · blk_point [iblk, V, index t]

/-- From the same arguments the kernel and the reference leave the same result. -/
theorem algebraic : Cert.algebraic_AttProjGradKernelIdeal_AttProjGradReferenceIdeal := by
  intro m g m' g' _ hargs
  refine ⟨fun c => val_main_v9 (F := Ideal) (m ((c : Thread nD τ).loc main_arg0)) (m ((c : Thread nD τ).loc main_arg1)) (m ((c : Thread nD τ).loc main_arg2)) (m ((c : Thread nD τ).loc main_arg3)), ?_, ?_⟩
  · refine (θ_run defs _ _).mono (fun r h c => ?_) (Value.run_blocks (F := Ideal) m g)
    exact ⟨(h c).1.trans (final m c), (h c).2⟩
  · refine (θ_run Cert.AttProjGradReferenceIdeal.defs _ _).mono (fun r h c => ?_) (Cert.AttProjGradReferenceIdeal.Value.run (F := Ideal) m' g')
    obtain ⟨e0, e1, e2, e3⟩ := hargs c
    obtain ⟨h0, h1⟩ := h c
    rw [val_main_v9_eq, e0, e1, e2, e3] at h0
    exact ⟨h0, h1⟩

/-- The kernel as written runs to its end, and leaves its arguments and every semaphore as they were. -/
theorem frame_kernel : Cert.quiescent_AttProjGradKernel := fun m ρ _ => Cert.AttProjGradKernel.Gen.frame m ρ

/-- So does the kernel at exact arithmetic. -/
theorem frame_ideal : Cert.quiescent_AttProjGradKernelIdeal := fun m ρ _ => frame m ρ

/-- And the reference. -/
theorem frame_reference : Cert.quiescent_AttProjGradReferenceIdeal := fun m ρ _ =>
  (θ_run Cert.AttProjGradReferenceIdeal.defs _ _).mono (fun r h => ⟨fun c => (h c).2, sem_eq_zero_of_no_sems (by decide) r.2⟩)
    (Cert.AttProjGradReferenceIdeal.Value.run (F := Ideal) m ρ)

theorem preserves : Cert.preserves_AttProjGradKernel_AttProjGradKernelIdeal := trivial

end Cert.Proj.AttProjGrad

end
-- ==== Proof.Proj.AttKeyWeightGrad.lean ====
/-
The columns of k's weight in the gradient of the attention's projection: the product of the transposed modulated input with k's gradient,
written over the second third of an array that is handed in. The product is summed over sixteen points, of 512 positions each, in the scratch,
and written at the last of them; the other columns stay as they were handed in.
-/
module

public import proofs.«01_k».proof.Defs
public import proofs.«01_k».proof.Proof.Gen.AttKeyWeightGradKernel.Frame
public import proofs.«01_k».proof.Proof.Gen.AttKeyWeightGradKernelIdeal.Value
public import proofs.«01_k».proof.Proof.Gen.AttKeyWeightGradReferenceIdeal.Run
public import proofs.«01_k».proof.Proof.Gen.AttKeyWeightGradReferenceIdeal.Read
public import Idealize.ShloMosaic.Lib.Pipeline.ValueKit
public import Idealize.ShloMosaic.Lib.Pointwise

@[expose] public section

set_option maxRecDepth 16384

noncomputable section

namespace Cert.Proj.AttKeyWeightGrad

open Idealize.ShloMosaic Idealize.ShloMosaic.TcCoe Idealize.SL.Sem
open Cert.AttKeyWeightGradKernelIdeal Cert.AttKeyWeightGradKernelIdeal.Gen
open Cert.AttKeyWeightGradReferenceIdeal.Read

theorem index (t : Fin cfg0.N) : win0_0.index t = ![t.val % 16, 0] ∧ win0_1.index t = ![t.val % 16, 0] ∧ win0_2.index t = ![0, 0]
    ∧ win0_3.index t = ![0, 0] ∧ win0_4.index t = ![0, 0, 1] :=
  (by decide +kernel : ∀ t : Fin grid0.N, win0_0.index t = ![t.val % 16, 0] ∧ win0_1.index t = ![t.val % 16, 0] ∧ win0_2.index t = ![0, 0]
    ∧ win0_3.index t = ![0, 0] ∧ win0_4.index t = ![0, 0, 1]) t

theorem zero_apply (y : S1024x1024.Idx) : k0_pay1 (F := Ideal) y = 0 := by
  pointwise [k0_pay1]

/-- What a point adds. -/
theorem step_apply (v3 : Vec Ideal S512x1024 .f32) (v4 v5 : Vec Ideal S1x1024 .f32) (v12 : Vec Ideal S512x1024 .f32)
    (v13 : Vec Ideal S1024x1024 .f32) (y : S1024x1024.Idx) :
    k0_pay2 v3 v4 v5 v12 v13 y
      = v13 y + ∑ k : Fin 512, (v3 (ix2 k (y 0)) * (1 + v4 (ix2 0 (y 0))) + v5 (ix2 0 (y 0))) * v12 (ix2 k (y 1)) := by
  pointwise [k0_pay2]

section
variable (m : (ℓ : Loc nD τ sig) → Buf (Elt Ideal) ℓ) (c : Dev nD)

/-- A point's own positions. -/
def part (t : Fin cfg0.N) (y : S1024x1024.Idx) : EReal :=
  ∑ k : Fin 512, ((show FVec Ideal S512x1024 .f32 from iblk m c 0 t) (ix2 k (y 0))
    * (1 + (show FVec Ideal S1x1024 .f32 from iblk m c 2 t) (ix2 0 (y 0))) + (show FVec Ideal S1x1024 .f32 from iblk m c 3 t) (ix2 0 (y 0)))
    * (show FVec Ideal S512x1024 .f32 from iblk m c 1 t) (ix2 k (y 1))

/-- At the last point of a block the scratch holds the sum over all positions. -/
theorem carried (t : Fin cfg0.N) (h : t.val % 16 = 15) (y : S1024x1024.Idx) :
    (outsAt0 m c t.val t.isLt).2 y = ∑ s : Fin 16, part m c ⟨16 * (t.val / 16) + s.val, Pipeline.run_point_lt_of_flush t h s⟩ y := by
  refine (Pipeline.eq_sum_fin_of_reset_step_apply_of_flush (fun n hn => (outsAt0 m c n hn).2) 16 (fun _ => (0 : EReal)) (part m c)
    (fun t h0 y => ?_) (fun t h0 y => ?_) t h y).trans (zero_add _)
  · rw [outsAt0_A m c t h0 (by omega)]
    frame_out
    rw [step_apply, zero_apply]
    rfl
  · by_cases h1 : t.val % 16 = 15
    · rw [outsAt0_C m c t h0 h1]
      frame_out
      rw [step_apply]
      exact congrArg (· + part m c t y) (congrFun (Memref.IsWhole.read_unread _ _) y)
    · rw [outsAt0_B m c t h0 h1]
      frame_out
      rw [step_apply]
      exact congrArg (· + part m c t y) (congrFun (Memref.IsWhole.read_unread _ _) y)

/-- And the block written is the scratch. -/
theorem written (t : Fin cfg0.N) (h : t.val % 16 = 15) : (outsAt0 m c t.val t.isLt).1 = k0_pay3 (outsAt0 m c t.val t.isLt).2 := by
  rw [outsAt0_C m c t (by omega) h]
  frame_out

/-- The columns written are the second third. -/
theorem covers : ((cfgs 0).win 4).CoversWhere (fun β => β (2 : Fin 3) = 1) := by decide +kernel

/-- The result array is the reference's. -/
theorem final : (dats m 0 c).arrAt 4 (cfgs 0).N = val_main_v15 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_coversWhere_of_agree 4 _ _ covers (fun t hf y => ?_) (fun j hj => ?_)
  · have h := (flush0_4 t).mp hf
    blk_simp
    rw [after0_4, written m c t h]
    have hy : (y 2).val < 1024 := (y 2).isLt
    have e : ((((View.whole main_v0).slice (win0_4.rect t)).emb y 2 : Fin 3072) : ℕ) = 1024 + (y 2).val := by
      blk_point [index t]
    pointwise [k0_pay3, val_main_v15, val_main_v13, val_main_v12, val_main_v11, val_main_v10, val_main_v6, val_main_v5, val_main_v4,
      val_main_v3, val_main_v2, val_main_v1, val_main_cst_0]
    rw [dif_neg (by omega), dif_pos (by omega)]
    refine (carried m c t h _).trans ?_
    unfold part
    refine Fin.sum_mul_add_congr fun s k hl => (mul_comm _ _).trans ?_
    blk_point [iblk, V, index t, index ⟨_, Pipeline.run_point_lt_of_flush t h s⟩]
  · blk_simp [Pipeline.Window.cell_apply] at hj ⊢
    pointwise [val_main_v15, val_main_v9, val_main_v14]
    rw [A_eq]
    by_cases h : (j 2).val < 1024
    · rw [dif_pos h]
      blk_point [V]
    · rw [dif_neg h, dif_neg (by omega)]
      blk_point [V]

end

/-- From the same arguments the kernel and the reference leave the same result. -/
theorem algebraic : Cert.algebraic_AttKeyWeightGradKernelIdeal_AttKeyWeightGradReferenceIdeal := by
  intro m g m' g' _ hargs
  refine ⟨fun c => val_main_v15 (F := Ideal) (m ((c : Thread nD τ).loc main_arg0)) (m ((c : Thread nD τ).loc main_arg1)) (m ((c : Thread nD τ).loc main_arg2)) (m ((c : Thread nD τ).loc main_arg3)) (m ((c : Thread nD τ).loc main_arg4)), ?_, ?_⟩
  · refine (θ_run defs _ _).mono (fun r h c => ?_) (Value.run_blocks (F := Ideal) m g)
    exact ⟨(h c).1.trans (final m c), (h c).2⟩
  · refine (θ_run Cert.AttKeyWeightGradReferenceIdeal.defs _ _).mono (fun r h c => ?_) (Cert.AttKeyWeightGradReferenceIdeal.Value.run (F := Ideal) m' g')
    obtain ⟨e0, e1, e2, e3, e4⟩ := hargs c
    obtain ⟨h0, h1⟩ := h c
    rw [val_main_v15_eq, e0, e1, e2, e3, e4] at h0
    exact ⟨h0, h1⟩

/-- The kernel as written runs to its end, and leaves its arguments and every semaphore as they were. -/
theorem frame_kernel : Cert.quiescent_AttKeyWeightGradKernel := fun m ρ _ => Cert.AttKeyWeightGradKernel.Gen.frame m ρ

/-- So does the kernel at exact arithmetic. -/
theorem frame_ideal : Cert.quiescent_AttKeyWeightGradKernelIdeal := fun m ρ _ => frame m ρ

/-- And the reference. -/
theorem frame_reference : Cert.quiescent_AttKeyWeightGradReferenceIdeal := fun m ρ _ =>
  (θ_run Cert.AttKeyWeightGradReferenceIdeal.defs _ _).mono (fun r h => ⟨fun c => (h c).2, sem_eq_zero_of_no_sems (by decide) r.2⟩)
    (Cert.AttKeyWeightGradReferenceIdeal.Value.run (F := Ideal) m ρ)

theorem preserves : Cert.preserves_AttKeyWeightGradKernel_AttKeyWeightGradKernelIdeal := trivial

end Cert.Proj.AttKeyWeightGrad

end
-- ==== Proof.Proj.AttValueWeightGrad.lean ====
/-
The columns of v's weight in the gradient of the attention's projection: the product of the transposed modulated input with v's gradient,
written over the last third of an array that is handed in, as AttKeyWeightGrad.lean has it of the columns of k.
-/
module

public import proofs.«01_k».proof.Defs
public import proofs.«01_k».proof.Proof.Proj.AttKeyWeightGrad
public import proofs.«01_k».proof.Proof.Gen.AttValueWeightGradKernel.Frame
public import proofs.«01_k».proof.Proof.Gen.AttValueWeightGradKernelIdeal.Value
public import proofs.«01_k».proof.Proof.Gen.AttValueWeightGradReferenceIdeal.Run
public import proofs.«01_k».proof.Proof.Gen.AttValueWeightGradReferenceIdeal.Read
public import Idealize.ShloMosaic.Lib.Pipeline.ValueKit
public import Idealize.ShloMosaic.Lib.Pointwise

@[expose] public section

set_option maxRecDepth 16384

noncomputable section

namespace Cert.Proj.AttValueWeightGrad

open Idealize.ShloMosaic Idealize.ShloMosaic.TcCoe Idealize.SL.Sem
open Cert.AttValueWeightGradKernelIdeal Cert.AttValueWeightGradKernelIdeal.Gen
open Cert.AttValueWeightGradReferenceIdeal.Read

theorem index (t : Fin cfg0.N) : win0_0.index t = ![t.val % 16, 0] ∧ win0_1.index t = ![t.val % 16, 0] ∧ win0_2.index t = ![0, 0]
    ∧ win0_3.index t = ![0, 0] ∧ win0_4.index t = ![0, 0, 2] :=
  (by decide +kernel : ∀ t : Fin grid0.N, win0_0.index t = ![t.val % 16, 0] ∧ win0_1.index t = ![t.val % 16, 0] ∧ win0_2.index t = ![0, 0]
    ∧ win0_3.index t = ![0, 0] ∧ win0_4.index t = ![0, 0, 2]) t

theorem zero_apply (y : S1024x1024.Idx) : k0_pay1 (F := Ideal) y = 0 := AttKeyWeightGrad.zero_apply y

/-- What a point adds. -/
theorem step_apply (v3 : Vec Ideal S512x1024 .f32) (v4 v5 : Vec Ideal S1x1024 .f32) (v12 : Vec Ideal S512x1024 .f32)
    (v13 : Vec Ideal S1024x1024 .f32) (y : S1024x1024.Idx) :
    k0_pay2 v3 v4 v5 v12 v13 y
      = v13 y + ∑ k : Fin 512, (v3 (ix2 k (y 0)) * (1 + v4 (ix2 0 (y 0))) + v5 (ix2 0 (y 0))) * v12 (ix2 k (y 1)) :=
  AttKeyWeightGrad.step_apply v3 v4 v5 v12 v13 y

section
variable (m : (ℓ : Loc nD τ sig) → Buf (Elt Ideal) ℓ) (c : Dev nD)

/-- A point's own positions. -/
def part (t : Fin cfg0.N) (y : S1024x1024.Idx) : EReal :=
  ∑ k : Fin 512, ((show FVec Ideal S512x1024 .f32 from iblk m c 0 t) (ix2 k (y 0))
    * (1 + (show FVec Ideal S1x1024 .f32 from iblk m c 2 t) (ix2 0 (y 0))) + (show FVec Ideal S1x1024 .f32 from iblk m c 3 t) (ix2 0 (y 0)))
    * (show FVec Ideal S512x1024 .f32 from iblk m c 1 t) (ix2 k (y 1))

/-- At the last point of a block the scratch holds the sum over all positions. -/
theorem carried (t : Fin cfg0.N) (h : t.val % 16 = 15) (y : S1024x1024.Idx) :
    (outsAt0 m c t.val t.isLt).2 y = ∑ s : Fin 16, part m c ⟨16 * (t.val / 16) + s.val, Pipeline.run_point_lt_of_flush t h s⟩ y := by
  refine (Pipeline.eq_sum_fin_of_reset_step_apply_of_flush (fun n hn => (outsAt0 m c n hn).2) 16 (fun _ => (0 : EReal)) (part m c)
    (fun t h0 y => ?_) (fun t h0 y => ?_) t h y).trans (zero_add _)
  · rw [outsAt0_A m c t h0 (by omega)]
    frame_out
    rw [step_apply, zero_apply]
    rfl
  · by_cases h1 : t.val % 16 = 15
    · rw [outsAt0_C m c t h0 h1]
      frame_out
      rw [step_apply]
      exact congrArg (· + part m c t y) (congrFun (Memref.IsWhole.read_unread _ _) y)
    · rw [outsAt0_B m c t h0 h1]
      frame_out
      rw [step_apply]
      exact congrArg (· + part m c t y) (congrFun (Memref.IsWhole.read_unread _ _) y)

/-- And the block written is the scratch. -/
theorem written (t : Fin cfg0.N) (h : t.val % 16 = 15) : (outsAt0 m c t.val t.isLt).1 = k0_pay3 (outsAt0 m c t.val t.isLt).2 := by
  rw [outsAt0_C m c t (by omega) h]
  frame_out

/-- The columns written are the last third. -/
theorem covers : ((cfgs 0).win 4).CoversWhere (fun β => β (2 : Fin 3) = 2) := by decide +kernel

/-- The result array is the reference's. -/
theorem final : (dats m 0 c).arrAt 4 (cfgs 0).N = val_main_v14 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_coversWhere_of_agree 4 _ _ covers (fun t hf y => ?_) (fun j hj => ?_)
  · have h := (flush0_4 t).mp hf
    blk_simp
    rw [after0_4, written m c t h]
    have hy : (y 2).val < 1024 := (y 2).isLt
    have e : ((((View.whole main_v0).slice (win0_4.rect t)).emb y 2 : Fin 3072) : ℕ) = 2048 + (y 2).val := by
      blk_point [index t]
    pointwise [k0_pay3, val_main_v14, val_main_v13, val_main_v12, val_main_v11, val_main_v10, val_main_v6, val_main_v5, val_main_v4,
      val_main_v3, val_main_v2, val_main_v1, val_main_cst_0]
    rw [dif_neg (by omega)]
    refine (carried m c t h _).trans ?_
    unfold part
    refine Fin.sum_mul_add_congr fun s k hl => (mul_comm _ _).trans ?_
    blk_point [iblk, V, index t, index ⟨_, Pipeline.run_point_lt_of_flush t h s⟩]
  · blk_simp [Pipeline.Window.cell_apply] at hj ⊢
    pointwise [val_main_v14, val_main_v9]
    rw [A_eq]
    have h2 : (j 2).val < 3072 := (j 2).isLt
    rw [dif_pos (by omega)]
    blk_point [V]

end

/-- From the same arguments the kernel and the reference leave the same result. -/
theorem algebraic : Cert.algebraic_AttValueWeightGradKernelIdeal_AttValueWeightGradReferenceIdeal := by
  intro m g m' g' _ hargs
  refine ⟨fun c => val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg4)), ?_, ?_⟩
  · refine (θ_run defs _ _).mono (fun r h c => ?_) (Value.run_blocks (F := Ideal) m g)
    exact ⟨(h c).1.trans (final m c), (h c).2⟩
  · refine (θ_run Cert.AttValueWeightGradReferenceIdeal.defs _ _).mono (fun r h c => ?_) (Cert.AttValueWeightGradReferenceIdeal.Value.run (F := Ideal) m' g')
    obtain ⟨e0, e1, e2, e3, e4⟩ := hargs c
    obtain ⟨h0, h1⟩ := h c
    rw [val_main_v14_eq, e0, e1, e2, e3, e4] at h0
    exact ⟨h0, h1⟩

/-- The kernel as written runs to its end, and leaves its arguments and every semaphore as they were. -/
theorem frame_kernel : Cert.quiescent_AttValueWeightGradKernel := fun m ρ _ => Cert.AttValueWeightGradKernel.Gen.frame m ρ

/-- So does the kernel at exact arithmetic. -/
theorem frame_ideal : Cert.quiescent_AttValueWeightGradKernelIdeal := fun m ρ _ => frame m ρ

/-- And the reference. -/
theorem frame_reference : Cert.quiescent_AttValueWeightGradReferenceIdeal := fun m ρ _ =>
  (θ_run Cert.AttValueWeightGradReferenceIdeal.defs _ _).mono (fun r h => ⟨fun c => (h c).2, sem_eq_zero_of_no_sems (by decide) r.2⟩)
    (Cert.AttValueWeightGradReferenceIdeal.Value.run (F := Ideal) m ρ)

theorem preserves : Cert.preserves_AttValueWeightGradKernel_AttValueWeightGradKernelIdeal := trivial

end Cert.Proj.AttValueWeightGrad

end
-- ==== Proof.ForwardPoint.lean ====
/-
The forward pass of the attention: what one grid point computes, in the terms of the specification. Its blocks, its bias and its scores
are those of the backward's points; each row of its output is the row's probabilities times the values, head by head.
-/
module

public import proofs.«01_k».proof.Proof.BlockValue
public import proofs.«01_k».proof.Proof.Gen.ForwardKernelIdeal.Value

@[expose] public section

set_option maxRecDepth 16384

noncomputable section

namespace Cert.Att.Forward

open Idealize.ShloMosaic
open Cert.ForwardKernelIdeal Cert.ForwardKernelIdeal.Gen

/-- The attention's output. -/
def specO (a rel : ℕ → ℕ → EReal) (t c : ℕ) : EReal :=
  ∑ j ∈ Finset.range 8192, prob a rel (c / 64) t j * a j (2048 + c)

/-- Weighting with the exponentials and dividing by their sum afterwards is weighting with the probabilities. -/
theorem weighted (n : ℕ) (s v : ℕ → EReal) :
    (∑ j ∈ Finset.range n, rowExp n s j * v j) * Ideal.div 1 (rowSum n s) = ∑ j ∈ Finset.range n, rowP n s j * v j := by
  rcases row_cases n s with h | ⟨L, e, hL, hsum, -⟩
  · rw [Finset.sum_eq_zero fun j hj => by rw [h j (Finset.mem_range.mp hj), zero_mul], zero_mul,
      Finset.sum_eq_zero fun j hj => by rw [rowP, h j (Finset.mem_range.mp hj), zero_mul, zero_mul]]
  · have hr : (0 : ℝ) ≤ 1 / L := by positivity
    rw [hsum, Ideal.div_coe hL.ne', one_mul, mul_comm, mul_sum_of_real hr]
    refine Finset.sum_congr rfl fun j _ => ?_
    rw [rowP, hsum, Ideal.div_coe hL.ne', one_mul]
    ac_rfl

/-- The rows a point stores, from its blocks and the bias of its two heads. -/
def outBlk (i : grid0.Coords) (x : Inp Ideal) (b0 b1 : Vec Ideal S256x768 .f32) : FVec Ideal S256x128 .bf16 :=
  k0_pay1 (k0_pay6 x.v0 x.v1 x.v2)
    (k0_pay12 (k0_pay5 x.k0 x.k1 x.k2) (k0_pay6 x.v0 x.v1 x.v2) (k0_pay7 (F := Ideal) i) (k0_pay8 x.q) (k0_pay9 (F := Ideal)) k0_pay10 b0)
    (k0_pay13 (F := Ideal) (iota .tc S1x128 32 [1] iota_S1x128_d1_w32) k0_pay11)
    (k0_pay14 (k0_pay5 x.k0 x.k1 x.k2) (k0_pay7 (F := Ideal) i) (k0_pay8 x.q) (iota .tc S1x128 32 [1] iota_S1x128_d1_w32) k0_pay11 b1)
    (k0_pay15 (k0_pay5 x.k0 x.k1 x.k2) (k0_pay7 (F := Ideal) i) (k0_pay8 x.q) (iota .tc S1x128 32 [1] iota_S1x128_d1_w32) k0_pay11 b1)

section
variable {a o rel : ℕ → ℕ → EReal} {hp g : ℕ} {x : Inp Ideal} (H : Handed a o rel hp g x)
include H

/-- A query's entry as the forward masks and scales it: the backward's stacked row. -/
theorem query (hd : ℕ) (hhd : hd < 2) (r : Fin 256) (l : Fin 128) :
    x.q (ix2 r l) * ((if l.val / 64 = hd then (1 : EReal) else 0) * scale)
      = Cert.KernelIdeal.Gen.k0_pay24 (Cert.KernelIdeal.Gen.k0_pay18 x.q) lanes Cert.KernelIdeal.Gen.k0_pay19 Cert.KernelIdeal.Gen.k0_pay20
        (ix2 (⟨256 * hd + r.val, by have := r.isLt; omega⟩ : Fin 512) l) := by
  have hr := r.isLt
  rw [H.query, H.q]
  dsimp only
  rw [show (256 * hd + r.val) / 256 = hd by omega, show (256 * hd + r.val) % 256 = r.val by omega]
  by_cases h : l.val / 64 = hd
  · rw [if_pos h, if_pos h, one_mul]
  · rw [if_neg h, if_neg h, zero_mul, mul_zero]

variable {i : grid0.Coords} (hi : seqc i = g)
include hi

/-- The scores of a row of one head. -/
theorem score (hd : ℕ) (hhd : hd < 2) {b : Vec Ideal S256x768 .f32}
    (hb : ∀ (r : Fin 256) (w : Fin 768), b (ix2 r w) = winBias rel (2 * hp + hd) r.val w.val) (r : Fin 256) (w : Fin 768) :
    ∑ l : Fin 128, x.q (ix2 r l) * ((if l.val / 64 = hd then (1 : EReal) else 0) * scale) * k0_pay5 x.k0 x.k1 x.k2 (ix2 w l)
        + b (ix2 r w) + k0_pay7 (F := Ideal) i (ix2 0 w)
      = winScore a rel (2 * hp + hd) g (256 * g + r.val) w.val := by
  have hr := r.isLt
  have h := H.score hi (b := fun j => winBias rel (2 * hp + (j 0).val / 256) ((j 0).val % 256) (j 1).val) (fun _ _ => rfl)
    (⟨256 * hd + r.val, by omega⟩ : Fin 512) w
  dsimp only at h
  rw [show (256 * hd + r.val) / 256 = hd by omega, show (256 * hd + r.val) % 256 = r.val by omega] at h
  rw [← h, hb]
  refine congrArg₂ (· + ·) (congrArg₂ (· + ·) (Finset.sum_congr rfl fun l _ => ?_) ?_) rfl
  · rw [query H hd hhd]; rfl
  · show _ = winBias rel (2 * hp + (256 * hd + r.val) / 256) ((256 * hd + r.val) % 256) w.val
    rw [show (256 * hd + r.val) / 256 = hd by omega, show (256 * hd + r.val) % 256 = r.val by omega]

omit hi in
/-- One head's part of a row of the output. -/
theorem part (hd : ℕ) (hhd : hd < 2) (r : Fin 256) (l : Fin 128) {S : Fin 768 → EReal}
    (hS : ∀ w, S w = winScore a rel (2 * hp + hd) g (256 * g + r.val) w.val) :
    (∑ w : Fin 768, Ideal.exp (S w - Finset.univ.fold max ⊥ S) * k0_pay6 x.v0 x.v1 x.v2 (ix2 w l))
        * ((if l.val / 64 = hd then (1 : EReal) else 0) * Ideal.div 1 (∑ w : Fin 768, Ideal.exp (S w - Finset.univ.fold max ⊥ S)))
      = if l.val / 64 = hd then specO a rel (256 * g + r.val) (128 * hp + l.val) else 0 := by
  have hr := r.isLt
  have hl := l.isLt
  by_cases h : l.val / 64 = hd
  · rw [if_pos h, if_pos h, one_mul]
    obtain rfl : S = fun w : Fin 768 => winScore a rel (2 * hp + hd) g (256 * g + r.val) w.val := funext hS
    have W := winScore_window a rel (h := 2 * hp + hd) (t := 256 * g + r.val) H.g_lt (by omega)
    rw [rowMax_eq_fold]
    let vK : ℕ → EReal := fun w => if h : w < 768 then k0_pay6 x.v0 x.v1 x.v2 (ix2 ⟨w, h⟩ l) else 0
    have hv : ∀ w : Fin 768, vK w.val = k0_pay6 x.v0 x.v1 x.v2 (ix2 w l) := fun w => dif_pos w.isLt
    have e := weighted 768 (winScore a rel (2 * hp + hd) g (256 * g + r.val)) vK
    rw [rowSum, Finset.sum_range, Finset.sum_range (n := 768) (f := fun j => rowExp 768 _ j)] at e
    simp only [hv] at e
    refine Eq.trans e ?_
    rw [specO, show (128 * hp + l.val) / 64 = 2 * hp + hd by omega]
    refine sum_window H.g_lt (fun w hw hs => ?_) (fun w hw hs => ?_) (fun j hj hs => ?_)
    · rw [W.rowP hw hs, hv ⟨w, hw⟩, prob]
      congr 1
      exact H.value ⟨w, hw⟩ l hs
    · rw [W.rowP_before hw hs, zero_mul]
    · rw [prob, W.rowP_outside hj hs, zero_mul]
  · rw [if_neg h, if_neg h, zero_mul, mul_zero]

/-- The rows a point stores are the specification's. -/
theorem out_apply {b0 b1 : Vec Ideal S256x768 .f32}
    (h0 : ∀ (r : Fin 256) (w : Fin 768), b0 (ix2 r w) = winBias rel (2 * hp + 0) r.val w.val)
    (h1 : ∀ (r : Fin 256) (w : Fin 768), b1 (ix2 r w) = winBias rel (2 * hp + 1) r.val w.val) (r : Fin 256) (l : Fin 128) :
    outBlk i x b0 b1 (ix2 r l) = specO a rel (256 * g + r.val) (128 * hp + l.val) := by
  have hl := l.isLt
  have s0 := score H hi 0 (by decide) h0 r
  have s1 := score H hi 1 (by decide) h1 r
  have p0 := part H 0 (by decide) r l s0
  have p1 := part H 1 (by decide) r l s1
  pointwise [outBlk, k0_pay1, k0_pay12, k0_pay13, k0_pay14, k0_pay15, k0_pay8, k0_pay9, k0_pay10, k0_pay11]
  simp only [lanes_zero, lanes_one, number_of_bit]
  rw [ofBits_negInf]
  refine (congrArg₂ (fun p q : EReal => p + q) p0 p1).trans ?_
  by_cases h : l.val / 64 = 0
  · rw [if_pos h, if_neg (by omega), add_zero]
  · rw [if_neg h, if_pos (by omega), zero_add]

end

end Cert.Att.Forward

end
-- ==== Proof.ForwardBlocks.lean ====
/-
The forward pass of the attention: the blocks a grid point is handed, read from the argument arrays.
-/
module

public import proofs.«01_k».proof.Proof.ForwardPoint
public import proofs.«01_k».proof.Proof.Tiles
public import Idealize.ShloMosaic.Lib.Pipeline.ValueKit

@[expose] public section

set_option maxRecDepth 16384

noncomputable section

namespace Cert.Att.Forward

open Idealize.ShloMosaic Idealize.ShloMosaic.TcCoe Idealize.SL.Sem
open Cert.ForwardKernelIdeal Cert.ForwardKernelIdeal.Gen

theorem index (t : Fin cfg0.N) : win0_0.index t = ![t.val % 32, t.val / 32] ∧ win0_1.index t = ![t.val % 32 - 2, 8 + t.val / 32]
    ∧ win0_2.index t = ![t.val % 32 - 1, 8 + t.val / 32] ∧ win0_3.index t = ![t.val % 32, 8 + t.val / 32]
    ∧ win0_4.index t = ![t.val % 32 - 2, 16 + t.val / 32] ∧ win0_5.index t = ![t.val % 32 - 1, 16 + t.val / 32]
    ∧ win0_6.index t = ![t.val % 32, 16 + t.val / 32] ∧ win0_7.index t = ![t.val / 32, 0, 0, 0] ∧ win0_8.index t = ![t.val / 32, 0, 0]
    ∧ win0_9.index t = ![t.val % 32, t.val / 32] ∧ seqc (grid0.coords t) = t.val % 32 :=
  (by decide +kernel : ∀ t : Fin grid0.N, win0_0.index t = ![t.val % 32, t.val / 32] ∧ win0_1.index t = ![t.val % 32 - 2, 8 + t.val / 32]
    ∧ win0_2.index t = ![t.val % 32 - 1, 8 + t.val / 32] ∧ win0_3.index t = ![t.val % 32, 8 + t.val / 32]
    ∧ win0_4.index t = ![t.val % 32 - 2, 16 + t.val / 32] ∧ win0_5.index t = ![t.val % 32 - 1, 16 + t.val / 32]
    ∧ win0_6.index t = ![t.val % 32, 16 + t.val / 32] ∧ win0_7.index t = ![t.val / 32, 0, 0, 0] ∧ win0_8.index t = ![t.val / 32, 0, 0]
    ∧ win0_9.index t = ![t.val % 32, t.val / 32] ∧ (grid0.coords t 1).val = t.val % 32) t

section
variable (m : (ℓ : Loc nD τ sig) → Buf (Elt Ideal) ℓ) (c : Dev nD)

set_option maxHeartbeats 4000000 in
/-- The host side leaves the bias's two tables in the buffers they are read from. -/
theorem tables : V m c main_v51 = hostTiles (F := Ideal) (m ((c : Thread nD τ).loc main_arg1)) ∧ V m c main_v3 = hostClip (F := Ideal) (m ((c : Thread nD τ).loc main_arg1)) := by
  simp only [V, hostOps0, hostOps0_1, hostOps0_2, hostOps0_3, hostOps0_4, hostOps0_5, hostOps0_6, hostOps0_7, hostOps0_8,
    List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  constructor
  · after_results_simp
    rfl
  · after_results_simp
    rfl

/-- The blocks a point reads; it reads no gradient. -/
def inpAt (t : Fin cfg0.N) : Inp Ideal where
  q := iblk m c 0 t
  k0 := iblk m c 1 t
  k1 := iblk m c 2 t
  k2 := iblk m c 3 t
  v0 := iblk m c 4 t
  v1 := iblk m c 5 t
  v2 := iblk m c 6 t
  tiles := iblk m c 7 t
  clip := iblk m c 8 t
  dO := fun _ => 0

variable {a rel : ℕ → ℕ → EReal}
  (ha : ∀ (t : Fin 8192) (k : Fin 3072), m ((c : Thread nD τ).loc main_arg0) (ix2 t k) = a t.val k.val)
  (hr : ∀ (h : Fin 16) (n : Fin 257), m ((c : Thread nD τ).loc main_arg1) (ix2 h n) = rel h.val n.val)

include ha in
/-- An entry of the table of q, k and v, its place given by two numbers. -/
theorem entry (i : main_arg0.ty.shape.Idx) {t k : ℕ} (h0 : (i 0).val = t) (h1 : (i 1).val = k) : V m c main_arg0 i = a t k := by
  subst h0 h1
  rw [V_main_arg0, eq_ix2 i]
  exact ha _ _

/-- An entry of the bias tiles. -/
theorem tile_entry (i : main_v51.ty.shape.Idx) {h : ℕ} (hh : h < 16) {k : Fin 2} {r w : Fin 128} (h0 : (i 0).val = h)
    (h1 : (i 1).val = k.val) (h2 : (i 2).val = r.val) (h3 : (i 3).val = w.val) :
    V m c main_v51 i = hostTiles (F := Ideal) (m ((c : Thread nD τ).loc main_arg1)) (ix4 ⟨h, hh⟩ k r w) := by
  rw [(tables m c).1]
  refine congrArg _ (funext fun b => Fin.ext ?_)
  match b with
  | ⟨0, _⟩ => exact h0
  | ⟨1, _⟩ => exact h1
  | ⟨2, _⟩ => exact h2
  | ⟨3, _⟩ => exact h3

/-- An entry of the bias past the clipping distance. -/
theorem clip_entry (i : main_v3.ty.shape.Idx) {h : ℕ} (hh : h < 16) {w : Fin 128} (h0 : (i 0).val = h) (h1 : (i 1).val = 0)
    (h2 : (i 2).val = w.val) : V m c main_v3 i = hostClip (F := Ideal) (m ((c : Thread nD τ).loc main_arg1)) (ix3 ⟨h, hh⟩ 0 w) := by
  rw [(tables m c).2]
  refine congrArg _ (funext fun b => Fin.ext ?_)
  match b with
  | ⟨0, _⟩ => exact h0
  | ⟨1, _⟩ => exact h1
  | ⟨2, _⟩ => exact h2

/-- A point's heads. -/
theorem head_lt (t : Fin cfg0.N) (hd : Fin 2) : 2 * (t.val / 32) + hd.val < 16 := by
  have := t.isLt
  have : cfg0.N = 256 := N_0
  have := hd.isLt
  omega

set_option maxHeartbeats 4000000 in
include ha hr in
/-- Every point is handed the blocks of its heads and its queries. -/
theorem handed (t : Fin cfg0.N) : Handed a (fun _ _ => 0) rel (t.val / 32) (t.val % 32) (inpAt m c t) where
  hp_lt := by have := t.isLt; have : cfg0.N = 256 := N_0; omega
  g_lt := Nat.mod_lt _ (by decide)
  q r l := by
    show iblk m c 0 t (ix2 r l) = _
    blk_simp [iblk]
    refine entry m c ha _ ?_ ?_ <;> blk_simp [index t] <;> omega
  k0 hg r l := by
    show iblk m c 1 t (ix2 r l) = _
    blk_simp [iblk]
    refine entry m c ha _ ?_ ?_ <;> blk_simp [index t] <;> omega
  k1 hg r l := by
    show iblk m c 2 t (ix2 r l) = _
    blk_simp [iblk]
    refine entry m c ha _ ?_ ?_ <;> blk_simp [index t] <;> omega
  k2 r l := by
    show iblk m c 3 t (ix2 r l) = _
    blk_simp [iblk]
    refine entry m c ha _ ?_ ?_ <;> blk_simp [index t] <;> omega
  v0 hg r l := by
    show iblk m c 4 t (ix2 r l) = _
    blk_simp [iblk]
    refine entry m c ha _ ?_ ?_ <;> blk_simp [index t] <;> omega
  v1 hg r l := by
    show iblk m c 5 t (ix2 r l) = _
    blk_simp [iblk]
    refine entry m c ha _ ?_ ?_ <;> blk_simp [index t] <;> omega
  v2 r l := by
    show iblk m c 6 t (ix2 r l) = _
    blk_simp [iblk]
    refine entry m c ha _ ?_ ?_ <;> blk_simp [index t] <;> omega
  tile0 hd r w := by
    show iblk m c 7 t (ix4 hd 0 r w) = _
    blk_simp [iblk]
    refine (tile_entry m c _ (head_lt t hd) (k := 0) (r := r) (w := w) ?_ ?_ ?_ ?_).trans
      (hostTiles_zero hr ⟨_, head_lt t hd⟩ r w) <;> blk_simp [index t] <;> omega
  tile1 hd r w hs := by
    show iblk m c 7 t (ix4 hd 1 r w) = _
    blk_simp [iblk]
    refine (tile_entry m c _ (head_lt t hd) (k := 1) (r := r) (w := w) ?_ ?_ ?_ ?_).trans
      (hostTiles_one hr ⟨_, head_lt t hd⟩ r w hs) <;> blk_simp [index t] <;> omega
  clip hd w := by
    show iblk m c 8 t (ix3 hd 0 w) = _
    blk_simp [iblk]
    refine (clip_entry m c _ (head_lt t hd) (w := w) ?_ ?_ ?_).trans (hostClip_apply hr ⟨_, head_lt t hd⟩ w)
      <;> blk_simp [index t] <;> omega
  dO _ _ := rfl

end

end Cert.Att.Forward

end
-- ==== Proof.Forward.lean ====
/-
The forward pass of the attention: the output, a block of 256 rows and two heads at a point, from the queries, the keys and values of
the block and the two before it, and the bias the first point of each pair of heads lays out in the scratch.
-/
module

public import proofs.«01_k».proof.Defs
public import proofs.«01_k».proof.Proof.ForwardBlocks
public import proofs.«01_k».proof.Proof.Algebraic
public import proofs.«01_k».proof.Proof.Gen.ForwardKernel.Frame
public import proofs.«01_k».proof.Proof.Gen.ForwardReferenceIdeal.Run
public import proofs.«01_k».proof.Proof.Gen.ForwardReferenceIdeal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Att.Forward

open Idealize.ShloMosaic Idealize.ShloMosaic.TcCoe Idealize.SL.Sem
open Cert.ForwardKernelIdeal Cert.ForwardKernelIdeal.Gen

section
variable (m : (ℓ : Loc nD τ sig) → Buf (Elt Ideal) ℓ) (c : Dev nD) {a rel : ℕ → ℕ → EReal}
  (ha : ∀ (t : Fin 8192) (k : Fin 3072), m ((c : Thread nD τ).loc main_arg0) (ix2 t k) = a t.val k.val)
  (hr : ∀ (h : Fin 16) (n : Fin 257), m ((c : Thread nD τ).loc main_arg1) (ix2 h n) = rel h.val n.val)

/-- The stores that lay the bias out, the last first. -/
def laidPieces (x : Inp Ideal) : List (View.Piece (Elt Ideal) S512x768 .f32) :=
  [⟨Rect.unit ![256, 0] ![256, 768] inb_S512x768_S256x768_256_0,
      k0_pay4 (F := Ideal) (k0_pay3 (View.ld x.tiles (Rect.unit ![1, 0, 0, 0] ![1, 2, 128, 128] inb_S2x2x128x128_S1x2x128x128_1_0_0_0)))
        (View.ld x.clip (Rect.unit ![1, 0, 0] ![1, 1, 128] inb_S2x1x128_S1x1x128_1_0_0))⟩,
    ⟨Rect.unit ![0, 0] ![256, 768] inb_S512x768_S256x768_0_0,
      k0_pay2 (F := Ideal) (View.ld x.tiles (Rect.unit ![0, 0, 0, 0] ![1, 2, 128, 128] inb_S2x2x128x128_S1x2x128x128_0_0_0_0))
        (View.ld x.clip (Rect.unit ![0, 0, 0] ![1, 1, 128] inb_S2x1x128_S1x1x128_0_0_0))⟩]

set_option maxHeartbeats 1000000 in
include ha hr in
/-- The first point of a pair of heads lays the bias out. -/
theorem laid (t : Fin cfg0.N) (h : t.val % 32 = 0) : HoldsBias rel (t.val / 32) (outsAt0 m c t.val t.isLt).2 := by
  have H := handed m c ha hr t
  have et : ∀ (hd k : Fin 2) (inb) (r w : Fin 128),
      View.ld (inpAt m c t).tiles (Rect.unit (s := S2x2x128x128) ![hd.val, 0, 0, 0] ![1, 2, 128, 128] inb) (ix4 0 k r w) = (inpAt m c t).tiles (ix4 hd k r w) := by
    intro hd k inb r w
    refine congrArg (inpAt m c t).tiles (funext fun a => Fin.ext ?_)
    match a with
    | ⟨0, _⟩ => show hd.val + 1 * 0 = hd.val; omega
    | ⟨1, _⟩ => show 0 + 1 * k.val = k.val; omega
    | ⟨2, _⟩ => show 0 + 1 * r.val = r.val; omega
    | ⟨3, _⟩ => show 0 + 1 * w.val = w.val; omega
  have ec : ∀ (hd : Fin 2) (inb) (w : Fin 128),
      View.ld (inpAt m c t).clip (Rect.unit (s := S2x1x128) ![hd.val, 0, 0] ![1, 1, 128] inb) (ix3 0 0 w) = (inpAt m c t).clip (ix3 hd 0 w) := by
    intro hd inb w
    refine congrArg (inpAt m c t).clip (funext fun a => Fin.ext ?_)
    match a with
    | ⟨0, _⟩ => show hd.val + 1 * 0 = hd.val; omega
    | ⟨1, _⟩ => rfl
    | ⟨2, _⟩ => show 0 + 1 * w.val = w.val; omega
  intro R w
  have hR := R.isLt
  rw [outsAt0_A m c t h]
  dsimp only
  frame_out
  canon_tiles x hx
  · rw [show R.val / 256 = 1 by change R.val = _ at hx0; omega, show R.val % 256 = (x 0).val by change R.val = _ at hx0; omega,
      show w.val = (x 1).val from hx1, eq_ix2 x]
    exact headBias_apply (rel := rel) (h := 2 * (t.val / 32) + 1) _ _ (fun r w => (et 1 0 _ r w).trans (H.tile0 1 r w))
      (fun r w hs => (et 1 1 _ r w).trans (H.tile1 1 r w hs)) (fun w => (ec 1 _ w).trans (H.clip 1 w)) (x 0) (x 1)
  · rw [show R.val / 256 = 0 by change R.val = _ at hx0; omega, show R.val % 256 = (x 0).val by change R.val = _ at hx0; omega,
      show w.val = (x 1).val from hx1, eq_ix2 x]
    exact headBias_apply (rel := rel) (h := 2 * (t.val / 32) + 0) _ _ (fun r w => (et 0 0 _ r w).trans (H.tile0 0 r w))
      (fun r w hs => (et 0 1 _ r w).trans (H.tile1 0 r w hs)) (fun w => (ec 0 _ w).trans (H.clip 0 w)) (x 0) (x 1)

include ha hr in
/-- The bias stays in the scratch while the pair's points run. -/
theorem holds : ∀ (n : ℕ) (hn : n < cfg0.N), HoldsBias rel (n / 32) (outsAt0 m c n hn).2 := by
  intro n
  induction n with
  | zero => exact fun hn => laid m c ha hr ⟨0, hn⟩ rfl
  | succ n ih =>
    intro hn
    by_cases h : (n + 1) % 32 = 0
    · exact laid m c ha hr ⟨n + 1, hn⟩ h
    · have e : (outsAt0 m c (n + 1) hn).2 = (outsAt0 m c n (by omega)).2 := by
        rw [outsAt0_B m c ⟨n + 1, hn⟩ h]
        rfl
      rw [e, show (n + 1) / 32 = n / 32 by omega]
      exact ih (by omega)

/-- The scratch's rows of the first head, and of the second. -/
abbrev rows0 (b : Vec Ideal S512x768 .f32) : Vec Ideal S256x768 .f32 :=
  View.ld b (Rect.unit ![0, 0] ![256, 768] inb_S512x768_S256x768_0_0)

abbrev rows1 (b : Vec Ideal S512x768 .f32) : Vec Ideal S256x768 .f32 :=
  View.ld b (Rect.unit ![256, 0] ![256, 768] inb_S512x768_S256x768_256_0)

set_option maxHeartbeats 2000000 in
/-- What a point stores, from its blocks and the scratch it leaves: where it lays the bias out. -/
theorem stored_first (t : Fin cfg0.N) (h : t.val % 32 = 0) : (outsAt0 m c t.val t.isLt).1
    = outBlk (grid0.coords t) (inpAt m c t) (rows0 (outsAt0 m c t.val t.isLt).2) (rows1 (outsAt0 m c t.val t.isLt).2) := by
  have e : (outsAt0 m c t.val t.isLt).2 = View.canon (laidPieces (inpAt m c t)) := by
    rw [outsAt0_A m c t h]
    dsimp only
    frame_out
    rfl
  rw [e]
  generalize hz : outBlk _ _ _ _ = z
  rw [outsAt0_A m c t h]
  dsimp only
  frame_out
  rw [View.readCov_eq_canon', View.readCov_eq_canon', ← hz, outBlk]
  rfl

set_option maxHeartbeats 2000000 in
/-- And where it finds it. -/
theorem stored_later (t : Fin cfg0.N) (h : ¬t.val % 32 = 0) : (outsAt0 m c t.val t.isLt).1
    = outBlk (grid0.coords t) (inpAt m c t) (rows0 (outsAt0 m c t.val t.isLt).2) (rows1 (outsAt0 m c t.val t.isLt).2) := by
  have e : (outsAt0 m c t.val t.isLt).2 = (outsAt0 m c (t.val - 1) (by omega)).2 := by
    rw [outsAt0_B m c t h]
    rfl
  rw [e]
  generalize hz : outBlk _ _ _ _ = z
  rw [outsAt0_B m c t h]
  dsimp only
  frame_out
  rw [read_unread_whole, ← hz, outBlk]
  rfl

section
variable {hp : ℕ} {b : Vec Ideal S512x768 .f32} (hb : HoldsBias rel hp b)
include hb

theorem first_rows (r : Fin 256) (w : Fin 768) : rows0 b (ix2 r w) = winBias rel (2 * hp + 0) r.val w.val := by
  have hr := r.isLt
  have e : rows0 b (ix2 r w) = b (ix2 (⟨r.val, by omega⟩ : Fin 512) w) := by
    refine congrArg b (funext fun k => Fin.ext ?_)
    match k with
    | ⟨0, _⟩ => show 0 + 1 * r.val = r.val; omega
    | ⟨1, _⟩ => show 0 + 1 * w.val = w.val; omega
  rw [e, hb]
  dsimp only
  rw [show r.val / 256 = 0 by omega, show r.val % 256 = r.val by omega]

theorem second_rows (r : Fin 256) (w : Fin 768) : rows1 b (ix2 r w) = winBias rel (2 * hp + 1) r.val w.val := by
  have hr := r.isLt
  have e : rows1 b (ix2 r w) = b (ix2 (⟨256 + r.val, by omega⟩ : Fin 512) w) := by
    refine congrArg b (funext fun k => Fin.ext ?_)
    match k with
    | ⟨0, _⟩ => show 256 + 1 * r.val = 256 + r.val; omega
    | ⟨1, _⟩ => show 0 + 1 * w.val = w.val; omega
  rw [e, hb]
  dsimp only
  rw [show (256 + r.val) / 256 = 1 by omega, show (256 + r.val) % 256 = r.val by omega]

end

include ha hr in
/-- The result array is the specification's. -/
theorem final : (dats m 0 c).arrAt 9 (cfgs 0).N = fun i => specO a rel (i 0).val (i 1).val := by
  refine (dats m 0 c).arrAt_eq_of_covers 9 _ (by decide +kernel) fun t _ y => ?_
  blk_simp
  rw [after0_9]
  have hs : (outsAt0 m c t.val t.isLt).1
      = outBlk (grid0.coords t) (inpAt m c t) (rows0 (outsAt0 m c t.val t.isLt).2) (rows1 (outsAt0 m c t.val t.isLt).2) := by
    by_cases h : t.val % 32 = 0
    · exact stored_first m c t h
    · exact stored_later m c t h
  rw [hs]
  have hb := holds m c ha hr t.val t.isLt
  have hy0 : (y 0).val < 256 := (y 0).isLt
  have hy1 : (y 1).val < 128 := (y 1).isLt
  have e := out_apply (handed m c ha hr t) (index t).2.2.2.2.2.2.2.2.2.2 (b0 := rows0 (outsAt0 m c t.val t.isLt).2)
    (b1 := rows1 (outsAt0 m c t.val t.isLt).2) (first_rows hb) (second_rows hb) ⟨(y 0).val, hy0⟩ ⟨(y 1).val, hy1⟩
  refine (congrArg _ (funext fun k => Fin.ext (by fin_cases k <;> rfl))).trans (e.trans ?_)
  simp only [index t]
  show specO a rel (256 * (t.val % 32) + (y 0).val) (128 * (t.val / 32) + (y 1).val)
    = specO a rel (t.val % 32 * 256 + (y 0).val) (t.val / 32 * 128 + (y 1).val)
  rw [mul_comm 256, mul_comm 128]

end

/-! ### The reference -/

section
variable {x0 : FVec Ideal Cert.ReferenceIdeal.S8192x3072 .bf16} {x1 : FVec Ideal Cert.ReferenceIdeal.S16x257 .f32}
  {a rel : ℕ → ℕ → EReal} (ha : ∀ (t : Fin 8192) (c : Fin 3072), x0 (ix2 t c) = a t.val c.val)
  (hr : ∀ (h : Fin 16) (n : Fin 257), x1 (ix2 h n) = rel h.val n.val)

open Cert.ForwardReferenceIdeal.Read

/-- The reference's probabilities and values are those the backward's reference starts from. -/
theorem shared (x0 : FVec Ideal Cert.ReferenceIdeal.S8192x3072 .bf16) (x1 : FVec Ideal Cert.ReferenceIdeal.S16x257 .f32) :
    val_main_v42 (F := Ideal) x0 x1 = Cert.ReferenceIdeal.Read.val_main_v50 (F := Ideal) x0 x1
      ∧ val_main_v44 (F := Ideal) x0 = Cert.ReferenceIdeal.Read.val_main_v52 (F := Ideal) x0 := ⟨rfl, rfl⟩

include ha hr in
/-- The reference's output is the specification's. -/
theorem reference_apply (t : Fin 8192) (c : Fin 1024) : val_main_v48 (F := Ideal) x0 x1 (ix2 t c) = specO a rel t.val c.val := by
  have hc := c.isLt
  have ht := t.isLt
  pointwise [val_main_v48, val_main_v47, val_main_v46, val_main_v45]
  rw [specO, Finset.sum_range]
  refine Finset.sum_congr (M := EReal) rfl fun j _ => congrArg₂ (fun p q : EReal => p * q) ?_ ?_
  · rw [(shared x0 x1).1]
    exact Ref.prob_apply ha hr ⟨c.val / 64, by omega⟩ t j
  · rw [(shared x0 x1).2]
    refine (Ref.v_apply ha ⟨c.val / 64, by omega⟩ j ⟨c.val % 64, by omega⟩).trans ?_
    show a j.val (2048 + (64 * (c.val / 64) + c.val % 64)) = _
    rw [Nat.div_add_mod]

end

/-! ### The claims -/

section
variable (m : (ℓ : Loc nD τ sig) → Buf (Elt Ideal) ℓ) (c : Dev nD)

/-- The table of q, k and v. -/
def argA : ℕ → ℕ → EReal := numbered (n := 8192) (k := 3072) (m ((c : Thread nD τ).loc main_arg0))

/-- The bias table. -/
def argR : ℕ → ℕ → EReal := numbered (n := 16) (k := 257) (m ((c : Thread nD τ).loc main_arg1))

end

/-- From the same arguments the kernel and the reference leave the same output. -/
theorem algebraic : Cert.algebraic_ForwardKernelIdeal_ForwardReferenceIdeal := by
  intro m g m' g' _ hargs
  refine ⟨fun c i => specO (argA m c) (argR m c) (i 0).val (i 1).val, ?_, ?_⟩
  · refine (θ_run defs _ _).mono (fun r h c => ?_) (Value.run_blocks (F := Ideal) m g)
    exact ⟨(h c).1.trans (final m c (numbered_apply (n := 8192) (k := 3072) (m ((c : Thread nD τ).loc main_arg0)))
      (numbered_apply (n := 16) (k := 257) (m ((c : Thread nD τ).loc main_arg1)))), (h c).2⟩
  · refine (θ_run Cert.ForwardReferenceIdeal.defs _ _).mono (fun r h c => ?_) (Cert.ForwardReferenceIdeal.Value.run (F := Ideal) m' g')
    obtain ⟨e0, e1⟩ := hargs c
    obtain ⟨h0, h1⟩ := h c
    rw [Cert.ForwardReferenceIdeal.Read.val_main_v48_eq, e0, e1] at h0
    exact ⟨h0.trans (funext fun i => (congrArg _ (eq_ix2 i)).trans
      (reference_apply (numbered_apply (n := 8192) (k := 3072) (m ((c : Thread nD τ).loc main_arg0)))
        (numbered_apply (n := 16) (k := 257) (m ((c : Thread nD τ).loc main_arg1))) (i 0) (i 1))), h1⟩

/-- The kernel as written runs to its end, and leaves its arguments and every semaphore as they were. -/
theorem frame_kernel : Cert.quiescent_ForwardKernel := fun m ρ _ => Cert.ForwardKernel.Gen.frame m ρ

/-- So does the kernel at exact arithmetic. -/
theorem frame_ideal : Cert.quiescent_ForwardKernelIdeal := fun m ρ _ => frame m ρ

/-- And the reference. -/
theorem frame_reference : Cert.quiescent_ForwardReferenceIdeal := fun m ρ _ =>
  (θ_run Cert.ForwardReferenceIdeal.defs _ _).mono (fun r h => ⟨fun c => (h c).2, sem_eq_zero_of_no_sems (by decide) r.2⟩)
    (Cert.ForwardReferenceIdeal.Value.run (F := Ideal) m ρ)

/-- The mask's constant: read as minus infinity where arithmetic is exact. -/
theorem preserves : Cert.preserves_ForwardKernel_ForwardKernelIdeal :=
  IdealRules.named_const.statement _ _ _ _ _ rfl

end Cert.Att.Forward

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.HiddenGradKernel
public import proofs.«01_k».proof.Proof.Gen.HiddenGradKernel.Skeleton
public import proofs.«01_k».proof.Proof.Gen.HiddenGradKernel.Launch
public import proofs.«01_k».proof.Proof.Gen.HiddenGradKernel.Points
public import proofs.«01_k».proof.Proof.Gen.HiddenGradKernel.Frame
public import proofs.«01_k».proof.Proof.Gen.HiddenGradKernelIdeal
public import proofs.«01_k».proof.Proof.Gen.HiddenGradKernelIdeal.Skeleton
public import proofs.«01_k».proof.Proof.Gen.HiddenGradKernelIdeal.Launch
public import proofs.«01_k».proof.Proof.Gen.HiddenGradKernelIdeal.Points
public import proofs.«01_k».proof.Proof.Gen.HiddenGradKernelIdeal.Frame
public import proofs.«01_k».proof.Proof.Gen.HiddenGradKernelIdeal.Value
public import proofs.«01_k».proof.Proof.Gen.HiddenGradReferenceIdeal
public import proofs.«01_k».proof.Proof.Gen.HiddenGradReferenceIdeal.Run
public import proofs.«01_k».proof.Proof.Gen.HiddenGradReferenceIdeal.Read
public import proofs.«01_k».proof.Proof.Gen.InputGradKernel
public import proofs.«01_k».proof.Proof.Gen.InputGradKernel.Skeleton
public import proofs.«01_k».proof.Proof.Gen.InputGradKernel.Launch
public import proofs.«01_k».proof.Proof.Gen.InputGradKernel.Points
public import proofs.«01_k».proof.Proof.Gen.InputGradKernel.Frame
public import proofs.«01_k».proof.Proof.Gen.InputGradKernelIdeal
public import proofs.«01_k».proof.Proof.Gen.InputGradKernelIdeal.Skeleton
public import proofs.«01_k».proof.Proof.Gen.InputGradKernelIdeal.Launch
public import proofs.«01_k».proof.Proof.Gen.InputGradKernelIdeal.Points
public import proofs.«01_k».proof.Proof.Gen.InputGradKernelIdeal.Frame
public import proofs.«01_k».proof.Proof.Gen.InputGradKernelIdeal.Value
public import proofs.«01_k».proof.Proof.Gen.InputGradReferenceIdeal
public import proofs.«01_k».proof.Proof.Gen.InputGradReferenceIdeal.Run
public import proofs.«01_k».proof.Proof.Gen.InputGradReferenceIdeal.Read
public import proofs.«01_k».proof.Proof.Gen.DownGradKernel
public import proofs.«01_k».proof.Proof.Gen.DownGradKernel.Skeleton
public import proofs.«01_k».proof.Proof.Gen.DownGradKernel.Launch
public import proofs.«01_k».proof.Proof.Gen.DownGradKernel.Points
public import proofs.«01_k».proof.Proof.Gen.DownGradKernel.Frame
public import proofs.«01_k».proof.Proof.Gen.DownGradKernelIdeal
public import proofs.«01_k».proof.Proof.Gen.DownGradKernelIdeal.Skeleton
public import proofs.«01_k».proof.Proof.Gen.DownGradKernelIdeal.Launch
public import proofs.«01_k».proof.Proof.Gen.DownGradKernelIdeal.Points
public import proofs.«01_k».proof.Proof.Gen.DownGradKernelIdeal.Frame
public import proofs.«01_k».proof.Proof.Gen.DownGradKernelIdeal.Value
public import proofs.«01_k».proof.Proof.Gen.DownGradReferenceIdeal
public import proofs.«01_k».proof.Proof.Gen.DownGradReferenceIdeal.Run
public import proofs.«01_k».proof.Proof.Gen.DownGradReferenceIdeal.Read
public import proofs.«01_k».proof.Proof.Gen.UpGradKernel
public import proofs.«01_k».proof.Proof.Gen.UpGradKernel.Skeleton
public import proofs.«01_k».proof.Proof.Gen.UpGradKernel.Launch
public import proofs.«01_k».proof.Proof.Gen.UpGradKernel.Points
public import proofs.«01_k».proof.Proof.Gen.UpGradKernel.Frame
public import proofs.«01_k».proof.Proof.Gen.UpGradKernelIdeal
public import proofs.«01_k».proof.Proof.Gen.UpGradKernelIdeal.Skeleton
public import proofs.«01_k».proof.Proof.Gen.UpGradKernelIdeal.Launch
public import proofs.«01_k».proof.Proof.Gen.UpGradKernelIdeal.Points
public import proofs.«01_k».proof.Proof.Gen.UpGradKernelIdeal.Frame
public import proofs.«01_k».proof.Proof.Gen.UpGradKernelIdeal.Value
public import proofs.«01_k».proof.Proof.Gen.UpGradReferenceIdeal
public import proofs.«01_k».proof.Proof.Gen.UpGradReferenceIdeal.Run
public import proofs.«01_k».proof.Proof.Gen.UpGradReferenceIdeal.Read
public import proofs.«01_k».proof.Proof.Gen.UpKernel
public import proofs.«01_k».proof.Proof.Gen.UpKernel.Skeleton
public import proofs.«01_k».proof.Proof.Gen.UpKernel.Launch
public import proofs.«01_k».proof.Proof.Gen.UpKernel.Points
public import proofs.«01_k».proof.Proof.Gen.UpKernel.Frame
public import proofs.«01_k».proof.Proof.Gen.UpKernelIdeal
public import proofs.«01_k».proof.Proof.Gen.UpKernelIdeal.Skeleton
public import proofs.«01_k».proof.Proof.Gen.UpKernelIdeal.Launch
public import proofs.«01_k».proof.Proof.Gen.UpKernelIdeal.Points
public import proofs.«01_k».proof.Proof.Gen.UpKernelIdeal.Frame
public import proofs.«01_k».proof.Proof.Gen.UpKernelIdeal.Value
public import proofs.«01_k».proof.Proof.Gen.UpReferenceIdeal
public import proofs.«01_k».proof.Proof.Gen.UpReferenceIdeal.Run
public import proofs.«01_k».proof.Proof.Gen.UpReferenceIdeal.Read
public import proofs.«01_k».proof.Proof.Gen.DownKernel
public import proofs.«01_k».proof.Proof.Gen.DownKernel.Skeleton
public import proofs.«01_k».proof.Proof.Gen.DownKernel.Launch
public import proofs.«01_k».proof.Proof.Gen.DownKernel.Points
public import proofs.«01_k».proof.Proof.Gen.DownKernel.Frame
public import proofs.«01_k».proof.Proof.Gen.DownKernelIdeal
public import proofs.«01_k».proof.Proof.Gen.DownKernelIdeal.Skeleton
public import proofs.«01_k».proof.Proof.Gen.DownKernelIdeal.Launch
public import proofs.«01_k».proof.Proof.Gen.DownKernelIdeal.Points
public import proofs.«01_k».proof.Proof.Gen.DownKernelIdeal.Frame
public import proofs.«01_k».proof.Proof.Gen.DownKernelIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutKernelIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.AttProjKernel
public import proofs.«01_k».proof.Proof.Gen.AttProjKernel.Skeleton
public import proofs.«01_k».proof.Proof.Gen.AttProjKernel.Launch
public import proofs.«01_k».proof.Proof.Gen.AttProjKernel.Points
public import proofs.«01_k».proof.Proof.Gen.AttProjKernel.Frame
public import proofs.«01_k».proof.Proof.Gen.AttProjKernelIdeal
public import proofs.«01_k».proof.Proof.Gen.AttProjKernelIdeal.Skeleton
public import proofs.«01_k».proof.Proof.Gen.AttProjKernelIdeal.Launch
public import proofs.«01_k».proof.Proof.Gen.AttProjKernelIdeal.Points
public import proofs.«01_k».proof.Proof.Gen.AttProjKernelIdeal.Frame
public import proofs.«01_k».proof.Proof.Gen.AttProjKernelIdeal.Value
public import proofs.«01_k».proof.Proof.Gen.AttProjReferenceIdeal
public import proofs.«01_k».proof.Proof.Gen.AttProjReferenceIdeal.Run
public import proofs.«01_k».proof.Proof.Gen.AttProjReferenceIdeal.Read
public import proofs.«01_k».proof.Proof.Gen.GlaProjKernel
public import proofs.«01_k».proof.Proof.Gen.GlaProjKernel.Skeleton
public import proofs.«01_k».proof.Proof.Gen.GlaProjKernel.Launch
public import proofs.«01_k».proof.Proof.Gen.GlaProjKernel.Points
public import proofs.«01_k».proof.Proof.Gen.GlaProjKernel.Frame
public import proofs.«01_k».proof.Proof.Gen.GlaProjKernelIdeal
public import proofs.«01_k».proof.Proof.Gen.GlaProjKernelIdeal.Skeleton
public import proofs.«01_k».proof.Proof.Gen.GlaProjKernelIdeal.Launch
public import proofs.«01_k».proof.Proof.Gen.GlaProjKernelIdeal.Points
public import proofs.«01_k».proof.Proof.Gen.GlaProjKernelIdeal.Frame
public import proofs.«01_k».proof.Proof.Gen.GlaProjKernelIdeal.Value
public import proofs.«01_k».proof.Proof.Gen.GlaProjReferenceIdeal
public import proofs.«01_k».proof.Proof.Gen.GlaProjReferenceIdeal.Run
public import proofs.«01_k».proof.Proof.Gen.GlaProjReferenceIdeal.Read
public import proofs.«01_k».proof.Proof.Gen.AttOutGradKernel
public import proofs.«01_k».proof.Proof.Gen.AttOutGradKernel.Skeleton
public import proofs.«01_k».proof.Proof.Gen.AttOutGradKernel.Launch
public import proofs.«01_k».proof.Proof.Gen.AttOutGradKernel.Points
public import proofs.«01_k».proof.Proof.Gen.AttOutGradKernel.Frame
public import proofs.«01_k».proof.Proof.Gen.AttOutGradKernelIdeal
public import proofs.«01_k».proof.Proof.Gen.AttOutGradKernelIdeal.Skeleton
public import proofs.«01_k».proof.Proof.Gen.AttOutGradKernelIdeal.Launch
public import proofs.«01_k».proof.Proof.Gen.AttOutGradKernelIdeal.Points
public import proofs.«01_k».proof.Proof.Gen.AttOutGradKernelIdeal.Frame
public import proofs.«01_k».proof.Proof.Gen.AttOutGradKernelIdeal.Value
public import proofs.«01_k».proof.Proof.Gen.AttOutGradReferenceIdeal
public import proofs.«01_k».proof.Proof.Gen.AttOutGradReferenceIdeal.Run
public import proofs.«01_k».proof.Proof.Gen.AttOutGradReferenceIdeal.Read
public import proofs.«01_k».proof.Proof.Gen.GlaOutGradKernel
public import proofs.«01_k».proof.Proof.Gen.GlaOutGradKernel.Skeleton
public import proofs.«01_k».proof.Proof.Gen.GlaOutGradKernel.Launch
public import proofs.«01_k».proof.Proof.Gen.GlaOutGradKernel.Points
public import proofs.«01_k».proof.Proof.Gen.GlaOutGradKernel.Frame
public import proofs.«01_k».proof.Proof.Gen.GlaOutGradKernelIdeal
public import proofs.«01_k».proof.Proof.Gen.GlaOutGradKernelIdeal.Skeleton
public import proofs.«01_k».proof.Proof.Gen.GlaOutGradKernelIdeal.Launch
public import proofs.«01_k».proof.Proof.Gen.GlaOutGradKernelIdeal.Points
public import proofs.«01_k».proof.Proof.Gen.GlaOutGradKernelIdeal.Frame
public import proofs.«01_k».proof.Proof.Gen.GlaOutGradKernelIdeal.Value
public import proofs.«01_k».proof.Proof.Gen.GlaOutGradReferenceIdeal
public import proofs.«01_k».proof.Proof.Gen.GlaOutGradReferenceIdeal.Run
public import proofs.«01_k».proof.Proof.Gen.GlaOutGradReferenceIdeal.Read
public import proofs.«01_k».proof.Proof.Gen.OutWeightGradKernel
public import proofs.«01_k».proof.Proof.Gen.OutWeightGradKernel.Skeleton
public import proofs.«01_k».proof.Proof.Gen.OutWeightGradKernel.Launch
public import proofs.«01_k».proof.Proof.Gen.OutWeightGradKernel.Points
public import proofs.«01_k».proof.Proof.Gen.OutWeightGradKernel.Frame
public import proofs.«01_k».proof.Proof.Gen.OutWeightGradKernelIdeal
public import proofs.«01_k».proof.Proof.Gen.OutWeightGradKernelIdeal.Skeleton
public import proofs.«01_k».proof.Proof.Gen.OutWeightGradKernelIdeal.Launch
public import proofs.«01_k».proof.Proof.Gen.OutWeightGradKernelIdeal.Points
public import proofs.«01_k».proof.Proof.Gen.OutWeightGradKernelIdeal.Frame
public import proofs.«01_k».proof.Proof.Gen.OutWeightGradKernelIdeal.Value
public import proofs.«01_k».proof.Proof.Gen.OutWeightGradReferenceIdeal
public import proofs.«01_k».proof.Proof.Gen.OutWeightGradReferenceIdeal.Run
public import proofs.«01_k».proof.Proof.Gen.OutWeightGradReferenceIdeal.Read
public import proofs.«01_k».proof.Proof.Gen.GlaProjGradKernel
public import proofs.«01_k».proof.Proof.Gen.GlaProjGradKernel.Skeleton
public import proofs.«01_k».proof.Proof.Gen.GlaProjGradKernel.Launch
public import proofs.«01_k».proof.Proof.Gen.GlaProjGradKernel.Points
public import proofs.«01_k».proof.Proof.Gen.GlaProjGradKernel.Frame
public import proofs.«01_k».proof.Proof.Gen.GlaProjGradKernelIdeal
public import proofs.«01_k».proof.Proof.Gen.GlaProjGradKernelIdeal.Skeleton
public import proofs.«01_k».proof.Proof.Gen.GlaProjGradKernelIdeal.Launch
public import proofs.«01_k».proof.Proof.Gen.GlaProjGradKernelIdeal.Points
public import proofs.«01_k».proof.Proof.Gen.GlaProjGradKernelIdeal.Frame
public import proofs.«01_k».proof.Proof.Gen.GlaProjGradKernelIdeal.Value
public import proofs.«01_k».proof.Proof.Gen.GlaProjGradReferenceIdeal
public import proofs.«01_k».proof.Proof.Gen.GlaProjGradReferenceIdeal.Run
public import proofs.«01_k».proof.Proof.Gen.GlaProjGradReferenceIdeal.Read
public import proofs.«01_k».proof.Proof.Gen.GlaWeightGradKernel
public import proofs.«01_k».proof.Proof.Gen.GlaWeightGradKernel.Skeleton
public import proofs.«01_k».proof.Proof.Gen.GlaWeightGradKernel.Launch
public import proofs.«01_k».proof.Proof.Gen.GlaWeightGradKernel.Points
public import proofs.«01_k».proof.Proof.Gen.GlaWeightGradKernel.Frame
public import proofs.«01_k».proof.Proof.Gen.GlaWeightGradKernelIdeal
public import proofs.«01_k».proof.Proof.Gen.GlaWeightGradKernelIdeal.Skeleton
public import proofs.«01_k».proof.Proof.Gen.GlaWeightGradKernelIdeal.Launch
public import proofs.«01_k».proof.Proof.Gen.GlaWeightGradKernelIdeal.Points
public import proofs.«01_k».proof.Proof.Gen.GlaWeightGradKernelIdeal.Frame
public import proofs.«01_k».proof.Proof.Gen.GlaWeightGradKernelIdeal.Value
public import proofs.«01_k».proof.Proof.Gen.GlaWeightGradReferenceIdeal
public import proofs.«01_k».proof.Proof.Gen.GlaWeightGradReferenceIdeal.Run
public import proofs.«01_k».proof.Proof.Gen.GlaWeightGradReferenceIdeal.Read
public import proofs.«01_k».proof.Proof.Gen.AttProjGradKernel
public import proofs.«01_k».proof.Proof.Gen.AttProjGradKernel.Skeleton
public import proofs.«01_k».proof.Proof.Gen.AttProjGradKernel.Launch
public import proofs.«01_k».proof.Proof.Gen.AttProjGradKernel.Points
public import proofs.«01_k».proof.Proof.Gen.AttProjGradKernel.Frame
public import proofs.«01_k».proof.Proof.Gen.AttProjGradKernelIdeal
public import proofs.«01_k».proof.Proof.Gen.AttProjGradKernelIdeal.Skeleton
public import proofs.«01_k».proof.Proof.Gen.AttProjGradKernelIdeal.Launch
public import proofs.«01_k».proof.Proof.Gen.AttProjGradKernelIdeal.Points
public import proofs.«01_k».proof.Proof.Gen.AttProjGradKernelIdeal.Frame
public import proofs.«01_k».proof.Proof.Gen.AttProjGradKernelIdeal.Value
public import proofs.«01_k».proof.Proof.Gen.AttProjGradReferenceIdeal
public import proofs.«01_k».proof.Proof.Gen.AttProjGradReferenceIdeal.Run
public import proofs.«01_k».proof.Proof.Gen.AttProjGradReferenceIdeal.Read
public import proofs.«01_k».proof.Proof.Gen.ForwardKernel
public import proofs.«01_k».proof.Proof.Gen.ForwardKernel.Skeleton
public import proofs.«01_k».proof.Proof.Gen.ForwardKernel.Launch
public import proofs.«01_k».proof.Proof.Gen.ForwardKernel.Points
public import proofs.«01_k».proof.Proof.Gen.ForwardKernel.Frame
public import proofs.«01_k».proof.Proof.Gen.ForwardKernelIdeal
public import proofs.«01_k».proof.Proof.Gen.ForwardKernelIdeal.Skeleton
public import proofs.«01_k».proof.Proof.Gen.ForwardKernelIdeal.Launch
public import proofs.«01_k».proof.Proof.Gen.ForwardKernelIdeal.Points
public import proofs.«01_k».proof.Proof.Gen.ForwardKernelIdeal.Frame
public import proofs.«01_k».proof.Proof.Gen.ForwardKernelIdeal.Value
public import proofs.«01_k».proof.Proof.Gen.ForwardReferenceIdeal
public import proofs.«01_k».proof.Proof.Gen.ForwardReferenceIdeal.Run
public import proofs.«01_k».proof.Proof.Gen.ForwardReferenceIdeal.Read
public import proofs.«01_k».proof.Proof.Gen.AttKeyWeightGradKernel
public import proofs.«01_k».proof.Proof.Gen.AttKeyWeightGradKernel.Skeleton
public import proofs.«01_k».proof.Proof.Gen.AttKeyWeightGradKernel.Launch
public import proofs.«01_k».proof.Proof.Gen.AttKeyWeightGradKernel.Points
public import proofs.«01_k».proof.Proof.Gen.AttKeyWeightGradKernel.Frame
public import proofs.«01_k».proof.Proof.Gen.AttKeyWeightGradKernelIdeal
public import proofs.«01_k».proof.Proof.Gen.AttKeyWeightGradKernelIdeal.Skeleton
public import proofs.«01_k».proof.Proof.Gen.AttKeyWeightGradKernelIdeal.Launch
public import proofs.«01_k».proof.Proof.Gen.AttKeyWeightGradKernelIdeal.Points
public import proofs.«01_k».proof.Proof.Gen.AttKeyWeightGradKernelIdeal.Frame
public import proofs.«01_k».proof.Proof.Gen.AttKeyWeightGradKernelIdeal.Value
public import proofs.«01_k».proof.Proof.Gen.AttKeyWeightGradReferenceIdeal
public import proofs.«01_k».proof.Proof.Gen.AttKeyWeightGradReferenceIdeal.Run
public import proofs.«01_k».proof.Proof.Gen.AttKeyWeightGradReferenceIdeal.Read
public import proofs.«01_k».proof.Proof.Gen.AttValueWeightGradKernel
public import proofs.«01_k».proof.Proof.Gen.AttValueWeightGradKernel.Skeleton
public import proofs.«01_k».proof.Proof.Gen.AttValueWeightGradKernel.Launch
public import proofs.«01_k».proof.Proof.Gen.AttValueWeightGradKernel.Points
public import proofs.«01_k».proof.Proof.Gen.AttValueWeightGradKernel.Frame
public import proofs.«01_k».proof.Proof.Gen.AttValueWeightGradKernelIdeal
public import proofs.«01_k».proof.Proof.Gen.AttValueWeightGradKernelIdeal.Skeleton
public import proofs.«01_k».proof.Proof.Gen.AttValueWeightGradKernelIdeal.Launch
public import proofs.«01_k».proof.Proof.Gen.AttValueWeightGradKernelIdeal.Points
public import proofs.«01_k».proof.Proof.Gen.AttValueWeightGradKernelIdeal.Frame
public import proofs.«01_k».proof.Proof.Gen.AttValueWeightGradKernelIdeal.Value
public import proofs.«01_k».proof.Proof.Gen.AttValueWeightGradReferenceIdeal
public import proofs.«01_k».proof.Proof.Gen.AttValueWeightGradReferenceIdeal.Run
public import proofs.«01_k».proof.Proof.Gen.AttValueWeightGradReferenceIdeal.Read
public import proofs.«01_k».proof.Proof.Frames
public import proofs.«01_k».proof.Proof.Algebraic
public import proofs.«01_k».proof.Proof.Mlp.HiddenGrad
public import proofs.«01_k».proof.Proof.Mlp.InputGrad
public import proofs.«01_k».proof.Proof.Mlp.DownGrad
public import proofs.«01_k».proof.Proof.Mlp.UpGrad
public import proofs.«01_k».proof.Proof.Mlp.Up
public import proofs.«01_k».proof.Proof.Mlp.Down
public import proofs.«01_k».proof.Proof.Proj.Out
public import proofs.«01_k».proof.Proof.Proj.AttProj
public import proofs.«01_k».proof.Proof.Proj.GlaProj
public import proofs.«01_k».proof.Proof.Proj.AttOutGrad
public import proofs.«01_k».proof.Proof.Proj.GlaOutGrad
public import proofs.«01_k».proof.Proof.Proj.OutWeightGrad
public import proofs.«01_k».proof.Proof.Proj.GlaProjGrad
public import proofs.«01_k».proof.Proof.Proj.GlaWeightGrad
public import proofs.«01_k».proof.Proof.Proj.AttProjGrad
public import proofs.«01_k».proof.Proof.Proj.AttKeyWeightGrad
public import proofs.«01_k».proof.Proof.Proj.AttValueWeightGrad
public import proofs.«01_k».proof.Proof.Forward
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.HiddenGradKernel.Gen.facts, Cert.HiddenGradKernelIdeal.Gen.facts, Cert.HiddenGradReferenceIdeal.Gen.facts,
  Cert.InputGradKernel.Gen.facts, Cert.InputGradKernelIdeal.Gen.facts, Cert.InputGradReferenceIdeal.Gen.facts,
  Cert.DownGradKernel.Gen.facts, Cert.DownGradKernelIdeal.Gen.facts, Cert.DownGradReferenceIdeal.Gen.facts,
  Cert.UpGradKernel.Gen.facts, Cert.UpGradKernelIdeal.Gen.facts, Cert.UpGradReferenceIdeal.Gen.facts,
  Cert.UpKernel.Gen.facts, Cert.UpKernelIdeal.Gen.facts, Cert.UpReferenceIdeal.Gen.facts,
  Cert.DownKernel.Gen.facts, Cert.DownKernelIdeal.Gen.facts, Cert.DownReferenceIdeal.Gen.facts,
  Cert.OutKernel.Gen.facts, Cert.OutKernelIdeal.Gen.facts, Cert.OutReferenceIdeal.Gen.facts,
  Cert.AttProjKernel.Gen.facts, Cert.AttProjKernelIdeal.Gen.facts, Cert.AttProjReferenceIdeal.Gen.facts,
  Cert.GlaProjKernel.Gen.facts, Cert.GlaProjKernelIdeal.Gen.facts, Cert.GlaProjReferenceIdeal.Gen.facts,
  Cert.AttOutGradKernel.Gen.facts, Cert.AttOutGradKernelIdeal.Gen.facts, Cert.AttOutGradReferenceIdeal.Gen.facts,
  Cert.GlaOutGradKernel.Gen.facts, Cert.GlaOutGradKernelIdeal.Gen.facts, Cert.GlaOutGradReferenceIdeal.Gen.facts,
  Cert.OutWeightGradKernel.Gen.facts, Cert.OutWeightGradKernelIdeal.Gen.facts, Cert.OutWeightGradReferenceIdeal.Gen.facts,
  Cert.GlaProjGradKernel.Gen.facts, Cert.GlaProjGradKernelIdeal.Gen.facts, Cert.GlaProjGradReferenceIdeal.Gen.facts,
  Cert.GlaWeightGradKernel.Gen.facts, Cert.GlaWeightGradKernelIdeal.Gen.facts, Cert.GlaWeightGradReferenceIdeal.Gen.facts,
  Cert.AttProjGradKernel.Gen.facts, Cert.AttProjGradKernelIdeal.Gen.facts, Cert.AttProjGradReferenceIdeal.Gen.facts,
  Cert.ForwardKernel.Gen.facts, Cert.ForwardKernelIdeal.Gen.facts, Cert.ForwardReferenceIdeal.Gen.facts,
  Cert.AttKeyWeightGradKernel.Gen.facts, Cert.AttKeyWeightGradKernelIdeal.Gen.facts, Cert.AttKeyWeightGradReferenceIdeal.Gen.facts,
  Cert.AttValueWeightGradKernel.Gen.facts, Cert.AttValueWeightGradKernelIdeal.Gen.facts, Cert.AttValueWeightGradReferenceIdeal.Gen.facts,
  Cert.Att.frame_kernel, Cert.Att.frame_ideal, Cert.Att.frame_reference,
  Cert.Mlp.HiddenGrad.frame_kernel, Cert.Mlp.HiddenGrad.frame_ideal, Cert.Mlp.HiddenGrad.frame_reference,
  Cert.Mlp.InputGrad.frame_kernel, Cert.Mlp.InputGrad.frame_ideal, Cert.Mlp.InputGrad.frame_reference,
  Cert.Mlp.DownGrad.frame_kernel, Cert.Mlp.DownGrad.frame_ideal, Cert.Mlp.DownGrad.frame_reference,
  Cert.Mlp.UpGrad.frame_kernel, Cert.Mlp.UpGrad.frame_ideal, Cert.Mlp.UpGrad.frame_reference,
  Cert.Mlp.Up.frame_kernel, Cert.Mlp.Up.frame_ideal, Cert.Mlp.Up.frame_reference,
  Cert.Mlp.Down.frame_kernel, Cert.Mlp.Down.frame_ideal, Cert.Mlp.Down.frame_reference,
  Cert.Proj.Out.frame_kernel, Cert.Proj.Out.frame_ideal, Cert.Proj.Out.frame_reference,
  Cert.Proj.AttProj.frame_kernel, Cert.Proj.AttProj.frame_ideal, Cert.Proj.AttProj.frame_reference,
  Cert.Proj.GlaProj.frame_kernel, Cert.Proj.GlaProj.frame_ideal, Cert.Proj.GlaProj.frame_reference,
  Cert.Proj.AttOutGrad.frame_kernel, Cert.Proj.AttOutGrad.frame_ideal, Cert.Proj.AttOutGrad.frame_reference,
  Cert.Proj.GlaOutGrad.frame_kernel, Cert.Proj.GlaOutGrad.frame_ideal, Cert.Proj.GlaOutGrad.frame_reference,
  Cert.Proj.OutWeightGrad.frame_kernel, Cert.Proj.OutWeightGrad.frame_ideal, Cert.Proj.OutWeightGrad.frame_reference,
  Cert.Proj.GlaProjGrad.frame_kernel, Cert.Proj.GlaProjGrad.frame_ideal, Cert.Proj.GlaProjGrad.frame_reference,
  Cert.Proj.GlaWeightGrad.frame_kernel, Cert.Proj.GlaWeightGrad.frame_ideal, Cert.Proj.GlaWeightGrad.frame_reference,
  Cert.Proj.AttProjGrad.frame_kernel, Cert.Proj.AttProjGrad.frame_ideal, Cert.Proj.AttProjGrad.frame_reference,
  Cert.Att.Forward.frame_kernel, Cert.Att.Forward.frame_ideal, Cert.Att.Forward.frame_reference,
  Cert.Proj.AttKeyWeightGrad.frame_kernel, Cert.Proj.AttKeyWeightGrad.frame_ideal, Cert.Proj.AttKeyWeightGrad.frame_reference,
  Cert.Proj.AttValueWeightGrad.frame_kernel, Cert.Proj.AttValueWeightGrad.frame_ideal, Cert.Proj.AttValueWeightGrad.frame_reference,
  Cert.Att.preserves, Cert.Att.algebraic,
  Cert.Mlp.HiddenGrad.preserves, Cert.Mlp.HiddenGrad.algebraic,
  Cert.Mlp.InputGrad.preserves, Cert.Mlp.InputGrad.algebraic,
  Cert.Mlp.DownGrad.preserves, Cert.Mlp.DownGrad.algebraic,
  Cert.Mlp.UpGrad.preserves, Cert.Mlp.UpGrad.algebraic,
  Cert.Mlp.Up.preserves, Cert.Mlp.Up.algebraic,
  Cert.Mlp.Down.preserves, Cert.Mlp.Down.algebraic,
  Cert.Proj.Out.preserves, Cert.Proj.Out.algebraic,
  Cert.Proj.AttProj.preserves, Cert.Proj.AttProj.algebraic,
  Cert.Proj.GlaProj.preserves, Cert.Proj.GlaProj.algebraic,
  Cert.Proj.AttOutGrad.preserves, Cert.Proj.AttOutGrad.algebraic,
  Cert.Proj.GlaOutGrad.preserves, Cert.Proj.GlaOutGrad.algebraic,
  Cert.Proj.OutWeightGrad.preserves, Cert.Proj.OutWeightGrad.algebraic,
  Cert.Proj.GlaProjGrad.preserves, Cert.Proj.GlaProjGrad.algebraic,
  Cert.Proj.GlaWeightGrad.preserves, Cert.Proj.GlaWeightGrad.algebraic,
  Cert.Proj.AttProjGrad.preserves, Cert.Proj.AttProjGrad.algebraic,
  Cert.Att.Forward.preserves, Cert.Att.Forward.algebraic,
  Cert.Proj.AttKeyWeightGrad.preserves, Cert.Proj.AttKeyWeightGrad.algebraic,
  Cert.Proj.AttValueWeightGrad.preserves, Cert.Proj.AttValueWeightGrad.algebraic⟩

end Cert.Proof

end
